-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def Pre_PlainReferenceIdeal (m : (ℓ : Loc Cert.PlainReferenceIdeal.nD Cert.PlainReferenceIdeal.τ Cert.PlainReferenceIdeal.sig) → Buf (Elt Ideal) ℓ) : Prop :=
  True

def Pre_PlainReferenceIdeal_finite [hPre_finite : Cert.Pre_finite.Facts] (m : (ℓ : Loc Cert.PlainReferenceIdeal.nD Cert.PlainReferenceIdeal.τ Cert.PlainReferenceIdeal.sig) → Buf (Elt Ideal) ℓ) : Prop :=
  ∀ c : Dev Cert.PlainReferenceIdeal.nD,
    (Cert.Pre_finite.fn (F := Ideal) (m ((c.tc : Thread Cert.PlainReferenceIdeal.nD Cert.PlainReferenceIdeal.τ).loc Cert.PlainReferenceIdeal.main_arg0)) (m ((c.tc : Thread Cert.PlainReferenceIdeal.nD Cert.PlainReferenceIdeal.τ).loc Cert.PlainReferenceIdeal.main_arg1)) (m ((c.tc : Thread Cert.PlainReferenceIdeal.nD Cert.PlainReferenceIdeal.τ).loc Cert.PlainReferenceIdeal.main_arg2)) (m ((c.tc : Thread Cert.PlainReferenceIdeal.nD Cert.PlainReferenceIdeal.τ).loc Cert.PlainReferenceIdeal.main_arg3)) (m ((c.tc : Thread Cert.PlainReferenceIdeal.nD Cert.PlainReferenceIdeal.τ).loc Cert.PlainReferenceIdeal.main_arg4)) (m ((c.tc : Thread Cert.PlainReferenceIdeal.nD Cert.PlainReferenceIdeal.τ).loc Cert.PlainReferenceIdeal.main_arg5)) (m ((c.tc : Thread Cert.PlainReferenceIdeal.nD Cert.PlainReferenceIdeal.τ).loc Cert.PlainReferenceIdeal.main_arg6)) (m ((c.tc : Thread Cert.PlainReferenceIdeal.nD Cert.PlainReferenceIdeal.τ).loc Cert.PlainReferenceIdeal.main_arg7)) (m ((c.tc : Thread Cert.PlainReferenceIdeal.nD Cert.PlainReferenceIdeal.τ).loc Cert.PlainReferenceIdeal.main_arg8)) (m ((c.tc : Thread Cert.PlainReferenceIdeal.nD Cert.PlainReferenceIdeal.τ).loc Cert.PlainReferenceIdeal.main_arg9)) (m ((c.tc : Thread Cert.PlainReferenceIdeal.nD Cert.PlainReferenceIdeal.τ).loc Cert.PlainReferenceIdeal.main_arg10)) (m ((c.tc : Thread Cert.PlainReferenceIdeal.nD Cert.PlainReferenceIdeal.τ).loc Cert.PlainReferenceIdeal.main_arg11)) (m ((c.tc : Thread Cert.PlainReferenceIdeal.nD Cert.PlainReferenceIdeal.τ).loc Cert.PlainReferenceIdeal.main_arg12)) (m ((c.tc : Thread Cert.PlainReferenceIdeal.nD Cert.PlainReferenceIdeal.τ).loc Cert.PlainReferenceIdeal.main_arg13)) (m ((c.tc : Thread Cert.PlainReferenceIdeal.nD Cert.PlainReferenceIdeal.τ).loc Cert.PlainReferenceIdeal.main_arg14)) (m ((c.tc : Thread Cert.PlainReferenceIdeal.nD Cert.PlainReferenceIdeal.τ).loc Cert.PlainReferenceIdeal.main_arg15)) (m ((c.tc : Thread Cert.PlainReferenceIdeal.nD Cert.PlainReferenceIdeal.τ).loc Cert.PlainReferenceIdeal.main_arg16)) (m ((c.tc : Thread Cert.PlainReferenceIdeal.nD Cert.PlainReferenceIdeal.τ).loc Cert.PlainReferenceIdeal.main_arg17)) (m ((c.tc : Thread Cert.PlainReferenceIdeal.nD Cert.PlainReferenceIdeal.τ).loc Cert.PlainReferenceIdeal.main_arg18)) (m ((c.tc : Thread Cert.PlainReferenceIdeal.nD Cert.PlainReferenceIdeal.τ).loc Cert.PlainReferenceIdeal.main_arg19)) (m ((c.tc : Thread Cert.PlainReferenceIdeal.nD Cert.PlainReferenceIdeal.τ).loc Cert.PlainReferenceIdeal.main_arg20)) (m ((c.tc : Thread Cert.PlainReferenceIdeal.nD Cert.PlainReferenceIdeal.τ).loc Cert.PlainReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2)
      ∧ r.2.mem ((c.tc : Thread Cert.PlainReferenceIdeal.nD Cert.PlainReferenceIdeal.τ).loc Cert.PlainReferenceIdeal.main_arg3) = m ((c.tc : Thread Cert.PlainReferenceIdeal.nD Cert.PlainReferenceIdeal.τ).loc Cert.PlainReferenceIdeal.main_arg3)
      ∧ r.2.mem ((c.tc : Thread Cert.PlainReferenceIdeal.nD Cert.PlainReferenceIdeal.τ).loc Cert.PlainReferenceIdeal.main_arg4) = m ((c.tc : Thread Cert.PlainReferenceIdeal.nD Cert.PlainReferenceIdeal.τ).loc Cert.PlainReferenceIdeal.main_arg4)
      ∧ r.2.mem ((c.tc : Thread Cert.PlainReferenceIdeal.nD Cert.PlainReferenceIdeal.τ).loc Cert.PlainReferenceIdeal.main_arg5) = m ((c.tc : Thread Cert.PlainReferenceIdeal.nD Cert.PlainReferenceIdeal.τ).loc Cert.PlainReferenceIdeal.main_arg5)
      ∧ r.2.mem ((c.tc : Thread Cert.PlainReferenceIdeal.nD Cert.PlainReferenceIdeal.τ).loc Cert.PlainReferenceIdeal.main_arg6) = m ((c.tc : Thread Cert.PlainReferenceIdeal.nD Cert.PlainReferenceIdeal.τ).loc Cert.PlainReferenceIdeal.main_arg6)
      ∧ r.2.mem ((c.tc : Thread Cert.PlainReferenceIdeal.nD Cert.PlainReferenceIdeal.τ).loc Cert.PlainReferenceIdeal.main_arg7) = m ((c.tc : Thread Cert.PlainReferenceIdeal.nD Cert.PlainReferenceIdeal.τ).loc Cert.PlainReferenceIdeal.main_arg7)
      ∧ r.2.mem ((c.tc : Thread Cert.PlainReferenceIdeal.nD Cert.PlainReferenceIdeal.τ).loc Cert.PlainReferenceIdeal.main_arg8) = m ((c.tc : Thread Cert.PlainReferenceIdeal.nD Cert.PlainReferenceIdeal.τ).loc Cert.PlainReferenceIdeal.main_arg8)
      ∧ r.2.mem ((c.tc : Thread Cert.PlainReferenceIdeal.nD Cert.PlainReferenceIdeal.τ).loc Cert.PlainReferenceIdeal.main_arg9) = m ((c.tc : Thread Cert.PlainReferenceIdeal.nD Cert.PlainReferenceIdeal.τ).loc Cert.PlainReferenceIdeal.main_arg9)
      ∧ r.2.mem ((c.tc : Thread Cert.PlainReferenceIdeal.nD Cert.PlainReferenceIdeal.τ).loc Cert.PlainReferenceIdeal.main_arg10) = m ((c.tc : Thread Cert.PlainReferenceIdeal.nD Cert.PlainReferenceIdeal.τ).loc Cert.PlainReferenceIdeal.main_arg10)
      ∧ r.2.mem ((c.tc : Thread Cert.PlainReferenceIdeal.nD Cert.PlainReferenceIdeal.τ).loc Cert.PlainReferenceIdeal.main_arg11) = m ((c.tc : Thread Cert.PlainReferenceIdeal.nD Cert.PlainReferenceIdeal.τ).loc Cert.PlainReferenceIdeal.main_arg11)
      ∧ r.2.mem ((c.tc : Thread Cert.PlainReferenceIdeal.nD Cert.PlainReferenceIdeal.τ).loc Cert.PlainReferenceIdeal.main_arg12) = m ((c.tc : Thread Cert.PlainReferenceIdeal.nD Cert.PlainReferenceIdeal.τ).loc Cert.PlainReferenceIdeal.main_arg12)
      ∧ r.2.mem ((c.tc : Thread Cert.PlainReferenceIdeal.nD Cert.PlainReferenceIdeal.τ).loc Cert.PlainReferenceIdeal.main_arg13) = m ((c.tc : Thread Cert.PlainReferenceIdeal.nD Cert.PlainReferenceIdeal.τ).loc Cert.PlainReferenceIdeal.main_arg13)
      ∧ r.2.mem ((c.tc : Thread Cert.PlainReferenceIdeal.nD Cert.PlainReferenceIdeal.τ).loc Cert.PlainReferenceIdeal.main_arg14) = m ((c.tc : Thread Cert.PlainReferenceIdeal.nD Cert.PlainReferenceIdeal.τ).loc Cert.PlainReferenceIdeal.main_arg14)
      ∧ r.2.mem ((c.tc : Thread Cert.PlainReferenceIdeal.nD Cert.PlainReferenceIdeal.τ).loc Cert.PlainReferenceIdeal.main_arg15) = m ((c.tc : Thread Cert.PlainReferenceIdeal.nD Cert.PlainReferenceIdeal.τ).loc Cert.PlainReferenceIdeal.main_arg15)
      ∧ r.2.mem ((c.tc : Thread Cert.PlainReferenceIdeal.nD Cert.PlainReferenceIdeal.τ).loc Cert.PlainReferenceIdeal.main_arg16) = m ((c.tc : Thread Cert.PlainReferenceIdeal.nD Cert.PlainReferenceIdeal.τ).loc Cert.PlainReferenceIdeal.main_arg16)
      ∧ r.2.mem ((c.tc : Thread Cert.PlainReferenceIdeal.nD Cert.PlainReferenceIdeal.τ).loc Cert.PlainReferenceIdeal.main_arg17) = m ((c.tc : Thread Cert.PlainReferenceIdeal.nD Cert.PlainReferenceIdeal.τ).loc Cert.PlainReferenceIdeal.main_arg17)
      ∧ r.2.mem ((c.tc : Thread Cert.PlainReferenceIdeal.nD Cert.PlainReferenceIdeal.τ).loc Cert.PlainReferenceIdeal.main_arg18) = m ((c.tc : Thread Cert.PlainReferenceIdeal.nD Cert.PlainReferenceIdeal.τ).loc Cert.PlainReferenceIdeal.main_arg18)
      ∧ r.2.mem ((c.tc : Thread Cert.PlainReferenceIdeal.nD Cert.PlainReferenceIdeal.τ).loc Cert.PlainReferenceIdeal.main_arg19) = m ((c.tc : Thread Cert.PlainReferenceIdeal.nD Cert.PlainReferenceIdeal.τ).loc Cert.PlainReferenceIdeal.main_arg19)
      ∧ r.2.mem ((c.tc : Thread Cert.PlainReferenceIdeal.nD Cert.PlainReferenceIdeal.τ).loc Cert.PlainReferenceIdeal.main_arg20) = m ((c.tc : Thread Cert.PlainReferenceIdeal.nD Cert.PlainReferenceIdeal.τ).loc Cert.PlainReferenceIdeal.main_arg20)
      ∧ r.2.mem ((c.tc : Thread Cert.PlainReferenceIdeal.nD Cert.PlainReferenceIdeal.τ).loc Cert.PlainReferenceIdeal.main_arg21) = m ((c.tc : Thread Cert.PlainReferenceIdeal.nD Cert.PlainReferenceIdeal.τ).loc Cert.PlainReferenceIdeal.main_arg21))
      ∧ r.2.sem = fun _ => 0)

def quiescent_PlainReferenceIdeal_pre_finite [hPlainReferenceIdeal : Cert.PlainReferenceIdeal.Facts] [hPre_finite : Cert.Pre_finite.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal_finite m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2)
      ∧ r.2.mem ((c.tc : Thread Cert.PlainReferenceIdeal.nD Cert.PlainReferenceIdeal.τ).loc Cert.PlainReferenceIdeal.main_arg3) = m ((c.tc : Thread Cert.PlainReferenceIdeal.nD Cert.PlainReferenceIdeal.τ).loc Cert.PlainReferenceIdeal.main_arg3)
      ∧ r.2.mem ((c.tc : Thread Cert.PlainReferenceIdeal.nD Cert.PlainReferenceIdeal.τ).loc Cert.PlainReferenceIdeal.main_arg4) = m ((c.tc : Thread Cert.PlainReferenceIdeal.nD Cert.PlainReferenceIdeal.τ).loc Cert.PlainReferenceIdeal.main_arg4)
      ∧ r.2.mem ((c.tc : Thread Cert.PlainReferenceIdeal.nD Cert.PlainReferenceIdeal.τ).loc Cert.PlainReferenceIdeal.main_arg5) = m ((c.tc : Thread Cert.PlainReferenceIdeal.nD Cert.PlainReferenceIdeal.τ).loc Cert.PlainReferenceIdeal.main_arg5)
      ∧ r.2.mem ((c.tc : Thread Cert.PlainReferenceIdeal.nD Cert.PlainReferenceIdeal.τ).loc Cert.PlainReferenceIdeal.main_arg6) = m ((c.tc : Thread Cert.PlainReferenceIdeal.nD Cert.PlainReferenceIdeal.τ).loc Cert.PlainReferenceIdeal.main_arg6)
      ∧ r.2.mem ((c.tc : Thread Cert.PlainReferenceIdeal.nD Cert.PlainReferenceIdeal.τ).loc Cert.PlainReferenceIdeal.main_arg7) = m ((c.tc : Thread Cert.PlainReferenceIdeal.nD Cert.PlainReferenceIdeal.τ).loc Cert.PlainReferenceIdeal.main_arg7)
      ∧ r.2.mem ((c.tc : Thread Cert.PlainReferenceIdeal.nD Cert.PlainReferenceIdeal.τ).loc Cert.PlainReferenceIdeal.main_arg8) = m ((c.tc : Thread Cert.PlainReferenceIdeal.nD Cert.PlainReferenceIdeal.τ).loc Cert.PlainReferenceIdeal.main_arg8)
      ∧ r.2.mem ((c.tc : Thread Cert.PlainReferenceIdeal.nD Cert.PlainReferenceIdeal.τ).loc Cert.PlainReferenceIdeal.main_arg9) = m ((c.tc : Thread Cert.PlainReferenceIdeal.nD Cert.PlainReferenceIdeal.τ).loc Cert.PlainReferenceIdeal.main_arg9)
      ∧ r.2.mem ((c.tc : Thread Cert.PlainReferenceIdeal.nD Cert.PlainReferenceIdeal.τ).loc Cert.PlainReferenceIdeal.main_arg10) = m ((c.tc : Thread Cert.PlainReferenceIdeal.nD Cert.PlainReferenceIdeal.τ).loc Cert.PlainReferenceIdeal.main_arg10)
      ∧ r.2.mem ((c.tc : Thread Cert.PlainReferenceIdeal.nD Cert.PlainReferenceIdeal.τ).loc Cert.PlainReferenceIdeal.main_arg11) = m ((c.tc : Thread Cert.PlainReferenceIdeal.nD Cert.PlainReferenceIdeal.τ).loc Cert.PlainReferenceIdeal.main_arg11)
      ∧ r.2.mem ((c.tc : Thread Cert.PlainReferenceIdeal.nD Cert.PlainReferenceIdeal.τ).loc Cert.PlainReferenceIdeal.main_arg12) = m ((c.tc : Thread Cert.PlainReferenceIdeal.nD Cert.PlainReferenceIdeal.τ).loc Cert.PlainReferenceIdeal.main_arg12)
      ∧ r.2.mem ((c.tc : Thread Cert.PlainReferenceIdeal.nD Cert.PlainReferenceIdeal.τ).loc Cert.PlainReferenceIdeal.main_arg13) = m ((c.tc : Thread Cert.PlainReferenceIdeal.nD Cert.PlainReferenceIdeal.τ).loc Cert.PlainReferenceIdeal.main_arg13)
      ∧ r.2.mem ((c.tc : Thread Cert.PlainReferenceIdeal.nD Cert.PlainReferenceIdeal.τ).loc Cert.PlainReferenceIdeal.main_arg14) = m ((c.tc : Thread Cert.PlainReferenceIdeal.nD Cert.PlainReferenceIdeal.τ).loc Cert.PlainReferenceIdeal.main_arg14)
      ∧ r.2.mem ((c.tc : Thread Cert.PlainReferenceIdeal.nD Cert.PlainReferenceIdeal.τ).loc Cert.PlainReferenceIdeal.main_arg15) = m ((c.tc : Thread Cert.PlainReferenceIdeal.nD Cert.PlainReferenceIdeal.τ).loc Cert.PlainReferenceIdeal.main_arg15)
      ∧ r.2.mem ((c.tc : Thread Cert.PlainReferenceIdeal.nD Cert.PlainReferenceIdeal.τ).loc Cert.PlainReferenceIdeal.main_arg16) = m ((c.tc : Thread Cert.PlainReferenceIdeal.nD Cert.PlainReferenceIdeal.τ).loc Cert.PlainReferenceIdeal.main_arg16)
      ∧ r.2.mem ((c.tc : Thread Cert.PlainReferenceIdeal.nD Cert.PlainReferenceIdeal.τ).loc Cert.PlainReferenceIdeal.main_arg17) = m ((c.tc : Thread Cert.PlainReferenceIdeal.nD Cert.PlainReferenceIdeal.τ).loc Cert.PlainReferenceIdeal.main_arg17)
      ∧ r.2.mem ((c.tc : Thread Cert.PlainReferenceIdeal.nD Cert.PlainReferenceIdeal.τ).loc Cert.PlainReferenceIdeal.main_arg18) = m ((c.tc : Thread Cert.PlainReferenceIdeal.nD Cert.PlainReferenceIdeal.τ).loc Cert.PlainReferenceIdeal.main_arg18)
      ∧ r.2.mem ((c.tc : Thread Cert.PlainReferenceIdeal.nD Cert.PlainReferenceIdeal.τ).loc Cert.PlainReferenceIdeal.main_arg19) = m ((c.tc : Thread Cert.PlainReferenceIdeal.nD Cert.PlainReferenceIdeal.τ).loc Cert.PlainReferenceIdeal.main_arg19)
      ∧ r.2.mem ((c.tc : Thread Cert.PlainReferenceIdeal.nD Cert.PlainReferenceIdeal.τ).loc Cert.PlainReferenceIdeal.main_arg20) = m ((c.tc : Thread Cert.PlainReferenceIdeal.nD Cert.PlainReferenceIdeal.τ).loc Cert.PlainReferenceIdeal.main_arg20)
      ∧ r.2.mem ((c.tc : Thread Cert.PlainReferenceIdeal.nD Cert.PlainReferenceIdeal.τ).loc Cert.PlainReferenceIdeal.main_arg21) = m ((c.tc : Thread Cert.PlainReferenceIdeal.nD Cert.PlainReferenceIdeal.τ).loc Cert.PlainReferenceIdeal.main_arg21))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_V" .f32 0x37A6EA0A#32 ((50257⁻¹ : ℝ) : EReal)

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v572) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def algebraic_KernelIdeal_PlainReferenceIdeal_pre_finite [hKernelIdeal : Cert.KernelIdeal.Facts] [hPlainReferenceIdeal : Cert.PlainReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_KernelIdeal_finite m →
    (∀ c : Dev Cert.KernelIdeal.nD,
      m' ((c.tc : Thread Cert.PlainReferenceIdeal.nD Cert.PlainReferenceIdeal.τ).loc Cert.PlainReferenceIdeal.main_arg0) = m ((c.tc : Thread Cert.KernelIdeal.nD Cert.KernelIdeal.τ).loc Cert.KernelIdeal.main_arg0)
      ∧ m' ((c.tc : Thread Cert.PlainReferenceIdeal.nD Cert.PlainReferenceIdeal.τ).loc Cert.PlainReferenceIdeal.main_arg1) = m ((c.tc : Thread Cert.KernelIdeal.nD Cert.KernelIdeal.τ).loc Cert.KernelIdeal.main_arg1)
      ∧ m' ((c.tc : Thread Cert.PlainReferenceIdeal.nD Cert.PlainReferenceIdeal.τ).loc Cert.PlainReferenceIdeal.main_arg2) = m ((c.tc : Thread Cert.KernelIdeal.nD Cert.KernelIdeal.τ).loc Cert.KernelIdeal.main_arg2)
      ∧ m' ((c.tc : Thread Cert.PlainReferenceIdeal.nD Cert.PlainReferenceIdeal.τ).loc Cert.PlainReferenceIdeal.main_arg3) = m ((c.tc : Thread Cert.KernelIdeal.nD Cert.KernelIdeal.τ).loc Cert.KernelIdeal.main_arg3)
      ∧ m' ((c.tc : Thread Cert.PlainReferenceIdeal.nD Cert.PlainReferenceIdeal.τ).loc Cert.PlainReferenceIdeal.main_arg4) = m ((c.tc : Thread Cert.KernelIdeal.nD Cert.KernelIdeal.τ).loc Cert.KernelIdeal.main_arg4)
      ∧ m' ((c.tc : Thread Cert.PlainReferenceIdeal.nD Cert.PlainReferenceIdeal.τ).loc Cert.PlainReferenceIdeal.main_arg5) = m ((c.tc : Thread Cert.KernelIdeal.nD Cert.KernelIdeal.τ).loc Cert.KernelIdeal.main_arg5)
      ∧ m' ((c.tc : Thread Cert.PlainReferenceIdeal.nD Cert.PlainReferenceIdeal.τ).loc Cert.PlainReferenceIdeal.main_arg6) = m ((c.tc : Thread Cert.KernelIdeal.nD Cert.KernelIdeal.τ).loc Cert.KernelIdeal.main_arg6)
      ∧ m' ((c.tc : Thread Cert.PlainReferenceIdeal.nD Cert.PlainReferenceIdeal.τ).loc Cert.PlainReferenceIdeal.main_arg7) = m ((c.tc : Thread Cert.KernelIdeal.nD Cert.KernelIdeal.τ).loc Cert.KernelIdeal.main_arg7)
      ∧ m' ((c.tc : Thread Cert.PlainReferenceIdeal.nD Cert.PlainReferenceIdeal.τ).loc Cert.PlainReferenceIdeal.main_arg8) = m ((c.tc : Thread Cert.KernelIdeal.nD Cert.KernelIdeal.τ).loc Cert.KernelIdeal.main_arg8)
      ∧ m' ((c.tc : Thread Cert.PlainReferenceIdeal.nD Cert.PlainReferenceIdeal.τ).loc Cert.PlainReferenceIdeal.main_arg9) = m ((c.tc : Thread Cert.KernelIdeal.nD Cert.KernelIdeal.τ).loc Cert.KernelIdeal.main_arg9)
      ∧ m' ((c.tc : Thread Cert.PlainReferenceIdeal.nD Cert.PlainReferenceIdeal.τ).loc Cert.PlainReferenceIdeal.main_arg10) = m ((c.tc : Thread Cert.KernelIdeal.nD Cert.KernelIdeal.τ).loc Cert.KernelIdeal.main_arg10)
      ∧ m' ((c.tc : Thread Cert.PlainReferenceIdeal.nD Cert.PlainReferenceIdeal.τ).loc Cert.PlainReferenceIdeal.main_arg11) = m ((c.tc : Thread Cert.KernelIdeal.nD Cert.KernelIdeal.τ).loc Cert.KernelIdeal.main_arg11)
      ∧ m' ((c.tc : Thread Cert.PlainReferenceIdeal.nD Cert.PlainReferenceIdeal.τ).loc Cert.PlainReferenceIdeal.main_arg12) = m ((c.tc : Thread Cert.KernelIdeal.nD Cert.KernelIdeal.τ).loc Cert.KernelIdeal.main_arg12)
      ∧ m' ((c.tc : Thread Cert.PlainReferenceIdeal.nD Cert.PlainReferenceIdeal.τ).loc Cert.PlainReferenceIdeal.main_arg13) = m ((c.tc : Thread Cert.KernelIdeal.nD Cert.KernelIdeal.τ).loc Cert.KernelIdeal.main_arg13)
      ∧ m' ((c.tc : Thread Cert.PlainReferenceIdeal.nD Cert.PlainReferenceIdeal.τ).loc Cert.PlainReferenceIdeal.main_arg14) = m ((c.tc : Thread Cert.KernelIdeal.nD Cert.KernelIdeal.τ).loc Cert.KernelIdeal.main_arg14)
      ∧ m' ((c.tc : Thread Cert.PlainReferenceIdeal.nD Cert.PlainReferenceIdeal.τ).loc Cert.PlainReferenceIdeal.main_arg15) = m ((c.tc : Thread Cert.KernelIdeal.nD Cert.KernelIdeal.τ).loc Cert.KernelIdeal.main_arg15)
      ∧ m' ((c.tc : Thread Cert.PlainReferenceIdeal.nD Cert.PlainReferenceIdeal.τ).loc Cert.PlainReferenceIdeal.main_arg16) = m ((c.tc : Thread Cert.KernelIdeal.nD Cert.KernelIdeal.τ).loc Cert.KernelIdeal.main_arg16)
      ∧ m' ((c.tc : Thread Cert.PlainReferenceIdeal.nD Cert.PlainReferenceIdeal.τ).loc Cert.PlainReferenceIdeal.main_arg17) = m ((c.tc : Thread Cert.KernelIdeal.nD Cert.KernelIdeal.τ).loc Cert.KernelIdeal.main_arg17)
      ∧ m' ((c.tc : Thread Cert.PlainReferenceIdeal.nD Cert.PlainReferenceIdeal.τ).loc Cert.PlainReferenceIdeal.main_arg18) = m ((c.tc : Thread Cert.KernelIdeal.nD Cert.KernelIdeal.τ).loc Cert.KernelIdeal.main_arg18)
      ∧ m' ((c.tc : Thread Cert.PlainReferenceIdeal.nD Cert.PlainReferenceIdeal.τ).loc Cert.PlainReferenceIdeal.main_arg19) = m ((c.tc : Thread Cert.KernelIdeal.nD Cert.KernelIdeal.τ).loc Cert.KernelIdeal.main_arg19)
      ∧ m' ((c.tc : Thread Cert.PlainReferenceIdeal.nD Cert.PlainReferenceIdeal.τ).loc Cert.PlainReferenceIdeal.main_arg20) = m ((c.tc : Thread Cert.KernelIdeal.nD Cert.KernelIdeal.τ).loc Cert.KernelIdeal.main_arg20)
      ∧ m' ((c.tc : Thread Cert.PlainReferenceIdeal.nD Cert.PlainReferenceIdeal.τ).loc Cert.PlainReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v572) = v0 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1)
          ∧ r.2.mem ((c.tc : Thread Cert.PlainReferenceIdeal.nD Cert.PlainReferenceIdeal.τ).loc Cert.PlainReferenceIdeal.main_arg2) = m' ((c.tc : Thread Cert.PlainReferenceIdeal.nD Cert.PlainReferenceIdeal.τ).loc Cert.PlainReferenceIdeal.main_arg2)
          ∧ r.2.mem ((c.tc : Thread Cert.PlainReferenceIdeal.nD Cert.PlainReferenceIdeal.τ).loc Cert.PlainReferenceIdeal.main_arg3) = m' ((c.tc : Thread Cert.PlainReferenceIdeal.nD Cert.PlainReferenceIdeal.τ).loc Cert.PlainReferenceIdeal.main_arg3)
          ∧ r.2.mem ((c.tc : Thread Cert.PlainReferenceIdeal.nD Cert.PlainReferenceIdeal.τ).loc Cert.PlainReferenceIdeal.main_arg4) = m' ((c.tc : Thread Cert.PlainReferenceIdeal.nD Cert.PlainReferenceIdeal.τ).loc Cert.PlainReferenceIdeal.main_arg4)
          ∧ r.2.mem ((c.tc : Thread Cert.PlainReferenceIdeal.nD Cert.PlainReferenceIdeal.τ).loc Cert.PlainReferenceIdeal.main_arg5) = m' ((c.tc : Thread Cert.PlainReferenceIdeal.nD Cert.PlainReferenceIdeal.τ).loc Cert.PlainReferenceIdeal.main_arg5)
          ∧ r.2.mem ((c.tc : Thread Cert.PlainReferenceIdeal.nD Cert.PlainReferenceIdeal.τ).loc Cert.PlainReferenceIdeal.main_arg6) = m' ((c.tc : Thread Cert.PlainReferenceIdeal.nD Cert.PlainReferenceIdeal.τ).loc Cert.PlainReferenceIdeal.main_arg6)
          ∧ r.2.mem ((c.tc : Thread Cert.PlainReferenceIdeal.nD Cert.PlainReferenceIdeal.τ).loc Cert.PlainReferenceIdeal.main_arg7) = m' ((c.tc : Thread Cert.PlainReferenceIdeal.nD Cert.PlainReferenceIdeal.τ).loc Cert.PlainReferenceIdeal.main_arg7)
          ∧ r.2.mem ((c.tc : Thread Cert.PlainReferenceIdeal.nD Cert.PlainReferenceIdeal.τ).loc Cert.PlainReferenceIdeal.main_arg8) = m' ((c.tc : Thread Cert.PlainReferenceIdeal.nD Cert.PlainReferenceIdeal.τ).loc Cert.PlainReferenceIdeal.main_arg8)
          ∧ r.2.mem ((c.tc : Thread Cert.PlainReferenceIdeal.nD Cert.PlainReferenceIdeal.τ).loc Cert.PlainReferenceIdeal.main_arg9) = m' ((c.tc : Thread Cert.PlainReferenceIdeal.nD Cert.PlainReferenceIdeal.τ).loc Cert.PlainReferenceIdeal.main_arg9)
          ∧ r.2.mem ((c.tc : Thread Cert.PlainReferenceIdeal.nD Cert.PlainReferenceIdeal.τ).loc Cert.PlainReferenceIdeal.main_arg10) = m' ((c.tc : Thread Cert.PlainReferenceIdeal.nD Cert.PlainReferenceIdeal.τ).loc Cert.PlainReferenceIdeal.main_arg10)
          ∧ r.2.mem ((c.tc : Thread Cert.PlainReferenceIdeal.nD Cert.PlainReferenceIdeal.τ).loc Cert.PlainReferenceIdeal.main_arg11) = m' ((c.tc : Thread Cert.PlainReferenceIdeal.nD Cert.PlainReferenceIdeal.τ).loc Cert.PlainReferenceIdeal.main_arg11)
          ∧ r.2.mem ((c.tc : Thread Cert.PlainReferenceIdeal.nD Cert.PlainReferenceIdeal.τ).loc Cert.PlainReferenceIdeal.main_arg12) = m' ((c.tc : Thread Cert.PlainReferenceIdeal.nD Cert.PlainReferenceIdeal.τ).loc Cert.PlainReferenceIdeal.main_arg12)
          ∧ r.2.mem ((c.tc : Thread Cert.PlainReferenceIdeal.nD Cert.PlainReferenceIdeal.τ).loc Cert.PlainReferenceIdeal.main_arg13) = m' ((c.tc : Thread Cert.PlainReferenceIdeal.nD Cert.PlainReferenceIdeal.τ).loc Cert.PlainReferenceIdeal.main_arg13)
          ∧ r.2.mem ((c.tc : Thread Cert.PlainReferenceIdeal.nD Cert.PlainReferenceIdeal.τ).loc Cert.PlainReferenceIdeal.main_arg14) = m' ((c.tc : Thread Cert.PlainReferenceIdeal.nD Cert.PlainReferenceIdeal.τ).loc Cert.PlainReferenceIdeal.main_arg14)
          ∧ r.2.mem ((c.tc : Thread Cert.PlainReferenceIdeal.nD Cert.PlainReferenceIdeal.τ).loc Cert.PlainReferenceIdeal.main_arg15) = m' ((c.tc : Thread Cert.PlainReferenceIdeal.nD Cert.PlainReferenceIdeal.τ).loc Cert.PlainReferenceIdeal.main_arg15)
          ∧ r.2.mem ((c.tc : Thread Cert.PlainReferenceIdeal.nD Cert.PlainReferenceIdeal.τ).loc Cert.PlainReferenceIdeal.main_arg16) = m' ((c.tc : Thread Cert.PlainReferenceIdeal.nD Cert.PlainReferenceIdeal.τ).loc Cert.PlainReferenceIdeal.main_arg16)
          ∧ r.2.mem ((c.tc : Thread Cert.PlainReferenceIdeal.nD Cert.PlainReferenceIdeal.τ).loc Cert.PlainReferenceIdeal.main_arg17) = m' ((c.tc : Thread Cert.PlainReferenceIdeal.nD Cert.PlainReferenceIdeal.τ).loc Cert.PlainReferenceIdeal.main_arg17)
          ∧ r.2.mem ((c.tc : Thread Cert.PlainReferenceIdeal.nD Cert.PlainReferenceIdeal.τ).loc Cert.PlainReferenceIdeal.main_arg18) = m' ((c.tc : Thread Cert.PlainReferenceIdeal.nD Cert.PlainReferenceIdeal.τ).loc Cert.PlainReferenceIdeal.main_arg18)
          ∧ r.2.mem ((c.tc : Thread Cert.PlainReferenceIdeal.nD Cert.PlainReferenceIdeal.τ).loc Cert.PlainReferenceIdeal.main_arg19) = m' ((c.tc : Thread Cert.PlainReferenceIdeal.nD Cert.PlainReferenceIdeal.τ).loc Cert.PlainReferenceIdeal.main_arg19)
          ∧ r.2.mem ((c.tc : Thread Cert.PlainReferenceIdeal.nD Cert.PlainReferenceIdeal.τ).loc Cert.PlainReferenceIdeal.main_arg20) = m' ((c.tc : Thread Cert.PlainReferenceIdeal.nD Cert.PlainReferenceIdeal.τ).loc Cert.PlainReferenceIdeal.main_arg20)
          ∧ r.2.mem ((c.tc : Thread Cert.PlainReferenceIdeal.nD Cert.PlainReferenceIdeal.τ).loc Cert.PlainReferenceIdeal.main_arg21) = m' ((c.tc : Thread Cert.PlainReferenceIdeal.nD Cert.PlainReferenceIdeal.τ).loc Cert.PlainReferenceIdeal.main_arg21))

def Claim : Prop :=
  ∃ (hKernel : Cert.Kernel.Facts) (hKernelIdeal : Cert.KernelIdeal.Facts) (hReferenceIdeal : Cert.ReferenceIdeal.Facts) (hPlainReferenceIdeal : Cert.PlainReferenceIdeal.Facts) (hPre_tokens_in_range : Cert.Pre_tokens_in_range.Facts) (hPre_finite : Cert.Pre_finite.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ quiescent_PlainReferenceIdeal (hPlainReferenceIdeal := hPlainReferenceIdeal)
    ∧ quiescent_PlainReferenceIdeal_pre_finite (hPlainReferenceIdeal := hPlainReferenceIdeal) (hPre_finite := hPre_finite)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
    ∧ algebraic_KernelIdeal_PlainReferenceIdeal_pre_finite (hKernelIdeal := hKernelIdeal) (hPlainReferenceIdeal := hPlainReferenceIdeal) (hPre_finite := hPre_finite)
-- ==== Pre_finite.lean ====
abbrev S16x512 : Shape := ⟨2, ![16, 512]⟩
abbrev S16x512x1x512 : Shape := ⟨4, ![16, 512, 1, 512]⟩
abbrev S16x1x64 : Shape := ⟨3, ![16, 1, 64]⟩
abbrev S1x512x512 : Shape := ⟨3, ![1, 512, 512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S50257 : Shape := ⟨1, ![50257]⟩
abbrev S64x50257 : Shape := ⟨2, ![64, 50257]⟩
abbrev S64 : Shape := ⟨1, ![64]⟩
abbrev S10x576 : Shape := ⟨2, ![10, 576]⟩
abbrev S10 : Shape := ⟨1, ![10]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S16x512x1x512 : S_.BroadcastsInDim S16x512x1x512 (![] : Fin 0 → Fin S16x512x1x512.rank)
  reducesTo_S16x512x1x512_S_d0_1_2_3 : S16x512x1x512.ReducesTo [0, 1, 2, 3] S_
  bcast_S_S1x512x512 : S_.BroadcastsInDim S1x512x512 (![] : Fin 0 → Fin S1x512x512.rank)
  reducesTo_S1x512x512_S_d0_1_2 : S1x512x512.ReducesTo [0, 1, 2] S_
  bcast_S_S4x1536x512 : S_.BroadcastsInDim S4x1536x512 (![] : Fin 0 → Fin S4x1536x512.rank)
  reducesTo_S4x1536x512_S_d0_1_2 : S4x1536x512.ReducesTo [0, 1, 2] S_
  bcast_S_S4x1536 : S_.BroadcastsInDim S4x1536 (![] : Fin 0 → Fin S4x1536.rank)
  reducesTo_S4x1536_S_d0_1 : S4x1536.ReducesTo [0, 1] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S4x2048x512 : S_.BroadcastsInDim S4x2048x512 (![] : Fin 0 → Fin S4x2048x512.rank)
  reducesTo_S4x2048x512_S_d0_1_2 : S4x2048x512.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S4x512x2048 : S_.BroadcastsInDim S4x512x2048 (![] : Fin 0 → Fin S4x512x2048.rank)
  reducesTo_S4x512x2048_S_d0_1_2 : S4x512x2048.ReducesTo [0, 1, 2] S_

variable [Facts]

def fn_part4 {F : FTy → Type} [FloatOps F] (main_arg15 : FVec F S4x512 .f32) (main_v65 : IVec S_ 1) (main_v66 : FVec F S4x512 .f32) (main_v67 : FVec F S4x512 .f32) : IVec S_ 1 :=
  let main_v68 : IVec S4x512 1 := cmpf .olt main_v66 main_v67
  let main_c_26 : IVec S_ 1 := constantI S_ 1 1#1
  let main_v69 : IVec S_ 1 := (fun x v => Host.reduce IntOp.andi x v reducesTo_S4x512_S_d0_1 h_S_) main_v68 main_c_26
  let main_v70 : IVec S_ 1 := andi main_v65 main_v69
  let main_v71 : FVec F S4x512 .f32 := Host.absf main_arg15
  let main_cst_27 : FVec F S_ .f32 := constant S_ .f32 0x7F800000#32
  let main_v72 : FVec F S4x512 .f32 := broadcastInDim S4x512 ![] bcast_S_S4x512 main_cst_27
  let main_v73 : IVec S4x512 1 := cmpf .olt main_v71 main_v72
  let main_c_28 : IVec S_ 1 := constantI S_ 1 1#1
  let main_v74 : IVec S_ 1 := (fun x v => Host.reduce IntOp.andi x v reducesTo_S4x512_S_d0_1 h_S_) main_v73 main_c_28
  let main_v75 : IVec S_ 1 := andi main_v70 main_v74
  main_v75

def fn_part3 {F : FTy → Type} [FloatOps F] (main_arg11 : FVec F S4x2048 .f32) (main_arg12 : FVec F S4x512x2048 .f32) (main_arg13 : FVec F S4x512 .f32) (main_arg14 : FVec F S4x512 .f32) (main_arg15 : FVec F S4x512 .f32) (main_v50 : IVec S_ 1) : IVec S_ 1 :=
  let main_v51 : FVec F S4x2048 .f32 := Host.absf main_arg11
  let main_cst_19 : FVec F S_ .f32 := constant S_ .f32 0x7F800000#32
  let main_v52 : FVec F S4x2048 .f32 := broadcastInDim S4x2048 ![] bcast_S_S4x2048 main_cst_19
  let main_v53 : IVec S4x2048 1 := cmpf .olt main_v51 main_v52
  let main_c_20 : IVec S_ 1 := constantI S_ 1 1#1
  let main_v54 : IVec S_ 1 := (fun x v => Host.reduce IntOp.andi x v reducesTo_S4x2048_S_d0_1 h_S_) main_v53 main_c_20
  let main_v55 : IVec S_ 1 := andi main_v50 main_v54
  let main_v56 : FVec F S4x512x2048 .f32 := Host.absf main_arg12
  let main_cst_21 : FVec F S_ .f32 := constant S_ .f32 0x7F800000#32
  let main_v57 : FVec F S4x512x2048 .f32 := broadcastInDim S4x512x2048 ![] bcast_S_S4x512x2048 main_cst_21
  let main_v58 : IVec S4x512x2048 1 := cmpf .olt main_v56 main_v57
  let main_c_22 : IVec S_ 1 := constantI S_ 1 1#1
  let main_v59 : IVec S_ 1 := (fun x v => Host.reduce IntOp.andi x v reducesTo_S4x512x2048_S_d0_1_2 h_S_) main_v58 main_c_22
  let main_v60 : IVec S_ 1 := andi main_v55 main_v59
  let main_v61 : FVec F S4x512 .f32 := Host.absf main_arg13
  let main_cst_23 : FVec F S_ .f32 := constant S_ .f32 0x7F800000#32
  let main_v62 : FVec F S4x512 .f32 := broadcastInDim S4x512 ![] bcast_S_S4x512 main_cst_23
  let main_v63 : IVec S4x512 1 := cmpf .olt main_v61 main_v62
  let main_c_24 : IVec S_ 1 := constantI S_ 1 1#1
  let main_v64 : IVec S_ 1 := (fun x v => Host.reduce IntOp.andi x v reducesTo_S4x512_S_d0_1 h_S_) main_v63 main_c_24
  let main_v65 : IVec S_ 1 := andi main_v60 main_v64
  let main_v66 : FVec F S4x512 .f32 := Host.absf main_arg14
  let main_cst_25 : FVec F S_ .f32 := constant S_ .f32 0x7F800000#32
  let main_v67 : FVec F S4x512 .f32 := broadcastInDim S4x512 ![] bcast_S_S4x512 main_cst_25
  fn_part4 (F := F) main_arg15 main_v65 main_v66 main_v67

def fn_part2 {F : FTy → Type} [FloatOps F] (main_arg8 : FVec F S4x512 .f32) (main_arg9 : FVec F S4x512 .f32) (main_arg10 : FVec F S4x2048x512 .f32) (main_arg11 : FVec F S4x2048 .f32) (main_arg12 : FVec F S4x512x2048 .f32) (main_arg13 : FVec F S4x512 .f32) (main_arg14 : FVec F S4x512 .f32) (main_arg15 : FVec F S4x512 .f32) (main_v30 : IVec S_ 1) (main_v33 : IVec S4x512 1) : IVec S_ 1 :=
  let main_c_12 : IVec S_ 1 := constantI S_ 1 1#1
  let main_v34 : IVec S_ 1 := (fun x v => Host.reduce IntOp.andi x v reducesTo_S4x512_S_d0_1 h_S_) main_v33 main_c_12
  let main_v35 : IVec S_ 1 := andi main_v30 main_v34
  let main_v36 : FVec F S4x512 .f32 := Host.absf main_arg8
  let main_cst_13 : FVec F S_ .f32 := constant S_ .f32 0x7F800000#32
  let main_v37 : FVec F S4x512 .f32 := broadcastInDim S4x512 ![] bcast_S_S4x512 main_cst_13
  let main_v38 : IVec S4x512 1 := cmpf .olt main_v36 main_v37
  let main_c_14 : IVec S_ 1 := constantI S_ 1 1#1
  let main_v39 : IVec S_ 1 := (fun x v => Host.reduce IntOp.andi x v reducesTo_S4x512_S_d0_1 h_S_) main_v38 main_c_14
  let main_v40 : IVec S_ 1 := andi main_v35 main_v39
  let main_v41 : FVec F S4x512 .f32 := Host.absf main_arg9
  let main_cst_15 : FVec F S_ .f32 := constant S_ .f32 0x7F800000#32
  let main_v42 : FVec F S4x512 .f32 := broadcastInDim S4x512 ![] bcast_S_S4x512 main_cst_15
  let main_v43 : IVec S4x512 1 := cmpf .olt main_v41 main_v42
  let main_c_16 : IVec S_ 1 := constantI S_ 1 1#1
  let main_v44 : IVec S_ 1 := (fun x v => Host.reduce IntOp.andi x v reducesTo_S4x512_S_d0_1 h_S_) main_v43 main_c_16
  let main_v45 : IVec S_ 1 := andi main_v40 main_v44
  let main_v46 : FVec F S4x2048x512 .f32 := Host.absf main_arg10
  let main_cst_17 : FVec F S_ .f32 := constant S_ .f32 0x7F800000#32
  let main_v47 : FVec F S4x2048x512 .f32 := broadcastInDim S4x2048x512 ![] bcast_S_S4x2048x512 main_cst_17
  let main_v48 : IVec S4x2048x512 1 := cmpf .olt main_v46 main_v47
  let main_c_18 : IVec S_ 1 := constantI S_ 1 1#1
  let main_v49 : IVec S_ 1 := (fun x v => Host.reduce IntOp.andi x v reducesTo_S4x2048x512_S_d0_1_2 h_S_) main_v48 main_c_18
  let main_v50 : IVec S_ 1 := andi main_v45 main_v49
  fn_part3 (F := F) main_arg11 main_arg12 main_arg13 main_arg14 main_arg15 main_v50

def fn_part1 {F : FTy → Type} [FloatOps F] (main_arg5 : FVec F S4x1536 .f32) (main_arg6 : FVec F S4x512x512 .f32) (main_arg7 : FVec F S4x512 .f32) (main_arg8 : FVec F S4x512 .f32) (main_arg9 : FVec F S4x512 .f32) (main_arg10 : FVec F S4x2048x512 .f32) (main_arg11 : FVec F S4x2048 .f32) (main_arg12 : FVec F S4x512x2048 .f32) (main_arg13 : FVec F S4x512 .f32) (main_arg14 : FVec F S4x512 .f32) (main_arg15 : FVec F S4x512 .f32) (main_v15 : IVec S_ 1) (main_v16 : FVec F S4x1536x512 .f32) : IVec S_ 1 :=
  let main_cst_5 : FVec F S_ .f32 := constant S_ .f32 0x7F800000#32
  let main_v17 : FVec F S4x1536x512 .f32 := broadcastInDim S4x1536x512 ![] bcast_S_S4x1536x512 main_cst_5
  let main_v18 : IVec S4x1536x512 1 := cmpf .olt main_v16 main_v17
  let main_c_6 : IVec S_ 1 := constantI S_ 1 1#1
  let main_v19 : IVec S_ 1 := (fun x v => Host.reduce IntOp.andi x v reducesTo_S4x1536x512_S_d0_1_2 h_S_) main_v18 main_c_6
  let main_v20 : IVec S_ 1 := andi main_v15 main_v19
  let main_v21 : FVec F S4x1536 .f32 := Host.absf main_arg5
  let main_cst_7 : FVec F S_ .f32 := constant S_ .f32 0x7F800000#32
  let main_v22 : FVec F S4x1536 .f32 := broadcastInDim S4x1536 ![] bcast_S_S4x1536 main_cst_7
  let main_v23 : IVec S4x1536 1 := cmpf .olt main_v21 main_v22
  let main_c_8 : IVec S_ 1 := constantI S_ 1 1#1
  let main_v24 : IVec S_ 1 := (fun x v => Host.reduce IntOp.andi x v reducesTo_S4x1536_S_d0_1 h_S_) main_v23 main_c_8
  let main_v25 : IVec S_ 1 := andi main_v20 main_v24
  let main_v26 : FVec F S4x512x512 .f32 := Host.absf main_arg6
  let main_cst_9 : FVec F S_ .f32 := constant S_ .f32 0x7F800000#32
  let main_v27 : FVec F S4x512x512 .f32 := broadcastInDim S4x512x512 ![] bcast_S_S4x512x512 main_cst_9
  let main_v28 : IVec S4x512x512 1 := cmpf .olt main_v26 main_v27
  let main_c_10 : IVec S_ 1 := constantI S_ 1 1#1
  let main_v29 : IVec S_ 1 := (fun x v => Host.reduce IntOp.andi x v reducesTo_S4x512x512_S_d0_1_2 h_S_) main_v28 main_c_10
  let main_v30 : IVec S_ 1 := andi main_v25 main_v29
  let main_v31 : FVec F S4x512 .f32 := Host.absf main_arg7
  let main_cst_11 : FVec F S_ .f32 := constant S_ .f32 0x7F800000#32
  let main_v32 : FVec F S4x512 .f32 := broadcastInDim S4x512 ![] bcast_S_S4x512 main_cst_11
  let main_v33 : IVec S4x512 1 := cmpf .olt main_v31 main_v32
  fn_part2 (F := F) main_arg8 main_arg9 main_arg10 main_arg11 main_arg12 main_arg13 main_arg14 main_arg15 main_v30 main_v33

def fn {F : FTy → Type} [FloatOps F] (main_arg0 : IVec S16x512 32) (main_arg1 : FVec F S16x512x1x512 .f32) (main_arg2 : FVec F S16x1x64 .f32) (main_arg3 : FVec F S1x512x512 .f32) (main_arg4 : FVec F S4x1536x512 .f32) (main_arg5 : FVec F S4x1536 .f32) (main_arg6 : FVec F S4x512x512 .f32) (main_arg7 : FVec F S4x512 .f32) (main_arg8 : FVec F S4x512 .f32) (main_arg9 : FVec F S4x512 .f32) (main_arg10 : FVec F S4x2048x512 .f32) (main_arg11 : FVec F S4x2048 .f32) (main_arg12 : FVec F S4x512x2048 .f32) (main_arg13 : FVec F S4x512 .f32) (main_arg14 : FVec F S4x512 .f32) (main_arg15 : FVec F S4x512 .f32) (main_arg16 : FVec F S50257 .f32) (main_arg17 : FVec F S50257 .f32) (main_arg18 : FVec F S64x50257 .f32) (main_arg19 : FVec F S64 .f32) (main_arg20 : FVec F S10x576 .f32) (main_arg21 : FVec F S10 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg0 main_v0
  let main_c_0 : IVec S_ 32 := constantI S_ 32 50257#32
  let main_v2 : IVec S16x512 32 := broadcastInDim S16x512 ![] bcast_S_S16x512 main_c_0
  let main_v3 : IVec S16x512 1 := cmpi .slt main_arg0 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  let main_v6 : FVec F S16x512x1x512 .f32 := Host.absf main_arg1
  let main_cst : FVec F S_ .f32 := constant S_ .f32 0x7F800000#32
  let main_v7 : FVec F S16x512x1x512 .f32 := broadcastInDim S16x512x1x512 ![] bcast_S_S16x512x1x512 main_cst
  let main_v8 : IVec S16x512x1x512 1 := cmpf .olt main_v6 main_v7
  let main_c_2 : IVec S_ 1 := constantI S_ 1 1#1
  let main_v9 : IVec S_ 1 := (fun x v => Host.reduce IntOp.andi x v reducesTo_S16x512x1x512_S_d0_1_2_3 h_S_) main_v8 main_c_2
  let main_v10 : IVec S_ 1 := andi main_v5 main_v9
  let main_v11 : FVec F S1x512x512 .f32 := Host.absf main_arg3
  let main_cst_3 : FVec F S_ .f32 := constant S_ .f32 0x7F800000#32
  let main_v12 : FVec F S1x512x512 .f32 := broadcastInDim S1x512x512 ![] bcast_S_S1x512x512 main_cst_3
  let main_v13 : IVec S1x512x512 1 := cmpf .olt main_v11 main_v12
  let main_c_4 : IVec S_ 1 := constantI S_ 1 1#1
  let main_v14 : IVec S_ 1 := (fun x v => Host.reduce IntOp.andi x v reducesTo_S1x512x512_S_d0_1_2 h_S_) main_v13 main_c_4
  let main_v15 : IVec S_ 1 := andi main_v10 main_v14
  let main_v16 : FVec F S4x1536x512 .f32 := Host.absf main_arg4
  fn_part1 (F := F) main_arg5 main_arg6 main_arg7 main_arg8 main_arg9 main_arg10 main_arg11 main_arg12 main_arg13 main_arg14 main_arg15 main_v15 main_v16
-- ==== Pre_tokens_in_range.lean ====
abbrev S16x512 : Shape := ⟨2, ![16, 512]⟩
abbrev S16x512x1x512 : Shape := ⟨4, ![16, 512, 1, 512]⟩
abbrev S16x1x64 : Shape := ⟨3, ![16, 1, 64]⟩
abbrev S1x512x512 : Shape := ⟨3, ![1, 512, 512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S50257 : Shape := ⟨1, ![50257]⟩
abbrev S64x50257 : Shape := ⟨2, ![64, 50257]⟩
abbrev S64 : Shape := ⟨1, ![64]⟩
abbrev S10x576 : Shape := ⟨2, ![10, 576]⟩
abbrev S10 : Shape := ⟨1, ![10]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel

variable [Facts]

def fn {F : FTy → Type} [FloatOps F] (main_arg0 : IVec S16x512 32) (main_arg1 : FVec F S16x512x1x512 .f32) (main_arg2 : FVec F S16x1x64 .f32) (main_arg3 : FVec F S1x512x512 .f32) (main_arg4 : FVec F S4x1536x512 .f32) (main_arg5 : FVec F S4x1536 .f32) (main_arg6 : FVec F S4x512x512 .f32) (main_arg7 : FVec F S4x512 .f32) (main_arg8 : FVec F S4x512 .f32) (main_arg9 : FVec F S4x512 .f32) (main_arg10 : FVec F S4x2048x512 .f32) (main_arg11 : FVec F S4x2048 .f32) (main_arg12 : FVec F S4x512x2048 .f32) (main_arg13 : FVec F S4x512 .f32) (main_arg14 : FVec F S4x512 .f32) (main_arg15 : FVec F S4x512 .f32) (main_arg16 : FVec F S50257 .f32) (main_arg17 : FVec F S50257 .f32) (main_arg18 : FVec F S64x50257 .f32) (main_arg19 : FVec F S64 .f32) (main_arg20 : FVec F S10x576 .f32) (main_arg21 : FVec F S10 .f32) : IVec S_ 1 :=
  let main_c : IVec S_ 32 := constantI S_ 32 0#32
  let main_v0 : IVec S16x512 32 := broadcastInDim S16x512 ![] bcast_S_S16x512 main_c
  let main_v1 : IVec S16x512 1 := cmpi .sge main_arg0 main_v0
  let main_c_0 : IVec S_ 32 := constantI S_ 32 50257#32
  let main_v2 : IVec S16x512 32 := broadcastInDim S16x512 ![] bcast_S_S16x512 main_c_0
  let main_v3 : IVec S16x512 1 := cmpi .slt main_arg0 main_v2
  let main_v4 : IVec S16x512 1 := andi main_v1 main_v3
  let main_c_1 : IVec S_ 1 := constantI S_ 1 1#1
  let main_v5 : IVec S_ 1 := (fun x v => Host.reduce IntOp.andi x v reducesTo_S16x512_S_d0_1 h_S_) main_v4 main_c_1
  main_v5
-- ==== Kernel.lean ====
abbrev S16x512 : Shape := ⟨2, ![16, 512]⟩
abbrev S16x512x1x512 : Shape := ⟨4, ![16, 512, 1, 512]⟩
abbrev S16x1x64 : Shape := ⟨3, ![16, 1, 64]⟩
abbrev S1x512x512 : Shape := ⟨3, ![1, 512, 512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S50257 : Shape := ⟨1, ![50257]⟩
abbrev S64x50257 : Shape := ⟨2, ![64, 50257]⟩
abbrev S64 : Shape := ⟨1, ![64]⟩
abbrev S10x576 : Shape := ⟨2, ![10, 576]⟩
abbrev S10 : Shape := ⟨1, ![10]⟩
abbrev S4x1x1536 : Shape := ⟨3, ![4, 1, 1536]⟩
abbrev S4x1x512 : Shape := ⟨3, ![4, 1, 512]⟩
abbrev S4x1x2048 : Shape := ⟨3, ![4, 1, 2048]⟩
abbrev S512x512 : Shape := ⟨2, ![512, 512]⟩
abbrev S576x10 : Shape := ⟨2, ![576, 10]⟩
abbrev S1x10 : Shape := ⟨2, ![1, 10]⟩
abbrev S64x1 : Shape := ⟨2, ![64, 1]⟩
abbrev S1 : Shape := ⟨1, ![1]⟩
abbrev S_ : Shape := ⟨0, ![]⟩
abbrev S1x64 : Shape := ⟨2, ![1, 64]⟩
abbrev S16x10 : Shape := ⟨2, ![16, 10]⟩
abbrev S8x512 : Shape := ⟨2, ![8, 512]⟩
abbrev S8x1x64 : Shape := ⟨3, ![8, 1, 64]⟩
abbrev S1x1536x512 : Shape := ⟨3, ![1, 1536, 512]⟩
abbrev S1x1x1536 : Shape := ⟨3, ![1, 1, 1536]⟩
abbrev S1x1x512 : Shape := ⟨3, ![1, 1, 512]⟩
abbrev S1x2048x512 : Shape := ⟨3, ![1, 2048, 512]⟩
abbrev S1x1x2048 : Shape := ⟨3, ![1, 1, 2048]⟩
abbrev S1x512x2048 : Shape := ⟨3, ![1, 512, 2048]⟩
abbrev S8x10 : Shape := ⟨2, ![8, 10]⟩
abbrev S4096x512 : Shape := ⟨2, ![4096, 512]⟩
abbrev S512x1536 : Shape := ⟨2, ![512, 1536]⟩
abbrev S2x512x512 : Shape := ⟨3, ![2, 512, 512]⟩
abbrev S512x2048 : Shape := ⟨2, ![512, 2048]⟩
abbrev S1x512x1x512 : Shape := ⟨4, ![1, 512, 1, 512]⟩
abbrev S1536x512 : Shape := ⟨2, ![1536, 512]⟩
abbrev S2048x512 : Shape := ⟨2, ![2048, 512]⟩
abbrev S1x512 : Shape := ⟨2, ![1, 512]⟩
abbrev S512x64 : Shape := ⟨2, ![512, 64]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩
abbrev S512 : Shape := ⟨1, ![512]⟩
abbrev S512x1 : Shape := ⟨2, ![512, 1]⟩
abbrev S8 : Shape := ⟨1, ![8]⟩
abbrev S8x1 : Shape := ⟨2, ![8, 1]⟩
abbrev S8x64 : Shape := ⟨2, ![8, 64]⟩
abbrev S8x576 : Shape := ⟨2, ![8, 576]⟩

abbrev nBuf : Space → Nat
  | .hbm => 50
  | .vmem => 42
  | .smem => 0
  | _ => 0

abbrev bufTy : (tb : Table) → Fin (tcTables nBuf tb) → BufTy
  | .hbm, ⟨0, _⟩ => ⟨S16x512, .i32⟩
  | .hbm, ⟨1, _⟩ => ⟨S16x512x1x512, .f32⟩
  | .hbm, ⟨2, _⟩ => ⟨S16x1x64, .f32⟩
  | .hbm, ⟨3, _⟩ => ⟨S1x512x512, .f32⟩
  | .hbm, ⟨4, _⟩ => ⟨S4x1536x512, .f32⟩
  | .hbm, ⟨5, _⟩ => ⟨S4x1536, .f32⟩
  | .hbm, ⟨6, _⟩ => ⟨S4x512x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S4x2048x512, .f32⟩
  | .hbm, ⟨11, _⟩ => ⟨S4x2048, .f32⟩
  | .hbm, ⟨12, _⟩ => ⟨S4x512x2048, .f32⟩
  | .hbm, ⟨13, _⟩ => ⟨S4x512, .f32⟩
  | .hbm, ⟨14, _⟩ => ⟨S4x512, .f32⟩
  | .hbm, ⟨15, _⟩ => ⟨S4x512, .f32⟩
  | .hbm, ⟨16, _⟩ => ⟨S50257, .f32⟩
  | .hbm, ⟨17, _⟩ => ⟨S50257, .f32⟩
  | .hbm, ⟨18, _⟩ => ⟨S64x50257, .f32⟩
  | .hbm, ⟨19, _⟩ => ⟨S64, .f32⟩
  | .hbm, ⟨20, _⟩ => ⟨S10x576, .f32⟩
  | .hbm, ⟨21, _⟩ => ⟨S10, .f32⟩
  | .hbm, ⟨22, _⟩ => ⟨S4x1536x512, .bf16⟩
  | .hbm, ⟨23, _⟩ => ⟨S4x512x512, .bf16⟩
  | .hbm, ⟨24, _⟩ => ⟨S4x2048x512, .bf16⟩
  | .hbm, ⟨25, _⟩ => ⟨S4x512x2048, .bf16⟩
  | .hbm, ⟨26, _⟩ => ⟨S4x1x1536, .f32⟩
  | .hbm, ⟨27, _⟩ => ⟨S4x1x512, .f32⟩
  | .hbm, ⟨28, _⟩ => ⟨S4x1x2048, .f32⟩
  | .hbm, ⟨29, _⟩ => ⟨S4x1x512, .f32⟩
  | .hbm, ⟨30, _⟩ => ⟨S4x1x512, .f32⟩
  | .hbm, ⟨31, _⟩ => ⟨S4x1x512, .f32⟩
  | .hbm, ⟨32, _⟩ => ⟨S4x1x512, .f32⟩
  | .hbm, ⟨33, _⟩ => ⟨S4x1x512, .f32⟩
  | .hbm, ⟨34, _⟩ => ⟨S512x512, .f32⟩
  | .hbm, ⟨35, _⟩ => ⟨S576x10, .f32⟩
  | .hbm, ⟨36, _⟩ => ⟨S1x10, .f32⟩
  | .hbm, ⟨37, _⟩ => ⟨S64x1, .f32⟩
  | .hbm, ⟨38, _⟩ => ⟨S64, .f32⟩
  | .hbm, ⟨39, _⟩ => ⟨S1, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S16x10, .f32⟩
  | .local _ .vmem, ⟨0, _⟩ => ⟨S512x512, .f32⟩
  | .local _ .vmem, ⟨1, _⟩ => ⟨S8x512, .i32⟩
  | .local _ .vmem, ⟨2, _⟩ => ⟨S8x512, .i32⟩
  | .local _ .vmem, ⟨3, _⟩ => ⟨S8x1x64, .f32⟩
  | .local _ .vmem, ⟨4, _⟩ => ⟨S8x1x64, .f32⟩
  | .local _ .vmem, ⟨5, _⟩ => ⟨S1x1536x512, .bf16⟩
  | .local _ .vmem, ⟨6, _⟩ => ⟨S1x1536x512, .bf16⟩
  | .local _ .vmem, ⟨7, _⟩ => ⟨S1x1x1536, .f32⟩
  | .local _ .vmem, ⟨8, _⟩ => ⟨S1x1x1536, .f32⟩
  | .local _ .vmem, ⟨9, _⟩ => ⟨S1x512x512, .bf16⟩
  | .local _ .vmem, ⟨10, _⟩ => ⟨S1x512x512, .bf16⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x2048x512, .bf16⟩
  | .local _ .vmem, ⟨18, _⟩ => ⟨S1x2048x512, .bf16⟩
  | .local _ .vmem, ⟨19, _⟩ => ⟨S1x1x2048, .f32⟩
  | .local _ .vmem, ⟨20, _⟩ => ⟨S1x1x2048, .f32⟩
  | .local _ .vmem, ⟨21, _⟩ => ⟨S1x512x2048, .bf16⟩
  | .local _ .vmem, ⟨22, _⟩ => ⟨S1x512x2048, .bf16⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S576x10, .f32⟩
  | .local _ .vmem, ⟨33, _⟩ => ⟨S1x10, .f32⟩
  | .local _ .vmem, ⟨34, _⟩ => ⟨S8x10, .f32⟩
  | .local _ .vmem, ⟨35, _⟩ => ⟨S8x10, .f32⟩
  | .local _ .vmem, ⟨36, _⟩ => ⟨S4096x512, .f32⟩
  | .local _ .vmem, ⟨37, _⟩ => ⟨S512x1536, .bf16⟩
  | .local _ .vmem, ⟨38, _⟩ => ⟨S2x512x512, .f32⟩
  | .local _ .vmem, ⟨39, _⟩ => ⟨S2x512x512, .bf16⟩
  | .local _ .vmem, ⟨40, _⟩ => ⟨S512x512, .bf16⟩
  | .local _ .vmem, ⟨41, _⟩ => ⟨S512x2048, .bf16⟩
  | _, _ => ⟨S16x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_16 : BitVec 32) : Fin 4 → Nat :=
  let arg0 : BitVec 32 := BitVec.ofNat 32 (i 0).val
  let c8_i32_15 : BitVec 32 := 8#32
  let v15 : BitVec 32 := Scalar.muli arg0 c8_i32_15
  let v16 : BitVec 32 := Scalar.addi v15 c0_i32_16
  let c0_i32_20 : BitVec 32 := 0#32
  let c0_i32_17 : BitVec 32 := 0#32
  let c0_i32_21 : BitVec 32 := 0#32
  ![v16.toNat, 0, 0, 0]
@[reducible] def k0_t1_loop : Scf.Loop 32 :=
  let c0_i32_12 : BitVec 32 := 0#32
  let c8_i32 : BitVec 32 := 8#32
  let v11 : BitVec 32 := Scalar.addi c0_i32_12 c8_i32
  let c1_i32 : BitVec 32 := 1#32
  ⟨c0_i32_12, v11, c1_i32⟩
def k0_mult1 (k0_t1 : Fin k0_t1_loop.trips) : BitVec 32 :=
  let c0_i32_12 : BitVec 32 := 0#32
  let c1_i32 : BitVec 32 := 1#32
  let arg31 : BitVec 32 := Scf.iv c0_i32_12 c1_i32 k0_t1
  let c512_i32 : BitVec 32 := 512#32
  let v15 : BitVec 32 := Scalar.muli arg31 c512_i32
  v15
def k0_off2 (k0_t1 : Fin k0_t1_loop.trips) : Fin 2 → Nat :=
  let c0_i32_12 : BitVec 32 := 0#32
  let c1_i32 : BitVec 32 := 1#32
  let arg31 : BitVec 32 := Scf.iv c0_i32_12 c1_i32 k0_t1
  let c512_i32 : BitVec 32 := 512#32
  let v15 : BitVec 32 := Scalar.muli arg31 c512_i32
  let v16 : BitVec 32 := v15
  let v17 : Index := Scalar.indexCast v16
  let c0_15 : Index := 0#32
  ![v17.toNat, 0]
def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_14 : BitVec 32 := 0#32
  let v14 : BitVec 1 := Scalar.cmpi .ne v13 c0_i32_14
  v14

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S576x10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x10 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S8x10 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== KernelIdeal.lean ====
variable {F : FTy → Type} [FloatOps F] [Named F]
def κ : String → Option EReal := fun
  | "inv_V" => some ((50257⁻¹ : ℝ) : EReal)
  | "inv_sqrt2" => some (((Real.sqrt 2)⁻¹ : ℝ) : EReal)
  | _ => none
-- ==== ReferenceIdeal.lean ====
abbrev S16x512 : Shape := ⟨2, ![16, 512]⟩
abbrev S16x512x1x512 : Shape := ⟨4, ![16, 512, 1, 512]⟩
abbrev S16x1x64 : Shape := ⟨3, ![16, 1, 64]⟩
abbrev S1x512x512 : Shape := ⟨3, ![1, 512, 512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S50257 : Shape := ⟨1, ![50257]⟩
abbrev S64x50257 : Shape := ⟨2, ![64, 50257]⟩
abbrev S64 : Shape := ⟨1, ![64]⟩
abbrev S10x576 : Shape := ⟨2, ![10, 576]⟩
abbrev S10 : Shape := ⟨1, ![10]⟩
abbrev S16x512x512 : Shape := ⟨3, ![16, 512, 512]⟩
abbrev S1x1536x512 : Shape := ⟨3, ![1, 1536, 512]⟩
abbrev S1536x512 : Shape := ⟨2, ![1536, 512]⟩
abbrev S512x1536 : Shape := ⟨2, ![512, 1536]⟩
abbrev S16x512x1536 : Shape := ⟨3, ![16, 512, 1536]⟩
abbrev S1x1536 : Shape := ⟨2, ![1, 1536]⟩
abbrev S1536 : Shape := ⟨1, ![1536]⟩
abbrev S1x1x1536 : Shape := ⟨3, ![1, 1, 1536]⟩
abbrev S16x512x8x64 : Shape := ⟨4, ![16, 512, 8, 64]⟩
abbrev S16x8x512x512 : Shape := ⟨4, ![16, 8, 512, 512]⟩
abbrev S_ : Shape := ⟨0, ![]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S16x512x1 : Shape := ⟨3, ![16, 512, 1]⟩
abbrev S1x2048x512 : Shape := ⟨3, ![1, 2048, 512]⟩
abbrev S2048x512 : Shape := ⟨2, ![2048, 512]⟩
abbrev S512x2048 : Shape := ⟨2, ![512, 2048]⟩
abbrev S16x512x2048 : Shape := ⟨3, ![16, 512, 2048]⟩
abbrev S1x2048 : Shape := ⟨2, ![1, 2048]⟩
abbrev S2048 : Shape := ⟨1, ![2048]⟩
abbrev S1x1x2048 : Shape := ⟨3, ![1, 1, 2048]⟩
abbrev S1x512x2048 : Shape := ⟨3, ![1, 512, 2048]⟩
abbrev S1x1x50257 : Shape := ⟨3, ![1, 1, 50257]⟩
abbrev S16x512x50257 : Shape := ⟨3, ![16, 512, 50257]⟩
abbrev S16x50257 : Shape := ⟨2, ![16, 50257]⟩
abbrev S16 : Shape := ⟨1, ![16]⟩
abbrev S16x1 : Shape := ⟨2, ![16, 1]⟩
abbrev S16x64 : Shape := ⟨2, ![16, 64]⟩
abbrev S1 : Shape := ⟨1, ![1]⟩
abbrev S64x1 : Shape := ⟨2, ![64, 1]⟩
abbrev S1x64 : Shape := ⟨2, ![1, 64]⟩
abbrev S16x576 : Shape := ⟨2, ![16, 576]⟩
abbrev S576x10 : Shape := ⟨2, ![576, 10]⟩
abbrev S16x10 : Shape := ⟨2, ![16, 10]⟩
abbrev S1x10 : Shape := ⟨2, ![1, 10]⟩

abbrev nBuf : Space → Nat
  | .hbm => 681
  | .vmem => 0
  | .smem => 0
  | _ => 0

abbrev hbmTy0_0 (i : Nat) : BufTy := match i % 128 with
  | 0 => ⟨S16x512, .i32⟩
  | 1 => ⟨S16x512x1x512, .f32⟩
  | 2 => ⟨S16x1x64, .f32⟩
  | 3 => ⟨S1x512x512, .f32⟩
  | 4 => ⟨S4x1536x512, .f32⟩
  | 5 => ⟨S4x1536, .f32⟩
  | 6 => ⟨S4x512x512, .f32⟩
  | 7 => ⟨S4x512, .f32⟩
  | 8 => ⟨S4x512, .f32⟩
  | 9 => ⟨S4x512, .f32⟩
  | 10 => ⟨S4x2048x512, .f32⟩
  | 11 => ⟨S4x2048, .f32⟩
  | 12 => ⟨S4x512x2048, .f32⟩
  | 13 => ⟨S4x512, .f32⟩
  | 14 => ⟨S4x512, .f32⟩
  | 15 => ⟨S4x512, .f32⟩
  | 16 => ⟨S50257, .f32⟩
  | 17 => ⟨S50257, .f32⟩
  | 18 => ⟨S64x50257, .f32⟩
  | 19 => ⟨S64, .f32⟩
  | 20 => ⟨S10x576, .f32⟩
  | 21 => ⟨S10, .f32⟩
  | 22 => ⟨S16x512x512, .f32⟩
  | 23 => ⟨S16x512x512, .f32⟩
  | 24 => ⟨S16x512x512, .f32⟩
  | 25 => ⟨S1x1536x512, .f32⟩
  | 26 => ⟨S1536x512, .f32⟩
  | 27 => ⟨S512x1536, .f32⟩
  | 28 => ⟨S16x512x1536, .f32⟩
  | 29 => ⟨S1x1536, .f32⟩
  | 30 => ⟨S1536, .f32⟩
  | 31 => ⟨S1x1x1536, .f32⟩
  | 32 => ⟨S16x512x1536, .f32⟩
  | 33 => ⟨S16x512x1536, .f32⟩
  | 34 => ⟨S16x512x512, .f32⟩
  | 35 => ⟨S16x512x512, .f32⟩
  | 36 => ⟨S16x512x512, .f32⟩
  | 37 => ⟨S16x512x8x64, .f32⟩
  | 38 => ⟨S16x512x8x64, .f32⟩
  | 39 => ⟨S16x512x8x64, .f32⟩
  | 40 => ⟨S16x8x512x512, .f32⟩
  | 41 => ⟨S_, .f32⟩
  | 42 => ⟨S16x8x512x512, .f32⟩
  | 43 => ⟨S16x8x512x512, .f32⟩
  | 44 => ⟨S_, .f32⟩
  | 45 => ⟨S16x8x512, .f32⟩
  | 46 => ⟨S16x8x512x1, .f32⟩
  | 47 => ⟨S16x8x512x512, .f32⟩
  | 48 => ⟨S16x8x512x512, .f32⟩
  | 49 => ⟨S16x8x512x512, .f32⟩
  | 50 => ⟨S_, .f32⟩
  | 51 => ⟨S16x8x512, .f32⟩
  | 52 => ⟨S16x8x512x1, .f32⟩
  | 53 => ⟨S_, .f32⟩
  | 54 => ⟨S16x8x512x1, .f32⟩
  | 55 => ⟨S16x8x512x1, .f32⟩
  | 56 => ⟨S16x8x512x512, .f32⟩
  | 57 => ⟨S16x8x512x512, .f32⟩
  | 58 => ⟨S16x8x64x512, .f32⟩
  | 59 => ⟨S16x512x8x64, .f32⟩
  | 60 => ⟨S16x512x512, .f32⟩
  | 61 => ⟨S1x512x512, .f32⟩
  | 62 => ⟨S512x512, .f32⟩
  | 63 => ⟨S512x512, .f32⟩
  | 64 => ⟨S16x512x512, .f32⟩
  | 65 => ⟨S16x512x512, .f32⟩
  | 66 => ⟨S1x512, .f32⟩
  | 67 => ⟨S512, .f32⟩
  | 68 => ⟨S1x1x512, .f32⟩
  | 69 => ⟨S16x512x512, .f32⟩
  | 70 => ⟨S16x512x512, .f32⟩
  | 71 => ⟨S1x512, .f32⟩
  | 72 => ⟨S512, .f32⟩
  | 73 => ⟨S1x512, .f32⟩
  | 74 => ⟨S512, .f32⟩
  | 75 => ⟨S_, .f32⟩
  | 76 => ⟨S16x512, .f32⟩
  | 77 => ⟨S16x512x1, .f32⟩
  | 78 => ⟨S_, .f32⟩
  | 79 => ⟨S16x512x1, .f32⟩
  | 80 => ⟨S16x512x1, .f32⟩
  | 81 => ⟨S16x512x512, .f32⟩
  | 82 => ⟨S16x512x512, .f32⟩
  | 83 => ⟨S16x512x512, .f32⟩
  | 84 => ⟨S_, .f32⟩
  | 85 => ⟨S16x512, .f32⟩
  | 86 => ⟨S16x512x1, .f32⟩
  | 87 => ⟨S_, .f32⟩
  | 88 => ⟨S16x512x1, .f32⟩
  | 89 => ⟨S16x512x1, .f32⟩
  | 90 => ⟨S16x512x512, .f32⟩
  | 91 => ⟨S16x512x512, .f32⟩
  | 92 => ⟨S_, .f32⟩
  | 93 => ⟨S16x512x1, .f32⟩
  | 94 => ⟨S16x512x1, .f32⟩
  | 95 => ⟨S16x512x1, .f32⟩
  | 96 => ⟨S16x512x512, .f32⟩
  | 97 => ⟨S16x512x512, .f32⟩
  | 98 => ⟨S1x1x512, .f32⟩
  | 99 => ⟨S16x512x512, .f32⟩
  | 100 => ⟨S16x512x512, .f32⟩
  | 101 => ⟨S1x1x512, .f32⟩
  | 102 => ⟨S16x512x512, .f32⟩
  | 103 => ⟨S16x512x512, .f32⟩
  | 104 => ⟨S1x2048x512, .f32⟩
  | 105 => ⟨S2048x512, .f32⟩
  | 106 => ⟨S512x2048, .f32⟩
  | 107 => ⟨S16x512x2048, .f32⟩
  | 108 => ⟨S1x2048, .f32⟩
  | 109 => ⟨S2048, .f32⟩
  | 110 => ⟨S1x1x2048, .f32⟩
  | 111 => ⟨S16x512x2048, .f32⟩
  | 112 => ⟨S16x512x2048, .f32⟩
  | 113 => ⟨S_, .f32⟩
  | 114 => ⟨S16x512x2048, .f32⟩
  | 115 => ⟨S16x512x2048, .f32⟩
  | 116 => ⟨S_, .f32⟩
  | 117 => ⟨S_, .f32⟩
  | 118 => ⟨S_, .f32⟩
  | 119 => ⟨S16x512x2048, .f32⟩
  | 120 => ⟨S16x512x2048, .f32⟩
  | 121 => ⟨S16x512x2048, .f32⟩
  | 122 => ⟨S_, .f32⟩
  | 123 => ⟨S16x512x2048, .f32⟩
  | 124 => ⟨S16x512x2048, .f32⟩
  | 125 => ⟨S16x512x2048, .f32⟩
  | 126 => ⟨S1x512x2048, .f32⟩
  | 127 => ⟨S512x2048, .f32⟩
  | _ => ⟨S16x512, .i32⟩

abbrev hbmTy0_1 (i : Nat) : BufTy := match i % 128 with
  | 0 => ⟨S2048x512, .f32⟩
  | 1 => ⟨S16x512x512, .f32⟩
  | 2 => ⟨S1x512, .f32⟩
  | 3 => ⟨S512, .f32⟩
  | 4 => ⟨S1x1x512, .f32⟩
  | 5 => ⟨S16x512x512, .f32⟩
  | 6 => ⟨S16x512x512, .f32⟩
  | 7 => ⟨S16x512x512, .f32⟩
  | 8 => ⟨S1x512, .f32⟩
  | 9 => ⟨S512, .f32⟩
  | 10 => ⟨S1x512, .f32⟩
  | 11 => ⟨S512, .f32⟩
  | 12 => ⟨S_, .f32⟩
  | 13 => ⟨S16x512, .f32⟩
  | 14 => ⟨S16x512x1, .f32⟩
  | 15 => ⟨S_, .f32⟩
  | 16 => ⟨S16x512x1, .f32⟩
  | 17 => ⟨S16x512x1, .f32⟩
  | 18 => ⟨S16x512x512, .f32⟩
  | 19 => ⟨S16x512x512, .f32⟩
  | 20 => ⟨S16x512x512, .f32⟩
  | 21 => ⟨S_, .f32⟩
  | 22 => ⟨S16x512, .f32⟩
  | 23 => ⟨S16x512x1, .f32⟩
  | 24 => ⟨S_, .f32⟩
  | 25 => ⟨S16x512x1, .f32⟩
  | 26 => ⟨S16x512x1, .f32⟩
  | 27 => ⟨S16x512x512, .f32⟩
  | 28 => ⟨S16x512x512, .f32⟩
  | 29 => ⟨S_, .f32⟩
  | 30 => ⟨S16x512x1, .f32⟩
  | 31 => ⟨S16x512x1, .f32⟩
  | 32 => ⟨S16x512x1, .f32⟩
  | 33 => ⟨S16x512x512, .f32⟩
  | 34 => ⟨S16x512x512, .f32⟩
  | 35 => ⟨S1x1x512, .f32⟩
  | 36 => ⟨S16x512x512, .f32⟩
  | 37 => ⟨S16x512x512, .f32⟩
  | 38 => ⟨S1x1x512, .f32⟩
  | 39 => ⟨S16x512x512, .f32⟩
  | 40 => ⟨S16x512x512, .f32⟩
  | 41 => ⟨S1x1536x512, .f32⟩
  | 42 => ⟨S1536x512, .f32⟩
  | 43 => ⟨S512x1536, .f32⟩
  | 44 => ⟨S16x512x1536, .f32⟩
  | 45 => ⟨S1x1536, .f32⟩
  | 46 => ⟨S1536, .f32⟩
  | 47 => ⟨S1x1x1536, .f32⟩
  | 48 => ⟨S16x512x1536, .f32⟩
  | 49 => ⟨S16x512x1536, .f32⟩
  | 50 => ⟨S16x512x512, .f32⟩
  | 51 => ⟨S16x512x512, .f32⟩
  | 52 => ⟨S16x512x512, .f32⟩
  | 53 => ⟨S16x512x8x64, .f32⟩
  | 54 => ⟨S16x512x8x64, .f32⟩
  | 55 => ⟨S16x512x8x64, .f32⟩
  | 56 => ⟨S16x8x512x512, .f32⟩
  | 57 => ⟨S_, .f32⟩
  | 58 => ⟨S16x8x512x512, .f32⟩
  | 59 => ⟨S16x8x512x512, .f32⟩
  | 60 => ⟨S_, .f32⟩
  | 61 => ⟨S16x8x512, .f32⟩
  | 62 => ⟨S16x8x512x1, .f32⟩
  | 63 => ⟨S16x8x512x512, .f32⟩
  | 64 => ⟨S16x8x512x512, .f32⟩
  | 65 => ⟨S16x8x512x512, .f32⟩
  | 66 => ⟨S_, .f32⟩
  | 67 => ⟨S16x8x512, .f32⟩
  | 68 => ⟨S16x8x512x1, .f32⟩
  | 69 => ⟨S_, .f32⟩
  | 70 => ⟨S16x8x512x1, .f32⟩
  | 71 => ⟨S16x8x512x1, .f32⟩
  | 72 => ⟨S16x8x512x512, .f32⟩
  | 73 => ⟨S16x8x512x512, .f32⟩
  | 74 => ⟨S16x8x64x512, .f32⟩
  | 75 => ⟨S16x512x8x64, .f32⟩
  | 76 => ⟨S16x512x512, .f32⟩
  | 77 => ⟨S1x512x512, .f32⟩
  | 78 => ⟨S512x512, .f32⟩
  | 79 => ⟨S512x512, .f32⟩
  | 80 => ⟨S16x512x512, .f32⟩
  | 81 => ⟨S16x512x512, .f32⟩
  | 82 => ⟨S1x512, .f32⟩
  | 83 => ⟨S512, .f32⟩
  | 84 => ⟨S1x1x512, .f32⟩
  | 85 => ⟨S16x512x512, .f32⟩
  | 86 => ⟨S16x512x512, .f32⟩
  | 87 => ⟨S1x512, .f32⟩
  | 88 => ⟨S512, .f32⟩
  | 89 => ⟨S1x512, .f32⟩
  | 90 => ⟨S512, .f32⟩
  | 91 => ⟨S_, .f32⟩
  | 92 => ⟨S16x512, .f32⟩
  | 93 => ⟨S16x512x1, .f32⟩
  | 94 => ⟨S_, .f32⟩
  | 95 => ⟨S16x512x1, .f32⟩
  | 96 => ⟨S16x512x1, .f32⟩
  | 97 => ⟨S16x512x512, .f32⟩
  | 98 => ⟨S16x512x512, .f32⟩
  | 99 => ⟨S16x512x512, .f32⟩
  | 100 => ⟨S_, .f32⟩
  | 101 => ⟨S16x512, .f32⟩
  | 102 => ⟨S16x512x1, .f32⟩
  | 103 => ⟨S_, .f32⟩
  | 104 => ⟨S16x512x1, .f32⟩
  | 105 => ⟨S16x512x1, .f32⟩
  | 106 => ⟨S16x512x512, .f32⟩
  | 107 => ⟨S16x512x512, .f32⟩
  | 108 => ⟨S_, .f32⟩
  | 109 => ⟨S16x512x1, .f32⟩
  | 110 => ⟨S16x512x1, .f32⟩
  | 111 => ⟨S16x512x1, .f32⟩
  | 112 => ⟨S16x512x512, .f32⟩
  | 113 => ⟨S16x512x512, .f32⟩
  | 114 => ⟨S1x1x512, .f32⟩
  | 115 => ⟨S16x512x512, .f32⟩
  | 116 => ⟨S16x512x512, .f32⟩
  | 117 => ⟨S1x1x512, .f32⟩
  | 118 => ⟨S16x512x512, .f32⟩
  | 119 => ⟨S16x512x512, .f32⟩
  | 120 => ⟨S1x2048x512, .f32⟩
  | 121 => ⟨S2048x512, .f32⟩
  | 122 => ⟨S512x2048, .f32⟩
  | 123 => ⟨S16x512x2048, .f32⟩
  | 124 => ⟨S1x2048, .f32⟩
  | 125 => ⟨S2048, .f32⟩
  | 126 => ⟨S1x1x2048, .f32⟩
  | 127 => ⟨S16x512x2048, .f32⟩
  | _ => ⟨S16x512, .i32⟩

abbrev hbmTy0_2 (i : Nat) : BufTy := match i % 128 with
  | 0 => ⟨S16x512x2048, .f32⟩
  | 1 => ⟨S_, .f32⟩
  | 2 => ⟨S16x512x2048, .f32⟩
  | 3 => ⟨S16x512x2048, .f32⟩
  | 4 => ⟨S_, .f32⟩
  | 5 => ⟨S_, .f32⟩
  | 6 => ⟨S_, .f32⟩
  | 7 => ⟨S16x512x2048, .f32⟩
  | 8 => ⟨S16x512x2048, .f32⟩
  | 9 => ⟨S16x512x2048, .f32⟩
  | 10 => ⟨S_, .f32⟩
  | 11 => ⟨S16x512x2048, .f32⟩
  | 12 => ⟨S16x512x2048, .f32⟩
  | 13 => ⟨S16x512x2048, .f32⟩
  | 14 => ⟨S1x512x2048, .f32⟩
  | 15 => ⟨S512x2048, .f32⟩
  | 16 => ⟨S2048x512, .f32⟩
  | 17 => ⟨S16x512x512, .f32⟩
  | 18 => ⟨S1x512, .f32⟩
  | 19 => ⟨S512, .f32⟩
  | 20 => ⟨S1x1x512, .f32⟩
  | 21 => ⟨S16x512x512, .f32⟩
  | 22 => ⟨S16x512x512, .f32⟩
  | 23 => ⟨S16x512x512, .f32⟩
  | 24 => ⟨S1x512, .f32⟩
  | 25 => ⟨S512, .f32⟩
  | 26 => ⟨S1x512, .f32⟩
  | 27 => ⟨S512, .f32⟩
  | 28 => ⟨S_, .f32⟩
  | 29 => ⟨S16x512, .f32⟩
  | 30 => ⟨S16x512x1, .f32⟩
  | 31 => ⟨S_, .f32⟩
  | 32 => ⟨S16x512x1, .f32⟩
  | 33 => ⟨S16x512x1, .f32⟩
  | 34 => ⟨S16x512x512, .f32⟩
  | 35 => ⟨S16x512x512, .f32⟩
  | 36 => ⟨S16x512x512, .f32⟩
  | 37 => ⟨S_, .f32⟩
  | 38 => ⟨S16x512, .f32⟩
  | 39 => ⟨S16x512x1, .f32⟩
  | 40 => ⟨S_, .f32⟩
  | 41 => ⟨S16x512x1, .f32⟩
  | 42 => ⟨S16x512x1, .f32⟩
  | 43 => ⟨S16x512x512, .f32⟩
  | 44 => ⟨S16x512x512, .f32⟩
  | 45 => ⟨S_, .f32⟩
  | 46 => ⟨S16x512x1, .f32⟩
  | 47 => ⟨S16x512x1, .f32⟩
  | 48 => ⟨S16x512x1, .f32⟩
  | 49 => ⟨S16x512x512, .f32⟩
  | 50 => ⟨S16x512x512, .f32⟩
  | 51 => ⟨S1x1x512, .f32⟩
  | 52 => ⟨S16x512x512, .f32⟩
  | 53 => ⟨S16x512x512, .f32⟩
  | 54 => ⟨S1x1x512, .f32⟩
  | 55 => ⟨S16x512x512, .f32⟩
  | 56 => ⟨S16x512x512, .f32⟩
  | 57 => ⟨S1x1536x512, .f32⟩
  | 58 => ⟨S1536x512, .f32⟩
  | 59 => ⟨S512x1536, .f32⟩
  | 60 => ⟨S16x512x1536, .f32⟩
  | 61 => ⟨S1x1536, .f32⟩
  | 62 => ⟨S1536, .f32⟩
  | 63 => ⟨S1x1x1536, .f32⟩
  | 64 => ⟨S16x512x1536, .f32⟩
  | 65 => ⟨S16x512x1536, .f32⟩
  | 66 => ⟨S16x512x512, .f32⟩
  | 67 => ⟨S16x512x512, .f32⟩
  | 68 => ⟨S16x512x512, .f32⟩
  | 69 => ⟨S16x512x8x64, .f32⟩
  | 70 => ⟨S16x512x8x64, .f32⟩
  | 71 => ⟨S16x512x8x64, .f32⟩
  | 72 => ⟨S16x8x512x512, .f32⟩
  | 73 => ⟨S_, .f32⟩
  | 74 => ⟨S16x8x512x512, .f32⟩
  | 75 => ⟨S16x8x512x512, .f32⟩
  | 76 => ⟨S_, .f32⟩
  | 77 => ⟨S16x8x512, .f32⟩
  | 78 => ⟨S16x8x512x1, .f32⟩
  | 79 => ⟨S16x8x512x512, .f32⟩
  | 80 => ⟨S16x8x512x512, .f32⟩
  | 81 => ⟨S16x8x512x512, .f32⟩
  | 82 => ⟨S_, .f32⟩
  | 83 => ⟨S16x8x512, .f32⟩
  | 84 => ⟨S16x8x512x1, .f32⟩
  | 85 => ⟨S_, .f32⟩
  | 86 => ⟨S16x8x512x1, .f32⟩
  | 87 => ⟨S16x8x512x1, .f32⟩
  | 88 => ⟨S16x8x512x512, .f32⟩
  | 89 => ⟨S16x8x512x512, .f32⟩
  | 90 => ⟨S16x8x64x512, .f32⟩
  | 91 => ⟨S16x512x8x64, .f32⟩
  | 92 => ⟨S16x512x512, .f32⟩
  | 93 => ⟨S1x512x512, .f32⟩
  | 94 => ⟨S512x512, .f32⟩
  | 95 => ⟨S512x512, .f32⟩
  | 96 => ⟨S16x512x512, .f32⟩
  | 97 => ⟨S16x512x512, .f32⟩
  | 98 => ⟨S1x512, .f32⟩
  | 99 => ⟨S512, .f32⟩
  | 100 => ⟨S1x1x512, .f32⟩
  | 101 => ⟨S16x512x512, .f32⟩
  | 102 => ⟨S16x512x512, .f32⟩
  | 103 => ⟨S1x512, .f32⟩
  | 104 => ⟨S512, .f32⟩
  | 105 => ⟨S1x512, .f32⟩
  | 106 => ⟨S512, .f32⟩
  | 107 => ⟨S_, .f32⟩
  | 108 => ⟨S16x512, .f32⟩
  | 109 => ⟨S16x512x1, .f32⟩
  | 110 => ⟨S_, .f32⟩
  | 111 => ⟨S16x512x1, .f32⟩
  | 112 => ⟨S16x512x1, .f32⟩
  | 113 => ⟨S16x512x512, .f32⟩
  | 114 => ⟨S16x512x512, .f32⟩
  | 115 => ⟨S16x512x512, .f32⟩
  | 116 => ⟨S_, .f32⟩
  | 117 => ⟨S16x512, .f32⟩
  | 118 => ⟨S16x512x1, .f32⟩
  | 119 => ⟨S_, .f32⟩
  | 120 => ⟨S16x512x1, .f32⟩
  | 121 => ⟨S16x512x1, .f32⟩
  | 122 => ⟨S16x512x512, .f32⟩
  | 123 => ⟨S16x512x512, .f32⟩
  | 124 => ⟨S_, .f32⟩
  | 125 => ⟨S16x512x1, .f32⟩
  | 126 => ⟨S16x512x1, .f32⟩
  | 127 => ⟨S16x512x1, .f32⟩
  | _ => ⟨S16x512, .i32⟩

abbrev hbmTy0_3 (i : Nat) : BufTy := match i % 128 with
  | 0 => ⟨S16x512x512, .f32⟩
  | 1 => ⟨S16x512x512, .f32⟩
  | 2 => ⟨S1x1x512, .f32⟩
  | 3 => ⟨S16x512x512, .f32⟩
  | 4 => ⟨S16x512x512, .f32⟩
  | 5 => ⟨S1x1x512, .f32⟩
  | 6 => ⟨S16x512x512, .f32⟩
  | 7 => ⟨S16x512x512, .f32⟩
  | 8 => ⟨S1x2048x512, .f32⟩
  | 9 => ⟨S2048x512, .f32⟩
  | 10 => ⟨S512x2048, .f32⟩
  | 11 => ⟨S16x512x2048, .f32⟩
  | 12 => ⟨S1x2048, .f32⟩
  | 13 => ⟨S2048, .f32⟩
  | 14 => ⟨S1x1x2048, .f32⟩
  | 15 => ⟨S16x512x2048, .f32⟩
  | 16 => ⟨S16x512x2048, .f32⟩
  | 17 => ⟨S_, .f32⟩
  | 18 => ⟨S16x512x2048, .f32⟩
  | 19 => ⟨S16x512x2048, .f32⟩
  | 20 => ⟨S_, .f32⟩
  | 21 => ⟨S_, .f32⟩
  | 22 => ⟨S_, .f32⟩
  | 23 => ⟨S16x512x2048, .f32⟩
  | 24 => ⟨S16x512x2048, .f32⟩
  | 25 => ⟨S16x512x2048, .f32⟩
  | 26 => ⟨S_, .f32⟩
  | 27 => ⟨S16x512x2048, .f32⟩
  | 28 => ⟨S16x512x2048, .f32⟩
  | 29 => ⟨S16x512x2048, .f32⟩
  | 30 => ⟨S1x512x2048, .f32⟩
  | 31 => ⟨S512x2048, .f32⟩
  | 32 => ⟨S2048x512, .f32⟩
  | 33 => ⟨S16x512x512, .f32⟩
  | 34 => ⟨S1x512, .f32⟩
  | 35 => ⟨S512, .f32⟩
  | 36 => ⟨S1x1x512, .f32⟩
  | 37 => ⟨S16x512x512, .f32⟩
  | 38 => ⟨S16x512x512, .f32⟩
  | 39 => ⟨S16x512x512, .f32⟩
  | 40 => ⟨S1x512, .f32⟩
  | 41 => ⟨S512, .f32⟩
  | 42 => ⟨S1x512, .f32⟩
  | 43 => ⟨S512, .f32⟩
  | 44 => ⟨S_, .f32⟩
  | 45 => ⟨S16x512, .f32⟩
  | 46 => ⟨S16x512x1, .f32⟩
  | 47 => ⟨S_, .f32⟩
  | 48 => ⟨S16x512x1, .f32⟩
  | 49 => ⟨S16x512x1, .f32⟩
  | 50 => ⟨S16x512x512, .f32⟩
  | 51 => ⟨S16x512x512, .f32⟩
  | 52 => ⟨S16x512x512, .f32⟩
  | 53 => ⟨S_, .f32⟩
  | 54 => ⟨S16x512, .f32⟩
  | 55 => ⟨S16x512x1, .f32⟩
  | 56 => ⟨S_, .f32⟩
  | 57 => ⟨S16x512x1, .f32⟩
  | 58 => ⟨S16x512x1, .f32⟩
  | 59 => ⟨S16x512x512, .f32⟩
  | 60 => ⟨S16x512x512, .f32⟩
  | 61 => ⟨S_, .f32⟩
  | 62 => ⟨S16x512x1, .f32⟩
  | 63 => ⟨S16x512x1, .f32⟩
  | 64 => ⟨S16x512x1, .f32⟩
  | 65 => ⟨S16x512x512, .f32⟩
  | 66 => ⟨S16x512x512, .f32⟩
  | 67 => ⟨S1x1x512, .f32⟩
  | 68 => ⟨S16x512x512, .f32⟩
  | 69 => ⟨S16x512x512, .f32⟩
  | 70 => ⟨S1x1x512, .f32⟩
  | 71 => ⟨S16x512x512, .f32⟩
  | 72 => ⟨S16x512x512, .f32⟩
  | 73 => ⟨S1x1536x512, .f32⟩
  | 74 => ⟨S1536x512, .f32⟩
  | 75 => ⟨S512x1536, .f32⟩
  | 76 => ⟨S16x512x1536, .f32⟩
  | 77 => ⟨S1x1536, .f32⟩
  | 78 => ⟨S1536, .f32⟩
  | 79 => ⟨S1x1x1536, .f32⟩
  | 80 => ⟨S16x512x1536, .f32⟩
  | 81 => ⟨S16x512x1536, .f32⟩
  | 82 => ⟨S16x512x512, .f32⟩
  | 83 => ⟨S16x512x512, .f32⟩
  | 84 => ⟨S16x512x512, .f32⟩
  | 85 => ⟨S16x512x8x64, .f32⟩
  | 86 => ⟨S16x512x8x64, .f32⟩
  | 87 => ⟨S16x512x8x64, .f32⟩
  | 88 => ⟨S16x8x512x512, .f32⟩
  | 89 => ⟨S_, .f32⟩
  | 90 => ⟨S16x8x512x512, .f32⟩
  | 91 => ⟨S16x8x512x512, .f32⟩
  | 92 => ⟨S_, .f32⟩
  | 93 => ⟨S16x8x512, .f32⟩
  | 94 => ⟨S16x8x512x1, .f32⟩
  | 95 => ⟨S16x8x512x512, .f32⟩
  | 96 => ⟨S16x8x512x512, .f32⟩
  | 97 => ⟨S16x8x512x512, .f32⟩
  | 98 => ⟨S_, .f32⟩
  | 99 => ⟨S16x8x512, .f32⟩
  | 100 => ⟨S16x8x512x1, .f32⟩
  | 101 => ⟨S_, .f32⟩
  | 102 => ⟨S16x8x512x1, .f32⟩
  | 103 => ⟨S16x8x512x1, .f32⟩
  | 104 => ⟨S16x8x512x512, .f32⟩
  | 105 => ⟨S16x8x512x512, .f32⟩
  | 106 => ⟨S16x8x64x512, .f32⟩
  | 107 => ⟨S16x512x8x64, .f32⟩
  | 108 => ⟨S16x512x512, .f32⟩
  | 109 => ⟨S1x512x512, .f32⟩
  | 110 => ⟨S512x512, .f32⟩
  | 111 => ⟨S512x512, .f32⟩
  | 112 => ⟨S16x512x512, .f32⟩
  | 113 => ⟨S16x512x512, .f32⟩
  | 114 => ⟨S1x512, .f32⟩
  | 115 => ⟨S512, .f32⟩
  | 116 => ⟨S1x1x512, .f32⟩
  | 117 => ⟨S16x512x512, .f32⟩
  | 118 => ⟨S16x512x512, .f32⟩
  | 119 => ⟨S1x512, .f32⟩
  | 120 => ⟨S512, .f32⟩
  | 121 => ⟨S1x512, .f32⟩
  | 122 => ⟨S512, .f32⟩
  | 123 => ⟨S_, .f32⟩
  | 124 => ⟨S16x512, .f32⟩
  | 125 => ⟨S16x512x1, .f32⟩
  | 126 => ⟨S_, .f32⟩
  | 127 => ⟨S16x512x1, .f32⟩
  | _ => ⟨S16x512, .i32⟩

abbrev hbmTy0_4 (i : Nat) : BufTy := match i % 128 with
  | 0 => ⟨S16x512x1, .f32⟩
  | 1 => ⟨S16x512x512, .f32⟩
  | 2 => ⟨S16x512x512, .f32⟩
  | 3 => ⟨S16x512x512, .f32⟩
  | 4 => ⟨S_, .f32⟩
  | 5 => ⟨S16x512, .f32⟩
  | 6 => ⟨S16x512x1, .f32⟩
  | 7 => ⟨S_, .f32⟩
  | 8 => ⟨S16x512x1, .f32⟩
  | 9 => ⟨S16x512x1, .f32⟩
  | 10 => ⟨S16x512x512, .f32⟩
  | 11 => ⟨S16x512x512, .f32⟩
  | 12 => ⟨S_, .f32⟩
  | 13 => ⟨S16x512x1, .f32⟩
  | 14 => ⟨S16x512x1, .f32⟩
  | 15 => ⟨S16x512x1, .f32⟩
  | 16 => ⟨S16x512x512, .f32⟩
  | 17 => ⟨S16x512x512, .f32⟩
  | 18 => ⟨S1x1x512, .f32⟩
  | 19 => ⟨S16x512x512, .f32⟩
  | 20 => ⟨S16x512x512, .f32⟩
  | 21 => ⟨S1x1x512, .f32⟩
  | 22 => ⟨S16x512x512, .f32⟩
  | 23 => ⟨S16x512x512, .f32⟩
  | 24 => ⟨S1x2048x512, .f32⟩
  | 25 => ⟨S2048x512, .f32⟩
  | 26 => ⟨S512x2048, .f32⟩
  | 27 => ⟨S16x512x2048, .f32⟩
  | 28 => ⟨S1x2048, .f32⟩
  | 29 => ⟨S2048, .f32⟩
  | 30 => ⟨S1x1x2048, .f32⟩
  | 31 => ⟨S16x512x2048, .f32⟩
  | 32 => ⟨S16x512x2048, .f32⟩
  | 33 => ⟨S_, .f32⟩
  | 34 => ⟨S16x512x2048, .f32⟩
  | 35 => ⟨S16x512x2048, .f32⟩
  | 36 => ⟨S_, .f32⟩
  | 37 => ⟨S_, .f32⟩
  | 38 => ⟨S_, .f32⟩
  | 39 => ⟨S16x512x2048, .f32⟩
  | 40 => ⟨S16x512x2048, .f32⟩
  | 41 => ⟨S16x512x2048, .f32⟩
  | 42 => ⟨S_, .f32⟩
  | 43 => ⟨S16x512x2048, .f32⟩
  | 44 => ⟨S16x512x2048, .f32⟩
  | 45 => ⟨S16x512x2048, .f32⟩
  | 46 => ⟨S1x512x2048, .f32⟩
  | 47 => ⟨S512x2048, .f32⟩
  | 48 => ⟨S2048x512, .f32⟩
  | 49 => ⟨S16x512x512, .f32⟩
  | 50 => ⟨S1x512, .f32⟩
  | 51 => ⟨S512, .f32⟩
  | 52 => ⟨S1x1x512, .f32⟩
  | 53 => ⟨S16x512x512, .f32⟩
  | 54 => ⟨S16x512x512, .f32⟩
  | 55 => ⟨S16x512x512, .f32⟩
  | 56 => ⟨S1x512, .f32⟩
  | 57 => ⟨S512, .f32⟩
  | 58 => ⟨S1x512, .f32⟩
  | 59 => ⟨S512, .f32⟩
  | 60 => ⟨S_, .f32⟩
  | 61 => ⟨S16x512, .f32⟩
  | 62 => ⟨S16x512x1, .f32⟩
  | 63 => ⟨S_, .f32⟩
  | 64 => ⟨S16x512x1, .f32⟩
  | 65 => ⟨S16x512x1, .f32⟩
  | 66 => ⟨S16x512x512, .f32⟩
  | 67 => ⟨S16x512x512, .f32⟩
  | 68 => ⟨S16x512x512, .f32⟩
  | 69 => ⟨S_, .f32⟩
  | 70 => ⟨S16x512, .f32⟩
  | 71 => ⟨S16x512x1, .f32⟩
  | 72 => ⟨S_, .f32⟩
  | 73 => ⟨S16x512x1, .f32⟩
  | 74 => ⟨S16x512x1, .f32⟩
  | 75 => ⟨S16x512x512, .f32⟩
  | 76 => ⟨S16x512x512, .f32⟩
  | 77 => ⟨S_, .f32⟩
  | 78 => ⟨S16x512x1, .f32⟩
  | 79 => ⟨S16x512x1, .f32⟩
  | 80 => ⟨S16x512x1, .f32⟩
  | 81 => ⟨S16x512x512, .f32⟩
  | 82 => ⟨S16x512x512, .f32⟩
  | 83 => ⟨S1x1x512, .f32⟩
  | 84 => ⟨S16x512x512, .f32⟩
  | 85 => ⟨S16x512x512, .f32⟩
  | 86 => ⟨S1x1x512, .f32⟩
  | 87 => ⟨S16x512x512, .f32⟩
  | 88 => ⟨S16x512x512, .f32⟩
  | 89 => ⟨S_, .f32⟩
  | 90 => ⟨S16x512, .f32⟩
  | 91 => ⟨S_, .f32⟩
  | 92 => ⟨S16x512, .f32⟩
  | 93 => ⟨S16x512, .f32⟩
  | 94 => ⟨S_, .i32⟩
  | 95 => ⟨S16x512, .i32⟩
  | 96 => ⟨S16x512, .i1⟩
  | 97 => ⟨S16x512, .f32⟩
  | 98 => ⟨S16x512x1, .i32⟩
  | 99 => ⟨S1x1x50257, .i32⟩
  | 100 => ⟨S16x512x50257, .i32⟩
  | 101 => ⟨S16x512x50257, .i32⟩
  | 102 => ⟨S16x512x50257, .i1⟩
  | 103 => ⟨S16x512x50257, .f32⟩
  | 104 => ⟨S16x512x1, .f32⟩
  | 105 => ⟨S16x512x50257, .f32⟩
  | 106 => ⟨S16x512x50257, .f32⟩
  | 107 => ⟨S_, .f32⟩
  | 108 => ⟨S16x50257, .f32⟩
  | 109 => ⟨S_, .f32⟩
  | 110 => ⟨S16, .f32⟩
  | 111 => ⟨S16x1, .f32⟩
  | 112 => ⟨S_, .f32⟩
  | 113 => ⟨S16x1, .f32⟩
  | 114 => ⟨S16x1, .f32⟩
  | 115 => ⟨S16x50257, .f32⟩
  | 116 => ⟨S16x50257, .f32⟩
  | 117 => ⟨S16x50257, .f32⟩
  | 118 => ⟨S_, .f32⟩
  | 119 => ⟨S16, .f32⟩
  | 120 => ⟨S16x1, .f32⟩
  | 121 => ⟨S_, .f32⟩
  | 122 => ⟨S16x1, .f32⟩
  | 123 => ⟨S16x1, .f32⟩
  | 124 => ⟨S_, .f32⟩
  | 125 => ⟨S16x1, .f32⟩
  | 126 => ⟨S16x1, .f32⟩
  | 127 => ⟨S16x1, .f32⟩
  | _ => ⟨S16x512, .i32⟩

abbrev hbmTy0_5 (i : Nat) : BufTy := match i % 128 with
  | 0 => ⟨S_, .i32⟩
  | 1 => ⟨S16x512, .i32⟩
  | 2 => ⟨S16x512, .i1⟩
  | 3 => ⟨S16x512, .f32⟩
  | 4 => ⟨S_, .f32⟩
  | 5 => ⟨S16, .f32⟩
  | 6 => ⟨S16x1, .f32⟩
  | 7 => ⟨S16x64, .f32⟩
  | 8 => ⟨S1, .f32⟩
  | 9 => ⟨S_, .f32⟩
  | 10 => ⟨S64x1, .f32⟩
  | 11 => ⟨S64, .f32⟩
  | 12 => ⟨S64, .f32⟩
  | 13 => ⟨S64, .f32⟩
  | 14 => ⟨S1x64, .f32⟩
  | 15 => ⟨S16x64, .f32⟩
  | 16 => ⟨S16x64, .f32⟩
  | 17 => ⟨S16x64, .f32⟩
  | 18 => ⟨S16x64, .f32⟩
  | 19 => ⟨S64, .f32⟩
  | 20 => ⟨S1x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S64, .f32⟩
  | 28 => ⟨S64, .f32⟩
  | 29 => ⟨S1x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x576, .f32⟩
  | 36 => ⟨S576x10, .f32⟩
  | 37 => ⟨S16x10, .f32⟩
  | 38 => ⟨S1x10, .f32⟩
  | 39 => ⟨S16x10, .f32⟩
  | 40 => ⟨S16x10, .f32⟩
  | _ => ⟨S16x512, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x512, .i32⟩

abbrev bufTy : (tb : Table) → Fin (tcTables nBuf tb) → BufTy
  | .hbm, ⟨i, _⟩ => hbmTy i
  | _, _ => ⟨S16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_5 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_8 : Ref sig .tc := ⟨.hbm, 113, rfl⟩
abbrev main_v82 : Ref sig .tc := ⟨.hbm, 114, rfl⟩
abbrev main_v83 : Ref sig .tc := ⟨.hbm, 115, rfl⟩
abbrev main_cst_9 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_10 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_11 : Ref sig .tc := ⟨.hbm, 140, rfl⟩
abbrev main_v106 : Ref sig .tc := ⟨.hbm, 141, rfl⟩
abbrev main_v107 : Ref sig .tc := ⟨.hbm, 142, rfl⟩
abbrev main_cst_12 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_13 : Ref sig .tc := ⟨.hbm, 149, rfl⟩
abbrev main_v113 : Ref sig .tc := ⟨.hbm, 150, rfl⟩
abbrev main_v114 : Ref sig .tc := ⟨.hbm, 151, rfl⟩
abbrev main_cst_14 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_15 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_16 : Ref sig .tc := ⟨.hbm, 185, rfl⟩
abbrev main_v146 : Ref sig .tc := ⟨.hbm, 186, rfl⟩
abbrev main_v147 : Ref sig .tc := ⟨.hbm, 187, rfl⟩
abbrev main_cst_17 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_18 : Ref sig .tc := ⟨.hbm, 194, rfl⟩
abbrev main_v153 : Ref sig .tc := ⟨.hbm, 195, rfl⟩
abbrev main_v154 : Ref sig .tc := ⟨.hbm, 196, rfl⟩
abbrev main_cst_19 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_20 : Ref sig .tc := ⟨.hbm, 219, rfl⟩
abbrev main_v176 : Ref sig .tc := ⟨.hbm, 220, rfl⟩
abbrev main_v177 : Ref sig .tc := ⟨.hbm, 221, rfl⟩
abbrev main_cst_21 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_22 : Ref sig .tc := ⟨.hbm, 228, rfl⟩
abbrev main_v183 : Ref sig .tc := ⟨.hbm, 229, rfl⟩
abbrev main_v184 : Ref sig .tc := ⟨.hbm, 230, rfl⟩
abbrev main_cst_23 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_24 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_25 : Ref sig .tc := ⟨.hbm, 257, rfl⟩
abbrev main_v209 : Ref sig .tc := ⟨.hbm, 258, rfl⟩
abbrev main_v210 : Ref sig .tc := ⟨.hbm, 259, rfl⟩
abbrev main_cst_26 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_27 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_cst_28 : Ref sig .tc := ⟨.hbm, 284, rfl⟩
abbrev main_v233 : Ref sig .tc := ⟨.hbm, 285, rfl⟩
abbrev main_v234 : Ref sig .tc := ⟨.hbm, 286, rfl⟩
abbrev main_cst_29 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_30 : Ref sig .tc := ⟨.hbm, 293, rfl⟩
abbrev main_v240 : Ref sig .tc := ⟨.hbm, 294, rfl⟩
abbrev main_v241 : Ref sig .tc := ⟨.hbm, 295, rfl⟩
abbrev main_cst_31 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_32 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_cst_33 : Ref sig .tc := ⟨.hbm, 329, rfl⟩
abbrev main_v273 : Ref sig .tc := ⟨.hbm, 330, rfl⟩
abbrev main_v274 : Ref sig .tc := ⟨.hbm, 331, rfl⟩
abbrev main_cst_34 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_cst_35 : Ref sig .tc := ⟨.hbm, 338, rfl⟩
abbrev main_v280 : Ref sig .tc := ⟨.hbm, 339, rfl⟩
abbrev main_v281 : Ref sig .tc := ⟨.hbm, 340, rfl⟩
abbrev main_cst_36 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_cst_37 : Ref sig .tc := ⟨.hbm, 363, rfl⟩
abbrev main_v303 : Ref sig .tc := ⟨.hbm, 364, rfl⟩
abbrev main_v304 : Ref sig .tc := ⟨.hbm, 365, rfl⟩
abbrev main_cst_38 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_cst_39 : Ref sig .tc := ⟨.hbm, 372, rfl⟩
abbrev main_v310 : Ref sig .tc := ⟨.hbm, 373, rfl⟩
abbrev main_v311 : Ref sig .tc := ⟨.hbm, 374, rfl⟩
abbrev main_cst_40 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_cst_41 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_cst_42 : Ref sig .tc := ⟨.hbm, 401, rfl⟩
abbrev main_v336 : Ref sig .tc := ⟨.hbm, 402, rfl⟩
abbrev main_v337 : Ref sig .tc := ⟨.hbm, 403, rfl⟩
abbrev main_cst_43 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_cst_44 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_cst_45 : Ref sig .tc := ⟨.hbm, 428, rfl⟩
abbrev main_v360 : Ref sig .tc := ⟨.hbm, 429, rfl⟩
abbrev main_v361 : Ref sig .tc := ⟨.hbm, 430, rfl⟩
abbrev main_cst_46 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_cst_47 : Ref sig .tc := ⟨.hbm, 437, rfl⟩
abbrev main_v367 : Ref sig .tc := ⟨.hbm, 438, rfl⟩
abbrev main_v368 : Ref sig .tc := ⟨.hbm, 439, rfl⟩
abbrev main_cst_48 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_cst_49 : Ref sig .tc := ⟨.hbm, 445, rfl⟩
abbrev main_v373 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_cst_50 : Ref sig .tc := ⟨.hbm, 473, rfl⟩
abbrev main_v400 : Ref sig .tc := ⟨.hbm, 474, rfl⟩
abbrev main_v401 : Ref sig .tc := ⟨.hbm, 475, rfl⟩
abbrev main_cst_51 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_v406 : Ref sig .tc := ⟨.hbm, 481, rfl⟩
abbrev main_cst_52 : Ref sig .tc := ⟨.hbm, 482, rfl⟩
abbrev main_v407 : Ref sig .tc := ⟨.hbm, 483, rfl⟩
abbrev main_v408 : Ref sig .tc := ⟨.hbm, 484, rfl⟩
abbrev main_cst_53 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_v424 : Ref sig .tc := ⟨.hbm, 501, rfl⟩
abbrev main_v425 : Ref sig .tc := ⟨.hbm, 502, rfl⟩
abbrev main_v426 : Ref sig .tc := ⟨.hbm, 503, rfl⟩
abbrev main_v427 : Ref sig .tc := ⟨.hbm, 504, rfl⟩
abbrev main_v428 : Ref sig .tc := ⟨.hbm, 505, rfl⟩
abbrev main_v429 : Ref sig .tc := ⟨.hbm, 506, rfl⟩
abbrev main_cst_54 : Ref sig .tc := ⟨.hbm, 507, rfl⟩
abbrev main_v430 : Ref sig .tc := ⟨.hbm, 508, rfl⟩
abbrev main_v431 : Ref sig .tc := ⟨.hbm, 509, rfl⟩
abbrev main_cst_55 : Ref sig .tc := ⟨.hbm, 510, rfl⟩
abbrev main_v432 : Ref sig .tc := ⟨.hbm, 511, rfl⟩
abbrev main_v433 : Ref sig .tc := ⟨.hbm, 512, rfl⟩
abbrev main_v434 : Ref sig .tc := ⟨.hbm, 513, rfl⟩
abbrev main_v435 : Ref sig .tc := ⟨.hbm, 514, rfl⟩
abbrev main_v436 : Ref sig .tc := ⟨.hbm, 515, rfl⟩
abbrev main_cst_56 : Ref sig .tc := ⟨.hbm, 516, rfl⟩
abbrev main_v437 : Ref sig .tc := ⟨.hbm, 517, rfl⟩
abbrev main_v438 : Ref sig .tc := ⟨.hbm, 518, rfl⟩
abbrev main_cst_57 : Ref sig .tc := ⟨.hbm, 519, rfl⟩
abbrev main_v439 : Ref sig .tc := ⟨.hbm, 520, rfl⟩
abbrev main_v440 : Ref sig .tc := ⟨.hbm, 521, rfl⟩
abbrev main_v441 : Ref sig .tc := ⟨.hbm, 522, rfl⟩
abbrev main_v442 : Ref sig .tc := ⟨.hbm, 523, rfl⟩
abbrev main_cst_58 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_v450 : Ref sig .tc := ⟨.hbm, 532, rfl⟩
abbrev main_v451 : Ref sig .tc := ⟨.hbm, 533, rfl⟩
abbrev main_v452 : Ref sig .tc := ⟨.hbm, 534, rfl⟩
abbrev main_v453 : Ref sig .tc := ⟨.hbm, 535, rfl⟩
abbrev main_v454 : Ref sig .tc := ⟨.hbm, 536, rfl⟩
abbrev main_v455 : Ref sig .tc := ⟨.hbm, 537, rfl⟩
abbrev main_v456 : Ref sig .tc := ⟨.hbm, 538, rfl⟩
abbrev main_v457 : Ref sig .tc := ⟨.hbm, 539, rfl⟩
abbrev main_v458 : Ref sig .tc := ⟨.hbm, 540, rfl⟩
abbrev main_v459 : Ref sig .tc := ⟨.hbm, 541, rfl⟩
abbrev main_v460 : Ref sig .tc := ⟨.hbm, 542, rfl⟩
abbrev main_v461 : Ref sig .tc := ⟨.hbm, 543, rfl⟩
abbrev main_v462 : Ref sig .tc := ⟨.hbm, 544, rfl⟩
abbrev main_cst_59 : Ref sig .tc := ⟨.hbm, 545, rfl⟩
abbrev main_v463 : Ref sig .tc := ⟨.hbm, 546, rfl⟩
abbrev main_v464 : Ref sig .tc := ⟨.hbm, 547, rfl⟩
abbrev main_cst_60 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_v469 : Ref sig .tc := ⟨.hbm, 553, rfl⟩
abbrev main_cst_61 : Ref sig .tc := ⟨.hbm, 554, rfl⟩
abbrev main_v470 : Ref sig .tc := ⟨.hbm, 555, rfl⟩
abbrev main_v471 : Ref sig .tc := ⟨.hbm, 556, rfl⟩
abbrev main_v472 : Ref sig .tc := ⟨.hbm, 557, rfl⟩
abbrev main_v473 : Ref sig .tc := ⟨.hbm, 558, rfl⟩
abbrev main_v474 : Ref sig .tc := ⟨.hbm, 559, rfl⟩
abbrev main_v475 : Ref sig .tc := ⟨.hbm, 560, rfl⟩
abbrev main_v476 : Ref sig .tc := ⟨.hbm, 561, rfl⟩
abbrev main_v477 : Ref sig .tc := ⟨.hbm, 562, rfl⟩
abbrev main_v478 : Ref sig .tc := ⟨.hbm, 563, rfl⟩
abbrev main_v479 : Ref sig .tc := ⟨.hbm, 564, rfl⟩
abbrev main_v480 : Ref sig .tc := ⟨.hbm, 565, rfl⟩
abbrev main_v481 : Ref sig .tc := ⟨.hbm, 566, rfl⟩
abbrev main_v482 : Ref sig .tc := ⟨.hbm, 567, rfl⟩
abbrev main_v483 : Ref sig .tc := ⟨.hbm, 568, rfl⟩
abbrev main_v484 : Ref sig .tc := ⟨.hbm, 569, rfl⟩
abbrev main_v485 : Ref sig .tc := ⟨.hbm, 570, rfl⟩
abbrev main_v486 : Ref sig .tc := ⟨.hbm, 571, rfl⟩
abbrev main_cst_62 : Ref sig .tc := ⟨.hbm, 572, rfl⟩
abbrev main_v487 : Ref sig .tc := ⟨.hbm, 573, rfl⟩
abbrev main_v488 : Ref sig .tc := ⟨.hbm, 574, rfl⟩
abbrev main_cst_63 : Ref sig .tc := ⟨.hbm, 575, rfl⟩
abbrev main_v489 : Ref sig .tc := ⟨.hbm, 576, rfl⟩
abbrev main_v490 : Ref sig .tc := ⟨.hbm, 577, rfl⟩
abbrev main_v491 : Ref sig .tc := ⟨.hbm, 578, rfl⟩
abbrev main_v492 : Ref sig .tc := ⟨.hbm, 579, rfl⟩
abbrev main_v493 : Ref sig .tc := ⟨.hbm, 580, rfl⟩
abbrev main_cst_64 : Ref sig .tc := ⟨.hbm, 581, rfl⟩
abbrev main_v494 : Ref sig .tc := ⟨.hbm, 582, rfl⟩
abbrev main_v495 : Ref sig .tc := ⟨.hbm, 583, rfl⟩
abbrev main_cst_65 : Ref sig .tc := ⟨.hbm, 584, rfl⟩
abbrev main_v496 : Ref sig .tc := ⟨.hbm, 585, rfl⟩
abbrev main_v497 : Ref sig .tc := ⟨.hbm, 586, rfl⟩
abbrev main_v498 : Ref sig .tc := ⟨.hbm, 587, rfl⟩
abbrev main_v499 : Ref sig .tc := ⟨.hbm, 588, rfl⟩
abbrev main_cst_66 : Ref sig .tc := ⟨.hbm, 589, rfl⟩
abbrev main_v500 : Ref sig .tc := ⟨.hbm, 590, rfl⟩
abbrev main_v501 : Ref sig .tc := ⟨.hbm, 591, rfl⟩
abbrev main_v502 : Ref sig .tc := ⟨.hbm, 592, rfl⟩
abbrev main_v503 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_v510 : Ref sig .tc := ⟨.hbm, 600, rfl⟩
abbrev main_cst_67 : Ref sig .tc := ⟨.hbm, 601, rfl⟩
abbrev main_v511 : Ref sig .tc := ⟨.hbm, 602, rfl⟩
abbrev main_cst_68 : Ref sig .tc := ⟨.hbm, 603, rfl⟩
abbrev main_v512 : Ref sig .tc := ⟨.hbm, 604, rfl⟩
abbrev main_v513 : Ref sig .tc := ⟨.hbm, 605, rfl⟩
abbrev main_c : Ref sig .tc := ⟨.hbm, 606, rfl⟩
abbrev main_v514 : Ref sig .tc := ⟨.hbm, 607, rfl⟩
abbrev main_v515 : Ref sig .tc := ⟨.hbm, 608, rfl⟩
abbrev main_v516 : Ref sig .tc := ⟨.hbm, 609, rfl⟩
abbrev main_call0_v0 : Ref sig .tc := ⟨.hbm, 610, rfl⟩
abbrev main_call0_v1 : Ref sig .tc := ⟨.hbm, 611, rfl⟩
abbrev main_call0_v2 : Ref sig .tc := ⟨.hbm, 612, rfl⟩
abbrev main_call0_v3 : Ref sig .tc := ⟨.hbm, 613, rfl⟩
abbrev main_call0_v4 : Ref sig .tc := ⟨.hbm, 614, rfl⟩
abbrev main_v517 : Ref sig .tc := ⟨.hbm, 615, rfl⟩
abbrev main_v518 : Ref sig .tc := ⟨.hbm, 616, rfl⟩
abbrev main_v519 : Ref sig .tc := ⟨.hbm, 617, rfl⟩
abbrev main_v520 : Ref sig .tc := ⟨.hbm, 618, rfl⟩
abbrev main_cst_69 : Ref sig .tc := ⟨.hbm, 619, rfl⟩
abbrev main_v521 : Ref sig .tc := ⟨.hbm, 620, rfl⟩
abbrev main_cst_70 : Ref sig .tc := ⟨.hbm, 621, rfl⟩
abbrev main_v522 : Ref sig .tc := ⟨.hbm, 622, rfl⟩
abbrev main_v523 : Ref sig .tc := ⟨.hbm, 623, rfl⟩
abbrev main_cst_71 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_v527 : Ref sig .tc := ⟨.hbm, 628, rfl⟩
abbrev main_v528 : Ref sig .tc := ⟨.hbm, 629, rfl⟩
abbrev main_cst_72 : Ref sig .tc := ⟨.hbm, 630, rfl⟩
abbrev main_v529 : Ref sig .tc := ⟨.hbm, 631, rfl⟩
abbrev main_v530 : Ref sig .tc := ⟨.hbm, 632, rfl⟩
abbrev main_cst_73 : Ref sig .tc := ⟨.hbm, 633, rfl⟩
abbrev main_v531 : Ref sig .tc := ⟨.hbm, 634, rfl⟩
abbrev main_v532 : Ref sig .tc := ⟨.hbm, 635, rfl⟩
abbrev main_cst_74 : Ref sig .tc := ⟨.hbm, 636, rfl⟩
abbrev main_v533 : Ref sig .tc := ⟨.hbm, 637, rfl⟩
abbrev main_v534 : Ref sig .tc := ⟨.hbm, 638, rfl⟩
abbrev main_v535 : Ref sig .tc := ⟨.hbm, 639, rfl⟩
abbrev main_c_75 : Ref sig .tc := ⟨.hbm, 640, rfl⟩
abbrev main_v536 : Ref sig .tc := ⟨.hbm, 641, rfl⟩
abbrev main_v537 : Ref sig .tc := ⟨.hbm, 642, rfl⟩
abbrev main_v538 : Ref sig .tc := ⟨.hbm, 643, rfl⟩
abbrev main_cst_76 : Ref sig .tc := ⟨.hbm, 644, rfl⟩
abbrev main_v539 : Ref sig .tc := ⟨.hbm, 645, rfl⟩
abbrev main_v540 : Ref sig .tc := ⟨.hbm, 646, rfl⟩
abbrev main_v541 : Ref sig .tc := ⟨.hbm, 647, rfl⟩
abbrev main_v542 : Ref sig .tc := ⟨.hbm, 648, rfl⟩
abbrev main_v543 : Ref sig .tc := ⟨.hbm, 649, rfl⟩
abbrev main_v544 : Ref sig .tc := ⟨.hbm, 650, rfl⟩
abbrev main_v545 : Ref sig .tc := ⟨.hbm, 651, rfl⟩
abbrev main_v546 : Ref sig .tc := ⟨.hbm, 652, rfl⟩
abbrev main_v547 : Ref sig .tc := ⟨.hbm, 653, rfl⟩
abbrev main_v548 : Ref sig .tc := ⟨.hbm, 654, rfl⟩
abbrev main_v549 : Ref sig .tc := ⟨.hbm, 655, rfl⟩
abbrev main_v550 : Ref sig .tc := ⟨.hbm, 656, rfl⟩
abbrev main_v551 : Ref sig .tc := ⟨.hbm, 657, rfl⟩
abbrev main_v552 : Ref sig .tc := ⟨.hbm, 658, rfl⟩
abbrev main_v553 : Ref sig .tc := ⟨.hbm, 659, rfl⟩
abbrev main_v554 : Ref sig .tc := ⟨.hbm, 660, rfl⟩
abbrev main_v555 : Ref sig .tc := ⟨.hbm, 661, rfl⟩
abbrev main_v556 : Ref sig .tc := ⟨.hbm, 662, rfl⟩
abbrev main_v557 : Ref sig .tc := ⟨.hbm, 663, rfl⟩
abbrev main_v558 : Ref sig .tc := ⟨.hbm, 664, rfl⟩
abbrev main_v559 : Ref sig .tc := ⟨.hbm, 665, rfl⟩
abbrev main_v560 : Ref sig .tc := ⟨.hbm, 666, rfl⟩
abbrev main_v561 : Ref sig .tc := ⟨.hbm, 667, rfl⟩
abbrev main_v562 : Ref sig .tc := ⟨.hbm, 668, rfl⟩
abbrev main_v563 : Ref sig .tc := ⟨.hbm, 669, rfl⟩
abbrev main_v564 : Ref sig .tc := ⟨.hbm, 670, rfl⟩
abbrev main_v565 : Ref sig .tc := ⟨.hbm, 671, rfl⟩
abbrev main_call1_cst : Ref sig .tc := ⟨.hbm, 672, rfl⟩
abbrev main_call1_v0 : Ref sig .tc := ⟨.hbm, 673, rfl⟩
abbrev main_v566 : Ref sig .tc := ⟨.hbm, 674, rfl⟩
abbrev main_v567 : Ref sig .tc := ⟨.hbm, 675, rfl⟩
abbrev main_v568 : Ref sig .tc := ⟨.hbm, 676, rfl⟩
abbrev main_v569 : Ref sig .tc := ⟨.hbm, 677, rfl⟩
abbrev main_v570 : Ref sig .tc := ⟨.hbm, 678, rfl⟩
abbrev main_v571 : Ref sig .tc := ⟨.hbm, 679, rfl⟩
abbrev main_v572 : Ref sig .tc := ⟨.hbm, 680, rfl⟩

abbrev nD : Nat := 1
abbrev τ : Topo := Topo.v7x

variable {F : FTy → Type} [FloatOps F]
-- ==== PlainReferenceIdeal.lean ====
abbrev S16x512 : Shape := ⟨2, ![16, 512]⟩
abbrev S16x512x1x512 : Shape := ⟨4, ![16, 512, 1, 512]⟩
abbrev S16x1x64 : Shape := ⟨3, ![16, 1, 64]⟩
abbrev S1x512x512 : Shape := ⟨3, ![1, 512, 512]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x2048x512 : Shape := ⟨3, ![4, 2048, 512]⟩
abbrev S4x2048 : Shape := ⟨2, ![4, 2048]⟩
abbrev S4x512x2048 : Shape := ⟨3, ![4, 512, 2048]⟩
abbrev S50257 : Shape := ⟨1, ![50257]⟩
abbrev S64x50257 : Shape := ⟨2, ![64, 50257]⟩
abbrev S64 : Shape := ⟨1, ![64]⟩
abbrev S10x576 : Shape := ⟨2, ![10, 576]⟩
abbrev S10 : Shape := ⟨1, ![10]⟩
abbrev S16x512x512 : Shape := ⟨3, ![16, 512, 512]⟩
abbrev S1x1536x512 : Shape := ⟨3, ![1, 1536, 512]⟩
abbrev S1536x512 : Shape := ⟨2, ![1536, 512]⟩
abbrev S512x1536 : Shape := ⟨2, ![512, 1536]⟩
abbrev S16x512x1536 : Shape := ⟨3, ![16, 512, 1536]⟩
abbrev S1x1536 : Shape := ⟨2, ![1, 1536]⟩
abbrev S1536 : Shape := ⟨1, ![1536]⟩
abbrev S1x1x1536 : Shape := ⟨3, ![1, 1, 1536]⟩
abbrev S16x512x8x64 : Shape := ⟨4, ![16, 512, 8, 64]⟩
abbrev S16x8x512x512 : Shape := ⟨4, ![16, 8, 512, 512]⟩
abbrev S_ : Shape := ⟨0, ![]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S16x512x1 : Shape := ⟨3, ![16, 512, 1]⟩
abbrev S1x2048x512 : Shape := ⟨3, ![1, 2048, 512]⟩
abbrev S2048x512 : Shape := ⟨2, ![2048, 512]⟩
abbrev S512x2048 : Shape := ⟨2, ![512, 2048]⟩
abbrev S16x512x2048 : Shape := ⟨3, ![16, 512, 2048]⟩
abbrev S1x2048 : Shape := ⟨2, ![1, 2048]⟩
abbrev S2048 : Shape := ⟨1, ![2048]⟩
abbrev S1x1x2048 : Shape := ⟨3, ![1, 1, 2048]⟩
abbrev S1x512x2048 : Shape := ⟨3, ![1, 512, 2048]⟩
abbrev S1x1x50257 : Shape := ⟨3, ![1, 1, 50257]⟩
abbrev S16x512x50257 : Shape := ⟨3, ![16, 512, 50257]⟩
abbrev S16x50257 : Shape := ⟨2, ![16, 50257]⟩
abbrev S16 : Shape := ⟨1, ![16]⟩
abbrev S16x1 : Shape := ⟨2, ![16, 1]⟩
abbrev S16x64 : Shape := ⟨2, ![16, 64]⟩
abbrev S1 : Shape := ⟨1, ![1]⟩
abbrev S64x1 : Shape := ⟨2, ![64, 1]⟩
abbrev S1x64 : Shape := ⟨2, ![1, 64]⟩
abbrev S16x576 : Shape := ⟨2, ![16, 576]⟩
abbrev S576x10 : Shape := ⟨2, ![576, 10]⟩
abbrev S16x10 : Shape := ⟨2, ![16, 10]⟩
abbrev S1x10 : Shape := ⟨2, ![1, 10]⟩

abbrev nBuf : Space → Nat
  | .hbm => 681
  | .vmem => 0
  | .smem => 0
  | _ => 0

abbrev hbmTy0_0 (i : Nat) : BufTy := match i % 128 with
  | 0 => ⟨S16x512, .i32⟩
  | 1 => ⟨S16x512x1x512, .f32⟩
  | 2 => ⟨S16x1x64, .f32⟩
  | 3 => ⟨S1x512x512, .f32⟩
  | 4 => ⟨S4x1536x512, .f32⟩
  | 5 => ⟨S4x1536, .f32⟩
  | 6 => ⟨S4x512x512, .f32⟩
  | 7 => ⟨S4x512, .f32⟩
  | 8 => ⟨S4x512, .f32⟩
  | 9 => ⟨S4x512, .f32⟩
  | 10 => ⟨S4x2048x512, .f32⟩
  | 11 => ⟨S4x2048, .f32⟩
  | 12 => ⟨S4x512x2048, .f32⟩
  | 13 => ⟨S4x512, .f32⟩
  | 14 => ⟨S4x512, .f32⟩
  | 15 => ⟨S4x512, .f32⟩
  | 16 => ⟨S50257, .f32⟩
  | 17 => ⟨S50257, .f32⟩
  | 18 => ⟨S64x50257, .f32⟩
  | 19 => ⟨S64, .f32⟩
  | 20 => ⟨S10x576, .f32⟩
  | 21 => ⟨S10, .f32⟩
  | 22 => ⟨S16x512x512, .f32⟩
  | 23 => ⟨S16x512x512, .f32⟩
  | 24 => ⟨S16x512x512, .f32⟩
  | 25 => ⟨S1x1536x512, .f32⟩
  | 26 => ⟨S1536x512, .f32⟩
  | 27 => ⟨S512x1536, .f32⟩
  | 28 => ⟨S16x512x1536, .f32⟩
  | 29 => ⟨S1x1536, .f32⟩
  | 30 => ⟨S1536, .f32⟩
  | 31 => ⟨S1x1x1536, .f32⟩
  | 32 => ⟨S16x512x1536, .f32⟩
  | 33 => ⟨S16x512x1536, .f32⟩
  | 34 => ⟨S16x512x512, .f32⟩
  | 35 => ⟨S16x512x512, .f32⟩
  | 36 => ⟨S16x512x512, .f32⟩
  | 37 => ⟨S16x512x8x64, .f32⟩
  | 38 => ⟨S16x512x8x64, .f32⟩
  | 39 => ⟨S16x512x8x64, .f32⟩
  | 40 => ⟨S16x8x512x512, .f32⟩
  | 41 => ⟨S_, .f32⟩
  | 42 => ⟨S16x8x512x512, .f32⟩
  | 43 => ⟨S16x8x512x512, .f32⟩
  | 44 => ⟨S_, .f32⟩
  | 45 => ⟨S16x8x512, .f32⟩
  | 46 => ⟨S_, .f32⟩
  | 47 => ⟨S16x8x512, .f32⟩
  | 48 => ⟨S16x8x512, .f32⟩
  | 49 => ⟨S16x8x512x1, .f32⟩
  | 50 => ⟨S16x8x512x512, .f32⟩
  | 51 => ⟨S16x8x512x512, .f32⟩
  | 52 => ⟨S16x8x512x512, .f32⟩
  | 53 => ⟨S_, .f32⟩
  | 54 => ⟨S16x8x512, .f32⟩
  | 55 => ⟨S16x8x512x1, .f32⟩
  | 56 => ⟨S16x8x512x512, .f32⟩
  | 57 => ⟨S16x8x512x512, .f32⟩
  | 58 => ⟨S16x8x64x512, .f32⟩
  | 59 => ⟨S16x512x8x64, .f32⟩
  | 60 => ⟨S16x512x512, .f32⟩
  | 61 => ⟨S1x512x512, .f32⟩
  | 62 => ⟨S512x512, .f32⟩
  | 63 => ⟨S512x512, .f32⟩
  | 64 => ⟨S16x512x512, .f32⟩
  | 65 => ⟨S16x512x512, .f32⟩
  | 66 => ⟨S1x512, .f32⟩
  | 67 => ⟨S512, .f32⟩
  | 68 => ⟨S1x1x512, .f32⟩
  | 69 => ⟨S16x512x512, .f32⟩
  | 70 => ⟨S16x512x512, .f32⟩
  | 71 => ⟨S1x512, .f32⟩
  | 72 => ⟨S512, .f32⟩
  | 73 => ⟨S1x512, .f32⟩
  | 74 => ⟨S512, .f32⟩
  | 75 => ⟨S_, .f32⟩
  | 76 => ⟨S16x512, .f32⟩
  | 77 => ⟨S16x512x1, .f32⟩
  | 78 => ⟨S_, .f32⟩
  | 79 => ⟨S16x512x1, .f32⟩
  | 80 => ⟨S16x512x1, .f32⟩
  | 81 => ⟨S16x512x512, .f32⟩
  | 82 => ⟨S16x512x512, .f32⟩
  | 83 => ⟨S16x512x512, .f32⟩
  | 84 => ⟨S_, .f32⟩
  | 85 => ⟨S16x512, .f32⟩
  | 86 => ⟨S16x512x1, .f32⟩
  | 87 => ⟨S_, .f32⟩
  | 88 => ⟨S16x512x1, .f32⟩
  | 89 => ⟨S16x512x1, .f32⟩
  | 90 => ⟨S16x512x512, .f32⟩
  | 91 => ⟨S16x512x512, .f32⟩
  | 92 => ⟨S_, .f32⟩
  | 93 => ⟨S16x512x1, .f32⟩
  | 94 => ⟨S16x512x1, .f32⟩
  | 95 => ⟨S16x512x1, .f32⟩
  | 96 => ⟨S16x512x512, .f32⟩
  | 97 => ⟨S16x512x512, .f32⟩
  | 98 => ⟨S1x1x512, .f32⟩
  | 99 => ⟨S16x512x512, .f32⟩
  | 100 => ⟨S16x512x512, .f32⟩
  | 101 => ⟨S1x1x512, .f32⟩
  | 102 => ⟨S16x512x512, .f32⟩
  | 103 => ⟨S16x512x512, .f32⟩
  | 104 => ⟨S1x2048x512, .f32⟩
  | 105 => ⟨S2048x512, .f32⟩
  | 106 => ⟨S512x2048, .f32⟩
  | 107 => ⟨S16x512x2048, .f32⟩
  | 108 => ⟨S1x2048, .f32⟩
  | 109 => ⟨S2048, .f32⟩
  | 110 => ⟨S1x1x2048, .f32⟩
  | 111 => ⟨S16x512x2048, .f32⟩
  | 112 => ⟨S16x512x2048, .f32⟩
  | 113 => ⟨S_, .f32⟩
  | 114 => ⟨S16x512x2048, .f32⟩
  | 115 => ⟨S16x512x2048, .f32⟩
  | 116 => ⟨S_, .f32⟩
  | 117 => ⟨S_, .f32⟩
  | 118 => ⟨S_, .f32⟩
  | 119 => ⟨S16x512x2048, .f32⟩
  | 120 => ⟨S16x512x2048, .f32⟩
  | 121 => ⟨S16x512x2048, .f32⟩
  | 122 => ⟨S_, .f32⟩
  | 123 => ⟨S16x512x2048, .f32⟩
  | 124 => ⟨S16x512x2048, .f32⟩
  | 125 => ⟨S16x512x2048, .f32⟩
  | 126 => ⟨S1x512x2048, .f32⟩
  | 127 => ⟨S512x2048, .f32⟩
  | _ => ⟨S16x512, .i32⟩

abbrev hbmTy0_1 (i : Nat) : BufTy := match i % 128 with
  | 0 => ⟨S2048x512, .f32⟩
  | 1 => ⟨S16x512x512, .f32⟩
  | 2 => ⟨S1x512, .f32⟩
  | 3 => ⟨S512, .f32⟩
  | 4 => ⟨S1x1x512, .f32⟩
  | 5 => ⟨S16x512x512, .f32⟩
  | 6 => ⟨S16x512x512, .f32⟩
  | 7 => ⟨S16x512x512, .f32⟩
  | 8 => ⟨S1x512, .f32⟩
  | 9 => ⟨S512, .f32⟩
  | 10 => ⟨S1x512, .f32⟩
  | 11 => ⟨S512, .f32⟩
  | 12 => ⟨S_, .f32⟩
  | 13 => ⟨S16x512, .f32⟩
  | 14 => ⟨S16x512x1, .f32⟩
  | 15 => ⟨S_, .f32⟩
  | 16 => ⟨S16x512x1, .f32⟩
  | 17 => ⟨S16x512x1, .f32⟩
  | 18 => ⟨S16x512x512, .f32⟩
  | 19 => ⟨S16x512x512, .f32⟩
  | 20 => ⟨S16x512x512, .f32⟩
  | 21 => ⟨S_, .f32⟩
  | 22 => ⟨S16x512, .f32⟩
  | 23 => ⟨S16x512x1, .f32⟩
  | 24 => ⟨S_, .f32⟩
  | 25 => ⟨S16x512x1, .f32⟩
  | 26 => ⟨S16x512x1, .f32⟩
  | 27 => ⟨S16x512x512, .f32⟩
  | 28 => ⟨S16x512x512, .f32⟩
  | 29 => ⟨S_, .f32⟩
  | 30 => ⟨S16x512x1, .f32⟩
  | 31 => ⟨S16x512x1, .f32⟩
  | 32 => ⟨S16x512x1, .f32⟩
  | 33 => ⟨S16x512x512, .f32⟩
  | 34 => ⟨S16x512x512, .f32⟩
  | 35 => ⟨S1x1x512, .f32⟩
  | 36 => ⟨S16x512x512, .f32⟩
  | 37 => ⟨S16x512x512, .f32⟩
  | 38 => ⟨S1x1x512, .f32⟩
  | 39 => ⟨S16x512x512, .f32⟩
  | 40 => ⟨S16x512x512, .f32⟩
  | 41 => ⟨S1x1536x512, .f32⟩
  | 42 => ⟨S1536x512, .f32⟩
  | 43 => ⟨S512x1536, .f32⟩
  | 44 => ⟨S16x512x1536, .f32⟩
  | 45 => ⟨S1x1536, .f32⟩
  | 46 => ⟨S1536, .f32⟩
  | 47 => ⟨S1x1x1536, .f32⟩
  | 48 => ⟨S16x512x1536, .f32⟩
  | 49 => ⟨S16x512x1536, .f32⟩
  | 50 => ⟨S16x512x512, .f32⟩
  | 51 => ⟨S16x512x512, .f32⟩
  | 52 => ⟨S16x512x512, .f32⟩
  | 53 => ⟨S16x512x8x64, .f32⟩
  | 54 => ⟨S16x512x8x64, .f32⟩
  | 55 => ⟨S16x512x8x64, .f32⟩
  | 56 => ⟨S16x8x512x512, .f32⟩
  | 57 => ⟨S_, .f32⟩
  | 58 => ⟨S16x8x512x512, .f32⟩
  | 59 => ⟨S16x8x512x512, .f32⟩
  | 60 => ⟨S_, .f32⟩
  | 61 => ⟨S16x8x512, .f32⟩
  | 62 => ⟨S_, .f32⟩
  | 63 => ⟨S16x8x512, .f32⟩
  | 64 => ⟨S16x8x512, .f32⟩
  | 65 => ⟨S16x8x512x1, .f32⟩
  | 66 => ⟨S16x8x512x512, .f32⟩
  | 67 => ⟨S16x8x512x512, .f32⟩
  | 68 => ⟨S16x8x512x512, .f32⟩
  | 69 => ⟨S_, .f32⟩
  | 70 => ⟨S16x8x512, .f32⟩
  | 71 => ⟨S16x8x512x1, .f32⟩
  | 72 => ⟨S16x8x512x512, .f32⟩
  | 73 => ⟨S16x8x512x512, .f32⟩
  | 74 => ⟨S16x8x64x512, .f32⟩
  | 75 => ⟨S16x512x8x64, .f32⟩
  | 76 => ⟨S16x512x512, .f32⟩
  | 77 => ⟨S1x512x512, .f32⟩
  | 78 => ⟨S512x512, .f32⟩
  | 79 => ⟨S512x512, .f32⟩
  | 80 => ⟨S16x512x512, .f32⟩
  | 81 => ⟨S16x512x512, .f32⟩
  | 82 => ⟨S1x512, .f32⟩
  | 83 => ⟨S512, .f32⟩
  | 84 => ⟨S1x1x512, .f32⟩
  | 85 => ⟨S16x512x512, .f32⟩
  | 86 => ⟨S16x512x512, .f32⟩
  | 87 => ⟨S1x512, .f32⟩
  | 88 => ⟨S512, .f32⟩
  | 89 => ⟨S1x512, .f32⟩
  | 90 => ⟨S512, .f32⟩
  | 91 => ⟨S_, .f32⟩
  | 92 => ⟨S16x512, .f32⟩
  | 93 => ⟨S16x512x1, .f32⟩
  | 94 => ⟨S_, .f32⟩
  | 95 => ⟨S16x512x1, .f32⟩
  | 96 => ⟨S16x512x1, .f32⟩
  | 97 => ⟨S16x512x512, .f32⟩
  | 98 => ⟨S16x512x512, .f32⟩
  | 99 => ⟨S16x512x512, .f32⟩
  | 100 => ⟨S_, .f32⟩
  | 101 => ⟨S16x512, .f32⟩
  | 102 => ⟨S16x512x1, .f32⟩
  | 103 => ⟨S_, .f32⟩
  | 104 => ⟨S16x512x1, .f32⟩
  | 105 => ⟨S16x512x1, .f32⟩
  | 106 => ⟨S16x512x512, .f32⟩
  | 107 => ⟨S16x512x512, .f32⟩
  | 108 => ⟨S_, .f32⟩
  | 109 => ⟨S16x512x1, .f32⟩
  | 110 => ⟨S16x512x1, .f32⟩
  | 111 => ⟨S16x512x1, .f32⟩
  | 112 => ⟨S16x512x512, .f32⟩
  | 113 => ⟨S16x512x512, .f32⟩
  | 114 => ⟨S1x1x512, .f32⟩
  | 115 => ⟨S16x512x512, .f32⟩
  | 116 => ⟨S16x512x512, .f32⟩
  | 117 => ⟨S1x1x512, .f32⟩
  | 118 => ⟨S16x512x512, .f32⟩
  | 119 => ⟨S16x512x512, .f32⟩
  | 120 => ⟨S1x2048x512, .f32⟩
  | 121 => ⟨S2048x512, .f32⟩
  | 122 => ⟨S512x2048, .f32⟩
  | 123 => ⟨S16x512x2048, .f32⟩
  | 124 => ⟨S1x2048, .f32⟩
  | 125 => ⟨S2048, .f32⟩
  | 126 => ⟨S1x1x2048, .f32⟩
  | 127 => ⟨S16x512x2048, .f32⟩
  | _ => ⟨S16x512, .i32⟩

abbrev hbmTy0_2 (i : Nat) : BufTy := match i % 128 with
  | 0 => ⟨S16x512x2048, .f32⟩
  | 1 => ⟨S_, .f32⟩
  | 2 => ⟨S16x512x2048, .f32⟩
  | 3 => ⟨S16x512x2048, .f32⟩
  | 4 => ⟨S_, .f32⟩
  | 5 => ⟨S_, .f32⟩
  | 6 => ⟨S_, .f32⟩
  | 7 => ⟨S16x512x2048, .f32⟩
  | 8 => ⟨S16x512x2048, .f32⟩
  | 9 => ⟨S16x512x2048, .f32⟩
  | 10 => ⟨S_, .f32⟩
  | 11 => ⟨S16x512x2048, .f32⟩
  | 12 => ⟨S16x512x2048, .f32⟩
  | 13 => ⟨S16x512x2048, .f32⟩
  | 14 => ⟨S1x512x2048, .f32⟩
  | 15 => ⟨S512x2048, .f32⟩
  | 16 => ⟨S2048x512, .f32⟩
  | 17 => ⟨S16x512x512, .f32⟩
  | 18 => ⟨S1x512, .f32⟩
  | 19 => ⟨S512, .f32⟩
  | 20 => ⟨S1x1x512, .f32⟩
  | 21 => ⟨S16x512x512, .f32⟩
  | 22 => ⟨S16x512x512, .f32⟩
  | 23 => ⟨S16x512x512, .f32⟩
  | 24 => ⟨S1x512, .f32⟩
  | 25 => ⟨S512, .f32⟩
  | 26 => ⟨S1x512, .f32⟩
  | 27 => ⟨S512, .f32⟩
  | 28 => ⟨S_, .f32⟩
  | 29 => ⟨S16x512, .f32⟩
  | 30 => ⟨S16x512x1, .f32⟩
  | 31 => ⟨S_, .f32⟩
  | 32 => ⟨S16x512x1, .f32⟩
  | 33 => ⟨S16x512x1, .f32⟩
  | 34 => ⟨S16x512x512, .f32⟩
  | 35 => ⟨S16x512x512, .f32⟩
  | 36 => ⟨S16x512x512, .f32⟩
  | 37 => ⟨S_, .f32⟩
  | 38 => ⟨S16x512, .f32⟩
  | 39 => ⟨S16x512x1, .f32⟩
  | 40 => ⟨S_, .f32⟩
  | 41 => ⟨S16x512x1, .f32⟩
  | 42 => ⟨S16x512x1, .f32⟩
  | 43 => ⟨S16x512x512, .f32⟩
  | 44 => ⟨S16x512x512, .f32⟩
  | 45 => ⟨S_, .f32⟩
  | 46 => ⟨S16x512x1, .f32⟩
  | 47 => ⟨S16x512x1, .f32⟩
  | 48 => ⟨S16x512x1, .f32⟩
  | 49 => ⟨S16x512x512, .f32⟩
  | 50 => ⟨S16x512x512, .f32⟩
  | 51 => ⟨S1x1x512, .f32⟩
  | 52 => ⟨S16x512x512, .f32⟩
  | 53 => ⟨S16x512x512, .f32⟩
  | 54 => ⟨S1x1x512, .f32⟩
  | 55 => ⟨S16x512x512, .f32⟩
  | 56 => ⟨S16x512x512, .f32⟩
  | 57 => ⟨S1x1536x512, .f32⟩
  | 58 => ⟨S1536x512, .f32⟩
  | 59 => ⟨S512x1536, .f32⟩
  | 60 => ⟨S16x512x1536, .f32⟩
  | 61 => ⟨S1x1536, .f32⟩
  | 62 => ⟨S1536, .f32⟩
  | 63 => ⟨S1x1x1536, .f32⟩
  | 64 => ⟨S16x512x1536, .f32⟩
  | 65 => ⟨S16x512x1536, .f32⟩
  | 66 => ⟨S16x512x512, .f32⟩
  | 67 => ⟨S16x512x512, .f32⟩
  | 68 => ⟨S16x512x512, .f32⟩
  | 69 => ⟨S16x512x8x64, .f32⟩
  | 70 => ⟨S16x512x8x64, .f32⟩
  | 71 => ⟨S16x512x8x64, .f32⟩
  | 72 => ⟨S16x8x512x512, .f32⟩
  | 73 => ⟨S_, .f32⟩
  | 74 => ⟨S16x8x512x512, .f32⟩
  | 75 => ⟨S16x8x512x512, .f32⟩
  | 76 => ⟨S_, .f32⟩
  | 77 => ⟨S16x8x512, .f32⟩
  | 78 => ⟨S_, .f32⟩
  | 79 => ⟨S16x8x512, .f32⟩
  | 80 => ⟨S16x8x512, .f32⟩
  | 81 => ⟨S16x8x512x1, .f32⟩
  | 82 => ⟨S16x8x512x512, .f32⟩
  | 83 => ⟨S16x8x512x512, .f32⟩
  | 84 => ⟨S16x8x512x512, .f32⟩
  | 85 => ⟨S_, .f32⟩
  | 86 => ⟨S16x8x512, .f32⟩
  | 87 => ⟨S16x8x512x1, .f32⟩
  | 88 => ⟨S16x8x512x512, .f32⟩
  | 89 => ⟨S16x8x512x512, .f32⟩
  | 90 => ⟨S16x8x64x512, .f32⟩
  | 91 => ⟨S16x512x8x64, .f32⟩
  | 92 => ⟨S16x512x512, .f32⟩
  | 93 => ⟨S1x512x512, .f32⟩
  | 94 => ⟨S512x512, .f32⟩
  | 95 => ⟨S512x512, .f32⟩
  | 96 => ⟨S16x512x512, .f32⟩
  | 97 => ⟨S16x512x512, .f32⟩
  | 98 => ⟨S1x512, .f32⟩
  | 99 => ⟨S512, .f32⟩
  | 100 => ⟨S1x1x512, .f32⟩
  | 101 => ⟨S16x512x512, .f32⟩
  | 102 => ⟨S16x512x512, .f32⟩
  | 103 => ⟨S1x512, .f32⟩
  | 104 => ⟨S512, .f32⟩
  | 105 => ⟨S1x512, .f32⟩
  | 106 => ⟨S512, .f32⟩
  | 107 => ⟨S_, .f32⟩
  | 108 => ⟨S16x512, .f32⟩
  | 109 => ⟨S16x512x1, .f32⟩
  | 110 => ⟨S_, .f32⟩
  | 111 => ⟨S16x512x1, .f32⟩
  | 112 => ⟨S16x512x1, .f32⟩
  | 113 => ⟨S16x512x512, .f32⟩
  | 114 => ⟨S16x512x512, .f32⟩
  | 115 => ⟨S16x512x512, .f32⟩
  | 116 => ⟨S_, .f32⟩
  | 117 => ⟨S16x512, .f32⟩
  | 118 => ⟨S16x512x1, .f32⟩
  | 119 => ⟨S_, .f32⟩
  | 120 => ⟨S16x512x1, .f32⟩
  | 121 => ⟨S16x512x1, .f32⟩
  | 122 => ⟨S16x512x512, .f32⟩
  | 123 => ⟨S16x512x512, .f32⟩
  | 124 => ⟨S_, .f32⟩
  | 125 => ⟨S16x512x1, .f32⟩
  | 126 => ⟨S16x512x1, .f32⟩
  | 127 => ⟨S16x512x1, .f32⟩
  | _ => ⟨S16x512, .i32⟩

abbrev hbmTy0_3 (i : Nat) : BufTy := match i % 128 with
  | 0 => ⟨S16x512x512, .f32⟩
  | 1 => ⟨S16x512x512, .f32⟩
  | 2 => ⟨S1x1x512, .f32⟩
  | 3 => ⟨S16x512x512, .f32⟩
  | 4 => ⟨S16x512x512, .f32⟩
  | 5 => ⟨S1x1x512, .f32⟩
  | 6 => ⟨S16x512x512, .f32⟩
  | 7 => ⟨S16x512x512, .f32⟩
  | 8 => ⟨S1x2048x512, .f32⟩
  | 9 => ⟨S2048x512, .f32⟩
  | 10 => ⟨S512x2048, .f32⟩
  | 11 => ⟨S16x512x2048, .f32⟩
  | 12 => ⟨S1x2048, .f32⟩
  | 13 => ⟨S2048, .f32⟩
  | 14 => ⟨S1x1x2048, .f32⟩
  | 15 => ⟨S16x512x2048, .f32⟩
  | 16 => ⟨S16x512x2048, .f32⟩
  | 17 => ⟨S_, .f32⟩
  | 18 => ⟨S16x512x2048, .f32⟩
  | 19 => ⟨S16x512x2048, .f32⟩
  | 20 => ⟨S_, .f32⟩
  | 21 => ⟨S_, .f32⟩
  | 22 => ⟨S_, .f32⟩
  | 23 => ⟨S16x512x2048, .f32⟩
  | 24 => ⟨S16x512x2048, .f32⟩
  | 25 => ⟨S16x512x2048, .f32⟩
  | 26 => ⟨S_, .f32⟩
  | 27 => ⟨S16x512x2048, .f32⟩
  | 28 => ⟨S16x512x2048, .f32⟩
  | 29 => ⟨S16x512x2048, .f32⟩
  | 30 => ⟨S1x512x2048, .f32⟩
  | 31 => ⟨S512x2048, .f32⟩
  | 32 => ⟨S2048x512, .f32⟩
  | 33 => ⟨S16x512x512, .f32⟩
  | 34 => ⟨S1x512, .f32⟩
  | 35 => ⟨S512, .f32⟩
  | 36 => ⟨S1x1x512, .f32⟩
  | 37 => ⟨S16x512x512, .f32⟩
  | 38 => ⟨S16x512x512, .f32⟩
  | 39 => ⟨S16x512x512, .f32⟩
  | 40 => ⟨S1x512, .f32⟩
  | 41 => ⟨S512, .f32⟩
  | 42 => ⟨S1x512, .f32⟩
  | 43 => ⟨S512, .f32⟩
  | 44 => ⟨S_, .f32⟩
  | 45 => ⟨S16x512, .f32⟩
  | 46 => ⟨S16x512x1, .f32⟩
  | 47 => ⟨S_, .f32⟩
  | 48 => ⟨S16x512x1, .f32⟩
  | 49 => ⟨S16x512x1, .f32⟩
  | 50 => ⟨S16x512x512, .f32⟩
  | 51 => ⟨S16x512x512, .f32⟩
  | 52 => ⟨S16x512x512, .f32⟩
  | 53 => ⟨S_, .f32⟩
  | 54 => ⟨S16x512, .f32⟩
  | 55 => ⟨S16x512x1, .f32⟩
  | 56 => ⟨S_, .f32⟩
  | 57 => ⟨S16x512x1, .f32⟩
  | 58 => ⟨S16x512x1, .f32⟩
  | 59 => ⟨S16x512x512, .f32⟩
  | 60 => ⟨S16x512x512, .f32⟩
  | 61 => ⟨S_, .f32⟩
  | 62 => ⟨S16x512x1, .f32⟩
  | 63 => ⟨S16x512x1, .f32⟩
  | 64 => ⟨S16x512x1, .f32⟩
  | 65 => ⟨S16x512x512, .f32⟩
  | 66 => ⟨S16x512x512, .f32⟩
  | 67 => ⟨S1x1x512, .f32⟩
  | 68 => ⟨S16x512x512, .f32⟩
  | 69 => ⟨S16x512x512, .f32⟩
  | 70 => ⟨S1x1x512, .f32⟩
  | 71 => ⟨S16x512x512, .f32⟩
  | 72 => ⟨S16x512x512, .f32⟩
  | 73 => ⟨S1x1536x512, .f32⟩
  | 74 => ⟨S1536x512, .f32⟩
  | 75 => ⟨S512x1536, .f32⟩
  | 76 => ⟨S16x512x1536, .f32⟩
  | 77 => ⟨S1x1536, .f32⟩
  | 78 => ⟨S1536, .f32⟩
  | 79 => ⟨S1x1x1536, .f32⟩
  | 80 => ⟨S16x512x1536, .f32⟩
  | 81 => ⟨S16x512x1536, .f32⟩
  | 82 => ⟨S16x512x512, .f32⟩
  | 83 => ⟨S16x512x512, .f32⟩
  | 84 => ⟨S16x512x512, .f32⟩
  | 85 => ⟨S16x512x8x64, .f32⟩
  | 86 => ⟨S16x512x8x64, .f32⟩
  | 87 => ⟨S16x512x8x64, .f32⟩
  | 88 => ⟨S16x8x512x512, .f32⟩
  | 89 => ⟨S_, .f32⟩
  | 90 => ⟨S16x8x512x512, .f32⟩
  | 91 => ⟨S16x8x512x512, .f32⟩
  | 92 => ⟨S_, .f32⟩
  | 93 => ⟨S16x8x512, .f32⟩
  | 94 => ⟨S_, .f32⟩
  | 95 => ⟨S16x8x512, .f32⟩
  | 96 => ⟨S16x8x512, .f32⟩
  | 97 => ⟨S16x8x512x1, .f32⟩
  | 98 => ⟨S16x8x512x512, .f32⟩
  | 99 => ⟨S16x8x512x512, .f32⟩
  | 100 => ⟨S16x8x512x512, .f32⟩
  | 101 => ⟨S_, .f32⟩
  | 102 => ⟨S16x8x512, .f32⟩
  | 103 => ⟨S16x8x512x1, .f32⟩
  | 104 => ⟨S16x8x512x512, .f32⟩
  | 105 => ⟨S16x8x512x512, .f32⟩
  | 106 => ⟨S16x8x64x512, .f32⟩
  | 107 => ⟨S16x512x8x64, .f32⟩
  | 108 => ⟨S16x512x512, .f32⟩
  | 109 => ⟨S1x512x512, .f32⟩
  | 110 => ⟨S512x512, .f32⟩
  | 111 => ⟨S512x512, .f32⟩
  | 112 => ⟨S16x512x512, .f32⟩
  | 113 => ⟨S16x512x512, .f32⟩
  | 114 => ⟨S1x512, .f32⟩
  | 115 => ⟨S512, .f32⟩
  | 116 => ⟨S1x1x512, .f32⟩
  | 117 => ⟨S16x512x512, .f32⟩
  | 118 => ⟨S16x512x512, .f32⟩
  | 119 => ⟨S1x512, .f32⟩
  | 120 => ⟨S512, .f32⟩
  | 121 => ⟨S1x512, .f32⟩
  | 122 => ⟨S512, .f32⟩
  | 123 => ⟨S_, .f32⟩
  | 124 => ⟨S16x512, .f32⟩
  | 125 => ⟨S16x512x1, .f32⟩
  | 126 => ⟨S_, .f32⟩
  | 127 => ⟨S16x512x1, .f32⟩
  | _ => ⟨S16x512, .i32⟩

abbrev hbmTy0_4 (i : Nat) : BufTy := match i % 128 with
  | 0 => ⟨S16x512x1, .f32⟩
  | 1 => ⟨S16x512x512, .f32⟩
  | 2 => ⟨S16x512x512, .f32⟩
  | 3 => ⟨S16x512x512, .f32⟩
  | 4 => ⟨S_, .f32⟩
  | 5 => ⟨S16x512, .f32⟩
  | 6 => ⟨S16x512x1, .f32⟩
  | 7 => ⟨S_, .f32⟩
  | 8 => ⟨S16x512x1, .f32⟩
  | 9 => ⟨S16x512x1, .f32⟩
  | 10 => ⟨S16x512x512, .f32⟩
  | 11 => ⟨S16x512x512, .f32⟩
  | 12 => ⟨S_, .f32⟩
  | 13 => ⟨S16x512x1, .f32⟩
  | 14 => ⟨S16x512x1, .f32⟩
  | 15 => ⟨S16x512x1, .f32⟩
  | 16 => ⟨S16x512x512, .f32⟩
  | 17 => ⟨S16x512x512, .f32⟩
  | 18 => ⟨S1x1x512, .f32⟩
  | 19 => ⟨S16x512x512, .f32⟩
  | 20 => ⟨S16x512x512, .f32⟩
  | 21 => ⟨S1x1x512, .f32⟩
  | 22 => ⟨S16x512x512, .f32⟩
  | 23 => ⟨S16x512x512, .f32⟩
  | 24 => ⟨S1x2048x512, .f32⟩
  | 25 => ⟨S2048x512, .f32⟩
  | 26 => ⟨S512x2048, .f32⟩
  | 27 => ⟨S16x512x2048, .f32⟩
  | 28 => ⟨S1x2048, .f32⟩
  | 29 => ⟨S2048, .f32⟩
  | 30 => ⟨S1x1x2048, .f32⟩
  | 31 => ⟨S16x512x2048, .f32⟩
  | 32 => ⟨S16x512x2048, .f32⟩
  | 33 => ⟨S_, .f32⟩
  | 34 => ⟨S16x512x2048, .f32⟩
  | 35 => ⟨S16x512x2048, .f32⟩
  | 36 => ⟨S_, .f32⟩
  | 37 => ⟨S_, .f32⟩
  | 38 => ⟨S_, .f32⟩
  | 39 => ⟨S16x512x2048, .f32⟩
  | 40 => ⟨S16x512x2048, .f32⟩
  | 41 => ⟨S16x512x2048, .f32⟩
  | 42 => ⟨S_, .f32⟩
  | 43 => ⟨S16x512x2048, .f32⟩
  | 44 => ⟨S16x512x2048, .f32⟩
  | 45 => ⟨S16x512x2048, .f32⟩
  | 46 => ⟨S1x512x2048, .f32⟩
  | 47 => ⟨S512x2048, .f32⟩
  | 48 => ⟨S2048x512, .f32⟩
  | 49 => ⟨S16x512x512, .f32⟩
  | 50 => ⟨S1x512, .f32⟩
  | 51 => ⟨S512, .f32⟩
  | 52 => ⟨S1x1x512, .f32⟩
  | 53 => ⟨S16x512x512, .f32⟩
  | 54 => ⟨S16x512x512, .f32⟩
  | 55 => ⟨S16x512x512, .f32⟩
  | 56 => ⟨S1x512, .f32⟩
  | 57 => ⟨S512, .f32⟩
  | 58 => ⟨S1x512, .f32⟩
  | 59 => ⟨S512, .f32⟩
  | 60 => ⟨S_, .f32⟩
  | 61 => ⟨S16x512, .f32⟩
  | 62 => ⟨S16x512x1, .f32⟩
  | 63 => ⟨S_, .f32⟩
  | 64 => ⟨S16x512x1, .f32⟩
  | 65 => ⟨S16x512x1, .f32⟩
  | 66 => ⟨S16x512x512, .f32⟩
  | 67 => ⟨S16x512x512, .f32⟩
  | 68 => ⟨S16x512x512, .f32⟩
  | 69 => ⟨S_, .f32⟩
  | 70 => ⟨S16x512, .f32⟩
  | 71 => ⟨S16x512x1, .f32⟩
  | 72 => ⟨S_, .f32⟩
  | 73 => ⟨S16x512x1, .f32⟩
  | 74 => ⟨S16x512x1, .f32⟩
  | 75 => ⟨S16x512x512, .f32⟩
  | 76 => ⟨S16x512x512, .f32⟩
  | 77 => ⟨S_, .f32⟩
  | 78 => ⟨S16x512x1, .f32⟩
  | 79 => ⟨S16x512x1, .f32⟩
  | 80 => ⟨S16x512x1, .f32⟩
  | 81 => ⟨S16x512x512, .f32⟩
  | 82 => ⟨S16x512x512, .f32⟩
  | 83 => ⟨S1x1x512, .f32⟩
  | 84 => ⟨S16x512x512, .f32⟩
  | 85 => ⟨S16x512x512, .f32⟩
  | 86 => ⟨S1x1x512, .f32⟩
  | 87 => ⟨S16x512x512, .f32⟩
  | 88 => ⟨S16x512x512, .f32⟩
  | 89 => ⟨S_, .f32⟩
  | 90 => ⟨S16x512, .f32⟩
  | 91 => ⟨S_, .f32⟩
  | 92 => ⟨S16x512, .f32⟩
  | 93 => ⟨S16x512, .f32⟩
  | 94 => ⟨S_, .i32⟩
  | 95 => ⟨S16x512, .i32⟩
  | 96 => ⟨S16x512, .i1⟩
  | 97 => ⟨S16x512, .f32⟩
  | 98 => ⟨S16x512x1, .i32⟩
  | 99 => ⟨S1x1x50257, .i32⟩
  | 100 => ⟨S16x512x50257, .i32⟩
  | 101 => ⟨S16x512x50257, .i32⟩
  | 102 => ⟨S16x512x50257, .i1⟩
  | 103 => ⟨S16x512x50257, .f32⟩
  | 104 => ⟨S16x512x1, .f32⟩
  | 105 => ⟨S16x512x50257, .f32⟩
  | 106 => ⟨S16x512x50257, .f32⟩
  | 107 => ⟨S_, .f32⟩
  | 108 => ⟨S16x50257, .f32⟩
  | 109 => ⟨S_, .f32⟩
  | 110 => ⟨S16, .f32⟩
  | 111 => ⟨S16x1, .f32⟩
  | 112 => ⟨S_, .f32⟩
  | 113 => ⟨S16x1, .f32⟩
  | 114 => ⟨S16x1, .f32⟩
  | 115 => ⟨S16x50257, .f32⟩
  | 116 => ⟨S16x50257, .f32⟩
  | 117 => ⟨S16x50257, .f32⟩
  | 118 => ⟨S_, .f32⟩
  | 119 => ⟨S16, .f32⟩
  | 120 => ⟨S16x1, .f32⟩
  | 121 => ⟨S_, .f32⟩
  | 122 => ⟨S16x1, .f32⟩
  | 123 => ⟨S16x1, .f32⟩
  | 124 => ⟨S_, .f32⟩
  | 125 => ⟨S16x1, .f32⟩
  | 126 => ⟨S16x1, .f32⟩
  | 127 => ⟨S16x1, .f32⟩
  | _ => ⟨S16x512, .i32⟩

abbrev hbmTy0_5 (i : Nat) : BufTy := match i % 128 with
  | 0 => ⟨S_, .i32⟩
  | 1 => ⟨S16x512, .i32⟩
  | 2 => ⟨S16x512, .i1⟩
  | 3 => ⟨S16x512, .f32⟩
  | 4 => ⟨S_, .f32⟩
  | 5 => ⟨S16, .f32⟩
  | 6 => ⟨S16x1, .f32⟩
  | 7 => ⟨S16x64, .f32⟩
  | 8 => ⟨S1, .f32⟩
  | 9 => ⟨S_, .f32⟩
  | 10 => ⟨S64x1, .f32⟩
  | 11 => ⟨S64, .f32⟩
  | 12 => ⟨S64, .f32⟩
  | 13 => ⟨S64, .f32⟩
  | 14 => ⟨S1x64, .f32⟩
  | 15 => ⟨S16x64, .f32⟩
  | 16 => ⟨S16x64, .f32⟩
  | 17 => ⟨S16x64, .f32⟩
  | 18 => ⟨S16x64, .f32⟩
  | 19 => ⟨S64, .f32⟩
  | 20 => ⟨S1x64, .f32⟩
  | 21 => ⟨S16x64, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S64, .f32⟩
  | 28 => ⟨S64, .f32⟩
  | 29 => ⟨S1x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x576, .f32⟩
  | 36 => ⟨S576x10, .f32⟩
  | 37 => ⟨S16x10, .f32⟩
  | 38 => ⟨S1x10, .f32⟩
  | 39 => ⟨S16x10, .f32⟩
  | 40 => ⟨S16x10, .f32⟩
  | _ => ⟨S16x512, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x512, .i32⟩

abbrev bufTy : (tb : Table) → Fin (tcTables nBuf tb) → BufTy
  | .hbm, ⟨i, _⟩ => hbmTy i
  | _, _ => ⟨S16x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_cst_1 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_5 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_8 : Ref sig .tc := ⟨.hbm, 113, rfl⟩
abbrev main_v82 : Ref sig .tc := ⟨.hbm, 114, rfl⟩
abbrev main_v83 : Ref sig .tc := ⟨.hbm, 115, rfl⟩
abbrev main_cst_9 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_10 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_11 : Ref sig .tc := ⟨.hbm, 140, rfl⟩
abbrev main_v106 : Ref sig .tc := ⟨.hbm, 141, rfl⟩
abbrev main_v107 : Ref sig .tc := ⟨.hbm, 142, rfl⟩
abbrev main_cst_12 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_13 : Ref sig .tc := ⟨.hbm, 149, rfl⟩
abbrev main_v113 : Ref sig .tc := ⟨.hbm, 150, rfl⟩
abbrev main_v114 : Ref sig .tc := ⟨.hbm, 151, rfl⟩
abbrev main_cst_14 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_15 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_16 : Ref sig .tc := ⟨.hbm, 185, rfl⟩
abbrev main_v146 : Ref sig .tc := ⟨.hbm, 186, rfl⟩
abbrev main_v147 : Ref sig .tc := ⟨.hbm, 187, rfl⟩
abbrev main_cst_17 : Ref sig .tc := ⟨.hbm, 188, rfl⟩
abbrev main_v148 : Ref sig .tc := ⟨.hbm, 189, rfl⟩
abbrev main_cst_18 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_19 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_20 : Ref sig .tc := ⟨.hbm, 219, rfl⟩
abbrev main_v176 : Ref sig .tc := ⟨.hbm, 220, rfl⟩
abbrev main_v177 : Ref sig .tc := ⟨.hbm, 221, rfl⟩
abbrev main_cst_21 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_cst_22 : Ref sig .tc := ⟨.hbm, 228, rfl⟩
abbrev main_v183 : Ref sig .tc := ⟨.hbm, 229, rfl⟩
abbrev main_v184 : Ref sig .tc := ⟨.hbm, 230, rfl⟩
abbrev main_cst_23 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_24 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_25 : Ref sig .tc := ⟨.hbm, 257, rfl⟩
abbrev main_v209 : Ref sig .tc := ⟨.hbm, 258, rfl⟩
abbrev main_v210 : Ref sig .tc := ⟨.hbm, 259, rfl⟩
abbrev main_cst_26 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_cst_27 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_cst_28 : Ref sig .tc := ⟨.hbm, 284, rfl⟩
abbrev main_v233 : Ref sig .tc := ⟨.hbm, 285, rfl⟩
abbrev main_v234 : Ref sig .tc := ⟨.hbm, 286, rfl⟩
abbrev main_cst_29 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_cst_30 : Ref sig .tc := ⟨.hbm, 293, rfl⟩
abbrev main_v240 : Ref sig .tc := ⟨.hbm, 294, rfl⟩
abbrev main_v241 : Ref sig .tc := ⟨.hbm, 295, rfl⟩
abbrev main_cst_31 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_32 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_cst_33 : Ref sig .tc := ⟨.hbm, 329, rfl⟩
abbrev main_v273 : Ref sig .tc := ⟨.hbm, 330, rfl⟩
abbrev main_v274 : Ref sig .tc := ⟨.hbm, 331, rfl⟩
abbrev main_cst_34 : Ref sig .tc := ⟨.hbm, 332, rfl⟩
abbrev main_v275 : Ref sig .tc := ⟨.hbm, 333, rfl⟩
abbrev main_cst_35 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_cst_36 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_cst_37 : Ref sig .tc := ⟨.hbm, 363, rfl⟩
abbrev main_v303 : Ref sig .tc := ⟨.hbm, 364, rfl⟩
abbrev main_v304 : Ref sig .tc := ⟨.hbm, 365, rfl⟩
abbrev main_cst_38 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_cst_39 : Ref sig .tc := ⟨.hbm, 372, rfl⟩
abbrev main_v310 : Ref sig .tc := ⟨.hbm, 373, rfl⟩
abbrev main_v311 : Ref sig .tc := ⟨.hbm, 374, rfl⟩
abbrev main_cst_40 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_cst_41 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_cst_42 : Ref sig .tc := ⟨.hbm, 401, rfl⟩
abbrev main_v336 : Ref sig .tc := ⟨.hbm, 402, rfl⟩
abbrev main_v337 : Ref sig .tc := ⟨.hbm, 403, rfl⟩
abbrev main_cst_43 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_cst_44 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_cst_45 : Ref sig .tc := ⟨.hbm, 428, rfl⟩
abbrev main_v360 : Ref sig .tc := ⟨.hbm, 429, rfl⟩
abbrev main_v361 : Ref sig .tc := ⟨.hbm, 430, rfl⟩
abbrev main_cst_46 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_cst_47 : Ref sig .tc := ⟨.hbm, 437, rfl⟩
abbrev main_v367 : Ref sig .tc := ⟨.hbm, 438, rfl⟩
abbrev main_v368 : Ref sig .tc := ⟨.hbm, 439, rfl⟩
abbrev main_cst_48 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_cst_49 : Ref sig .tc := ⟨.hbm, 445, rfl⟩
abbrev main_v373 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_cst_50 : Ref sig .tc := ⟨.hbm, 473, rfl⟩
abbrev main_v400 : Ref sig .tc := ⟨.hbm, 474, rfl⟩
abbrev main_v401 : Ref sig .tc := ⟨.hbm, 475, rfl⟩
abbrev main_cst_51 : Ref sig .tc := ⟨.hbm, 476, rfl⟩
abbrev main_v402 : Ref sig .tc := ⟨.hbm, 477, rfl⟩
abbrev main_cst_52 : Ref sig .tc := ⟨.hbm, 478, rfl⟩
abbrev main_v403 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_cst_53 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_v424 : Ref sig .tc := ⟨.hbm, 501, rfl⟩
abbrev main_v425 : Ref sig .tc := ⟨.hbm, 502, rfl⟩
abbrev main_v426 : Ref sig .tc := ⟨.hbm, 503, rfl⟩
abbrev main_v427 : Ref sig .tc := ⟨.hbm, 504, rfl⟩
abbrev main_v428 : Ref sig .tc := ⟨.hbm, 505, rfl⟩
abbrev main_v429 : Ref sig .tc := ⟨.hbm, 506, rfl⟩
abbrev main_cst_54 : Ref sig .tc := ⟨.hbm, 507, rfl⟩
abbrev main_v430 : Ref sig .tc := ⟨.hbm, 508, rfl⟩
abbrev main_v431 : Ref sig .tc := ⟨.hbm, 509, rfl⟩
abbrev main_cst_55 : Ref sig .tc := ⟨.hbm, 510, rfl⟩
abbrev main_v432 : Ref sig .tc := ⟨.hbm, 511, rfl⟩
abbrev main_v433 : Ref sig .tc := ⟨.hbm, 512, rfl⟩
abbrev main_v434 : Ref sig .tc := ⟨.hbm, 513, rfl⟩
abbrev main_v435 : Ref sig .tc := ⟨.hbm, 514, rfl⟩
abbrev main_v436 : Ref sig .tc := ⟨.hbm, 515, rfl⟩
abbrev main_cst_56 : Ref sig .tc := ⟨.hbm, 516, rfl⟩
abbrev main_v437 : Ref sig .tc := ⟨.hbm, 517, rfl⟩
abbrev main_v438 : Ref sig .tc := ⟨.hbm, 518, rfl⟩
abbrev main_cst_57 : Ref sig .tc := ⟨.hbm, 519, rfl⟩
abbrev main_v439 : Ref sig .tc := ⟨.hbm, 520, rfl⟩
abbrev main_v440 : Ref sig .tc := ⟨.hbm, 521, rfl⟩
abbrev main_v441 : Ref sig .tc := ⟨.hbm, 522, rfl⟩
abbrev main_v442 : Ref sig .tc := ⟨.hbm, 523, rfl⟩
abbrev main_cst_58 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_v450 : Ref sig .tc := ⟨.hbm, 532, rfl⟩
abbrev main_v451 : Ref sig .tc := ⟨.hbm, 533, rfl⟩
abbrev main_v452 : Ref sig .tc := ⟨.hbm, 534, rfl⟩
abbrev main_v453 : Ref sig .tc := ⟨.hbm, 535, rfl⟩
abbrev main_v454 : Ref sig .tc := ⟨.hbm, 536, rfl⟩
abbrev main_v455 : Ref sig .tc := ⟨.hbm, 537, rfl⟩
abbrev main_v456 : Ref sig .tc := ⟨.hbm, 538, rfl⟩
abbrev main_v457 : Ref sig .tc := ⟨.hbm, 539, rfl⟩
abbrev main_v458 : Ref sig .tc := ⟨.hbm, 540, rfl⟩
abbrev main_v459 : Ref sig .tc := ⟨.hbm, 541, rfl⟩
abbrev main_v460 : Ref sig .tc := ⟨.hbm, 542, rfl⟩
abbrev main_v461 : Ref sig .tc := ⟨.hbm, 543, rfl⟩
abbrev main_v462 : Ref sig .tc := ⟨.hbm, 544, rfl⟩
abbrev main_cst_59 : Ref sig .tc := ⟨.hbm, 545, rfl⟩
abbrev main_v463 : Ref sig .tc := ⟨.hbm, 546, rfl⟩
abbrev main_v464 : Ref sig .tc := ⟨.hbm, 547, rfl⟩
abbrev main_cst_60 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_v469 : Ref sig .tc := ⟨.hbm, 553, rfl⟩
abbrev main_cst_61 : Ref sig .tc := ⟨.hbm, 554, rfl⟩
abbrev main_v470 : Ref sig .tc := ⟨.hbm, 555, rfl⟩
abbrev main_v471 : Ref sig .tc := ⟨.hbm, 556, rfl⟩
abbrev main_v472 : Ref sig .tc := ⟨.hbm, 557, rfl⟩
abbrev main_v473 : Ref sig .tc := ⟨.hbm, 558, rfl⟩
abbrev main_v474 : Ref sig .tc := ⟨.hbm, 559, rfl⟩
abbrev main_v475 : Ref sig .tc := ⟨.hbm, 560, rfl⟩
abbrev main_v476 : Ref sig .tc := ⟨.hbm, 561, rfl⟩
abbrev main_v477 : Ref sig .tc := ⟨.hbm, 562, rfl⟩
abbrev main_v478 : Ref sig .tc := ⟨.hbm, 563, rfl⟩
abbrev main_v479 : Ref sig .tc := ⟨.hbm, 564, rfl⟩
abbrev main_v480 : Ref sig .tc := ⟨.hbm, 565, rfl⟩
abbrev main_v481 : Ref sig .tc := ⟨.hbm, 566, rfl⟩
abbrev main_v482 : Ref sig .tc := ⟨.hbm, 567, rfl⟩
abbrev main_v483 : Ref sig .tc := ⟨.hbm, 568, rfl⟩
abbrev main_v484 : Ref sig .tc := ⟨.hbm, 569, rfl⟩
abbrev main_v485 : Ref sig .tc := ⟨.hbm, 570, rfl⟩
abbrev main_v486 : Ref sig .tc := ⟨.hbm, 571, rfl⟩
abbrev main_cst_62 : Ref sig .tc := ⟨.hbm, 572, rfl⟩
abbrev main_v487 : Ref sig .tc := ⟨.hbm, 573, rfl⟩
abbrev main_v488 : Ref sig .tc := ⟨.hbm, 574, rfl⟩
abbrev main_cst_63 : Ref sig .tc := ⟨.hbm, 575, rfl⟩
abbrev main_v489 : Ref sig .tc := ⟨.hbm, 576, rfl⟩
abbrev main_v490 : Ref sig .tc := ⟨.hbm, 577, rfl⟩
abbrev main_v491 : Ref sig .tc := ⟨.hbm, 578, rfl⟩
abbrev main_v492 : Ref sig .tc := ⟨.hbm, 579, rfl⟩
abbrev main_v493 : Ref sig .tc := ⟨.hbm, 580, rfl⟩
abbrev main_cst_64 : Ref sig .tc := ⟨.hbm, 581, rfl⟩
abbrev main_v494 : Ref sig .tc := ⟨.hbm, 582, rfl⟩
abbrev main_v495 : Ref sig .tc := ⟨.hbm, 583, rfl⟩
abbrev main_cst_65 : Ref sig .tc := ⟨.hbm, 584, rfl⟩
abbrev main_v496 : Ref sig .tc := ⟨.hbm, 585, rfl⟩
abbrev main_v497 : Ref sig .tc := ⟨.hbm, 586, rfl⟩
abbrev main_v498 : Ref sig .tc := ⟨.hbm, 587, rfl⟩
abbrev main_v499 : Ref sig .tc := ⟨.hbm, 588, rfl⟩
abbrev main_cst_66 : Ref sig .tc := ⟨.hbm, 589, rfl⟩
abbrev main_v500 : Ref sig .tc := ⟨.hbm, 590, rfl⟩
abbrev main_v501 : Ref sig .tc := ⟨.hbm, 591, rfl⟩
abbrev main_v502 : Ref sig .tc := ⟨.hbm, 592, rfl⟩
abbrev main_v503 : Ref sig .tc := ⟨.hbm, 593, rfl⟩
abbrev main_v504 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_v510 : Ref sig .tc := ⟨.hbm, 600, rfl⟩
abbrev main_cst_67 : Ref sig .tc := ⟨.hbm, 601, rfl⟩
abbrev main_v511 : Ref sig .tc := ⟨.hbm, 602, rfl⟩
abbrev main_cst_68 : Ref sig .tc := ⟨.hbm, 603, rfl⟩
abbrev main_v512 : Ref sig .tc := ⟨.hbm, 604, rfl⟩
abbrev main_v513 : Ref sig .tc := ⟨.hbm, 605, rfl⟩
abbrev main_c : Ref sig .tc := ⟨.hbm, 606, rfl⟩
abbrev main_v514 : Ref sig .tc := ⟨.hbm, 607, rfl⟩
abbrev main_v515 : Ref sig .tc := ⟨.hbm, 608, rfl⟩
abbrev main_v516 : Ref sig .tc := ⟨.hbm, 609, rfl⟩
abbrev main_call0_v0 : Ref sig .tc := ⟨.hbm, 610, rfl⟩
abbrev main_call0_v1 : Ref sig .tc := ⟨.hbm, 611, rfl⟩
abbrev main_call0_v2 : Ref sig .tc := ⟨.hbm, 612, rfl⟩
abbrev main_call0_v3 : Ref sig .tc := ⟨.hbm, 613, rfl⟩
abbrev main_call0_v4 : Ref sig .tc := ⟨.hbm, 614, rfl⟩
abbrev main_v517 : Ref sig .tc := ⟨.hbm, 615, rfl⟩
abbrev main_v518 : Ref sig .tc := ⟨.hbm, 616, rfl⟩
abbrev main_v519 : Ref sig .tc := ⟨.hbm, 617, rfl⟩
abbrev main_v520 : Ref sig .tc := ⟨.hbm, 618, rfl⟩
abbrev main_cst_69 : Ref sig .tc := ⟨.hbm, 619, rfl⟩
abbrev main_v521 : Ref sig .tc := ⟨.hbm, 620, rfl⟩
abbrev main_cst_70 : Ref sig .tc := ⟨.hbm, 621, rfl⟩
abbrev main_v522 : Ref sig .tc := ⟨.hbm, 622, rfl⟩
abbrev main_v523 : Ref sig .tc := ⟨.hbm, 623, rfl⟩
abbrev main_cst_71 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_v527 : Ref sig .tc := ⟨.hbm, 628, rfl⟩
abbrev main_v528 : Ref sig .tc := ⟨.hbm, 629, rfl⟩
abbrev main_cst_72 : Ref sig .tc := ⟨.hbm, 630, rfl⟩
abbrev main_v529 : Ref sig .tc := ⟨.hbm, 631, rfl⟩
abbrev main_v530 : Ref sig .tc := ⟨.hbm, 632, rfl⟩
abbrev main_cst_73 : Ref sig .tc := ⟨.hbm, 633, rfl⟩
abbrev main_v531 : Ref sig .tc := ⟨.hbm, 634, rfl⟩
abbrev main_v532 : Ref sig .tc := ⟨.hbm, 635, rfl⟩
abbrev main_cst_74 : Ref sig .tc := ⟨.hbm, 636, rfl⟩
abbrev main_v533 : Ref sig .tc := ⟨.hbm, 637, rfl⟩
abbrev main_v534 : Ref sig .tc := ⟨.hbm, 638, rfl⟩
abbrev main_v535 : Ref sig .tc := ⟨.hbm, 639, rfl⟩
abbrev main_c_75 : Ref sig .tc := ⟨.hbm, 640, rfl⟩
abbrev main_v536 : Ref sig .tc := ⟨.hbm, 641, rfl⟩
abbrev main_v537 : Ref sig .tc := ⟨.hbm, 642, rfl⟩
abbrev main_v538 : Ref sig .tc := ⟨.hbm, 643, rfl⟩
abbrev main_cst_76 : Ref sig .tc := ⟨.hbm, 644, rfl⟩
abbrev main_v539 : Ref sig .tc := ⟨.hbm, 645, rfl⟩
abbrev main_v540 : Ref sig .tc := ⟨.hbm, 646, rfl⟩
abbrev main_v541 : Ref sig .tc := ⟨.hbm, 647, rfl⟩
abbrev main_v542 : Ref sig .tc := ⟨.hbm, 648, rfl⟩
abbrev main_v543 : Ref sig .tc := ⟨.hbm, 649, rfl⟩
abbrev main_v544 : Ref sig .tc := ⟨.hbm, 650, rfl⟩
abbrev main_v545 : Ref sig .tc := ⟨.hbm, 651, rfl⟩
abbrev main_v546 : Ref sig .tc := ⟨.hbm, 652, rfl⟩
abbrev main_v547 : Ref sig .tc := ⟨.hbm, 653, rfl⟩
abbrev main_v548 : Ref sig .tc := ⟨.hbm, 654, rfl⟩
abbrev main_v549 : Ref sig .tc := ⟨.hbm, 655, rfl⟩
abbrev main_v550 : Ref sig .tc := ⟨.hbm, 656, rfl⟩
abbrev main_v551 : Ref sig .tc := ⟨.hbm, 657, rfl⟩
abbrev main_v552 : Ref sig .tc := ⟨.hbm, 658, rfl⟩
abbrev main_v553 : Ref sig .tc := ⟨.hbm, 659, rfl⟩
abbrev main_v554 : Ref sig .tc := ⟨.hbm, 660, rfl⟩
abbrev main_v555 : Ref sig .tc := ⟨.hbm, 661, rfl⟩
abbrev main_v556 : Ref sig .tc := ⟨.hbm, 662, rfl⟩
abbrev main_v557 : Ref sig .tc := ⟨.hbm, 663, rfl⟩
abbrev main_v558 : Ref sig .tc := ⟨.hbm, 664, rfl⟩
abbrev main_v559 : Ref sig .tc := ⟨.hbm, 665, rfl⟩
abbrev main_v560 : Ref sig .tc := ⟨.hbm, 666, rfl⟩
abbrev main_v561 : Ref sig .tc := ⟨.hbm, 667, rfl⟩
abbrev main_v562 : Ref sig .tc := ⟨.hbm, 668, rfl⟩
abbrev main_v563 : Ref sig .tc := ⟨.hbm, 669, rfl⟩
abbrev main_v564 : Ref sig .tc := ⟨.hbm, 670, rfl⟩
abbrev main_v565 : Ref sig .tc := ⟨.hbm, 671, rfl⟩
abbrev main_call1_cst : Ref sig .tc := ⟨.hbm, 672, rfl⟩
abbrev main_call1_v0 : Ref sig .tc := ⟨.hbm, 673, rfl⟩
abbrev main_v566 : Ref sig .tc := ⟨.hbm, 674, rfl⟩
abbrev main_v567 : Ref sig .tc := ⟨.hbm, 675, rfl⟩
abbrev main_v568 : Ref sig .tc := ⟨.hbm, 676, rfl⟩
abbrev main_v569 : Ref sig .tc := ⟨.hbm, 677, rfl⟩
abbrev main_v570 : Ref sig .tc := ⟨.hbm, 678, rfl⟩
abbrev main_v571 : Ref sig .tc := ⟨.hbm, 679, rfl⟩
abbrev main_v572 : Ref sig .tc := ⟨.hbm, 680, rfl⟩

abbrev nD : Nat := 1
abbrev τ : Topo := Topo.v7x

variable {F : FTy → Type} [FloatOps F]
-- ==== Proof.Rules.lean ====
module

public import Idealize.ShloMosaic.Lib.Memref
public import Idealize.ShloMosaic.Lib.Pipeline.FrameBody
public import Idealize.ShloMosaic.Lib.Tactic
public import Idealize.ShloMosaic.Lib.Exec
public import Idealize.ShloMosaic.Lib.Pointwise

@[expose] public section

set_option maxRecDepth 16384

noncomputable section

namespace Cert.Vals

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels} [Preorder Lvl]
variable {defs : Defs nD τ sig Val Λ} (𝒱 : Variants) (c : Thread nD τ) (bd : Option 𝒱.V) (E : Set Name)
variable {Γ : PendingWaitsCtx sig Ix}
variable {s s' : Shape} {e : EltTy} {α : Type} {Q : α → sProp (MT nD τ sig Ix Val Name U Lvl)}

/-- Reading the whole of the values through the rectangle that is everything. -/
theorem ld_full {s : Shape} {Val : EltTy → Type} {e : EltTy} (X : s.Idx → Val e) (off : Fin s.rank → ℕ) (inb : ∀ a, off a + s.size a ≤ s.size a) :
    View.ld X (Rect.unit (s := s) off s.size inb) = X := by
  funext x
  show X _ = X x
  congr 1
  funext a
  apply Fin.ext
  rw [LoadRect.idx_apply]
  have h1 : (Rect.unit (s := s) off s.size inb).toLoadRect.off a = off a := rfl
  have h2 : (Rect.unit (s := s) off s.size inb).toLoadRect.stride a = 1 := rfl
  have := inb a
  have h3 : (x a).val < s.size a := (x a).isLt
  rw [h1, h2]
  have h0 : off a = 0 := by omega
  rw [h0]; omega

/-- Reading a rectangle of a memref owned at the values `X` goes on with `X` on that rectangle. -/
theorem load_owned {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    owns c m q X
      ⊢ iprop((owns c m q X -∗ wp frame (wpE' defs 𝒱 c bd Γ) E (k (View.ld X r)) Q)
        -∗ wp frame (wpE' defs 𝒱 c bd Γ) E (Prog.lift (.load m r.toLoadRect hl) >>= k) Q) := by
  iintro H
  ihave H' := (show owns c m q X ⊢ iprop(∃ g, ⌜m.view.read Val g = X⌝ ∗ m.view.loc c ↦[m.view.set]{q} g) from .rfl) $$ H
  icases H' with ⟨%g, %hg, H⟩
  iintro Hk
  have := wp_load (Q := Q) (defs := defs) (Γ := Γ) 𝒱 c bd E (m := m) (r := r.toLoadRect) (hl := hl) (k := k) (f := g) (q := q) (S := m.view.set) (m.view.setOn_subset_set _)
  iapply this $$ H
  iintro H
  rw [View.readAt_eq_ld, hg]
  iapply Hk
  unfold owns
  iexists g
  isplitr; · ipureintro; exact hg
  iexact H

/-- Reading a rectangle whose values are known as `Y`. -/
theorem load_as {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e}
    (Y : r.toLoadRect.shape.Idx → Val e) (hY : View.ld X r = Y) :
    owns c m q X
      ⊢ iprop((owns c m q X -∗ wp frame (wpE' defs 𝒱 c bd Γ) E (k Y) Q)
        -∗ wp frame (wpE' defs 𝒱 c bd Γ) E (Prog.lift (.load m r.toLoadRect hl) >>= k) Q) := by
  subst hY
  exact load_owned 𝒱 c bd E

/-- Reading a whole memref. -/
theorem load_whole {cs : CoreSpace} {m : Memref sig c.2.kind cs s e} {off : Fin s.rank → ℕ} {inb : ∀ a, off a + s.size a ≤ s.size a}
    {hl : m.view.LoadsAt (Rect.unit (s := s) off s.size inb).toLoadRect}
    {k : (s.Idx → Val e) → Prog (TpuEff nD τ sig Val Λ c.2) α} {q : PosShare TreeShare} {X : s.Idx → Val e} :
    owns c m q X
      ⊢ iprop((owns c m q X -∗ wp frame (wpE' defs 𝒱 c bd Γ) E (k X) Q)
        -∗ wp frame (wpE' defs 𝒱 c bd Γ) E (Prog.lift (.load m (Rect.unit (s := s) off s.size inb).toLoadRect hl) >>= k) Q) :=
  load_as 𝒱 c bd E (r := Rect.unit (s := s) off s.size inb) X (ld_full X off inb)

/-- What a read through a squeezed slice finds in the values `X`. -/
def ldSq {s s' : Shape} {A : Type} (X : s.Idx → A) (r₀ : Rect s) (hs : r₀.shape.Squeezes s') (r : Rect s') : r.toLoadRect.shape.Idx → A :=
  fun x => X (r₀.emb (Shape.reshapeEquiv hs.numel_eq (r.emb x)))

/-- Reading a rectangle of a squeezed slice of a memref owned at the values `X` goes on with `X` at the places the
    slice and the rectangle name. -/
theorem load_squeezed {cs : CoreSpace} {m : Memref sig c.2.kind cs s e} {r₀ : Rect s} {h₀ : ∀ a, r₀.stride a = 1}
    {hs : r₀.shape.Squeezes s'} {r : Rect s'} {hl : ((m.slice r₀ h₀).squeeze s' hs).view.LoadsAt r.toLoadRect}
    {k : (r.toLoadRect.shape.Idx → Val e) → Prog (TpuEff nD τ sig Val Λ c.2) α} {q : PosShare TreeShare} {X : s.Idx → Val e} :
    owns c m q X
      ⊢ iprop((owns c m q X -∗ wp frame (wpE' defs 𝒱 c bd Γ) E (k (ldSq X r₀ hs r)) Q)
        -∗ wp frame (wpE' defs 𝒱 c bd Γ) E (Prog.lift (.load ((m.slice r₀ h₀).squeeze s' hs) r.toLoadRect hl) >>= k) Q) := by
  iintro H
  ihave H' := (show owns c m q X ⊢ iprop(∃ g, ⌜m.view.read Val g = X⌝ ∗ m.view.loc c ↦[m.view.set]{q} g) from .rfl) $$ H
  icases H' with ⟨%g, %hg, H⟩
  iintro Hk
  have := wp_load (Q := Q) (defs := defs) (Γ := Γ) 𝒱 c bd E (m := (m.slice r₀ h₀).squeeze s' hs) (r := r.toLoadRect) (hl := hl) (k := k) (f := g) (q := q) (S := m.view.set)
    (View.setOn_slice_reshape_subset_set m.view r₀ hs.numel_eq _)
  iapply this $$ H
  iintro H
  have hv : ((m.slice r₀ h₀).squeeze s' hs).view.readAt Val r.toLoadRect g = ldSq X r₀ hs r := by
    subst hg; rfl
  rw [hv]
  iapply Hk
  unfold owns
  iexists g
  isplitr; · ipureintro; exact hg
  iexact H

/-- Writing a rectangle of a memref owned at the values `X` leaves it owned at `X` with the rectangle overwritten. -/
theorem store_owned {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE' defs 𝒱 c bd Γ) E (k ⟨⟩) Q)
        -∗ wp frame (wpE' defs 𝒱 c bd Γ) E (Prog.lift (.store m r w Finset.univ hx hm) >>= k) Q) := by
  iintro H
  ihave H' := (show owns c m fullShare X ⊢ iprop(∃ g, ⌜m.view.read Val g = X⌝ ∗ m.view.loc c ↦[m.view.set]{fullShare} g) from .rfl) $$ H
  icases H' with ⟨%g, %hg, H⟩
  iintro Hk
  have := wp_store (Q := Q) (defs := defs) (Γ := Γ) 𝒱 c bd E (m := m) (r := r) (w := w) (hx := hx) (hm := hm) (k := k) (f := g) (S := m.view.set)
    (((m.access r).setOn_subset_set _).trans (m.view.set_slice_subset r))
  iapply this $$ H
  iintro H
  iapply Hk
  unfold owns
  iexists ((m.access r).write Val g w Finset.univ)
  isplitr
  · ipureintro
    subst hg
    funext j
    by_cases hj : j ∈ r.set
    · obtain ⟨i, rfl⟩ : ∃ i, r.emb i = j := by
        rw [← Rect.map_emb_univ] at hj
        obtain ⟨i, _, hi⟩ := Finset.mem_map.mp hj
        exact ⟨i, hi⟩
      rw [Rect.overlay_emb]
      exact View.read_slice_write_emb _ _ _ (Finset.mem_univ _)
    · rw [Rect.overlay_of_not_mem _ _ _ hj]
      exact View.read_slice_write_of_not_mem _ _ _ _ (by rwa [Rect.map_emb_univ])
  iexact H

/-- Inside a rectangle of unit strides the overwritten values are the new ones, read from the rectangle's corner. -/
theorem overlay_in {s : Shape} {A : Type} {off size : Fin s.rank → ℕ} {inb : ∀ a, off a + size a ≤ s.size a}
    (X : s.Idx → A) (G : (Rect.unit (s := s) off size inb).shape.Idx → A) (i : s.Idx)
    (j : (Rect.unit (s := s) off size inb).shape.Idx) (h : ∀ a, (i a : ℕ) = off a + j a) :
    (Rect.unit (s := s) off size inb).overlay X G i = G j := by
  have : i = (Rect.unit (s := s) off size inb).emb j := by
    funext a
    apply Fin.ext
    rw [h a, Rect.emb_apply, Rect.stride_unit, Nat.one_mul]
    rfl
  rw [this, Rect.overlay_emb]

/-- Outside the rectangle nothing changes. -/
theorem overlay_out {s : Shape} {A : Type} {off size : Fin s.rank → ℕ} {inb : ∀ a, off a + size a ≤ s.size a}
    (X : s.Idx → A) (G : (Rect.unit (s := s) off size inb).shape.Idx → A) (i : s.Idx) (a : Fin s.rank)
    (h : (i a : ℕ) < off a ∨ off a + size a ≤ i a) :
    (Rect.unit (s := s) off size inb).overlay X G i = X i := by
  apply Rect.overlay_of_not_mem
  rw [Rect.mem_set_unit]
  intro hh
  have := hh a
  omega

/-- `n` column blocks of width `w` written one after the other over the values `Z`. -/
def glue {A : Type} {R C : ℕ} (w : ℕ) (Z : (⟨2, ![R, C]⟩ : Shape).Idx → A) (G : ℕ → (⟨2, ![R, w]⟩ : Shape).Idx → A) :
    (n : ℕ) → w * n ≤ C → (⟨2, ![R, C]⟩ : Shape).Idx → A
  | 0, _ => Z
  | n + 1, h => (Rect.unit (s := ⟨2, ![R, C]⟩) ![0, w * n] ![R, w]
      (fun a => match a with | ⟨0, _⟩ => (Nat.zero_add R).le | ⟨1, _⟩ => (Nat.mul_succ w n ▸ h : w * n + w ≤ C))).overlay
      (glue w Z G n (le_trans (Nat.mul_le_mul_left w (Nat.le_succ n)) h)) (G n)

/-- Below the written columns, the glued values are the blocks'. -/
theorem glue_eq {A : Type} {R C : ℕ} (w : ℕ) (hw : 0 < w) (Z : (⟨2, ![R, C]⟩ : Shape).Idx → A)
    (G : ℕ → (⟨2, ![R, w]⟩ : Shape).Idx → A) (n : ℕ) (h : w * n ≤ C) (i : (⟨2, ![R, C]⟩ : Shape).Idx) (hi : (i 1).val < w * n) :
    glue w Z G n h i = G ((i 1).val / w) (ix2 (n0 := R) (n1 := w) (i 0) ⟨(i 1).val % w, Nat.mod_lt _ hw⟩) := by
  induction n with
  | zero => simp at hi
  | succ n ih =>
    unfold glue
    by_cases hc : w * n ≤ (i 1).val
    · have hlt : (i 1).val < w * n + w := by rw [← Nat.mul_succ]; exact hi
      have hd : (i 1).val / w = n := by
        apply Nat.div_eq_of_lt_le
        · rw [Nat.mul_comm]; exact hc
        · rw [Nat.mul_comm, Nat.mul_succ]; exact hlt
      have hmod : (i 1).val = w * n + (i 1).val % w := by
        have := Nat.div_add_mod (i 1).val w
        rw [hd] at this; exact this.symm
      refine (overlay_in _ _ _ (ix2 (n0 := R) (n1 := w) (i 0) ⟨(i 1).val % w, Nat.mod_lt _ hw⟩) ?_).trans ?_
      · intro a
        match a with
        | ⟨0, _⟩ => exact (Nat.zero_add _).symm
        | ⟨1, _⟩ => exact hmod
      · rw [hd]
    · refine (overlay_out _ _ _ 1 (Or.inl (not_le.mp hc))).trans ?_
      exact ih _ (not_le.mp hc)

end Cert.Vals
-- ==== Proof.Trip.lean ====
module

public import proofs.«01_k».proof.Proof.Gen.KernelIdeal.Skeleton
public import proofs.«01_k».proof.Proof.Rules

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The program of one sequence's layer, regrouped

The printed trip of the loop over sequences is cut into a projection, eight runs of ONE attention head (at different
columns and buffer slots) and a tail. -/

/-- One block of 128 rows of a head's softmax: the scores are read from the score buffer's slot, their softmax is
    written to the probability buffer's slot. -/
def rowProg (arg26 : Memref sig .tc .vmem S2x512x512 .f32) (arg27 : Memref sig .tc .vmem S2x512x512 .bf16)
    (o : Fin 3 → ℕ) (ho : ∀ a, o a + S1x512x512.size a ≤ S2x512x512.size a)
    (p : Fin 2 → ℕ) (hp : ∀ a, p a + S128x512.size a ≤ S512x512.size a)
    (w : Fin 3 → ℕ) (hw : ∀ a, w a + S1x128x512.size a ≤ S2x512x512.size a)
    (hx : (arg27.access (Rect.unit (s := S2x512x512) w S1x128x512.size hw)).Stores Finset.univ) :
    Prog (TpuEff nD τ sig (Elt F) Λ₀ .tc) PUnit := do
  let x : Vec F S128x512 .f32 ← Prog.lift (.load ((arg26.slice (Rect.unit (s := S2x512x512) o S1x512x512.size ho) (fun _ => rfl)).squeeze S512x512 squeezes_S1x512x512_S512x512) (Rect.unit (s := S512x512) p S128x512.size hp).toLoadRect (View.loadsAt_vmem h_S128x512))
  let _u : Vec F S128x512 .bf16 ← Prog.lift (.load ((arg27.slice (Rect.unit (s := S2x512x512) o S1x512x512.size ho) (fun _ => rfl)).squeeze S512x512 squeezes_S1x512x512_S512x512) (Rect.unit (s := S512x512) p S128x512.size hp).toLoadRect (View.loadsAt_vmem h_S128x512))
  Prog.lift (.store arg27 (Rect.unit (s := S2x512x512) w S1x128x512.size hw) (k0_pay21 x) Finset.univ hx (.inl rfl))
  pure ⟨⟩

/-- One attention head at given columns of the projections, buffer slot and output columns. -/
def headProg (arg25 : Memref sig .tc .vmem S512x1536 .bf16) (arg26 : Memref sig .tc .vmem S2x512x512 .f32)
    (arg27 : Memref sig .tc .vmem S2x512x512 .bf16) (arg28 : Memref sig .tc .vmem S512x512 .bf16)
    (oq : Fin 2 → ℕ) (hq : ∀ a, oq a + S512x64.size a ≤ S512x1536.size a)
    (ok : Fin 2 → ℕ) (hk : ∀ a, ok a + S512x64.size a ≤ S512x1536.size a)
    (ov : Fin 2 → ℕ) (hv : ∀ a, ov a + S512x64.size a ≤ S512x1536.size a)
    (o : Fin 3 → ℕ) (ho : ∀ a, o a + S1x512x512.size a ≤ S2x512x512.size a)
    (w0 : Fin 3 → ℕ) (hw0 : ∀ a, w0 a + S1x128x512.size a ≤ S2x512x512.size a)
    (w1 : Fin 3 → ℕ) (hw1 : ∀ a, w1 a + S1x128x512.size a ≤ S2x512x512.size a)
    (w2 : Fin 3 → ℕ) (hw2 : ∀ a, w2 a + S1x128x512.size a ≤ S2x512x512.size a)
    (w3 : Fin 3 → ℕ) (hw3 : ∀ a, w3 a + S1x128x512.size a ≤ S2x512x512.size a)
    (oo : Fin 2 → ℕ) (hoo : ∀ a, oo a + S512x64.size a ≤ S512x512.size a)
    (hx0 : (arg27.access (Rect.unit (s := S2x512x512) w0 S1x128x512.size hw0)).Stores Finset.univ)
    (hx1 : (arg27.access (Rect.unit (s := S2x512x512) w1 S1x128x512.size hw1)).Stores Finset.univ)
    (hx2 : (arg27.access (Rect.unit (s := S2x512x512) w2 S1x128x512.size hw2)).Stores Finset.univ)
    (hx3 : (arg27.access (Rect.unit (s := S2x512x512) w3 S1x128x512.size hw3)).Stores Finset.univ)
    (hxo : (arg28.access (Rect.unit (s := S512x512) oo S512x64.size hoo)).Stores Finset.univ) :
    Prog (TpuEff nD τ sig (Elt F) Λ₀ .tc) PUnit := do
  let q : Vec F S512x64 .bf16 ← Prog.lift (.load arg25 (Rect.unit (s := S512x1536) oq S512x64.size hq).toLoadRect (View.loadsAt_vmem h_S512x64))
  let k : Vec F S512x64 .bf16 ← Prog.lift (.load arg25 (Rect.unit (s := S512x1536) ok S512x64.size hk).toLoadRect (View.loadsAt_vmem h_S512x64))
  let _u : Vec F S1x512x512 .f32 ← Prog.lift (.load arg26 (Rect.unit (s := S2x512x512) o S1x512x512.size ho).toLoadRect (View.loadsAt_vmem h_S1x512x512))
  Prog.lift (.store arg26 (Rect.unit (s := S2x512x512) o S1x512x512.size ho) (k0_pay20 q k) Finset.univ (View.stores_vmem_bits_univ h_S1x512x512 rfl) (.inl rfl))
  rowProg arg26 arg27 o ho ![0, 0] inb_S512x512_S128x512_0_0 w0 hw0 hx0
  rowProg arg26 arg27 o ho ![128, 0] inb_S512x512_S128x512_128_0 w1 hw1 hx1
  rowProg arg26 arg27 o ho ![256, 0] inb_S512x512_S128x512_256_0 w2 hw2 hx2
  rowProg arg26 arg27 o ho ![384, 0] inb_S512x512_S128x512_384_0 w3 hw3 hx3
  let v : Vec F S512x64 .bf16 ← Prog.lift (.load arg25 (Rect.unit (s := S512x1536) ov S512x64.size hv).toLoadRect (View.loadsAt_vmem h_S512x64))
  let p : Vec F S1x512x512 .bf16 ← Prog.lift (.load arg27 (Rect.unit (s := S2x512x512) o S1x512x512.size ho).toLoadRect (View.loadsAt_vmem h_S1x512x512))
  let _w : Vec F S512x64 .bf16 ← Prog.lift (.load arg28 (Rect.unit (s := S512x512) oo S512x64.size hoo).toLoadRect (View.loadsAt_vmem h_S512x64))
  Prog.lift (.store arg28 (Rect.unit (s := S512x512) oo S512x64.size hoo) (k0_pay26 v p) Finset.univ hxo (.inl rfl))
  pure ⟨⟩

/-- The projections of one sequence's rows `x` to queries, keys and values. -/
def qkvProg (arg7 : Memref sig .tc .vmem S1x1x1536 .f32) (arg25 : Memref sig .tc .vmem S512x1536 .bf16) (harg25 : arg25.IsWhole)
    (v4 : FVec F S1536x512 .bf16) (x : Vec F S512x512 .f32) : Prog (TpuEff nD τ sig (Elt F) Λ₀ .tc) PUnit := do
  let b0 : Vec F S1x1x512 .f32 ← Prog.lift (.load arg7 (Rect.unit (s := S1x1x1536) ![0, 0, 0] S1x1x512.size inb_S1x1x1536_S1x1x512_0_0_0).toLoadRect (View.loadsAt_vmem h_S1x1x512))
  let _u0 : Vec F S512x512 .bf16 ← Prog.lift (.load arg25 (Rect.unit (s := S512x1536) ![0, 0] S512x512.size inb_S512x1536_S512x512_0_0).toLoadRect (View.loadsAt_vmem h_S512x512))
  Prog.lift (.store arg25 (Rect.unit (s := S512x1536) ![0, 0] S512x512.size inb_S512x1536_S512x512_0_0) (k0_pay16 v4 x b0) Finset.univ (View.stores_vmem h_S512x512 (harg25.storeExact_slice rfl _ packedbf16_S512x1536_S512x512_0_0) (fun _ => rfl)) (.inl rfl))
  let b1 : Vec F S1x1x512 .f32 ← Prog.lift (.load arg7 (Rect.unit (s := S1x1x1536) ![0, 0, 512] S1x1x512.size inb_S1x1x1536_S1x1x512_0_0_512).toLoadRect (View.loadsAt_vmem h_S1x1x512))
  let _u1 : Vec F S512x512 .bf16 ← Prog.lift (.load arg25 (Rect.unit (s := S512x1536) ![0, 512] S512x512.size inb_S512x1536_S512x512_0_512).toLoadRect (View.loadsAt_vmem h_S512x512))
  Prog.lift (.store arg25 (Rect.unit (s := S512x1536) ![0, 512] S512x512.size inb_S512x1536_S512x512_0_512) (k0_pay17 v4 x b1) Finset.univ (View.stores_vmem h_S512x512 (harg25.storeExact_slice rfl _ packedbf16_S512x1536_S512x512_0_512) (fun _ => rfl)) (.inl rfl))
  let b2 : Vec F S1x1x512 .f32 ← Prog.lift (.load arg7 (Rect.unit (s := S1x1x1536) ![0, 0, 1024] S1x1x512.size inb_S1x1x1536_S1x1x512_0_0_1024).toLoadRect (View.loadsAt_vmem h_S1x1x512))
  let _u2 : Vec F S512x512 .bf16 ← Prog.lift (.load arg25 (Rect.unit (s := S512x1536) ![0, 1024] S512x512.size inb_S512x1536_S512x512_0_1024).toLoadRect (View.loadsAt_vmem h_S512x512))
  Prog.lift (.store arg25 (Rect.unit (s := S512x1536) ![0, 1024] S512x512.size inb_S512x1536_S512x512_0_1024) (k0_pay19 (k0_pay18 v4 x b2)) Finset.univ (View.stores_vmem h_S512x512 (harg25.storeExact_slice rfl _ packedbf16_S512x1536_S512x512_0_1024) (fun _ => rfl)) (.inl rfl))
  pure ⟨⟩

/-- What a chunk of 512 columns of the feed-forward part holds: the activation of the product with the chunk `w` of the first
    weight plus the bias. -/
def ffChunk (w : FVec F S512x512 .bf16) (y : FVec F S512x512 .bf16) (b : Vec F S1x1x512 .f32) : FVec F S512x512 .bf16 :=
  let z : FVec F S512x512 .f32 := addf (matmul dot_S512x512_S512x512_S512x512_1_1_0_0_n_n none y w (constant S512x512 .f32 0x00000000#32))
    (broadcastTo S512x512 (shapeCast S1x512 b shapeCasts_S1x1x512_S1x512) broadcasts_S1x512_S512x512)
  shapeCast S512x512 (truncf .bf16 (mulf (mulf (broadcast S512x512 (Scalar.ofBits .f32 0x3F000000#32 : F .f32)) z)
    (addf (broadcast S512x512 (Scalar.ofBits .f32 0x3F800000#32 : F .f32)) (erf (mulf z (broadcast S512x512 (Named.named κ "inv_sqrt2" 0x3F3504F3#32 : F .f32)))))) bitsLt_bf16_f32) shapeCasts_S512x512_S512x512

/-- One chunk of the feed-forward part. -/
def ffProg (arg13 : Memref sig .tc .vmem S1x1x2048 .f32) (arg29 : Memref sig .tc .vmem S512x2048 .bf16)
    (w : FVec F S512x512 .bf16) (y : FVec F S512x512 .bf16)
    (ob : Fin 3 → ℕ) (hb : ∀ a, ob a + S1x1x512.size a ≤ S1x1x2048.size a)
    (oc : Fin 2 → ℕ) (hc : ∀ a, oc a + S512x512.size a ≤ S512x2048.size a)
    (hx : (arg29.access (Rect.unit (s := S512x2048) oc S512x512.size hc)).Stores Finset.univ) :
    Prog (TpuEff nD τ sig (Elt F) Λ₀ .tc) PUnit := do
  let b : Vec F S1x1x512 .f32 ← Prog.lift (.load arg13 (Rect.unit (s := S1x1x2048) ob S1x1x512.size hb).toLoadRect (View.loadsAt_vmem h_S1x1x512))
  let _u : Vec F S512x512 .bf16 ← Prog.lift (.load arg29 (Rect.unit (s := S512x2048) oc S512x512.size hc).toLoadRect (View.loadsAt_vmem h_S512x512))
  Prog.lift (.store arg29 (Rect.unit (s := S512x2048) oc S512x512.size hc) (ffChunk w y b) Finset.univ hx (.inl rfl))
  pure ⟨⟩

/-- The part of one sequence's layer after the heads. -/
def tailProg (arg9 : Memref sig .tc .vmem S1x1x512 .f32) (arg10 : Memref sig .tc .vmem S1x1x512 .f32) (arg11 : Memref sig .tc .vmem S1x1x512 .f32)
    (arg13 : Memref sig .tc .vmem S1x1x2048 .f32) (arg15 : Memref sig .tc .vmem S1x1x512 .f32) (arg16 : Memref sig .tc .vmem S1x1x512 .f32)
    (arg17 : Memref sig .tc .vmem S1x1x512 .f32) (arg24 : Memref sig .tc .vmem S4096x512 .f32)
    (arg28 : Memref sig .tc .vmem S512x512 .bf16) (arg29 : Memref sig .tc .vmem S512x2048 .bf16) (harg29 : arg29.IsWhole)
    (v6 : FVec F S512x512 .bf16) (v8 : FVec F S2048x512 .bf16) (v10 : FVec F S512x2048 .bf16) (x : Vec F S512x512 .f32)
    (k0_t1 : Fin k0_t1_loop.trips) : Prog (TpuEff nD τ sig (Elt F) Λ₀ .tc) PUnit := do
  let a : Vec F S512x512 .bf16 ← Prog.lift (.load arg28 (Rect.unit (s := S512x512) ![0, 0] S512x512.size inb_S512x512_S512x512_0_0).toLoadRect (View.loadsAt_vmem h_S512x512))
  let bo : Vec F S1x1x512 .f32 ← Prog.lift (.load arg9 (Rect.unit (s := S1x1x512) ![0, 0, 0] S1x1x512.size inb_S1x1x512_S1x1x512_0_0_0).toLoadRect (View.loadsAt_vmem h_S1x1x512))
  let g1 : Vec F S1x1x512 .f32 ← Prog.lift (.load arg10 (Rect.unit (s := S1x1x512) ![0, 0, 0] S1x1x512.size inb_S1x1x512_S1x1x512_0_0_0).toLoadRect (View.loadsAt_vmem h_S1x1x512))
  let b1 : Vec F S1x1x512 .f32 ← Prog.lift (.load arg11 (Rect.unit (s := S1x1x512) ![0, 0, 0] S1x1x512.size inb_S1x1x512_S1x1x512_0_0_0).toLoadRect (View.loadsAt_vmem h_S1x1x512))
  let y : FVec F S512x512 .f32 := k0_pay84 v6 x a bo g1 b1
  let y' : FVec F S512x512 .bf16 := k0_pay85 v6 x a bo g1 b1
  ffProg arg13 arg29 (extractStridedSlice S512x512 ![0, 0] v8 slices_S2048x512_o0_0_S512x512) y' ![0, 0, 0] inb_S1x1x2048_S1x1x512_0_0_0 ![0, 0] inb_S512x2048_S512x512_0_0 (View.stores_vmem h_S512x512 (harg29.storeExact_slice rfl _ packedbf16_S512x2048_S512x512_0_0) (fun _ => rfl))
  ffProg arg13 arg29 (extractStridedSlice S512x512 ![512, 0] v8 slices_S2048x512_o512_0_S512x512) y' ![0, 0, 512] inb_S1x1x2048_S1x1x512_0_0_512 ![0, 512] inb_S512x2048_S512x512_0_512 (View.stores_vmem h_S512x512 (harg29.storeExact_slice rfl _ packedbf16_S512x2048_S512x512_0_512) (fun _ => rfl))
  ffProg arg13 arg29 (extractStridedSlice S512x512 ![1024, 0] v8 slices_S2048x512_o1024_0_S512x512) y' ![0, 0, 1024] inb_S1x1x2048_S1x1x512_0_0_1024 ![0, 1024] inb_S512x2048_S512x512_0_1024 (View.stores_vmem h_S512x512 (harg29.storeExact_slice rfl _ packedbf16_S512x2048_S512x512_0_1024) (fun _ => rfl))
  ffProg arg13 arg29 (extractStridedSlice S512x512 ![1536, 0] v8 slices_S2048x512_o1536_0_S512x512) y' ![0, 0, 1536] inb_S1x1x2048_S1x1x512_0_0_1536 ![0, 1536] inb_S512x2048_S512x512_0_1536 (View.stores_vmem h_S512x512 (harg29.storeExact_slice rfl _ packedbf16_S512x2048_S512x512_0_1536) (fun _ => rfl))
  let f : Vec F S512x2048 .bf16 ← Prog.lift (.load arg29 (Rect.unit (s := S512x2048) ![0, 0] S512x2048.size inb_S512x2048_S512x2048_0_0).toLoadRect (View.loadsAt_vmem h_S512x2048))
  let b2 : Vec F S1x1x512 .f32 ← Prog.lift (.load arg15 (Rect.unit (s := S1x1x512) ![0, 0, 0] S1x1x512.size inb_S1x1x512_S1x1x512_0_0_0).toLoadRect (View.loadsAt_vmem h_S1x1x512))
  let g2 : Vec F S1x1x512 .f32 ← Prog.lift (.load arg16 (Rect.unit (s := S1x1x512) ![0, 0, 0] S1x1x512.size inb_S1x1x512_S1x1x512_0_0_0).toLoadRect (View.loadsAt_vmem h_S1x1x512))
  let e2 : Vec F S1x1x512 .f32 ← Prog.lift (.load arg17 (Rect.unit (s := S1x1x512) ![0, 0, 0] S1x1x512.size inb_S1x1x512_S1x1x512_0_0_0).toLoadRect (View.loadsAt_vmem h_S1x1x512))
  let _u : Vec F S512x512 .f32 ← Prog.lift (.load arg24 (Rect.unit (s := S4096x512) (k0_off2 k0_t1) S512x512.size (k0_off2_inb k0_t1)).toLoadRect (View.loadsAt_vmem h_S512x512))
  Prog.lift (.store arg24 (Rect.unit (s := S4096x512) (k0_off2 k0_t1) S512x512.size (k0_off2_inb k0_t1)) (k0_pay97 (k0_pay95 v10 y f b2) (k0_pay96 g2) e2) Finset.univ (View.stores_vmem_bits_univ h_S512x512 rfl) (.inl rfl))
  pure ⟨⟩

/-- One trip of the loop over sequences, regrouped. -/
def tripProg (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) (v4 : FVec F S1536x512 .bf16) (v6 : FVec F S512x512 .bf16) (v8 : FVec F S2048x512 .bf16) (v10 : FVec F S512x2048 .bf16) (k0_t1 : Fin k0_t1_loop.trips) :
    Prog (TpuEff nD τ sig (Elt F) Λ₀ .tc) PUnit := do
  let x : Vec F S512x512 .f32 ← Prog.lift (.load arg24 (Rect.unit (s := S4096x512) (k0_off2 k0_t1) S512x512.size (k0_off2_inb k0_t1)).toLoadRect (View.loadsAt_vmem h_S512x512))
  qkvProg arg7 arg25 harg25 v4 x
  headProg arg25 arg26 arg27 arg28 ![0, 0] inb_S512x1536_S512x64_0_0 ![0, 512] inb_S512x1536_S512x64_0_512 ![0, 1024] inb_S512x1536_S512x64_0_1024
    ![0, 0, 0] inb_S2x512x512_S1x512x512_0_0_0 ![0, 0, 0] inb_S2x512x512_S1x128x512_0_0_0 ![0, 128, 0] inb_S2x512x512_S1x128x512_0_128_0 ![0, 256, 0] inb_S2x512x512_S1x128x512_0_256_0 ![0, 384, 0] inb_S2x512x512_S1x128x512_0_384_0 ![0, 0] inb_S512x512_S512x64_0_0
    (View.stores_vmem h_S1x128x512 (harg27.storeExact_slice rfl _ packedbf16_S2x512x512_S1x128x512_0_0_0) (fun _ => rfl))
    (View.stores_vmem h_S1x128x512 (harg27.storeExact_slice rfl _ packedbf16_S2x512x512_S1x128x512_0_128_0) (fun _ => rfl))
    (View.stores_vmem h_S1x128x512 (harg27.storeExact_slice rfl _ packedbf16_S2x512x512_S1x128x512_0_256_0) (fun _ => rfl))
    (View.stores_vmem h_S1x128x512 (harg27.storeExact_slice rfl _ packedbf16_S2x512x512_S1x128x512_0_384_0) (fun _ => rfl))
    (View.stores_vmem h_S512x64 (harg28.storeExact_slice rfl _ packedbf16_S512x512_S512x64_0_0) (fun _ => rfl))
  headProg arg25 arg26 arg27 arg28 ![0, 64] inb_S512x1536_S512x64_0_64 ![0, 576] inb_S512x1536_S512x64_0_576 ![0, 1088] inb_S512x1536_S512x64_0_1088
    ![1, 0, 0] inb_S2x512x512_S1x512x512_1_0_0 ![1, 0, 0] inb_S2x512x512_S1x128x512_1_0_0 ![1, 128, 0] inb_S2x512x512_S1x128x512_1_128_0 ![1, 256, 0] inb_S2x512x512_S1x128x512_1_256_0 ![1, 384, 0] inb_S2x512x512_S1x128x512_1_384_0 ![0, 64] inb_S512x512_S512x64_0_64
    (View.stores_vmem h_S1x128x512 (harg27.storeExact_slice rfl _ packedbf16_S2x512x512_S1x128x512_1_0_0) (fun _ => rfl))
    (View.stores_vmem h_S1x128x512 (harg27.storeExact_slice rfl _ packedbf16_S2x512x512_S1x128x512_1_128_0) (fun _ => rfl))
    (View.stores_vmem h_S1x128x512 (harg27.storeExact_slice rfl _ packedbf16_S2x512x512_S1x128x512_1_256_0) (fun _ => rfl))
    (View.stores_vmem h_S1x128x512 (harg27.storeExact_slice rfl _ packedbf16_S2x512x512_S1x128x512_1_384_0) (fun _ => rfl))
    (View.stores_vmem h_S512x64 (harg28.storeExact_slice rfl _ packedbf16_S512x512_S512x64_0_64) (fun _ => rfl))
  headProg arg25 arg26 arg27 arg28 ![0, 128] inb_S512x1536_S512x64_0_128 ![0, 640] inb_S512x1536_S512x64_0_640 ![0, 1152] inb_S512x1536_S512x64_0_1152
    ![0, 0, 0] inb_S2x512x512_S1x512x512_0_0_0 ![0, 0, 0] inb_S2x512x512_S1x128x512_0_0_0 ![0, 128, 0] inb_S2x512x512_S1x128x512_0_128_0 ![0, 256, 0] inb_S2x512x512_S1x128x512_0_256_0 ![0, 384, 0] inb_S2x512x512_S1x128x512_0_384_0 ![0, 128] inb_S512x512_S512x64_0_128
    (View.stores_vmem h_S1x128x512 (harg27.storeExact_slice rfl _ packedbf16_S2x512x512_S1x128x512_0_0_0) (fun _ => rfl))
    (View.stores_vmem h_S1x128x512 (harg27.storeExact_slice rfl _ packedbf16_S2x512x512_S1x128x512_0_128_0) (fun _ => rfl))
    (View.stores_vmem h_S1x128x512 (harg27.storeExact_slice rfl _ packedbf16_S2x512x512_S1x128x512_0_256_0) (fun _ => rfl))
    (View.stores_vmem h_S1x128x512 (harg27.storeExact_slice rfl _ packedbf16_S2x512x512_S1x128x512_0_384_0) (fun _ => rfl))
    (View.stores_vmem h_S512x64 (harg28.storeExact_slice rfl _ packedbf16_S512x512_S512x64_0_128) (fun _ => rfl))
  headProg arg25 arg26 arg27 arg28 ![0, 192] inb_S512x1536_S512x64_0_192 ![0, 704] inb_S512x1536_S512x64_0_704 ![0, 1216] inb_S512x1536_S512x64_0_1216
    ![1, 0, 0] inb_S2x512x512_S1x512x512_1_0_0 ![1, 0, 0] inb_S2x512x512_S1x128x512_1_0_0 ![1, 128, 0] inb_S2x512x512_S1x128x512_1_128_0 ![1, 256, 0] inb_S2x512x512_S1x128x512_1_256_0 ![1, 384, 0] inb_S2x512x512_S1x128x512_1_384_0 ![0, 192] inb_S512x512_S512x64_0_192
    (View.stores_vmem h_S1x128x512 (harg27.storeExact_slice rfl _ packedbf16_S2x512x512_S1x128x512_1_0_0) (fun _ => rfl))
    (View.stores_vmem h_S1x128x512 (harg27.storeExact_slice rfl _ packedbf16_S2x512x512_S1x128x512_1_128_0) (fun _ => rfl))
    (View.stores_vmem h_S1x128x512 (harg27.storeExact_slice rfl _ packedbf16_S2x512x512_S1x128x512_1_256_0) (fun _ => rfl))
    (View.stores_vmem h_S1x128x512 (harg27.storeExact_slice rfl _ packedbf16_S2x512x512_S1x128x512_1_384_0) (fun _ => rfl))
    (View.stores_vmem h_S512x64 (harg28.storeExact_slice rfl _ packedbf16_S512x512_S512x64_0_192) (fun _ => rfl))
  headProg arg25 arg26 arg27 arg28 ![0, 256] inb_S512x1536_S512x64_0_256 ![0, 768] inb_S512x1536_S512x64_0_768 ![0, 1280] inb_S512x1536_S512x64_0_1280
    ![0, 0, 0] inb_S2x512x512_S1x512x512_0_0_0 ![0, 0, 0] inb_S2x512x512_S1x128x512_0_0_0 ![0, 128, 0] inb_S2x512x512_S1x128x512_0_128_0 ![0, 256, 0] inb_S2x512x512_S1x128x512_0_256_0 ![0, 384, 0] inb_S2x512x512_S1x128x512_0_384_0 ![0, 256] inb_S512x512_S512x64_0_256
    (View.stores_vmem h_S1x128x512 (harg27.storeExact_slice rfl _ packedbf16_S2x512x512_S1x128x512_0_0_0) (fun _ => rfl))
    (View.stores_vmem h_S1x128x512 (harg27.storeExact_slice rfl _ packedbf16_S2x512x512_S1x128x512_0_128_0) (fun _ => rfl))
    (View.stores_vmem h_S1x128x512 (harg27.storeExact_slice rfl _ packedbf16_S2x512x512_S1x128x512_0_256_0) (fun _ => rfl))
    (View.stores_vmem h_S1x128x512 (harg27.storeExact_slice rfl _ packedbf16_S2x512x512_S1x128x512_0_384_0) (fun _ => rfl))
    (View.stores_vmem h_S512x64 (harg28.storeExact_slice rfl _ packedbf16_S512x512_S512x64_0_256) (fun _ => rfl))
  headProg arg25 arg26 arg27 arg28 ![0, 320] inb_S512x1536_S512x64_0_320 ![0, 832] inb_S512x1536_S512x64_0_832 ![0, 1344] inb_S512x1536_S512x64_0_1344
    ![1, 0, 0] inb_S2x512x512_S1x512x512_1_0_0 ![1, 0, 0] inb_S2x512x512_S1x128x512_1_0_0 ![1, 128, 0] inb_S2x512x512_S1x128x512_1_128_0 ![1, 256, 0] inb_S2x512x512_S1x128x512_1_256_0 ![1, 384, 0] inb_S2x512x512_S1x128x512_1_384_0 ![0, 320] inb_S512x512_S512x64_0_320
    (View.stores_vmem h_S1x128x512 (harg27.storeExact_slice rfl _ packedbf16_S2x512x512_S1x128x512_1_0_0) (fun _ => rfl))
    (View.stores_vmem h_S1x128x512 (harg27.storeExact_slice rfl _ packedbf16_S2x512x512_S1x128x512_1_128_0) (fun _ => rfl))
    (View.stores_vmem h_S1x128x512 (harg27.storeExact_slice rfl _ packedbf16_S2x512x512_S1x128x512_1_256_0) (fun _ => rfl))
    (View.stores_vmem h_S1x128x512 (harg27.storeExact_slice rfl _ packedbf16_S2x512x512_S1x128x512_1_384_0) (fun _ => rfl))
    (View.stores_vmem h_S512x64 (harg28.storeExact_slice rfl _ packedbf16_S512x512_S512x64_0_320) (fun _ => rfl))
  headProg arg25 arg26 arg27 arg28 ![0, 384] inb_S512x1536_S512x64_0_384 ![0, 896] inb_S512x1536_S512x64_0_896 ![0, 1408] inb_S512x1536_S512x64_0_1408
    ![0, 0, 0] inb_S2x512x512_S1x512x512_0_0_0 ![0, 0, 0] inb_S2x512x512_S1x128x512_0_0_0 ![0, 128, 0] inb_S2x512x512_S1x128x512_0_128_0 ![0, 256, 0] inb_S2x512x512_S1x128x512_0_256_0 ![0, 384, 0] inb_S2x512x512_S1x128x512_0_384_0 ![0, 384] inb_S512x512_S512x64_0_384
    (View.stores_vmem h_S1x128x512 (harg27.storeExact_slice rfl _ packedbf16_S2x512x512_S1x128x512_0_0_0) (fun _ => rfl))
    (View.stores_vmem h_S1x128x512 (harg27.storeExact_slice rfl _ packedbf16_S2x512x512_S1x128x512_0_128_0) (fun _ => rfl))
    (View.stores_vmem h_S1x128x512 (harg27.storeExact_slice rfl _ packedbf16_S2x512x512_S1x128x512_0_256_0) (fun _ => rfl))
    (View.stores_vmem h_S1x128x512 (harg27.storeExact_slice rfl _ packedbf16_S2x512x512_S1x128x512_0_384_0) (fun _ => rfl))
    (View.stores_vmem h_S512x64 (harg28.storeExact_slice rfl _ packedbf16_S512x512_S512x64_0_384) (fun _ => rfl))
  headProg arg25 arg26 arg27 arg28 ![0, 448] inb_S512x1536_S512x64_0_448 ![0, 960] inb_S512x1536_S512x64_0_960 ![0, 1472] inb_S512x1536_S512x64_0_1472
    ![1, 0, 0] inb_S2x512x512_S1x512x512_1_0_0 ![1, 0, 0] inb_S2x512x512_S1x128x512_1_0_0 ![1, 128, 0] inb_S2x512x512_S1x128x512_1_128_0 ![1, 256, 0] inb_S2x512x512_S1x128x512_1_256_0 ![1, 384, 0] inb_S2x512x512_S1x128x512_1_384_0 ![0, 448] inb_S512x512_S512x64_0_448
    (View.stores_vmem h_S1x128x512 (harg27.storeExact_slice rfl _ packedbf16_S2x512x512_S1x128x512_1_0_0) (fun _ => rfl))
    (View.stores_vmem h_S1x128x512 (harg27.storeExact_slice rfl _ packedbf16_S2x512x512_S1x128x512_1_128_0) (fun _ => rfl))
    (View.stores_vmem h_S1x128x512 (harg27.storeExact_slice rfl _ packedbf16_S2x512x512_S1x128x512_1_256_0) (fun _ => rfl))
    (View.stores_vmem h_S1x128x512 (harg27.storeExact_slice rfl _ packedbf16_S2x512x512_S1x128x512_1_384_0) (fun _ => rfl))
    (View.stores_vmem h_S512x64 (harg28.storeExact_slice rfl _ packedbf16_S512x512_S512x64_0_448) (fun _ => rfl))
  tailProg arg9 arg10 arg11 arg13 arg15 arg16 arg17 arg24 arg28 arg29 harg29 v6 v8 v10 x k0_t1

set_option maxRecDepth 65536 in
/-- The printed trip is the regrouped one. -/
theorem trip_eq (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) (v4 : FVec F S1536x512 .bf16) (v6 : FVec F S512x512 .bf16) (v8 : FVec F S2048x512 .bf16) (v10 : FVec F S512x2048 .bf16) (a b : BitVec 32) (k0_t1 : Fin k0_t1_loop.trips) :
    k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 v4 v6 v8 v10 a b k0_t1 = tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 v4 v6 v8 v10 k0_t1 := by
  rw [k0_part32_eq_skeleton]
  unfold k0_part32_skel
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  rfl

end Cert.KernelIdeal.Own
-- ==== Proof.Spec.lean ====
module

public import proofs.«01_k».proof.Proof.Trip
public import Idealize.ShloMosaic.Lib.Pointwise

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The values one trip computes -/

/-- Rows `128 j …` of a head's scores. -/
def rowsAt (S : FVec F S1x512x512 .f32) (p : Fin 2 → ℕ) (hp : ∀ a, p a + S128x512.size a ≤ S512x512.size a) : FVec F S128x512 .f32 :=
  fun x => S (Shape.reshapeEquiv (squeezes_S1x512x512_S512x512).numel_eq ((Rect.unit (s := S512x512) p S128x512.size hp).emb x))

/-- The row block of a row. -/
def rowsOf (S : FVec F S1x512x512 .f32) (j : Fin 4) : FVec F S128x512 .f32 :=
  rowsAt S ![128 * j, 0] (fun a => match a with | ⟨0, _⟩ => (by show 128 * j.val + 128 ≤ 512; omega) | ⟨1, _⟩ => (by show 0 + 512 ≤ 512; omega))

/-- A head's probabilities, block of rows by block of rows. -/
def probs (S : FVec F S1x512x512 .f32) : FVec F S1x512x512 .bf16 := fun i =>
  k0_pay21 (rowsOf S ⟨(i 1).val / 128, by have := (i 1).isLt; change _ < 512 at this; omega⟩)
    (ix3 (n0 := 1) (n1 := 128) (n2 := 512) 0 ⟨(i 1).val % 128, by omega⟩ (i 2))

/-- A head's 64 columns of the projections. -/
def cols (Q : FVec F S512x1536 .bf16) (o : ℕ) (ho : ∀ a, (![0, o] : Fin 2 → ℕ) a + S512x64.size a ≤ S512x1536.size a) : FVec F S512x64 .bf16 :=
  fun x => Q ((Rect.unit (s := S512x1536) ![0, o] S512x64.size ho).idx x)

/-- The 64 columns from column `o` on. -/
def colsN (Q : FVec F S512x1536 .bf16) (o : ℕ) : FVec F S512x64 .bf16 :=
  fun x => Q (ix2 (n0 := 512) (n1 := 1536) (x 0) ⟨(o + (x 1).val) % 1536, by omega⟩)

/-- A head's columns, read from the projections. -/
theorem cols_eq (Q : FVec F S512x1536 .bf16) (o : ℕ) (ho : ∀ a, (![0, o] : Fin 2 → ℕ) a + S512x64.size a ≤ S512x1536.size a) :
    cols Q o ho = colsN Q o := by
  funext x
  show Q _ = Q _
  congr 1
  have h := ho 1
  change o + 64 ≤ 1536 at h
  have hx : (x 1).val < 64 := (x 1).isLt
  funext a
  match a with
  | ⟨0, _⟩ => exact Fin.ext (by rw [LoadRect.idx_apply]; show 0 + 1 * (x 0).val = (x 0).val; omega)
  | ⟨1, _⟩ => exact Fin.ext (by rw [LoadRect.idx_apply]; show o + 1 * (x 1).val = (o + (x 1).val) % 1536; omega)

/-- One head's output from its queries, keys and values. -/
def headVal (q k v : FVec F S512x64 .bf16) : FVec F S512x64 .bf16 := k0_pay26 v (probs (k0_pay20 q k))

section
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)
variable {Γ : PendingWaitsCtx sig Ix} {α : Type} {Q : α → sProp (MT nD τ sig Ix (Elt F) Name U Lvl)}

/-- What a head leaves in its slot of the probability buffer does not depend on what was there. -/
theorem probs_glue (s : ℕ) (S : FVec F S1x512x512 .f32) (X : FVec F S2x512x512 .bf16)
    (ho : ∀ a, (![s, 0, 0] : Fin 3 → ℕ) a + S1x512x512.size a ≤ S2x512x512.size a)
    (hw0 : ∀ a, (![s, 0, 0] : Fin 3 → ℕ) a + S1x128x512.size a ≤ S2x512x512.size a)
    (hw1 : ∀ a, (![s, 128, 0] : Fin 3 → ℕ) a + S1x128x512.size a ≤ S2x512x512.size a)
    (hw2 : ∀ a, (![s, 256, 0] : Fin 3 → ℕ) a + S1x128x512.size a ≤ S2x512x512.size a)
    (hw3 : ∀ a, (![s, 384, 0] : Fin 3 → ℕ) a + S1x128x512.size a ≤ S2x512x512.size a) :
    View.ld ((Rect.unit (s := S2x512x512) ![s, 384, 0] S1x128x512.size hw3).overlay
      ((Rect.unit (s := S2x512x512) ![s, 256, 0] S1x128x512.size hw2).overlay
      ((Rect.unit (s := S2x512x512) ![s, 128, 0] S1x128x512.size hw1).overlay
      ((Rect.unit (s := S2x512x512) ![s, 0, 0] S1x128x512.size hw0).overlay X
        (k0_pay21 (rowsAt S ![0, 0] inb_S512x512_S128x512_0_0)))
        (k0_pay21 (rowsAt S ![128, 0] inb_S512x512_S128x512_128_0)))
        (k0_pay21 (rowsAt S ![256, 0] inb_S512x512_S128x512_256_0)))
        (k0_pay21 (rowsAt S ![384, 0] inb_S512x512_S128x512_384_0)))
      (Rect.unit (s := S2x512x512) ![s, 0, 0] S1x512x512.size ho) = probs S := by
  funext i
  have h0 : (i 0).val = 0 := by have := (i 0).isLt; change _ < 1 at this; omega
  have h1 : (i 1).val < 512 := (i 1).isLt
  have key : ∀ (j : Fin 4) (x : S1x128x512.Idx), (x 1).val = (i 1).val - 128 * j.val → x 2 = i 2 → (i 1).val / 128 = j.val →
      k0_pay21 (rowsOf S j) x = probs S i := by
    intro j x hx1 hx2 hj
    unfold probs
    have e : (⟨(i 1).val / 128, by omega⟩ : Fin 4) = j := Fin.ext hj
    rw [e]
    congr 1
    funext a
    match a with
    | ⟨0, _⟩ => exact Fin.ext (by have := (x 0).isLt; change _ < 1 at this; show (x 0).val = 0; omega)
    | ⟨1, _⟩ => exact Fin.ext (by show (x 1).val = (i 1).val % 128; omega)
    | ⟨2, _⟩ => exact hx2
  have emb1 : ((Rect.unit (s := S2x512x512) ![s, 0, 0] S1x512x512.size ho).idx i 1).val = (i 1).val := by
    rw [LoadRect.idx_apply]; show 0 + 1 * _ = _; omega
  have emb2 : ((Rect.unit (s := S2x512x512) ![s, 0, 0] S1x512x512.size ho).idx i 2).val = (i 2).val := by
    rw [LoadRect.idx_apply]; show 0 + 1 * _ = _; omega
  have emb0 : ((Rect.unit (s := S2x512x512) ![s, 0, 0] S1x512x512.size ho).idx i 0).val = s := by
    rw [LoadRect.idx_apply]; show s + 1 * _ = _; rw [h0]; omega
  have hin : ∀ (o : ℕ) (x : S1x128x512.Idx), (x 0).val = 0 → o + (x 1).val = (i 1).val → x 2 = i 2 →
      ∀ a, ((Rect.unit (s := S2x512x512) ![s, 0, 0] S1x512x512.size ho).idx i a : ℕ) = (![s, o, 0] : Fin 3 → ℕ) a + x a := by
    intro o x hx0 hx1 hx2 a
    match a with
    | ⟨0, _⟩ => exact emb0.trans (by show s = s + (x 0).val; omega)
    | ⟨1, _⟩ => exact emb1.trans (by show _ = o + (x 1).val; omega)
    | ⟨2, _⟩ => exact emb2.trans (by show _ = 0 + (x 2).val; rw [hx2]; omega)
  show Rect.overlay _ _ _ ((Rect.unit (s := S2x512x512) ![s, 0, 0] S1x512x512.size ho).idx i) = _
  by_cases c3 : 384 ≤ (i 1).val
  · refine (overlay_in _ _ _ (ix3 (n0 := 1) (n1 := 128) (n2 := 512) 0 ⟨(i 1).val - 384, by omega⟩ (i 2)) (hin 384 _ rfl (by show 384 + ((i 1).val - 384) = _; omega) rfl)).trans ?_
    exact key 3 _ rfl rfl (by show _ = 3; omega)
  refine (overlay_out _ _ _ 1 (Or.inl (by rw [emb1]; show _ < 384; omega))).trans ?_
  by_cases c2 : 256 ≤ (i 1).val
  · refine (overlay_in _ _ _ (ix3 (n0 := 1) (n1 := 128) (n2 := 512) 0 ⟨(i 1).val - 256, by omega⟩ (i 2)) (hin 256 _ rfl (by show 256 + ((i 1).val - 256) = _; omega) rfl)).trans ?_
    exact key 2 _ rfl rfl (by show _ = 2; omega)
  refine (overlay_out _ _ _ 1 (Or.inl (by rw [emb1]; show _ < 256; omega))).trans ?_
  by_cases c1 : 128 ≤ (i 1).val
  · refine (overlay_in _ _ _ (ix3 (n0 := 1) (n1 := 128) (n2 := 512) 0 ⟨(i 1).val - 128, by omega⟩ (i 2)) (hin 128 _ rfl (by show 128 + ((i 1).val - 128) = _; omega) rfl)).trans ?_
    exact key 1 _ rfl rfl (by show _ = 1; omega)
  refine (overlay_out _ _ _ 1 (Or.inl (by rw [emb1]; show _ < 128; omega))).trans ?_
  refine (overlay_in _ _ _ (ix3 (n0 := 1) (n1 := 128) (n2 := 512) 0 ⟨(i 1).val, by omega⟩ (i 2)) (hin 0 _ rfl (by show 0 + ((i 1).val) = _; omega) rfl)).trans ?_
  exact key 0 _ (by show _ = _ - 128 * 0; simp) rfl (by show _ = 0; omega)

/-- What a run of heads holds: the projections at `P`, the score and probability buffers at anything, the attention buffer at `Z`. -/
def headSt (arg25 : Memref sig .tc .vmem S512x1536 .bf16) (arg26 : Memref sig .tc .vmem S2x512x512 .f32)
    (arg27 : Memref sig .tc .vmem S2x512x512 .bf16) (arg28 : Memref sig .tc .vmem S512x512 .bf16)
    (P : FVec F S512x1536 .bf16) (Z : FVec F S512x512 .bf16) : sProp (MT nD τ sig Ix (Elt F) Name U Lvl) :=
  iprop(owns c arg25 fullShare P ∗ (∃ X, owns c arg26 fullShare X) ∗ (∃ Y, owns c arg27 fullShare Y) ∗ owns c arg28 fullShare Z)

/-- One block of rows: the probability buffer gets the softmax of the score rows. -/
theorem row_spec {arg26 : Memref sig .tc .vmem S2x512x512 .f32} {arg27 : Memref sig .tc .vmem S2x512x512 .bf16}
    {o : Fin 3 → ℕ} {ho : ∀ a, o a + S1x512x512.size a ≤ S2x512x512.size a}
    {p : Fin 2 → ℕ} {hp : ∀ a, p a + S128x512.size a ≤ S512x512.size a}
    {w : Fin 3 → ℕ} {hw : ∀ a, w a + S1x128x512.size a ≤ S2x512x512.size a}
    {hx : (arg27.access (Rect.unit (s := S2x512x512) w S1x128x512.size hw)).Stores Finset.univ}
    {k : PUnit → Prog (TpuEff nD τ sig (Elt F) Λ₀ .tc) α} {X : FVec F S2x512x512 .f32} {S : FVec F S1x512x512 .f32} {Y : FVec F S2x512x512 .bf16} :
    owns c arg26 fullShare ((Rect.unit (s := S2x512x512) o S1x512x512.size ho).overlay X S)
      ⊢ iprop(owns c arg27 fullShare Y -∗ (owns c arg26 fullShare ((Rect.unit (s := S2x512x512) o S1x512x512.size ho).overlay X S)
            ∗ owns c arg27 fullShare ((Rect.unit (s := S2x512x512) w S1x128x512.size hw).overlay Y (k0_pay21 (rowsAt S p hp)))
          -∗ wp frame (wpE' defs 𝒱 c bd Γ) E (k ⟨⟩) Q)
        -∗ wp frame (wpE' defs 𝒱 c bd Γ) E (rowProg arg26 arg27 o ho p hp w hw hx >>= k) Q) := by
  iintro HX
  iintro HY
  iintro Hk
  unfold rowProg
  simp only [bind_assoc, pure_bind]
  iapply (load_squeezed 𝒱 c bd E) $$ HX; iintro HX
  iapply (load_squeezed 𝒱 c bd E) $$ HY; iintro HY
  iapply (store_owned 𝒱 c bd E) $$ HY; iintro HY
  have e : ldSq ((Rect.unit (s := S2x512x512) o S1x512x512.size ho).overlay X S) (Rect.unit (s := S2x512x512) o S1x512x512.size ho)
      squeezes_S1x512x512_S512x512 (Rect.unit (s := S512x512) p S128x512.size hp) = rowsAt S p hp := by
    funext x; exact Rect.overlay_emb _ _ _ _
  rw [e]
  iapply Hk
  isplitl [HX]
  · iexact HX
  iexact HY

/-- One head: its columns of the attention buffer get the head's output, whatever the score and probability buffers held. -/
theorem head_spec {arg25 : Memref sig .tc .vmem S512x1536 .bf16} {arg26 : Memref sig .tc .vmem S2x512x512 .f32}
    {arg27 : Memref sig .tc .vmem S2x512x512 .bf16} {arg28 : Memref sig .tc .vmem S512x512 .bf16}
    {cq : ℕ} {hq : ∀ a, (![0, cq] : Fin 2 → ℕ) a + S512x64.size a ≤ S512x1536.size a}
    {ck : ℕ} {hk : ∀ a, (![0, ck] : Fin 2 → ℕ) a + S512x64.size a ≤ S512x1536.size a}
    {cv : ℕ} {hv : ∀ a, (![0, cv] : Fin 2 → ℕ) a + S512x64.size a ≤ S512x1536.size a}
    {s : ℕ} {ho : ∀ a, (![s, 0, 0] : Fin 3 → ℕ) a + S1x512x512.size a ≤ S2x512x512.size a}
    {hw0 : ∀ a, (![s, 0, 0] : Fin 3 → ℕ) a + S1x128x512.size a ≤ S2x512x512.size a}
    {hw1 : ∀ a, (![s, 128, 0] : Fin 3 → ℕ) a + S1x128x512.size a ≤ S2x512x512.size a}
    {hw2 : ∀ a, (![s, 256, 0] : Fin 3 → ℕ) a + S1x128x512.size a ≤ S2x512x512.size a}
    {hw3 : ∀ a, (![s, 384, 0] : Fin 3 → ℕ) a + S1x128x512.size a ≤ S2x512x512.size a}
    {oo : Fin 2 → ℕ} {hoo : ∀ a, oo a + S512x64.size a ≤ S512x512.size a}
    {hx0 : (arg27.access (Rect.unit (s := S2x512x512) ![s, 0, 0] S1x128x512.size hw0)).Stores Finset.univ}
    {hx1 : (arg27.access (Rect.unit (s := S2x512x512) ![s, 128, 0] S1x128x512.size hw1)).Stores Finset.univ}
    {hx2 : (arg27.access (Rect.unit (s := S2x512x512) ![s, 256, 0] S1x128x512.size hw2)).Stores Finset.univ}
    {hx3 : (arg27.access (Rect.unit (s := S2x512x512) ![s, 384, 0] S1x128x512.size hw3)).Stores Finset.univ}
    {hxo : (arg28.access (Rect.unit (s := S512x512) oo S512x64.size hoo)).Stores Finset.univ}
    {k : PUnit → Prog (TpuEff nD τ sig (Elt F) Λ₀ .tc) α} {P : FVec F S512x1536 .bf16} {Z : FVec F S512x512 .bf16} :
    headSt c arg25 arg26 arg27 arg28 P Z
      ⊢ iprop((headSt c arg25 arg26 arg27 arg28 P ((Rect.unit (s := S512x512) oo S512x64.size hoo).overlay Z (headVal (colsN P cq) (colsN P ck) (colsN P cv)))
          -∗ wp frame (wpE' defs 𝒱 c bd Γ) E (k ⟨⟩) Q)
        -∗ wp frame (wpE' defs 𝒱 c bd Γ) E (headProg arg25 arg26 arg27 arg28 ![0, cq] hq ![0, ck] hk ![0, cv] hv ![s, 0, 0] ho ![s, 0, 0] hw0 ![s, 128, 0] hw1
          ![s, 256, 0] hw2 ![s, 384, 0] hw3 oo hoo hx0 hx1 hx2 hx3 hxo >>= k) Q) := by
  unfold headSt
  iintro ⟨HP, HX, HY, HZ⟩
  icases HX with ⟨%X, HX⟩
  icases HY with ⟨%Y, HY⟩
  iintro Hk
  unfold headProg
  simp only [bind_assoc, pure_bind]
  iapply (load_owned 𝒱 c bd E) $$ HP; iintro HP
  iapply (load_owned 𝒱 c bd E) $$ HP; iintro HP
  iapply (load_owned 𝒱 c bd E) $$ HX; iintro HX
  iapply (store_owned 𝒱 c bd E) $$ HX; iintro HX
  iapply (row_spec 𝒱 c bd E) $$ HX HY; iintro ⟨HX, HY⟩
  iapply (row_spec 𝒱 c bd E) $$ HX HY; iintro ⟨HX, HY⟩
  iapply (row_spec 𝒱 c bd E) $$ HX HY; iintro ⟨HX, HY⟩
  iapply (row_spec 𝒱 c bd E) $$ HX HY; iintro ⟨HX, HY⟩
  iapply (load_owned 𝒱 c bd E) $$ HP; iintro HP
  iapply (load_owned 𝒱 c bd E) $$ HY; iintro HY
  iapply (load_owned 𝒱 c bd E) $$ HZ; iintro HZ
  iapply (store_owned 𝒱 c bd E) $$ HZ; iintro HZ
  rw [probs_glue]
  simp only [← cols_eq P cq hq, ← cols_eq P ck hk, ← cols_eq P cv hv]
  iapply Hk
  isplitl [HP]
  · iexact HP
  isplitl [HX]
  · iexists _; iexact HX
  isplitl [HY]
  · iexists _; iexact HY
  iexact HZ

end

end Cert.KernelIdeal.Own
-- ==== Proof.TripSpec.lean ====
module

public import proofs.«01_k».proof.Proof.Spec

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What one grid point reads of its layer: the four weights (as matrices) and the biases and scales (as staged). -/
structure LayerW (F : FTy → Type) where
  wqkv : FVec F S1536x512 .bf16
  wo : FVec F S512x512 .bf16
  w1 : FVec F S2048x512 .bf16
  w2 : FVec F S512x2048 .bf16
  b7 : FVec F S1x1x1536 .f32
  b9 : FVec F S1x1x512 .f32
  b10 : FVec F S1x1x512 .f32
  b11 : FVec F S1x1x512 .f32
  b13 : FVec F S1x1x2048 .f32
  b15 : FVec F S1x1x512 .f32
  b16 : FVec F S1x1x512 .f32
  b17 : FVec F S1x1x512 .f32

/-- The projections of one sequence's rows, part by part. -/
def qkvParts (W : LayerW F) (x : FVec F S512x512 .f32) : ℕ → FVec F S512x512 .bf16
  | 0 => k0_pay16 W.wqkv x (View.ld W.b7 (Rect.unit (s := S1x1x1536) ![0, 0, 0] S1x1x512.size inb_S1x1x1536_S1x1x512_0_0_0))
  | 1 => k0_pay17 W.wqkv x (View.ld W.b7 (Rect.unit (s := S1x1x1536) ![0, 0, 512] S1x1x512.size inb_S1x1x1536_S1x1x512_0_0_512))
  | _ => k0_pay19 (k0_pay18 W.wqkv x (View.ld W.b7 (Rect.unit (s := S1x1x1536) ![0, 0, 1024] S1x1x512.size inb_S1x1x1536_S1x1x512_0_0_1024)))

/-- The projections of one sequence's rows. -/
def qkvVal (W : LayerW F) (x : FVec F S512x512 .f32) : FVec F S512x1536 .bf16 := fun i =>
  qkvParts W x ((i 1).val / 512) (ix2 (n0 := 512) (n1 := 512) (i 0) ⟨(i 1).val % 512, by omega⟩)

/-- Head `h` from the projections. -/
def headOf (P : FVec F S512x1536 .bf16) (h : ℕ) : FVec F S512x64 .bf16 :=
  headVal (colsN P (64 * h)) (colsN P (512 + 64 * h)) (colsN P (1024 + 64 * h))

/-- All eight heads side by side. -/
def attnVal (P : FVec F S512x1536 .bf16) : FVec F S512x512 .bf16 := fun i =>
  headOf P ((i 1).val / 64) (ix2 (n0 := 512) (n1 := 64) (i 0) ⟨(i 1).val % 64, by omega⟩)

/-- The chunks of the feed-forward part. -/
def ffParts (W : LayerW F) (y : FVec F S512x512 .bf16) : ℕ → FVec F S512x512 .bf16
  | 0 => ffChunk (extractStridedSlice S512x512 ![0, 0] W.w1 slices_S2048x512_o0_0_S512x512) y
      (View.ld W.b13 (Rect.unit (s := S1x1x2048) ![0, 0, 0] S1x1x512.size inb_S1x1x2048_S1x1x512_0_0_0))
  | 1 => ffChunk (extractStridedSlice S512x512 ![512, 0] W.w1 slices_S2048x512_o512_0_S512x512) y
      (View.ld W.b13 (Rect.unit (s := S1x1x2048) ![0, 0, 512] S1x1x512.size inb_S1x1x2048_S1x1x512_0_0_512))
  | 2 => ffChunk (extractStridedSlice S512x512 ![1024, 0] W.w1 slices_S2048x512_o1024_0_S512x512) y
      (View.ld W.b13 (Rect.unit (s := S1x1x2048) ![0, 0, 1024] S1x1x512.size inb_S1x1x2048_S1x1x512_0_0_1024))
  | _ => ffChunk (extractStridedSlice S512x512 ![1536, 0] W.w1 slices_S2048x512_o1536_0_S512x512) y
      (View.ld W.b13 (Rect.unit (s := S1x1x2048) ![0, 0, 1536] S1x1x512.size inb_S1x1x2048_S1x1x512_0_0_1536))

/-- The activated feed-forward values. -/
def ffVal (W : LayerW F) (y : FVec F S512x512 .bf16) : FVec F S512x2048 .bf16 := fun i =>
  ffParts W y ((i 1).val / 512) (ix2 (n0 := 512) (n1 := 512) (i 0) ⟨(i 1).val % 512, by omega⟩)

/-- The first half of a layer: attention, its output product, the residual and the first normalisation. -/
def midVal (W : LayerW F) (x : FVec F S512x512 .f32) : FVec F S512x512 .f32 :=
  k0_pay84 W.wo x (attnVal (qkvVal W x)) W.b9 W.b10 W.b11

/-- One layer on one sequence's rows. -/
def layerVal (W : LayerW F) (x : FVec F S512x512 .f32) : FVec F S512x512 .f32 :=
  k0_pay97 (k0_pay95 W.w2 (midVal W x) (ffVal W (k0_pay85 W.wo x (attnVal (qkvVal W x)) W.b9 W.b10 W.b11)) W.b15) (k0_pay96 W.b16) W.b17

section
variable {Ix : Type} [DecidableEq Ix] {Name : Type} [DecidableEq Name] {U : Type} [URA U] {Lvl : Type} [Preorder Lvl]
variable {defs : Defs nD τ sig (Elt F) Λ₀} (𝒱 : Variants) (c : Dev nD) (bd : Option 𝒱.V) (E : Set Name)
variable {Γ : PendingWaitsCtx sig Ix} {α : Type} {Q : α → sProp (MT nD τ sig Ix (Elt F) Name U Lvl)}

/-- The projections: the buffer holds the projected rows, whatever was there before. -/
theorem qkv_spec {arg7 : Memref sig .tc .vmem S1x1x1536 .f32} {arg25 : Memref sig .tc .vmem S512x1536 .bf16} {harg25 : arg25.IsWhole}
    {k : PUnit → Prog (TpuEff nD τ sig (Elt F) Λ₀ .tc) α} (W : LayerW F) {x : FVec F S512x512 .f32} {X : FVec F S512x1536 .bf16} :
    owns c arg7 fullShare W.b7
      ⊢ iprop(owns c arg25 fullShare X -∗ (owns c arg7 fullShare W.b7 ∗ owns c arg25 fullShare (qkvVal W x) -∗ wp frame (wpE' defs 𝒱 c bd Γ) E (k ⟨⟩) Q)
        -∗ wp frame (wpE' defs 𝒱 c bd Γ) E (qkvProg arg7 arg25 harg25 W.wqkv x >>= k) Q) := by
  iintro HB
  iintro HX
  iintro Hk
  unfold qkvProg
  simp only [bind_assoc, pure_bind]
  iapply (load_owned 𝒱 c bd E) $$ HB; iintro HB
  iapply (load_owned 𝒱 c bd E) $$ HX; iintro HX
  iapply (store_owned 𝒱 c bd E) $$ HX; iintro HX
  iapply (load_owned 𝒱 c bd E) $$ HB; iintro HB
  iapply (load_owned 𝒱 c bd E) $$ HX; iintro HX
  iapply (store_owned 𝒱 c bd E) $$ HX; iintro HX
  iapply (load_owned 𝒱 c bd E) $$ HB; iintro HB
  iapply (load_owned 𝒱 c bd E) $$ HX; iintro HX
  iapply (store_owned 𝒱 c bd E) $$ HX; iintro HX
  have e : qkvVal W x = glue (R := 512) (C := 1536) 512 X (qkvParts W x) 3 (by decide) :=
    funext fun i => (glue_eq 512 (by decide) X (qkvParts W x) 3 (by decide) i (i 1).isLt).symm
  rw [e]
  iapply Hk
  isplitl [HB]
  · iexact HB
  iexact HX

/-- One chunk of the feed-forward part. -/
theorem ff_spec {arg13 : Memref sig .tc .vmem S1x1x2048 .f32} {arg29 : Memref sig .tc .vmem S512x2048 .bf16}
    {w : FVec F S512x512 .bf16} {y : FVec F S512x512 .bf16}
    {ob : Fin 3 → ℕ} {hb : ∀ a, ob a + S1x1x512.size a ≤ S1x1x2048.size a}
    {oc : Fin 2 → ℕ} {hc : ∀ a, oc a + S512x512.size a ≤ S512x2048.size a}
    {hx : (arg29.access (Rect.unit (s := S512x2048) oc S512x512.size hc)).Stores Finset.univ}
    {k : PUnit → Prog (TpuEff nD τ sig (Elt F) Λ₀ .tc) α} {B : FVec F S1x1x2048 .f32} {X : FVec F S512x2048 .bf16} :
    owns c arg13 fullShare B
      ⊢ iprop(owns c arg29 fullShare X -∗ (owns c arg13 fullShare B ∗ owns c arg29 fullShare ((Rect.unit (s := S512x2048) oc S512x512.size hc).overlay X
            (ffChunk w y (View.ld B (Rect.unit (s := S1x1x2048) ob S1x1x512.size hb)))) -∗ wp frame (wpE' defs 𝒱 c bd Γ) E (k ⟨⟩) Q)
        -∗ wp frame (wpE' defs 𝒱 c bd Γ) E (ffProg arg13 arg29 w y ob hb oc hc hx >>= k) Q) := by
  iintro HB
  iintro HX
  iintro Hk
  unfold ffProg
  simp only [bind_assoc, pure_bind]
  iapply (load_owned 𝒱 c bd E) $$ HB; iintro HB
  iapply (load_owned 𝒱 c bd E) $$ HX; iintro HX
  iapply (store_owned 𝒱 c bd E) $$ HX; iintro HX
  iapply Hk
  isplitl [HB]
  · iexact HB
  iexact HX

/-- What one trip holds: the layer's biases and scales, the rows of all sequences, and scratch at anything. -/
def tripSt (arg7 : Memref sig .tc .vmem S1x1x1536 .f32) (arg9 : Memref sig .tc .vmem S1x1x512 .f32) (arg10 : Memref sig .tc .vmem S1x1x512 .f32) (arg11 : Memref sig .tc .vmem S1x1x512 .f32) (arg13 : Memref sig .tc .vmem S1x1x2048 .f32) (arg15 : Memref sig .tc .vmem S1x1x512 .f32) (arg16 : Memref sig .tc .vmem S1x1x512 .f32) (arg17 : Memref sig .tc .vmem S1x1x512 .f32) (arg24 : Memref sig .tc .vmem S4096x512 .f32) (arg25 : Memref sig .tc .vmem S512x1536 .bf16) (arg26 : Memref sig .tc .vmem S2x512x512 .f32) (arg27 : Memref sig .tc .vmem S2x512x512 .bf16) (arg28 : Memref sig .tc .vmem S512x512 .bf16) (arg29 : Memref sig .tc .vmem S512x2048 .bf16) (W : LayerW F) (H : FVec F S4096x512 .f32) : sProp (MT nD τ sig Ix (Elt F) Name U Lvl) :=
  iprop(owns c arg7 fullShare W.b7 ∗ owns c arg9 fullShare W.b9 ∗ owns c arg10 fullShare W.b10 ∗ owns c arg11 fullShare W.b11 ∗ owns c arg13 fullShare W.b13 ∗ owns c arg15 fullShare W.b15 ∗ owns c arg16 fullShare W.b16 ∗ owns c arg17 fullShare W.b17 ∗ owns c arg24 fullShare H
    ∗ (∃ X, owns c arg25 fullShare X) ∗ (∃ X, owns c arg26 fullShare X) ∗ (∃ X, owns c arg27 fullShare X) ∗ (∃ X, owns c arg28 fullShare X) ∗ (∃ X, owns c arg29 fullShare X))

/-- The rows trip `t` works on. -/
def rowsT (H : FVec F S4096x512 .f32) (t : Fin k0_t1_loop.trips) : FVec F S512x512 .f32 :=
  fun x => H ((Rect.unit (s := S4096x512) (k0_off2 t) S512x512.size (k0_off2_inb t)).toLoadRect.idx x)

set_option maxHeartbeats 1600000 in
/-- One trip: its sequence's rows are replaced by the layer applied to them. -/
theorem trip_spec {i : grid0.Coords} {arg2 : Memref sig .tc .hbm S16x512x1x512 .f32} {harg2 : arg2.IsWhole} {arg3 : Memref sig .tc .vmem S512x512 .f32} {harg3 : arg3.IsWhole} {arg4 : Memref sig .tc .vmem S8x512 .i32} {harg4 : arg4.IsWhole} {arg5 : Memref sig .tc .vmem S8x1x64 .f32} {harg5 : arg5.IsWhole} {arg6 : Memref sig .tc .vmem S1x1536x512 .bf16} {harg6 : arg6.IsWhole} {arg7 : Memref sig .tc .vmem S1x1x1536 .f32} {harg7 : arg7.IsWhole} {arg8 : Memref sig .tc .vmem S1x512x512 .bf16} {harg8 : arg8.IsWhole} {arg9 : Memref sig .tc .vmem S1x1x512 .f32} {harg9 : arg9.IsWhole} {arg10 : Memref sig .tc .vmem S1x1x512 .f32} {harg10 : arg10.IsWhole} {arg11 : Memref sig .tc .vmem S1x1x512 .f32} {harg11 : arg11.IsWhole} {arg12 : Memref sig .tc .vmem S1x2048x512 .bf16} {harg12 : arg12.IsWhole} {arg13 : Memref sig .tc .vmem S1x1x2048 .f32} {harg13 : arg13.IsWhole} {arg14 : Memref sig .tc .vmem S1x512x2048 .bf16} {harg14 : arg14.IsWhole} {arg15 : Memref sig .tc .vmem S1x1x512 .f32} {harg15 : arg15.IsWhole} {arg16 : Memref sig .tc .vmem S1x1x512 .f32} {harg16 : arg16.IsWhole} {arg17 : Memref sig .tc .vmem S1x1x512 .f32} {harg17 : arg17.IsWhole} {arg18 : Memref sig .tc .vmem S1x64 .f32} {harg18 : arg18.IsWhole} {arg19 : Memref sig .tc .vmem S1x64 .f32} {harg19 : arg19.IsWhole} {arg20 : Memref sig .tc .vmem S1x64 .f32} {harg20 : arg20.IsWhole} {arg21 : Memref sig .tc .vmem S576x10 .f32} {harg21 : arg21.IsWhole} {arg22 : Memref sig .tc .vmem S1x10 .f32} {harg22 : arg22.IsWhole} {arg23 : Memref sig .tc .vmem S8x10 .f32} {harg23 : arg23.IsWhole} {arg24 : Memref sig .tc .vmem S4096x512 .f32} {harg24 : arg24.IsWhole} {arg25 : Memref sig .tc .vmem S512x1536 .bf16} {harg25 : arg25.IsWhole} {arg26 : Memref sig .tc .vmem S2x512x512 .f32} {harg26 : arg26.IsWhole} {arg27 : Memref sig .tc .vmem S2x512x512 .bf16} {harg27 : arg27.IsWhole} {arg28 : Memref sig .tc .vmem S512x512 .bf16} {harg28 : arg28.IsWhole} {arg29 : Memref sig .tc .vmem S512x2048 .bf16} {harg29 : arg29.IsWhole} {arg30 : DmaSems sig S_} {t : Fin k0_t1_loop.trips}
    {k : PUnit → Prog (TpuEff nD τ sig (Elt F) Λ₀ .tc) α} {W : LayerW F} {H : FVec F S4096x512 .f32} :
    tripSt c arg7 arg9 arg10 arg11 arg13 arg15 arg16 arg17 arg24 arg25 arg26 arg27 arg28 arg29 W H
      ⊢ iprop((tripSt c arg7 arg9 arg10 arg11 arg13 arg15 arg16 arg17 arg24 arg25 arg26 arg27 arg28 arg29 W ((Rect.unit (s := S4096x512) (k0_off2 t) S512x512.size (k0_off2_inb t)).overlay H (layerVal W (rowsT H t)))
          -∗ wp frame (wpE' defs 𝒱 c bd Γ) E (k ⟨⟩) Q)
        -∗ wp frame (wpE' defs 𝒱 c bd Γ) E (tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 W.wqkv W.wo W.w1 W.w2 t >>= k) Q) := by
  unfold tripSt
  iintro ⟨H7, H9, H10, H11, H13, H15, H16, H17, H24, H25, H26, H27, H28, H29⟩
  icases H25 with ⟨%X25, H25⟩
  icases H28 with ⟨%X28, H28⟩
  icases H29 with ⟨%X29, H29⟩
  iintro Hk
  unfold tripProg
  simp only [bind_assoc, pure_bind]
  iapply (load_as 𝒱 c bd E (rowsT H t) rfl) $$ H24; iintro H24
  iapply (qkv_spec 𝒱 c bd E W) $$ H7 H25; iintro ⟨H7, H25⟩
  ihave HS := (show iprop(owns c arg25 fullShare (qkvVal W (rowsT H t)) ∗ (∃ X, owns c arg26 fullShare X) ∗ (∃ Y, owns c arg27 fullShare Y) ∗ owns c arg28 fullShare X28)
      ⊢ headSt c arg25 arg26 arg27 arg28 (qkvVal W (rowsT H t)) X28 from .rfl) $$ [H25 H26 H27 H28]
  · isplitl [H25]
    · iexact H25
    isplitl [H26]
    · iexact H26
    isplitl [H27]
    · iexact H27
    iexact H28
  iapply (head_spec 𝒱 c bd E) $$ HS; iintro HS
  iapply (head_spec 𝒱 c bd E) $$ HS; iintro HS
  iapply (head_spec 𝒱 c bd E) $$ HS; iintro HS
  iapply (head_spec 𝒱 c bd E) $$ HS; iintro HS
  iapply (head_spec 𝒱 c bd E) $$ HS; iintro HS
  iapply (head_spec 𝒱 c bd E) $$ HS; iintro HS
  iapply (head_spec 𝒱 c bd E) $$ HS; iintro HS
  iapply (head_spec 𝒱 c bd E) $$ HS; iintro HS
  have h8 : 64 * 8 ≤ 512 := by decide
  have ea : attnVal (qkvVal W (rowsT H t)) = glue (R := 512) (C := 512) 64 X28 (headOf (qkvVal W (rowsT H t))) 8 h8 :=
    funext fun i => (glue_eq 64 (by decide) X28 (headOf (qkvVal W (rowsT H t))) 8 (by decide) i (i 1).isLt).symm
  unfold headSt
  icases HS with ⟨H25, H26, H27, H28⟩
  ihave H28 := (show owns c arg28 fullShare (glue (R := 512) (C := 512) 64 X28 (headOf (qkvVal W (rowsT H t))) 8 h8)
      ⊢ owns (Ix := Ix) (Name := Name) (U := U) (Lvl := Lvl) c arg28 fullShare (attnVal (qkvVal W (rowsT H t))) from by rw [ea]) $$ [H28]
  · iexact H28
  unfold tailProg
  simp only [bind_assoc, pure_bind]
  iapply (load_whole 𝒱 c bd E) $$ H28; iintro H28
  iapply (load_whole 𝒱 c bd E) $$ H9; iintro H9
  iapply (load_whole 𝒱 c bd E) $$ H10; iintro H10
  iapply (load_whole 𝒱 c bd E) $$ H11; iintro H11
  iapply (ff_spec 𝒱 c bd E) $$ H13 H29; iintro ⟨H13, H29⟩
  iapply (ff_spec 𝒱 c bd E) $$ H13 H29; iintro ⟨H13, H29⟩
  iapply (ff_spec 𝒱 c bd E) $$ H13 H29; iintro ⟨H13, H29⟩
  iapply (ff_spec 𝒱 c bd E) $$ H13 H29; iintro ⟨H13, H29⟩
  have h4 : 512 * 4 ≤ 2048 := by decide
  have ef : ffVal W (k0_pay85 W.wo (rowsT H t) (attnVal (qkvVal W (rowsT H t))) W.b9 W.b10 W.b11)
      = glue (R := 512) (C := 2048) 512 X29 (ffParts W (k0_pay85 W.wo (rowsT H t) (attnVal (qkvVal W (rowsT H t))) W.b9 W.b10 W.b11)) 4 h4 :=
    funext fun i => (glue_eq 512 (by decide) X29 _ 4 (by decide) i (i 1).isLt).symm
  ihave H29 := (show owns c arg29 fullShare (glue (R := 512) (C := 2048) 512 X29 (ffParts W (k0_pay85 W.wo (rowsT H t) (attnVal (qkvVal W (rowsT H t))) W.b9 W.b10 W.b11)) 4 h4)
      ⊢ owns (Ix := Ix) (Name := Name) (U := U) (Lvl := Lvl) c arg29 fullShare
          (ffVal W (k0_pay85 W.wo (rowsT H t) (attnVal (qkvVal W (rowsT H t))) W.b9 W.b10 W.b11)) from by rw [ef]) $$ [H29]
  · iexact H29
  iapply (load_whole 𝒱 c bd E) $$ H29; iintro H29
  iapply (load_whole 𝒱 c bd E) $$ H15; iintro H15
  iapply (load_whole 𝒱 c bd E) $$ H16; iintro H16
  iapply (load_whole 𝒱 c bd E) $$ H17; iintro H17
  iapply (load_owned 𝒱 c bd E) $$ H24; iintro H24
  iapply (store_owned 𝒱 c bd E) $$ H24; iintro H24
  iapply Hk
  isplitl [H7]
  · iexact H7
  isplitl [H9]
  · iexact H9
  isplitl [H10]
  · iexact H10
  isplitl [H11]
  · iexact H11
  isplitl [H13]
  · iexact H13
  isplitl [H15]
  · iexact H15
  isplitl [H16]
  · iexact H16
  isplitl [H17]
  · iexact H17
  isplitl [H24]
  · iexact H24
  isplitl [H25]
  · iexists _; iexact H25
  isplitl [H26]
  · iexact H26
  isplitl [H27]
  · iexact H27
  isplitl [H28]
  · iexists _; iexact H28
  iexists _; iexact H29

end

end Cert.KernelIdeal.Own
-- ==== Proof.Dma.lean ====
module

public import proofs.«01_k».proof.Proof.TripSpec
public import Idealize.ShloMosaic.Lib.Batch
public import Idealize.ShloMosaic.Lib.Pipeline.Kit
public import Idealize.ShloMosaic.Lib.Pipeline.FrameBody

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The row block of sequence `t`. -/
def rowsR (t : Fin 8) : Rect S4096x512 :=
  Rect.unit (s := S4096x512) ![512 * t.val, 0] S512x512.size fun a => match a with
    | ⟨0, _⟩ => (by show 512 * t.val + 512 ≤ 4096; omega)
    | ⟨1, _⟩ => (by show 0 + 512 ≤ 512; omega)

/-- The row ranges of two sequences do not meet. -/
theorem rowsR_disjoint (t t' : Fin 8) (h : t ≠ t') : Disjoint (rowsR t).set (rowsR t').set := by
  rw [Finset.disjoint_left]
  intro i hi hi'
  have a := Rect.mem_set_unit.mp hi 0
  have b := Rect.mem_set_unit.mp hi' 0
  change 512 * t.val ≤ (i 0).val ∧ (i 0).val < 512 * t.val + 512 at a
  change 512 * t'.val ≤ (i 0).val ∧ (i 0).val < 512 * t'.val + 512 at b
  exact h (Fin.ext (by omega))

/-- The row ranges make up the buffer. -/
theorem rowsR_cover : (Finset.univ : Finset (Fin 8)).biUnion (fun t => (rowsR t).set) = Finset.univ := by
  refine Finset.eq_univ_of_forall fun i => Finset.mem_biUnion.mpr ?_
  have h0 : (i 0).val < 4096 := (i 0).isLt
  have h1 : (i 1).val < 512 := (i 1).isLt
  refine ⟨⟨(i 0).val / 512, by omega⟩, Finset.mem_univ _, Rect.mem_set_unit.mpr fun a => ?_⟩
  match a with
  | ⟨0, _⟩ => (show 512 * ((i 0).val / 512) ≤ (i 0).val ∧ (i 0).val < 512 * ((i 0).val / 512) + 512); omega
  | ⟨1, _⟩ => (show 0 ≤ (i 1).val ∧ (i 1).val < 0 + 512); omega

/-- A family over eight indices, written out. -/
theorem big8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl

/-- The eight transfers of the embedded rows into the row buffer, all on one semaphore, and the eight waits for them. -/
def initDma (src : Memref sig .tc .hbm S16x512x1x512 .f32) (dst : Memref sig .tc .vmem S4096x512 .f32) (sem : DmaSem sig)
    (off : Fin 8 → Fin 4 → ℕ) (inb : ∀ t a, off t a + S1x512x1x512.size a ≤ S16x512x1x512.size a) :
    Prog (TpuEff nD τ sig (Elt F) Λ₀ .tc) PUnit := do
  Prog.lift (.enqueueDma ((src.slice (Rect.unit (s := S16x512x1x512) (off 0) S1x512x1x512.size (inb 0)) (fun _ => rfl)).squeeze S512x512 squeezes_S1x512x1x512_S512x512) (.here (dst.slice (Rect.unit (s := S4096x512) ![0, 0] S512x512.size inb_S4096x512_S512x512_0_0) (fun _ => rfl))) (.dma sem) ((View.wordExact_bits rfl).reshape _ _) (View.wordExact_bits rfl) ⟨Or.inl rfl, trivial⟩)
  Prog.lift (.enqueueDma ((src.slice (Rect.unit (s := S16x512x1x512) (off 1) S1x512x1x512.size (inb 1)) (fun _ => rfl)).squeeze S512x512 squeezes_S1x512x1x512_S512x512) (.here (dst.slice (Rect.unit (s := S4096x512) ![512, 0] S512x512.size inb_S4096x512_S512x512_512_0) (fun _ => rfl))) (.dma sem) ((View.wordExact_bits rfl).reshape _ _) (View.wordExact_bits rfl) ⟨Or.inl rfl, trivial⟩)
  Prog.lift (.enqueueDma ((src.slice (Rect.unit (s := S16x512x1x512) (off 2) S1x512x1x512.size (inb 2)) (fun _ => rfl)).squeeze S512x512 squeezes_S1x512x1x512_S512x512) (.here (dst.slice (Rect.unit (s := S4096x512) ![1024, 0] S512x512.size inb_S4096x512_S512x512_1024_0) (fun _ => rfl))) (.dma sem) ((View.wordExact_bits rfl).reshape _ _) (View.wordExact_bits rfl) ⟨Or.inl rfl, trivial⟩)
  Prog.lift (.enqueueDma ((src.slice (Rect.unit (s := S16x512x1x512) (off 3) S1x512x1x512.size (inb 3)) (fun _ => rfl)).squeeze S512x512 squeezes_S1x512x1x512_S512x512) (.here (dst.slice (Rect.unit (s := S4096x512) ![1536, 0] S512x512.size inb_S4096x512_S512x512_1536_0) (fun _ => rfl))) (.dma sem) ((View.wordExact_bits rfl).reshape _ _) (View.wordExact_bits rfl) ⟨Or.inl rfl, trivial⟩)
  Prog.lift (.enqueueDma ((src.slice (Rect.unit (s := S16x512x1x512) (off 4) S1x512x1x512.size (inb 4)) (fun _ => rfl)).squeeze S512x512 squeezes_S1x512x1x512_S512x512) (.here (dst.slice (Rect.unit (s := S4096x512) ![2048, 0] S512x512.size inb_S4096x512_S512x512_2048_0) (fun _ => rfl))) (.dma sem) ((View.wordExact_bits rfl).reshape _ _) (View.wordExact_bits rfl) ⟨Or.inl rfl, trivial⟩)
  Prog.lift (.enqueueDma ((src.slice (Rect.unit (s := S16x512x1x512) (off 5) S1x512x1x512.size (inb 5)) (fun _ => rfl)).squeeze S512x512 squeezes_S1x512x1x512_S512x512) (.here (dst.slice (Rect.unit (s := S4096x512) ![2560, 0] S512x512.size inb_S4096x512_S512x512_2560_0) (fun _ => rfl))) (.dma sem) ((View.wordExact_bits rfl).reshape _ _) (View.wordExact_bits rfl) ⟨Or.inl rfl, trivial⟩)
  Prog.lift (.enqueueDma ((src.slice (Rect.unit (s := S16x512x1x512) (off 6) S1x512x1x512.size (inb 6)) (fun _ => rfl)).squeeze S512x512 squeezes_S1x512x1x512_S512x512) (.here (dst.slice (Rect.unit (s := S4096x512) ![3072, 0] S512x512.size inb_S4096x512_S512x512_3072_0) (fun _ => rfl))) (.dma sem) ((View.wordExact_bits rfl).reshape _ _) (View.wordExact_bits rfl) ⟨Or.inl rfl, trivial⟩)
  Prog.lift (.enqueueDma ((src.slice (Rect.unit (s := S16x512x1x512) (off 7) S1x512x1x512.size (inb 7)) (fun _ => rfl)).squeeze S512x512 squeezes_S1x512x1x512_S512x512) (.here (dst.slice (Rect.unit (s := S4096x512) ![3584, 0] S512x512.size inb_S4096x512_S512x512_3584_0) (fun _ => rfl))) (.dma sem) ((View.wordExact_bits rfl).reshape _ _) (View.wordExact_bits rfl) ⟨Or.inl rfl, trivial⟩)
  Prog.lift (.waitDma2 sem ((src.slice (Rect.unit (s := S16x512x1x512) (off 0) S1x512x1x512.size (inb 0)) (fun _ => rfl)).squeeze S512x512 squeezes_S1x512x1x512_S512x512) (dst.slice (Rect.unit (s := S4096x512) ![0, 0] S512x512.size inb_S4096x512_S512x512_0_0) (fun _ => rfl)) ((View.wordExact_bits rfl).reshape _ _) (View.wordExact_bits rfl))
  Prog.lift (.waitDma2 sem ((src.slice (Rect.unit (s := S16x512x1x512) (off 1) S1x512x1x512.size (inb 1)) (fun _ => rfl)).squeeze S512x512 squeezes_S1x512x1x512_S512x512) (dst.slice (Rect.unit (s := S4096x512) ![512, 0] S512x512.size inb_S4096x512_S512x512_512_0) (fun _ => rfl)) ((View.wordExact_bits rfl).reshape _ _) (View.wordExact_bits rfl))
  Prog.lift (.waitDma2 sem ((src.slice (Rect.unit (s := S16x512x1x512) (off 2) S1x512x1x512.size (inb 2)) (fun _ => rfl)).squeeze S512x512 squeezes_S1x512x1x512_S512x512) (dst.slice (Rect.unit (s := S4096x512) ![1024, 0] S512x512.size inb_S4096x512_S512x512_1024_0) (fun _ => rfl)) ((View.wordExact_bits rfl).reshape _ _) (View.wordExact_bits rfl))
  Prog.lift (.waitDma2 sem ((src.slice (Rect.unit (s := S16x512x1x512) (off 3) S1x512x1x512.size (inb 3)) (fun _ => rfl)).squeeze S512x512 squeezes_S1x512x1x512_S512x512) (dst.slice (Rect.unit (s := S4096x512) ![1536, 0] S512x512.size inb_S4096x512_S512x512_1536_0) (fun _ => rfl)) ((View.wordExact_bits rfl).reshape _ _) (View.wordExact_bits rfl))
  Prog.lift (.waitDma2 sem ((src.slice (Rect.unit (s := S16x512x1x512) (off 4) S1x512x1x512.size (inb 4)) (fun _ => rfl)).squeeze S512x512 squeezes_S1x512x1x512_S512x512) (dst.slice (Rect.unit (s := S4096x512) ![2048, 0] S512x512.size inb_S4096x512_S512x512_2048_0) (fun _ => rfl)) ((View.wordExact_bits rfl).reshape _ _) (View.wordExact_bits rfl))
  Prog.lift (.waitDma2 sem ((src.slice (Rect.unit (s := S16x512x1x512) (off 5) S1x512x1x512.size (inb 5)) (fun _ => rfl)).squeeze S512x512 squeezes_S1x512x1x512_S512x512) (dst.slice (Rect.unit (s := S4096x512) ![2560, 0] S512x512.size inb_S4096x512_S512x512_2560_0) (fun _ => rfl)) ((View.wordExact_bits rfl).reshape _ _) (View.wordExact_bits rfl))
  Prog.lift (.waitDma2 sem ((src.slice (Rect.unit (s := S16x512x1x512) (off 6) S1x512x1x512.size (inb 6)) (fun _ => rfl)).squeeze S512x512 squeezes_S1x512x1x512_S512x512) (dst.slice (Rect.unit (s := S4096x512) ![3072, 0] S512x512.size inb_S4096x512_S512x512_3072_0) (fun _ => rfl)) ((View.wordExact_bits rfl).reshape _ _) (View.wordExact_bits rfl))
  Prog.lift (.waitDma2 sem ((src.slice (Rect.unit (s := S16x512x1x512) (off 7) S1x512x1x512.size (inb 7)) (fun _ => rfl)).squeeze S512x512 squeezes_S1x512x1x512_S512x512) (dst.slice (Rect.unit (s := S4096x512) ![3584, 0] S512x512.size inb_S4096x512_S512x512_3584_0) (fun _ => rfl)) ((View.wordExact_bits rfl).reshape _ _) (View.wordExact_bits rfl))

/-- What transfer `t` reads of the embedded rows `Y`. -/
def embRows (off : Fin 8 → Fin 4 → ℕ) (inb : ∀ t a, off t a + S1x512x1x512.size a ≤ S16x512x1x512.size a)
    (Y : FVec F S16x512x1x512 .f32) (t : Fin 8) : FVec F S512x512 .f32 := fun x =>
  Y ((Rect.unit (s := S16x512x1x512) (off t) S1x512x1x512.size (inb t)).emb
    (Shape.reshapeEquiv squeezes_S1x512x1x512_S512x512.numel_eq x))

/-- Eight blocks of rows as one array. -/
def stack8 (G : Fin 8 → FVec F S512x512 .f32) : FVec F S4096x512 .f32 := fun i =>
  G ⟨(i 0).val / 512, by have := (i 0).isLt; change (i 0).val < 4096 at this; omega⟩ (ix2 (n0 := 512) (n1 := 512) ⟨(i 0).val % 512, by omega⟩ (i 1))

/-- A sequence read back from the stacked rows. -/
theorem stack8_emb (G : Fin 8 → FVec F S512x512 .f32) (t : Fin 8) : (fun j => stack8 G ((rowsR t).emb j)) = G t := by
  funext j
  have hj : (j 0).val < 512 := (j 0).isLt
  have e0 : ((rowsR t).emb j 0).val = 512 * t.val + (j 0).val := by
    rw [Rect.emb_apply]; show 512 * t.val + 1 * (j 0).val = _; omega
  have e1 : ((rowsR t).emb j 1).val = (j 1).val := by
    rw [Rect.emb_apply]; show 0 + 1 * (j 1).val = _; omega
  have ht : (⟨((rowsR t).emb j 0).val / 512, by have := ((rowsR t).emb j 0).isLt; change _ < 4096 at this; omega⟩ : Fin 8) = t :=
    Fin.ext (by show ((rowsR t).emb j 0).val / 512 = t.val; omega)
  show G _ _ = G t j
  rw [ht]
  congr 1
  funext a
  match a with
  | ⟨0, _⟩ => exact Fin.ext (by show ((rowsR t).emb j 0).val % 512 = (j 0).val; omega)
  | ⟨1, _⟩ => exact Fin.ext e1

section
variable {defs : Defs nD τ sig (Elt F) Λ₀} (𝒱 : Variants) (c : Dev nD) (bd : Option 𝒱.V)
variable {α : Type}

local notation "EC" => (countersEmb (nD := nD) (τ := τ) (sig := sig) (Ix := Unit) (Val := Elt F) (Name := ℕ) (U := Pipeline.UD sig nD τ) (Lvl := ℕ))

set_option maxHeartbeats 1600000 in
/-- The transfers: the row buffer holds the eight blocks of embedded rows, and everything else is as before. -/
theorem initDma_spec {src : Memref sig .tc .hbm S16x512x1x512 .f32} {dst : Memref sig .tc .vmem S4096x512 .f32} {sem : DmaSem sig}
    {off : Fin 8 → Fin 4 → ℕ} {inb : ∀ t a, off t a + S1x512x1x512.size a ≤ S16x512x1x512.size a}
    {Q : α → sProp 𝕄} {k : PUnit → Prog (TpuEff nD τ sig (Elt F) Λ₀ .tc) α} {Y : FVec F S16x512x1x512 .f32} {X : FVec F S4096x512 .f32} {W : Waits sig Unit} :
    (iprop(owns (c : Thread nD τ) src fullShare Y ∗ owns (c : Thread nD τ) dst fullShare X ∗ semVal ((c : Thread nD τ), SemLoc.dma sem) 0 ∗ owes (c : Thread nD τ) 0 W) : sProp 𝕄)
      ⊢ iprop(((owns (c : Thread nD τ) src fullShare Y ∗ owns (c : Thread nD τ) dst fullShare (stack8 (embRows off inb Y))
            ∗ semVal ((c : Thread nD τ), SemLoc.dma sem) 0 ∗ (∃ W' : Waits sig Unit, owes (c : Thread nD τ) 0 W'))
          -∗ wp frame (wpE defs 𝒱 c bd) Set.univ (k ⟨⟩) Q)
        -∗ wp frame (wpE defs 𝒱 c bd) Set.univ (initDma src dst sem off inb >>= k) Q) := by
  iintro ⟨HS, HD, Hq, HW⟩
  ihave HS' := (show owns (c : Thread nD τ) src fullShare Y ⊢ iprop(∃ g, ⌜src.view.read (Elt F) g = Y⌝ ∗ src.view.loc c ↦[src.view.set]{fullShare} g) from .rfl) $$ HS
  icases HS' with ⟨%fs, %hfs, HS⟩
  ihave HD' := (show owns (c : Thread nD τ) dst fullShare X ⊢ iprop(∃ g, ⌜dst.view.read (Elt F) g = X⌝ ∗ dst.view.loc c ↦[dst.view.set]{fullShare} g) from .rfl) $$ HD
  icases HD' with ⟨%fd, %hfd, HD⟩
  iintro Hk
  let srcM (t : Fin 8) : Memref sig .tc .hbm S512x512 .f32 :=
    ((src.slice (Rect.unit (s := S16x512x1x512) (off t) S1x512x1x512.size (inb t)) (fun _ => rfl)).squeeze S512x512 squeezes_S1x512x1x512_S512x512)
  have hsub (t : Fin 8) : (srcM t).view.set ⊆ src.view.set := by
    show ((src.view.slice _).reshape S512x512 _).set ⊆ _
    rw [View.set_reshape]
    exact View.set_slice_subset _ _
  ihave HT := (Transfers.pointsTo_toks_split (Ix := Unit) (Name := ℕ) (U := Pipeline.UD sig nD τ) (Lvl := ℕ) fullShare 8) $$ HS
  icases HT with ⟨Hrem, HT⟩
  ihave HT2 := (show bigSep Finset.univ (fun t : Fin 8 => (src.view.loc (c : Thread nD τ) ↦[src.view.set]{Transfers.shareTok fullShare 8 t} fs : sProp 𝕄))
      ⊢ iprop(bigSep Finset.univ (fun t : Fin 8 => (src.view.loc (c : Thread nD τ) ↦[(srcM t).view.set]{Transfers.shareTok fullShare 8 t} fs : sProp 𝕄))
        ∗ bigSep Finset.univ (fun t : Fin 8 => (src.view.loc (c : Thread nD τ) ↦[src.view.set \ (srcM t).view.set]{Transfers.shareTok fullShare 8 t} fs : sProp 𝕄)))
      from (BI.bigSep_mono fun t _ => (pointsTo_split_subset (hsub t)).1).trans (Entails.of_eq (BI.bigSep_sep _ _ _))) $$ HT
  icases HT2 with ⟨HT, Hrest⟩
  have hdst : (dst.view.loc (c : Thread nD τ) ↦[dst.view.set]{fullShare} fd : sProp 𝕄)
      = bigSep Finset.univ fun t : Fin 8 => (dst.view.loc (c : Thread nD τ) ↦[(dst.slice (rowsR t) (fun _ => rfl)).view.set]{fullShare} fd : sProp 𝕄) :=
    (pointsTo_rects (c : Thread nD τ) dst fullShare rowsR (fun _ _ => rfl) rowsR_disjoint rowsR_cover fd).trans
      (BI.bigSep_congr fun t _ => owns_slice_read (c : Thread nD τ) dst fullShare (rowsR t) (fun _ => rfl) fd)
  ihave HD := (show (dst.view.loc (c : Thread nD τ) ↦[dst.view.set]{fullShare} fd : sProp 𝕄)
      ⊢ bigSep Finset.univ fun t : Fin 8 => (dst.view.loc (c : Thread nD τ) ↦[(dst.slice (rowsR t) (fun _ => rfl)).view.set]{fullShare} fd : sProp 𝕄)
      from Entails.of_eq hdst) $$ HD
  let D (t : Fin 8) : sProp 𝕄 := iprop((dst.view.loc (c : Thread nD τ) ↦[(dst.slice (rowsR t) (fun _ => rfl)).view.set]{fullShare}
        ((dst.slice (rowsR t) (fun _ => rfl)).view.write (Elt F) fd (ReadAs.same.apply ((srcM t).view.read (Elt F) fs)) Finset.univ))
      ∗ (src.view.loc (c : Thread nD τ) ↦[(srcM t).view.set]{Transfers.shareTok fullShare 8 t} fs))
  have hstor (t : Fin 8) : Storable (upEmb : UEmb _ 𝕄) (D t) := by show Storable _ iprop(_ ∗ _); infer_instance
  obtain ⟨N, hN⟩ : ∃ N, ∀ t : Fin 8, (dst.slice (rowsR t) (fun _ => rfl)).view.amount (.dma sem) = N :=
    ⟨(dst.slice (rowsR 0) (fun _ => rfl)).view.amount (.dma sem), fun _ => rfl⟩
  imod (Transfers.batch_alloc' (Lvl := ℕ) EC (c : Thread nD τ) () N D (sm := SemLoc.dma sem) (E := Set.univ)) $$ Hq with HB
  ihave HT := (Entails.of_eq (big8 (fun t : Fin 8 => (src.view.loc (c : Thread nD τ) ↦[(srcM t).view.set]{Transfers.shareTok fullShare 8 t} fs : sProp 𝕄)))) $$ HT
  ihave HD := (Entails.of_eq (big8 (fun t : Fin 8 => (dst.view.loc (c : Thread nD τ) ↦[(dst.slice (rowsR t) (fun _ => rfl)).view.set]{fullShare} fd : sProp 𝕄)))) $$ HD
  icases HT with ⟨T0, T1, T2, T3, T4, T5, T6, T7⟩
  icases HD with ⟨D0, D1, D2, D3, D4, D5, D6, D7⟩
  have lt8 (j : Fin 8) : j.val < 8 := j.isLt
  have hN0 : 0 < N := hN 0 ▸ View.dmaCredit_pos (dst.slice (rowsR 0) (fun _ => rfl)).view (by decide)
  unfold initDma
  simp only [bind_assoc]
  iapply (Transfers.wp_dmaBatch EC 𝒱 (c : Thread nD τ) bd (src := srcM 0) (dst := dst.slice (rowsR 0) (fun _ => rfl)) (sm := SemLoc.dma sem) (j := 0) (n := 8) (D := D) () N (hN 0) (Finset.Subset.refl _) (lt8 0) (Nat.zero_le _) .rfl) $$ [T0 D0 HB]
  · isplitl [T0]
    · iexact T0
    isplitl [D0]
    · iexact D0
    iexact HB
  iintro HB
  iapply (Transfers.wp_dmaBatch EC 𝒱 (c : Thread nD τ) bd (src := srcM 1) (dst := dst.slice (rowsR 1) (fun _ => rfl)) (sm := SemLoc.dma sem) (j := 1) (n := 8) (D := D) () N (hN 1) (Finset.Subset.refl _) (lt8 1) (Nat.zero_le _) .rfl) $$ [T1 D1 HB]
  · isplitl [T1]
    · iexact T1
    isplitl [D1]
    · iexact D1
    iexact HB
  iintro HB
  iapply (Transfers.wp_dmaBatch EC 𝒱 (c : Thread nD τ) bd (src := srcM 2) (dst := dst.slice (rowsR 2) (fun _ => rfl)) (sm := SemLoc.dma sem) (j := 2) (n := 8) (D := D) () N (hN 2) (Finset.Subset.refl _) (lt8 2) (Nat.zero_le _) .rfl) $$ [T2 D2 HB]
  · isplitl [T2]
    · iexact T2
    isplitl [D2]
    · iexact D2
    iexact HB
  iintro HB
  iapply (Transfers.wp_dmaBatch EC 𝒱 (c : Thread nD τ) bd (src := srcM 3) (dst := dst.slice (rowsR 3) (fun _ => rfl)) (sm := SemLoc.dma sem) (j := 3) (n := 8) (D := D) () N (hN 3) (Finset.Subset.refl _) (lt8 3) (Nat.zero_le _) .rfl) $$ [T3 D3 HB]
  · isplitl [T3]
    · iexact T3
    isplitl [D3]
    · iexact D3
    iexact HB
  iintro HB
  iapply (Transfers.wp_dmaBatch EC 𝒱 (c : Thread nD τ) bd (src := srcM 4) (dst := dst.slice (rowsR 4) (fun _ => rfl)) (sm := SemLoc.dma sem) (j := 4) (n := 8) (D := D) () N (hN 4) (Finset.Subset.refl _) (lt8 4) (Nat.zero_le _) .rfl) $$ [T4 D4 HB]
  · isplitl [T4]
    · iexact T4
    isplitl [D4]
    · iexact D4
    iexact HB
  iintro HB
  iapply (Transfers.wp_dmaBatch EC 𝒱 (c : Thread nD τ) bd (src := srcM 5) (dst := dst.slice (rowsR 5) (fun _ => rfl)) (sm := SemLoc.dma sem) (j := 5) (n := 8) (D := D) () N (hN 5) (Finset.Subset.refl _) (lt8 5) (Nat.zero_le _) .rfl) $$ [T5 D5 HB]
  · isplitl [T5]
    · iexact T5
    isplitl [D5]
    · iexact D5
    iexact HB
  iintro HB
  iapply (Transfers.wp_dmaBatch EC 𝒱 (c : Thread nD τ) bd (src := srcM 6) (dst := dst.slice (rowsR 6) (fun _ => rfl)) (sm := SemLoc.dma sem) (j := 6) (n := 8) (D := D) () N (hN 6) (Finset.Subset.refl _) (lt8 6) (Nat.zero_le _) .rfl) $$ [T6 D6 HB]
  · isplitl [T6]
    · iexact T6
    isplitl [D6]
    · iexact D6
    iexact HB
  iintro HB
  iapply (Transfers.wp_dmaBatch EC 𝒱 (c : Thread nD τ) bd (src := srcM 7) (dst := dst.slice (rowsR 7) (fun _ => rfl)) (sm := SemLoc.dma sem) (j := 7) (n := 8) (D := D) () N (hN 7) (Finset.Subset.refl _) (lt8 7) (Nat.zero_le _) .rfl) $$ [T7 D7 HB]
  · isplitl [T7]
    · iexact T7
    isplitl [D7]
    · iexact D7
    iexact HB
  iintro HB
  iapply (Transfers.wp_waitBatch EC 𝒱 (c : Thread nD τ) bd (D := D) (srcw := srcM 0) (dstw := dst.slice (rowsR 0) (fun _ => rfl)) (sem := sem) () (N := N) (u := 0) (hN 0) (by omega)) $$ [HB HW]
  · isplitl [HB]
    · iexact HB
    iexact HW
  iintro ⟨HB, HW⟩
  iapply (Transfers.wp_waitBatch EC 𝒱 (c : Thread nD τ) bd (D := D) (srcw := srcM 1) (dstw := dst.slice (rowsR 1) (fun _ => rfl)) (sem := sem) () (N := N) (u := 0 + N) (hN 1) (by omega)) $$ [HB HW]
  · isplitl [HB]
    · iexact HB
    iexact HW
  iintro ⟨HB, HW⟩
  iapply (Transfers.wp_waitBatch EC 𝒱 (c : Thread nD τ) bd (D := D) (srcw := srcM 2) (dstw := dst.slice (rowsR 2) (fun _ => rfl)) (sem := sem) () (N := N) (u := 0 + N + N) (hN 2) (by omega)) $$ [HB HW]
  · isplitl [HB]
    · iexact HB
    iexact HW
  iintro ⟨HB, HW⟩
  iapply (Transfers.wp_waitBatch EC 𝒱 (c : Thread nD τ) bd (D := D) (srcw := srcM 3) (dstw := dst.slice (rowsR 3) (fun _ => rfl)) (sem := sem) () (N := N) (u := 0 + N + N + N) (hN 3) (by omega)) $$ [HB HW]
  · isplitl [HB]
    · iexact HB
    iexact HW
  iintro ⟨HB, HW⟩
  iapply (Transfers.wp_waitBatch EC 𝒱 (c : Thread nD τ) bd (D := D) (srcw := srcM 4) (dstw := dst.slice (rowsR 4) (fun _ => rfl)) (sem := sem) () (N := N) (u := 0 + N + N + N + N) (hN 4) (by omega)) $$ [HB HW]
  · isplitl [HB]
    · iexact HB
    iexact HW
  iintro ⟨HB, HW⟩
  iapply (Transfers.wp_waitBatch EC 𝒱 (c : Thread nD τ) bd (D := D) (srcw := srcM 5) (dstw := dst.slice (rowsR 5) (fun _ => rfl)) (sem := sem) () (N := N) (u := 0 + N + N + N + N + N) (hN 5) (by omega)) $$ [HB HW]
  · isplitl [HB]
    · iexact HB
    iexact HW
  iintro ⟨HB, HW⟩
  iapply (Transfers.wp_waitBatch EC 𝒱 (c : Thread nD τ) bd (D := D) (srcw := srcM 6) (dstw := dst.slice (rowsR 6) (fun _ => rfl)) (sem := sem) () (N := N) (u := 0 + N + N + N + N + N + N) (hN 6) (by omega)) $$ [HB HW]
  · isplitl [HB]
    · iexact HB
    iexact HW
  iintro ⟨HB, HW⟩
  iapply (Transfers.wp_waitBatchLast EC 𝒱 (c : Thread nD τ) bd (D := D) (srcw := srcM 7) (dstw := dst.slice (rowsR 7) (fun _ => rfl)) (sem := sem) () (N := N) (u := 0 + N + N + N + N + N + N + N) (hN 7) hN0 (by omega)) $$ [HB HW]
  · isplitl [HB]
    · iexact HB
    iexact HW
  iintro ⟨HD, Hq, HW⟩
  have hland (t : Fin 8) : (dst.view.loc (c : Thread nD τ) ↦[(dst.slice (rowsR t) (fun _ => rfl)).view.set]{fullShare}
        ((dst.slice (rowsR t) (fun _ => rfl)).view.write (Elt F) fd (ReadAs.same.apply ((srcM t).view.read (Elt F) fs)) Finset.univ) : sProp 𝕄)
      ⊢ (owns (c : Thread nD τ) (dst.slice (rowsR t) (fun _ => rfl)) fullShare (fun j => stack8 (embRows off inb Y) ((rowsR t).emb j)) : sProp 𝕄) := by
    rw [stack8_emb]
    iintro H
    unfold owns
    iexists _
    isplitr
    swap
    · iexact H
    ipureintro
    rw [View.read_write_univ]
    subst hfs
    rfl
  ihave HD2 := (show bigSep Finset.univ D ⊢ iprop(bigSep Finset.univ (fun t : Fin 8 => (owns (c : Thread nD τ) (dst.slice (rowsR t) (fun _ => rfl)) fullShare (fun j => stack8 (embRows off inb Y) ((rowsR t).emb j)) : sProp 𝕄))
        ∗ bigSep Finset.univ (fun t : Fin 8 => (src.view.loc (c : Thread nD τ) ↦[(srcM t).view.set]{Transfers.shareTok fullShare 8 t} fs : sProp 𝕄)))
      from (BI.bigSep_mono fun t _ => sep_mono_left (hland t)).trans (Entails.of_eq (BI.bigSep_sep _ _ _))) $$ HD
  icases HD2 with ⟨HD, HT⟩
  iapply Hk
  isplitl [HT Hrest Hrem]
  · have hback : (iprop(bigSep Finset.univ (fun t : Fin 8 => (src.view.loc (c : Thread nD τ) ↦[(srcM t).view.set]{Transfers.shareTok fullShare 8 t} fs : sProp 𝕄))
        ∗ bigSep Finset.univ (fun t : Fin 8 => (src.view.loc (c : Thread nD τ) ↦[src.view.set \ (srcM t).view.set]{Transfers.shareTok fullShare 8 t} fs : sProp 𝕄))) : sProp 𝕄)
        ⊢ bigSep Finset.univ (fun t : Fin 8 => (src.view.loc (c : Thread nD τ) ↦[src.view.set]{Transfers.shareTok fullShare 8 t} fs : sProp 𝕄)) :=
      (Entails.of_eq (BI.bigSep_sep _ _ _).symm).trans (BI.bigSep_mono fun t _ => (pointsTo_split_subset (hsub t)).2)
    unfold owns
    iexists fs
    isplitr
    · ipureintro; exact hfs
    iapply (Transfers.pointsTo_toks_join (Ix := Unit) (Name := ℕ) (U := Pipeline.UD sig nD τ) (Lvl := ℕ) fullShare 8)
    isplitl [Hrem]
    · iexact Hrem
    iapply hback
    isplitl [HT]
    · iexact HT
    iexact Hrest
  isplitl [HD]
  · iapply (owns_of_rects (c : Thread nD τ) dst fullShare rowsR (fun _ _ => rfl) rowsR_disjoint rowsR_cover (stack8 (embRows off inb Y))) $$ HD
  isplitl [Hq]
  · iexact Hq
  iexists _
  iexact HW
end

end Cert.KernelIdeal.Own
-- ==== Proof.Body.lean ====
module

public import proofs.«01_k».proof.Proof.Dma
public import Idealize.ShloMosaic.Lib.Scf

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Blocks of rows of which the first `n` have been replaced by `f` of them. -/
def upTo (f : FVec F S512x512 .f32 → FVec F S512x512 .f32) (G : Fin 8 → FVec F S512x512 .f32) (n : ℕ) (t : Fin 8) : FVec F S512x512 .f32 :=
  if t.val < n then f (G t) else G t

/-- Before the first sequence nothing is changed. -/
theorem upTo_zero (f : FVec F S512x512 .f32 → FVec F S512x512 .f32) (G : Fin 8 → FVec F S512x512 .f32) : upTo f G 0 = G :=
  funext fun _ => if_neg (Nat.not_lt_zero _)

/-- After the last sequence all are. -/
theorem upTo_eight (f : FVec F S512x512 .f32 → FVec F S512x512 .f32) (G : Fin 8 → FVec F S512x512 .f32) : upTo f G 8 = fun t => f (G t) :=
  funext fun t => if_pos t.isLt

/-- The block at `t` is still the old one when only the blocks before it are replaced. -/
theorem upTo_read (f : FVec F S512x512 .f32 → FVec F S512x512 .f32) (G : Fin 8 → FVec F S512x512 .f32) (t : Fin 8)
    (off : Fin 2 → ℕ) (inb : ∀ a, off a + S512x512.size a ≤ S4096x512.size a) (h : off = ![512 * t.val, 0]) :
    (fun x => stack8 (upTo f G t.val) ((Rect.unit (s := S4096x512) off S512x512.size inb).toLoadRect.idx x)) = G t := by
  subst h
  have := stack8_emb (upTo f G t.val) t
  rw [show upTo f G t.val t = G t from if_neg (lt_irrefl _)] at this
  exact this

/-- Writing the new block at `t`. -/
theorem upTo_write (f : FVec F S512x512 .f32 → FVec F S512x512 .f32) (G : Fin 8 → FVec F S512x512 .f32) (t : Fin 8)
    (off : Fin 2 → ℕ) (inb : ∀ a, off a + S512x512.size a ≤ S4096x512.size a) (h : off = ![512 * t.val, 0]) :
    (Rect.unit (s := S4096x512) off S512x512.size inb).overlay (stack8 (upTo f G t.val)) (f (G t)) = stack8 (upTo f G (t.val + 1)) := by
  subst h
  funext i
  have hi : (i 0).val < 4096 := (i 0).isLt
  by_cases hc : (i 0).val / 512 = t.val
  · refine (overlay_in _ _ i (ix2 (n0 := 512) (n1 := 512) ⟨(i 0).val % 512, by omega⟩ (i 1)) ?_).trans ?_
    · intro a
      match a with
      | ⟨0, _⟩ => (show (i 0).val = 512 * t.val + (i 0).val % 512); omega
      | ⟨1, _⟩ => exact (Nat.zero_add _).symm
    · unfold stack8
      have ht : (⟨(i 0).val / 512, by omega⟩ : Fin 8) = t := Fin.ext hc
      rw [ht]
      exact (congrFun (if_pos (Nat.lt_succ_self _) : upTo f G (t.val + 1) t = f (G t)) _).symm
  · refine (overlay_out _ _ i 0 ?_).trans ?_
    · show (i 0).val < 512 * t.val ∨ 512 * t.val + 512 ≤ (i 0).val
      omega
    · unfold stack8 upTo
      by_cases hl : (i 0).val / 512 < t.val
      · rw [if_pos (show (i 0).val / 512 < t.val from hl), if_pos (show (i 0).val / 512 < t.val + 1 by omega)]
      · rw [if_neg (show ¬ (i 0).val / 512 < t.val from hl), if_neg (show ¬ (i 0).val / 512 < t.val + 1 by omega)]

/-- One sequence's addition of the positions. -/
def posRow (arg3 : Memref sig .tc .vmem S512x512 .f32) (arg24 : Memref sig .tc .vmem S4096x512 .f32)
    (off : Fin 2 → ℕ) (inb : ∀ a, off a + S512x512.size a ≤ S4096x512.size a) : Prog (TpuEff nD τ sig (Elt F) Λ₀ .tc) PUnit := do
  let v : Vec F S512x512 .f32 ← Prog.lift (.load arg24 (Rect.unit (s := S4096x512) off S512x512.size inb).toLoadRect (View.loadsAt_vmem h_S512x512))
  let p : Vec F S512x512 .f32 ← Prog.lift (.load arg3 (Rect.unit (s := S512x512) ![0, 0] S512x512.size inb_S512x512_S512x512_0_0).toLoadRect (View.loadsAt_vmem h_S512x512))
  let _ : Vec F S512x512 .f32 ← Prog.lift (.load arg24 (Rect.unit (s := S4096x512) off S512x512.size inb).toLoadRect (View.loadsAt_vmem h_S512x512))
  Prog.lift (.store arg24 (Rect.unit (s := S4096x512) off S512x512.size inb) (k0_pay10 v p) Finset.univ (View.stores_vmem_bits_univ h_S512x512 rfl) (.inl rfl))

/-- The first layer's start: the transfers, then the positions added to each sequence's rows. -/
def startProg (src : Memref sig .tc .hbm S16x512x1x512 .f32) (arg3 : Memref sig .tc .vmem S512x512 .f32)
    (arg24 : Memref sig .tc .vmem S4096x512 .f32) (sem : DmaSem sig)
    (off : Fin 8 → Fin 4 → ℕ) (inb : ∀ t a, off t a + S1x512x1x512.size a ≤ S16x512x1x512.size a) : Prog (TpuEff nD τ sig (Elt F) Λ₀ .tc) PUnit := do
  initDma src arg24 sem off inb
  posRow arg3 arg24 ![0, 0] inb_S4096x512_S512x512_0_0
  posRow arg3 arg24 ![512, 0] inb_S4096x512_S512x512_512_0
  posRow arg3 arg24 ![1024, 0] inb_S4096x512_S512x512_1024_0
  posRow arg3 arg24 ![1536, 0] inb_S4096x512_S512x512_1536_0
  posRow arg3 arg24 ![2048, 0] inb_S4096x512_S512x512_2048_0
  posRow arg3 arg24 ![2560, 0] inb_S4096x512_S512x512_2560_0
  posRow arg3 arg24 ![3072, 0] inb_S4096x512_S512x512_3072_0
  posRow arg3 arg24 ![3584, 0] inb_S4096x512_S512x512_3584_0

/-- The rows transfer `t` of a core reads. -/
def embOff (i : grid0.Coords) (t : Fin 8) : Fin 4 → ℕ := k0_off1 i (BitVec.ofNat 32 t.val)

/-- The head: means, counts and variance, then the output block. -/
def outProg (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) : Prog (TpuEff nD τ sig (Elt F) Λ₀ .tc) PUnit := do
  let ⟨v55, v72, v3150, v3156⟩ : Σ' (v55 : FVec F S8x512 .f32) (v72 : FVec F S8x1 .f32) (v3150 : FVec F S8x1 .f32), FVec F S8x1 .f32 ← k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30
  let v3158 : Vec F S8x1x64 .f32 ← Prog.lift (.load arg5 (Rect.unit (s := S8x1x64) ![0, 0, 0] S8x1x64.size inb_S8x1x64_S8x1x64_0_0_0).toLoadRect (View.loadsAt_vmem h_S8x1x64))
  let v3160 : Vec F S1x64 .f32 ← Prog.lift (.load arg18 (Rect.unit (s := S1x64) ![0, 0] S1x64.size inb_S1x64_S1x64_0_0).toLoadRect (View.loadsAt_vmem h_S1x64))
  let v3169 : Vec F S1x64 .f32 ← Prog.lift (.load arg19 (Rect.unit (s := S1x64) ![0, 0] S1x64.size inb_S1x64_S1x64_0_0).toLoadRect (View.loadsAt_vmem h_S1x64))
  let v3175 : Vec F S1x64 .f32 ← Prog.lift (.load arg20 (Rect.unit (s := S1x64) ![0, 0] S1x64.size inb_S1x64_S1x64_0_0).toLoadRect (View.loadsAt_vmem h_S1x64))
  let v3182 : Vec F S576x10 .f32 ← Prog.lift (.load arg21 (Rect.unit (s := S576x10) ![0, 0] S576x10.size inb_S576x10_S576x10_0_0).toLoadRect (View.loadsAt_vmem h_S576x10))
  let v3185 : Vec F S1x10 .f32 ← Prog.lift (.load arg22 (Rect.unit (s := S1x10) ![0, 0] S1x10.size inb_S1x10_S1x10_0_0).toLoadRect (View.loadsAt_vmem h_S1x10))
  let _ : Vec F S8x10 .f32 ← Prog.lift (.load arg23 (Rect.unit (s := S8x10) ![0, 0] S8x10.size inb_S8x10_S8x10_0_0).toLoadRect (View.loadsAt_vmem h_S8x10))
  Prog.lift (.store arg23 (Rect.unit (s := S8x10) ![0, 0] S8x10.size inb_S8x10_S8x10_0_0) (k0_pay9 v55 v72 v3150 v3156 v3158 v3160 v3169 v3175 v3182 v3185) Finset.univ (View.stores_vmem_bits_univ h_S8x10 rfl) (.inl rfl))
  pure ⟨⟩

/-- The pass after its start: the weights, the loop over the sequences, the head where its condition holds. -/
def passProg (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) : Prog (TpuEff nD τ sig (Elt F) Λ₀ .tc) PUnit := do
  let v3 : Vec F S1x1536x512 .bf16 ← Prog.lift (.load arg6 (Rect.unit (s := S1x1536x512) ![0, 0, 0] S1x1536x512.size inb_S1x1536x512_S1x1536x512_0_0_0).toLoadRect (View.loadsAt_vmem h_S1x1536x512))
  let v5 : Vec F S1x512x512 .bf16 ← Prog.lift (.load arg8 (Rect.unit (s := S1x512x512) ![0, 0, 0] S1x512x512.size inb_S1x512x512_S1x512x512_0_0_0).toLoadRect (View.loadsAt_vmem h_S1x512x512))
  let v7 : Vec F S1x2048x512 .bf16 ← Prog.lift (.load arg12 (Rect.unit (s := S1x2048x512) ![0, 0, 0] S1x2048x512.size inb_S1x2048x512_S1x2048x512_0_0_0).toLoadRect (View.loadsAt_vmem h_S1x2048x512))
  let v9 : Vec F S1x512x2048 .bf16 ← Prog.lift (.load arg14 (Rect.unit (s := S1x512x2048) ![0, 0, 0] S1x512x2048.size inb_S1x512x2048_S1x512x2048_0_0_0).toLoadRect (View.loadsAt_vmem h_S1x512x2048))
  Scf.Loop.for k0_t1_loop k0_t1_ok ⟨⟩ (fun t _ => do
    tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 (k0_pay5 v3) (k0_pay6 v5) (k0_pay7 v7) (k0_pay8 v9) t
    pure ⟨⟩)
  if k0_cond2 i = 1#1 then outProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 else pure ⟨⟩
  pure ⟨⟩

/-- One pass of the body, regrouped: the start at the first layer, the loop over the sequences, the head at the last. -/
def bodyProg (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) : Prog (TpuEff nD τ sig (Elt F) Λ₀ .tc) PUnit := do
  if k0_h1 : k0_cond1 i = 1#1 then
    startProg arg2 arg3 arg24 arg30.sem (embOff i) (fun t => k0_off1_inb i k0_h1 t)
  else pure ⟨⟩
  passProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30

set_option maxRecDepth 65536 in
/-- The printed start is the regrouped one. -/
theorem start_eq (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) (k0_h1 : k0_cond1 i = 1#1) :
    (do
      k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 (BitVec.ofNat 32 (i 0).val) k0_h1
      k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 (BitVec.ofNat 32 (i 0).val) k0_h1
      let v79 : Vec F S512x512 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 k0_h1
      let v110 : FVec F S512x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 v79
      let _ : Vec F S512x512 .f32 ← Prog.lift (.load arg24 (Rect.unit (s := S4096x512) ![2048, 0] S512x512.size inb_S4096x512_S512x512_2048_0).toLoadRect (View.loadsAt_vmem h_S512x512))
      Prog.lift (.store arg24 (Rect.unit (s := S4096x512) ![2048, 0] S512x512.size inb_S4096x512_S512x512_2048_0) (k0_pay1 v110) Finset.univ (View.stores_vmem_bits_univ h_S512x512 rfl) (.inl rfl))
      posRow arg3 arg24 ![2560, 0] inb_S4096x512_S512x512_2560_0
      posRow arg3 arg24 ![3072, 0] inb_S4096x512_S512x512_3072_0
      posRow arg3 arg24 ![3584, 0] inb_S4096x512_S512x512_3584_0 : Prog (TpuEff nD τ sig (Elt F) Λ₀ .tc) PUnit)
      = startProg arg2 arg3 arg24 arg30.sem (embOff i) (fun t => k0_off1_inb i k0_h1 t) := by
  simp only [k0_part1_eq_skeleton, k0_part2_eq_skeleton, k0_part3_eq_skeleton, k0_part4_eq_skeleton]
  unfold k0_part1_skel k0_part2_skel k0_part3_skel k0_part4_skel startProg initDma posRow
  simp only [bind_assoc, pure_bind, bind_pure]
  rfl

section
variable {defs : Defs nD τ sig (Elt F) Λ₀} (𝒱 : Variants) (c : Dev nD) (bd : Option 𝒱.V)
variable {α : Type}

/-- One sequence's addition of the positions. -/
theorem posRow_spec {arg3 : Memref sig .tc .vmem S512x512 .f32} {arg24 : Memref sig .tc .vmem S4096x512 .f32}
    {off : Fin 2 → ℕ} {inb : ∀ a, off a + S512x512.size a ≤ S4096x512.size a} (t : Fin 8) (n m : ℕ) (hn : t.val = n) (hm : n + 1 = m) (h : off = ![512 * t.val, 0])
    {Q : α → sProp 𝕄} {k : PUnit → Prog (TpuEff nD τ sig (Elt F) Λ₀ .tc) α} {p : FVec F S512x512 .f32} {G : Fin 8 → FVec F S512x512 .f32} :
    owns (c : Thread nD τ) arg3 fullShare p
      ⊢ iprop(owns (c : Thread nD τ) arg24 fullShare (stack8 (upTo (fun v => k0_pay10 v p) G n))
        -∗ (owns (c : Thread nD τ) arg3 fullShare p ∗ owns (c : Thread nD τ) arg24 fullShare (stack8 (upTo (fun v => k0_pay10 v p) G m))
            -∗ wp frame (wpE defs 𝒱 c bd) Set.univ (k ⟨⟩) Q)
        -∗ wp frame (wpE defs 𝒱 c bd) Set.univ (posRow arg3 arg24 off inb >>= k) Q) := by
  subst hn hm
  iintro HP
  iintro HX
  iintro Hk
  unfold posRow
  simp only [bind_assoc, pure_bind]
  have hw := upTo_write (fun v => k0_pay10 v p) G t off inb h
  have hr := upTo_read (fun v => k0_pay10 v p) G t off inb h
  iapply (load_as 𝒱 c bd Set.univ (G t) hr) $$ HX; iintro HX
  iapply (load_whole 𝒱 c bd Set.univ) $$ HP; iintro HP
  iapply (load_owned 𝒱 c bd Set.univ) $$ HX; iintro HX
  iapply (store_owned 𝒱 c bd Set.univ) $$ HX; iintro HX
  rw [← hw]
  iapply Hk
  isplitl [HP]
  · iexact HP
  iexact HX

/-- The start: the row buffer holds each sequence's embedded rows with the positions added. -/
theorem start_spec {src : Memref sig .tc .hbm S16x512x1x512 .f32} {arg3 : Memref sig .tc .vmem S512x512 .f32}
    {arg24 : Memref sig .tc .vmem S4096x512 .f32} {sem : DmaSem sig}
    {off : Fin 8 → Fin 4 → ℕ} {inb : ∀ t a, off t a + S1x512x1x512.size a ≤ S16x512x1x512.size a}
    {Q : α → sProp 𝕄} {k : PUnit → Prog (TpuEff nD τ sig (Elt F) Λ₀ .tc) α} {Y : FVec F S16x512x1x512 .f32} {p : FVec F S512x512 .f32}
    {X : FVec F S4096x512 .f32} {W : Waits sig Unit} :
    (iprop(owns (c : Thread nD τ) src fullShare Y ∗ owns (c : Thread nD τ) arg3 fullShare p ∗ owns (c : Thread nD τ) arg24 fullShare X
        ∗ semVal ((c : Thread nD τ), SemLoc.dma sem) 0 ∗ owes (c : Thread nD τ) 0 W) : sProp 𝕄)
      ⊢ iprop(((owns (c : Thread nD τ) src fullShare Y ∗ owns (c : Thread nD τ) arg3 fullShare p
            ∗ owns (c : Thread nD τ) arg24 fullShare (stack8 fun t => k0_pay10 (embRows off inb Y t) p)
            ∗ semVal ((c : Thread nD τ), SemLoc.dma sem) 0 ∗ (∃ W' : Waits sig Unit, owes (c : Thread nD τ) 0 W'))
            -∗ wp frame (wpE defs 𝒱 c bd) Set.univ (k ⟨⟩) Q)
        -∗ wp frame (wpE defs 𝒱 c bd) Set.univ (startProg src arg3 arg24 sem off inb >>= k) Q) := by
  iintro ⟨HS, HP, HX, Hs, HO⟩
  iintro Hk
  unfold startProg
  simp only [bind_assoc]
  ihave HD := (show (iprop(owns (c : Thread nD τ) src fullShare Y ∗ owns (c : Thread nD τ) arg24 fullShare X
        ∗ semVal ((c : Thread nD τ), SemLoc.dma sem) 0 ∗ owes (c : Thread nD τ) 0 W) : sProp 𝕄) ⊢ _ from initDma_spec (Q := Q) (defs := defs) 𝒱 c bd (inb := inb)) $$ [HS HX Hs HO]
  · isplitl [HS]
    · iexact HS
    isplitl [HX]
    · iexact HX
    isplitl [Hs]
    · iexact Hs
    iexact HO
  iapply HD
  iintro ⟨HS, HX, Hs, HO⟩
  rw [← upTo_zero (fun v => k0_pay10 v p) (embRows off inb Y)]
  iapply (posRow_spec 𝒱 c bd (G := embRows off inb Y) (off := ![0, 0]) 0 0 1 rfl rfl rfl) $$ HP HX; iintro ⟨HP, HX⟩
  iapply (posRow_spec 𝒱 c bd (G := embRows off inb Y) (off := ![512, 0]) 1 1 2 rfl rfl rfl) $$ HP HX; iintro ⟨HP, HX⟩
  iapply (posRow_spec 𝒱 c bd (G := embRows off inb Y) (off := ![1024, 0]) 2 2 3 rfl rfl rfl) $$ HP HX; iintro ⟨HP, HX⟩
  iapply (posRow_spec 𝒱 c bd (G := embRows off inb Y) (off := ![1536, 0]) 3 3 4 rfl rfl rfl) $$ HP HX; iintro ⟨HP, HX⟩
  iapply (posRow_spec 𝒱 c bd (G := embRows off inb Y) (off := ![2048, 0]) 4 4 5 rfl rfl rfl) $$ HP HX; iintro ⟨HP, HX⟩
  iapply (posRow_spec 𝒱 c bd (G := embRows off inb Y) (off := ![2560, 0]) 5 5 6 rfl rfl rfl) $$ HP HX; iintro ⟨HP, HX⟩
  iapply (posRow_spec 𝒱 c bd (G := embRows off inb Y) (off := ![3072, 0]) 6 6 7 rfl rfl rfl) $$ HP HX; iintro ⟨HP, HX⟩
  iapply (posRow_spec 𝒱 c bd (G := embRows off inb Y) (off := ![3584, 0]) 7 7 8 rfl rfl rfl) $$ HP HX; iintro ⟨HP, HX⟩
  rw [upTo_eight]
  iapply Hk
  isplitl [HS]
  · iexact HS
  isplitl [HP]
  · iexact HP
  isplitl [HX]
  · iexact HX
  isplitl [Hs]
  · iexact Hs
  iexact HO

/-- Trip `t` is sequence `t`. -/
theorem trips_eq : k0_t1_loop.trips = 8 := by decide +kernel

/-- Trip `t` works on row block `t`. -/
theorem off2_eq : ∀ t : Fin k0_t1_loop.trips, k0_off2 t = ![512 * t.val, 0] := by decide +kernel

end

end Cert.KernelIdeal.Own
-- ==== Proof.Head.lean ====
module

public import proofs.«01_k».proof.Proof.Body

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Column `j` of the tokens, spread over all columns. -/
def cntCol (v : IVec S8x512 32) (j : ℕ) (h : S8x512.Slices ![0, j] S8x1) : IVec S8x512 32 :=
  broadcastTo S8x512 (extractStridedSlice S8x1 ![0, j] v h) broadcasts_S8x1_S8x512

/-- Adding one where the tokens agree with those of `b`. -/
def cntAdd (v b : IVec S8x512 32) (a : FVec F S8x512 .f32) : FVec F S8x512 .f32 :=
  addf a (sitofp .f32 (extui 32 (cmpi .eq v b) natLt_1_32))

/-- A column is a slice of the tokens. -/
theorem colSlices (j : ℕ) (h : j < 512) : S8x512.Slices ![0, j] S8x1 :=
  ⟨rfl, fun a => match a with
    | ⟨0, _⟩ => (by show 0 + 8 ≤ 8; omega)
    | ⟨1, _⟩ => (by show j + 1 ≤ 512; omega)⟩

/-- For each token, how many of the first `n` of its row agree with it. -/
def cntAcc (v : IVec S8x512 32) : (n : ℕ) → n ≤ 512 → FVec F S8x512 .f32
  | 0, _ => broadcast S8x512 (Scalar.ofBits .f32 0x00000000#32)
  | n + 1, h => cntAdd v (cntCol v n (colSlices n h)) (cntAcc v n (Nat.le_of_succ_le h))

/-- The pairs of agreeing tokens in each row. -/
def pairsVal (v : IVec S8x512 32) : FVec F S8x1 .f32 :=
  shapeCast S8x1 (multiReduction .add [1] S8 (cntAcc (F := F) v 512 (le_refl _)) 0x00000000#32 reduces_S8x512_S8 (.inl rfl) rfl) shapeCasts_S8_S8x1

/-- One over the number of table rows. -/
def invV : F .f32 := Named.named κ "inv_V" 0x37A6EA0A#32

/-- The mean rows of eight sequences. -/
def ctxVal (G : Fin 8 → FVec F S512x512 .f32) : FVec F S8x512 .f32 :=
  k0_pay105 (k0_pay98 (G 0)) (k0_pay99 (G 1)) (k0_pay100 (G 2)) (k0_pay101 (G 3)) (k0_pay102 (G 4)) (k0_pay103 (G 5)) (k0_pay104 (G 6)) (G 7)

/-- The variance of the counts, with the small constant added. -/
def varVal (x : IVec S8x512 32) : FVec F S8x1 .f32 :=
  k0_pay213 (subf (pairsVal (k0_pay106 (F := F) x)) (k0_pay108 x)) (k0_pay212 (k0_pay107 x)) invV

set_option maxRecDepth 200000 in
set_option maxHeartbeats 4000000 in
/-- The head's first part: it reads the rows and the tokens; the counts come out as above. -/
theorem part86_eq (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) :
    (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 : Prog (TpuEff nD τ sig (Elt F) Λ₀ .tc) _) = (do
      let g0 : Vec F S512x512 .f32 ← Prog.lift (.load arg24 (Rect.unit (s := S4096x512) ![0, 0] S512x512.size inb_S4096x512_S512x512_0_0).toLoadRect (View.loadsAt_vmem h_S512x512))
      let g1 : Vec F S512x512 .f32 ← Prog.lift (.load arg24 (Rect.unit (s := S4096x512) ![512, 0] S512x512.size inb_S4096x512_S512x512_512_0).toLoadRect (View.loadsAt_vmem h_S512x512))
      let g2 : Vec F S512x512 .f32 ← Prog.lift (.load arg24 (Rect.unit (s := S4096x512) ![1024, 0] S512x512.size inb_S4096x512_S512x512_1024_0).toLoadRect (View.loadsAt_vmem h_S512x512))
      let g3 : Vec F S512x512 .f32 ← Prog.lift (.load arg24 (Rect.unit (s := S4096x512) ![1536, 0] S512x512.size inb_S4096x512_S512x512_1536_0).toLoadRect (View.loadsAt_vmem h_S512x512))
      let g4 : Vec F S512x512 .f32 ← Prog.lift (.load arg24 (Rect.unit (s := S4096x512) ![2048, 0] S512x512.size inb_S4096x512_S512x512_2048_0).toLoadRect (View.loadsAt_vmem h_S512x512))
      let g5 : Vec F S512x512 .f32 ← Prog.lift (.load arg24 (Rect.unit (s := S4096x512) ![2560, 0] S512x512.size inb_S4096x512_S512x512_2560_0).toLoadRect (View.loadsAt_vmem h_S512x512))
      let g6 : Vec F S512x512 .f32 ← Prog.lift (.load arg24 (Rect.unit (s := S4096x512) ![3072, 0] S512x512.size inb_S4096x512_S512x512_3072_0).toLoadRect (View.loadsAt_vmem h_S512x512))
      let g7 : Vec F S512x512 .f32 ← Prog.lift (.load arg24 (Rect.unit (s := S4096x512) ![3584, 0] S512x512.size inb_S4096x512_S512x512_3584_0).toLoadRect (View.loadsAt_vmem h_S512x512))
      let x : Vec F S8x512 .i32 ← Prog.lift (.load arg4 (Rect.unit (s := S8x512) ![0, 0] S8x512.size inb_S8x512_S8x512_0_0).toLoadRect (View.loadsAt_vmem h_S8x512))
      pure ⟨k0_pay105 (k0_pay98 g0) (k0_pay99 g1) (k0_pay100 g2) (k0_pay101 g3) (k0_pay102 g4) (k0_pay103 g5) (k0_pay104 g6) g7, k0_pay108 x, k0_pay212 (k0_pay107 x), varVal x⟩) := by
  rw [k0_part86_eq_skeleton]
  unfold k0_part86_skel
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
  unfold k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel
  simp only [bind_assoc, pure_bind]
  rfl

end Cert.KernelIdeal.Own
-- ==== Proof.Pass.lean ====
module

public import proofs.«01_k».proof.Proof.Head

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The blocks of rows of an array. -/
def unstack8 (X : FVec F S4096x512 .f32) (t : Fin 8) : FVec F S512x512 .f32 := fun j => X ((rowsR t).emb j)

/-- Cutting into sequences and stacking again changes nothing. -/
theorem stack8_unstack8 (X : FVec F S4096x512 .f32) : stack8 (unstack8 X) = X := by
  funext i
  unfold stack8 unstack8
  congr 1
  funext a
  match a with
  | ⟨0, _⟩ => exact Fin.ext (by show 512 * ((i 0).val / 512) + 1 * ((i 0).val % 512) = (i 0).val; omega)
  | ⟨1, _⟩ => exact Fin.ext (by show 0 + 1 * (i 1).val = (i 1).val; omega)

/-- Stacking and cutting again changes nothing. -/
theorem unstack8_stack8 (G : Fin 8 → FVec F S512x512 .f32) : unstack8 (stack8 G) = G := funext fun t => stack8_emb G t

set_option maxRecDepth 65536 in
/-- The printed body is the regrouped one. -/
theorem body_eq (i : grid0.Coords) (arg2 : Memref sig .tc .hbm S16x512x1x512 .f32) (harg2 : arg2.IsWhole) (arg3 : Memref sig .tc .vmem S512x512 .f32) (harg3 : arg3.IsWhole) (arg4 : Memref sig .tc .vmem S8x512 .i32) (harg4 : arg4.IsWhole) (arg5 : Memref sig .tc .vmem S8x1x64 .f32) (harg5 : arg5.IsWhole) (arg6 : Memref sig .tc .vmem S1x1536x512 .bf16) (harg6 : arg6.IsWhole) (arg7 : Memref sig .tc .vmem S1x1x1536 .f32) (harg7 : arg7.IsWhole) (arg8 : Memref sig .tc .vmem S1x512x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x2048x512 .bf16) (harg12 : arg12.IsWhole) (arg13 : Memref sig .tc .vmem S1x1x2048 .f32) (harg13 : arg13.IsWhole) (arg14 : Memref sig .tc .vmem S1x512x2048 .bf16) (harg14 : arg14.IsWhole) (arg15 : Memref sig .tc .vmem S1x1x512 .f32) (harg15 : arg15.IsWhole) (arg16 : Memref sig .tc .vmem S1x1x512 .f32) (harg16 : arg16.IsWhole) (arg17 : Memref sig .tc .vmem S1x1x512 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S1x64 .f32) (harg20 : arg20.IsWhole) (arg21 : Memref sig .tc .vmem S576x10 .f32) (harg21 : arg21.IsWhole) (arg22 : Memref sig .tc .vmem S1x10 .f32) (harg22 : arg22.IsWhole) (arg23 : Memref sig .tc .vmem S8x10 .f32) (harg23 : arg23.IsWhole) (arg24 : Memref sig .tc .vmem S4096x512 .f32) (harg24 : arg24.IsWhole) (arg25 : Memref sig .tc .vmem S512x1536 .bf16) (harg25 : arg25.IsWhole) (arg26 : Memref sig .tc .vmem S2x512x512 .f32) (harg26 : arg26.IsWhole) (arg27 : Memref sig .tc .vmem S2x512x512 .bf16) (harg27 : arg27.IsWhole) (arg28 : Memref sig .tc .vmem S512x512 .bf16) (harg28 : arg28.IsWhole) (arg29 : Memref sig .tc .vmem S512x2048 .bf16) (harg29 : arg29.IsWhole) (arg30 : DmaSems sig S_) :
    (cc0_encoder_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 : Prog (TpuEff nD τ sig (Elt F) Λ₀ .tc) PUnit) = bodyProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 := by
  rw [cc0_encoder_head_eq_skeleton]
  unfold cc0_encoder_head_skel bodyProg passProg outProg
  have hb : ∀ v3 v5 v7 v9, (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 v3 v5 v7 v9 : _ → PUnit → Prog (TpuEff nD τ sig (Elt F) Λ₀ .tc) PUnit) = (fun t _ => do
      tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 (k0_pay5 v3) (k0_pay6 v5) (k0_pay7 v7) (k0_pay8 v9) t
      pure ⟨⟩) := by
    intro v3 v5 v7 v9
    funext t _
    unfold k0_t1_body
    rw [trip_eq]
  simp only [hb]
  have hs := fun h : k0_cond1 i = 1#1 => start_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 h
  by_cases h1 : k0_cond1 i = 1#1
  · simp only [dif_pos h1, ← hs h1]
    unfold posRow
    simp only [bind_assoc, pure_bind]
    rfl
  · simp only [dif_neg h1]
    rfl

/-- The weights of one layer, from the blocks in which they come. -/
def mkW (a6 : FVec F S1x1536x512 .bf16) (a7 : FVec F S1x1x1536 .f32) (a8 : FVec F S1x512x512 .bf16) (a9 a10 a11 : FVec F S1x1x512 .f32)
    (a12 : FVec F S1x2048x512 .bf16) (a13 : FVec F S1x1x2048 .f32) (a14 : FVec F S1x512x2048 .bf16) (a15 a16 a17 : FVec F S1x1x512 .f32) : LayerW F :=
  ⟨k0_pay5 a6, k0_pay6 a8, k0_pay7 a12, k0_pay8 a14, a7, a9, a10, a11, a13, a15, a16, a17⟩

/-- The rows a pass starts from: at the first layer the embedded rows with the positions, later what is there. -/
def startVal (i : grid0.Coords) (Y : FVec F S16x512x1x512 .f32) (p : FVec F S512x512 .f32) (X : FVec F S4096x512 .f32) : Fin 8 → FVec F S512x512 .f32 :=
  if h : k0_cond1 i = 1#1 then fun t => k0_pay10 (embRows (embOff i) (fun t => k0_off1_inb i h t) Y t) p else unstack8 X

/-- What the head writes. -/
def outVal (G : Fin 8 → FVec F S512x512 .f32) (x : IVec S8x512 32) (s : FVec F S8x1x64 .f32) (tc0 g2 bc2 : FVec F S1x64 .f32)
    (wht : FVec F S576x10 .f32) (bh : FVec F S1x10 .f32) : FVec F S8x10 .f32 :=
  k0_pay9 (ctxVal G) (k0_pay108 x) (k0_pay212 (k0_pay107 x)) (varVal x) s tc0 g2 bc2 wht bh

section
variable {defs : Defs nD τ sig (Elt F) Λ₀} (𝒱 : Variants) (c : Dev nD) (bd : Option 𝒱.V)
variable {α : Type}

set_option maxHeartbeats 1600000 in
/-- The loop: every sequence's rows are replaced by the layer applied to them. -/
theorem loop_spec {i : grid0.Coords} {arg2 : Memref sig .tc .hbm S16x512x1x512 .f32} {harg2 : arg2.IsWhole} {arg3 : Memref sig .tc .vmem S512x512 .f32} {harg3 : arg3.IsWhole} {arg4 : Memref sig .tc .vmem S8x512 .i32} {harg4 : arg4.IsWhole} {arg5 : Memref sig .tc .vmem S8x1x64 .f32} {harg5 : arg5.IsWhole} {arg6 : Memref sig .tc .vmem S1x1536x512 .bf16} {harg6 : arg6.IsWhole} {arg7 : Memref sig .tc .vmem S1x1x1536 .f32} {harg7 : arg7.IsWhole} {arg8 : Memref sig .tc .vmem S1x512x512 .bf16} {harg8 : arg8.IsWhole} {arg9 : Memref sig .tc .vmem S1x1x512 .f32} {harg9 : arg9.IsWhole} {arg10 : Memref sig .tc .vmem S1x1x512 .f32} {harg10 : arg10.IsWhole} {arg11 : Memref sig .tc .vmem S1x1x512 .f32} {harg11 : arg11.IsWhole} {arg12 : Memref sig .tc .vmem S1x2048x512 .bf16} {harg12 : arg12.IsWhole} {arg13 : Memref sig .tc .vmem S1x1x2048 .f32} {harg13 : arg13.IsWhole} {arg14 : Memref sig .tc .vmem S1x512x2048 .bf16} {harg14 : arg14.IsWhole} {arg15 : Memref sig .tc .vmem S1x1x512 .f32} {harg15 : arg15.IsWhole} {arg16 : Memref sig .tc .vmem S1x1x512 .f32} {harg16 : arg16.IsWhole} {arg17 : Memref sig .tc .vmem S1x1x512 .f32} {harg17 : arg17.IsWhole} {arg18 : Memref sig .tc .vmem S1x64 .f32} {harg18 : arg18.IsWhole} {arg19 : Memref sig .tc .vmem S1x64 .f32} {harg19 : arg19.IsWhole} {arg20 : Memref sig .tc .vmem S1x64 .f32} {harg20 : arg20.IsWhole} {arg21 : Memref sig .tc .vmem S576x10 .f32} {harg21 : arg21.IsWhole} {arg22 : Memref sig .tc .vmem S1x10 .f32} {harg22 : arg22.IsWhole} {arg23 : Memref sig .tc .vmem S8x10 .f32} {harg23 : arg23.IsWhole} {arg24 : Memref sig .tc .vmem S4096x512 .f32} {harg24 : arg24.IsWhole} {arg25 : Memref sig .tc .vmem S512x1536 .bf16} {harg25 : arg25.IsWhole} {arg26 : Memref sig .tc .vmem S2x512x512 .f32} {harg26 : arg26.IsWhole} {arg27 : Memref sig .tc .vmem S2x512x512 .bf16} {harg27 : arg27.IsWhole} {arg28 : Memref sig .tc .vmem S512x512 .bf16} {harg28 : arg28.IsWhole} {arg29 : Memref sig .tc .vmem S512x2048 .bf16} {harg29 : arg29.IsWhole} {arg30 : DmaSems sig S_} {Q : α → sProp 𝕄} {k : PUnit → Prog (TpuEff nD τ sig (Elt F) Λ₀ .tc) α} {W : LayerW F} {G : Fin 8 → FVec F S512x512 .f32} :
    (tripSt c arg7 arg9 arg10 arg11 arg13 arg15 arg16 arg17 arg24 arg25 arg26 arg27 arg28 arg29 W (stack8 G) : sProp 𝕄)
      ⊢ iprop((tripSt c arg7 arg9 arg10 arg11 arg13 arg15 arg16 arg17 arg24 arg25 arg26 arg27 arg28 arg29 W (stack8 fun t => layerVal W (G t))
          -∗ wp frame (wpE defs 𝒱 c bd) Set.univ (k ⟨⟩) Q)
        -∗ wp frame (wpE defs 𝒱 c bd) Set.univ ((Scf.Loop.for k0_t1_loop k0_t1_ok ⟨⟩ (fun t _ => do
            tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 W.wqkv W.wo W.w1 W.w2 t
            pure ⟨⟩)) >>= k) Q) := by
  have hstep : ∀ (t : Fin k0_t1_loop.trips) (acc : PUnit),
      (tripSt c arg7 arg9 arg10 arg11 arg13 arg15 arg16 arg17 arg24 arg25 arg26 arg27 arg28 arg29 W (stack8 (upTo (layerVal W) G t.val)) : sProp 𝕄)
      ⊢ wp frame (wpE defs 𝒱 c bd) Set.univ ((do
            tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 W.wqkv W.wo W.w1 W.w2 t
            pure ⟨⟩) : Prog (TpuEff nD τ sig (Elt F) Λ₀ .tc) PUnit)
          (fun _ => tripSt c arg7 arg9 arg10 arg11 arg13 arg15 arg16 arg17 arg24 arg25 arg26 arg27 arg28 arg29 W (stack8 (upTo (layerVal W) G (t.val + 1)))) := by
    intro t acc
    have ht : t.val < 8 := trips_eq ▸ t.isLt
    have hr : rowsT (stack8 (upTo (layerVal W) G t.val)) t = G ⟨t.val, ht⟩ := upTo_read (layerVal W) G ⟨t.val, ht⟩ (k0_off2 t) (k0_off2_inb t) (off2_eq t)
    have hw := upTo_write (layerVal W) G ⟨t.val, ht⟩ (k0_off2 t) (k0_off2_inb t) (off2_eq t)
    iintro H
    iapply (trip_spec 𝒱 c bd Set.univ) $$ H
    iintro H
    rw [hr, hw]
    rw [wp_pure]
    imodintro
    iexact H
  iintro H
  iintro Hk
  rw [← upTo_zero (layerVal W) G, ← upTo_eight (layerVal W)]
  iapply (Scf.wp_for_bind frame (wpE defs 𝒱 c bd) Set.univ _ _ _ k0_t1_ok ⟨⟩ _
    (fun n _ => tripSt c arg7 arg9 arg10 arg11 arg13 arg15 arg16 arg17 arg24 arg25 arg26 arg27 arg28 arg29 W (stack8 (upTo (layerVal W) G n))) hstep) $$ H
  iintro %acc H
  rw [upTo_zero]
  iapply Hk
  iexact H

set_option maxHeartbeats 1600000 in
/-- The head: the output block gets its value. -/
theorem out_spec {i : grid0.Coords} {arg2 : Memref sig .tc .hbm S16x512x1x512 .f32} {harg2 : arg2.IsWhole} {arg3 : Memref sig .tc .vmem S512x512 .f32} {harg3 : arg3.IsWhole} {arg4 : Memref sig .tc .vmem S8x512 .i32} {harg4 : arg4.IsWhole} {arg5 : Memref sig .tc .vmem S8x1x64 .f32} {harg5 : arg5.IsWhole} {arg6 : Memref sig .tc .vmem S1x1536x512 .bf16} {harg6 : arg6.IsWhole} {arg7 : Memref sig .tc .vmem S1x1x1536 .f32} {harg7 : arg7.IsWhole} {arg8 : Memref sig .tc .vmem S1x512x512 .bf16} {harg8 : arg8.IsWhole} {arg9 : Memref sig .tc .vmem S1x1x512 .f32} {harg9 : arg9.IsWhole} {arg10 : Memref sig .tc .vmem S1x1x512 .f32} {harg10 : arg10.IsWhole} {arg11 : Memref sig .tc .vmem S1x1x512 .f32} {harg11 : arg11.IsWhole} {arg12 : Memref sig .tc .vmem S1x2048x512 .bf16} {harg12 : arg12.IsWhole} {arg13 : Memref sig .tc .vmem S1x1x2048 .f32} {harg13 : arg13.IsWhole} {arg14 : Memref sig .tc .vmem S1x512x2048 .bf16} {harg14 : arg14.IsWhole} {arg15 : Memref sig .tc .vmem S1x1x512 .f32} {harg15 : arg15.IsWhole} {arg16 : Memref sig .tc .vmem S1x1x512 .f32} {harg16 : arg16.IsWhole} {arg17 : Memref sig .tc .vmem S1x1x512 .f32} {harg17 : arg17.IsWhole} {arg18 : Memref sig .tc .vmem S1x64 .f32} {harg18 : arg18.IsWhole} {arg19 : Memref sig .tc .vmem S1x64 .f32} {harg19 : arg19.IsWhole} {arg20 : Memref sig .tc .vmem S1x64 .f32} {harg20 : arg20.IsWhole} {arg21 : Memref sig .tc .vmem S576x10 .f32} {harg21 : arg21.IsWhole} {arg22 : Memref sig .tc .vmem S1x10 .f32} {harg22 : arg22.IsWhole} {arg23 : Memref sig .tc .vmem S8x10 .f32} {harg23 : arg23.IsWhole} {arg24 : Memref sig .tc .vmem S4096x512 .f32} {harg24 : arg24.IsWhole} {arg25 : Memref sig .tc .vmem S512x1536 .bf16} {harg25 : arg25.IsWhole} {arg26 : Memref sig .tc .vmem S2x512x512 .f32} {harg26 : arg26.IsWhole} {arg27 : Memref sig .tc .vmem S2x512x512 .bf16} {harg27 : arg27.IsWhole} {arg28 : Memref sig .tc .vmem S512x512 .bf16} {harg28 : arg28.IsWhole} {arg29 : Memref sig .tc .vmem S512x2048 .bf16} {harg29 : arg29.IsWhole} {arg30 : DmaSems sig S_} {Q : α → sProp 𝕄} {k : PUnit → Prog (TpuEff nD τ sig (Elt F) Λ₀ .tc) α} {G : Fin 8 → FVec F S512x512 .f32}
    {x : IVec S8x512 32} {s : FVec F S8x1x64 .f32} {tc0 g2 bc2 : FVec F S1x64 .f32} {wht : FVec F S576x10 .f32} {bh : FVec F S1x10 .f32} {Z : FVec F S8x10 .f32} :
    (iprop(owns (c : Thread nD τ) arg24 fullShare (stack8 G) ∗ owns (c : Thread nD τ) arg4 fullShare x ∗ owns (c : Thread nD τ) arg5 fullShare s ∗ owns (c : Thread nD τ) arg18 fullShare tc0 ∗ owns (c : Thread nD τ) arg19 fullShare g2
        ∗ owns (c : Thread nD τ) arg20 fullShare bc2 ∗ owns (c : Thread nD τ) arg21 fullShare wht ∗ owns (c : Thread nD τ) arg22 fullShare bh ∗ owns (c : Thread nD τ) arg23 fullShare Z) : sProp 𝕄)
      ⊢ iprop(((owns (c : Thread nD τ) arg24 fullShare (stack8 G) ∗ owns (c : Thread nD τ) arg4 fullShare x ∗ owns (c : Thread nD τ) arg5 fullShare s ∗ owns (c : Thread nD τ) arg18 fullShare tc0 ∗ owns (c : Thread nD τ) arg19 fullShare g2
        ∗ owns (c : Thread nD τ) arg20 fullShare bc2 ∗ owns (c : Thread nD τ) arg21 fullShare wht ∗ owns (c : Thread nD τ) arg22 fullShare bh ∗ owns (c : Thread nD τ) arg23 fullShare (outVal G x s tc0 g2 bc2 wht bh))
          -∗ wp frame (wpE defs 𝒱 c bd) Set.univ (k ⟨⟩) Q)
        -∗ wp frame (wpE defs 𝒱 c bd) Set.univ (outProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 >>= k) Q) := by
  iintro ⟨H24, H4, H5, H18, H19, H20, H21, H22, H23⟩
  iintro Hk
  unfold outProg
  rw [part86_eq]
  simp only [bind_assoc, pure_bind]
  iapply (load_as 𝒱 c bd Set.univ (G 0) (stack8_emb G 0)) $$ H24; iintro H24
  iapply (load_as 𝒱 c bd Set.univ (G 1) (stack8_emb G 1)) $$ H24; iintro H24
  iapply (load_as 𝒱 c bd Set.univ (G 2) (stack8_emb G 2)) $$ H24; iintro H24
  iapply (load_as 𝒱 c bd Set.univ (G 3) (stack8_emb G 3)) $$ H24; iintro H24
  iapply (load_as 𝒱 c bd Set.univ (G 4) (stack8_emb G 4)) $$ H24; iintro H24
  iapply (load_as 𝒱 c bd Set.univ (G 5) (stack8_emb G 5)) $$ H24; iintro H24
  iapply (load_as 𝒱 c bd Set.univ (G 6) (stack8_emb G 6)) $$ H24; iintro H24
  iapply (load_as 𝒱 c bd Set.univ (G 7) (stack8_emb G 7)) $$ H24; iintro H24
  iapply (load_whole 𝒱 c bd Set.univ) $$ H4; iintro H4
  iapply (load_whole 𝒱 c bd Set.univ) $$ H5; iintro H5
  iapply (load_whole 𝒱 c bd Set.univ) $$ H18; iintro H18
  iapply (load_whole 𝒱 c bd Set.univ) $$ H19; iintro H19
  iapply (load_whole 𝒱 c bd Set.univ) $$ H20; iintro H20
  iapply (load_whole 𝒱 c bd Set.univ) $$ H21; iintro H21
  iapply (load_whole 𝒱 c bd Set.univ) $$ H22; iintro H22
  iapply (load_whole 𝒱 c bd Set.univ) $$ H23; iintro H23
  iapply (store_owned 𝒱 c bd Set.univ) $$ H23; iintro H23
  have hout : (Rect.unit (s := S8x10) ![0, 0] S8x10.size inb_S8x10_S8x10_0_0).overlay Z (outVal G x s tc0 g2 bc2 wht bh) = outVal G x s tc0 g2 bc2 wht bh :=
    funext fun i => (overlay_in (inb := inb_S8x10_S8x10_0_0) Z (outVal G x s tc0 g2 bc2 wht bh) i i fun a => match a with
      | ⟨0, _⟩ => (Nat.zero_add _).symm
      | ⟨1, _⟩ => (Nat.zero_add _).symm)
  ihave H23 := (show owns (c : Thread nD τ) arg23 fullShare _ ⊢ (owns (c : Thread nD τ) arg23 fullShare (outVal G x s tc0 g2 bc2 wht bh) : sProp 𝕄) from Entails.of_eq (congrArg _ hout)) $$ [H23]
  · iexact H23
  iapply Hk
  isplitl [H24]; · iexact H24
  isplitl [H4]; · iexact H4
  isplitl [H5]; · iexact H5
  isplitl [H18]; · iexact H18
  isplitl [H19]; · iexact H19
  isplitl [H20]; · iexact H20
  isplitl [H21]; · iexact H21
  isplitl [H22]; · iexact H22
  iexact H23

set_option maxHeartbeats 3200000 in
/-- The end of a pass: the loop over the sequences, then the head where its condition holds. -/
theorem rest_spec {i : grid0.Coords} {arg2 : Memref sig .tc .hbm S16x512x1x512 .f32} {harg2 : arg2.IsWhole} {arg3 : Memref sig .tc .vmem S512x512 .f32} {harg3 : arg3.IsWhole} {arg4 : Memref sig .tc .vmem S8x512 .i32} {harg4 : arg4.IsWhole} {arg5 : Memref sig .tc .vmem S8x1x64 .f32} {harg5 : arg5.IsWhole} {arg6 : Memref sig .tc .vmem S1x1536x512 .bf16} {harg6 : arg6.IsWhole} {arg7 : Memref sig .tc .vmem S1x1x1536 .f32} {harg7 : arg7.IsWhole} {arg8 : Memref sig .tc .vmem S1x512x512 .bf16} {harg8 : arg8.IsWhole} {arg9 : Memref sig .tc .vmem S1x1x512 .f32} {harg9 : arg9.IsWhole} {arg10 : Memref sig .tc .vmem S1x1x512 .f32} {harg10 : arg10.IsWhole} {arg11 : Memref sig .tc .vmem S1x1x512 .f32} {harg11 : arg11.IsWhole} {arg12 : Memref sig .tc .vmem S1x2048x512 .bf16} {harg12 : arg12.IsWhole} {arg13 : Memref sig .tc .vmem S1x1x2048 .f32} {harg13 : arg13.IsWhole} {arg14 : Memref sig .tc .vmem S1x512x2048 .bf16} {harg14 : arg14.IsWhole} {arg15 : Memref sig .tc .vmem S1x1x512 .f32} {harg15 : arg15.IsWhole} {arg16 : Memref sig .tc .vmem S1x1x512 .f32} {harg16 : arg16.IsWhole} {arg17 : Memref sig .tc .vmem S1x1x512 .f32} {harg17 : arg17.IsWhole} {arg18 : Memref sig .tc .vmem S1x64 .f32} {harg18 : arg18.IsWhole} {arg19 : Memref sig .tc .vmem S1x64 .f32} {harg19 : arg19.IsWhole} {arg20 : Memref sig .tc .vmem S1x64 .f32} {harg20 : arg20.IsWhole} {arg21 : Memref sig .tc .vmem S576x10 .f32} {harg21 : arg21.IsWhole} {arg22 : Memref sig .tc .vmem S1x10 .f32} {harg22 : arg22.IsWhole} {arg23 : Memref sig .tc .vmem S8x10 .f32} {harg23 : arg23.IsWhole} {arg24 : Memref sig .tc .vmem S4096x512 .f32} {harg24 : arg24.IsWhole} {arg25 : Memref sig .tc .vmem S512x1536 .bf16} {harg25 : arg25.IsWhole} {arg26 : Memref sig .tc .vmem S2x512x512 .f32} {harg26 : arg26.IsWhole} {arg27 : Memref sig .tc .vmem S2x512x512 .bf16} {harg27 : arg27.IsWhole} {arg28 : Memref sig .tc .vmem S512x512 .bf16} {harg28 : arg28.IsWhole} {arg29 : Memref sig .tc .vmem S512x2048 .bf16} {harg29 : arg29.IsWhole} {arg30 : DmaSems sig S_} {Q : PUnit → sProp 𝕄} {W : LayerW F} {G : Fin 8 → FVec F S512x512 .f32}
    {x : IVec S8x512 32} {s : FVec F S8x1x64 .f32} {tc0 g2 bc2 : FVec F S1x64 .f32} {wht : FVec F S576x10 .f32} {bh : FVec F S1x10 .f32} {Z : FVec F S8x10 .f32} :
    (iprop(tripSt c arg7 arg9 arg10 arg11 arg13 arg15 arg16 arg17 arg24 arg25 arg26 arg27 arg28 arg29 W (stack8 G)
        ∗ owns (c : Thread nD τ) arg4 fullShare x ∗ owns (c : Thread nD τ) arg5 fullShare s ∗ owns (c : Thread nD τ) arg18 fullShare tc0 ∗ owns (c : Thread nD τ) arg19 fullShare g2
        ∗ owns (c : Thread nD τ) arg20 fullShare bc2 ∗ owns (c : Thread nD τ) arg21 fullShare wht ∗ owns (c : Thread nD τ) arg22 fullShare bh ∗ owns (c : Thread nD τ) arg23 fullShare Z) : sProp 𝕄)
      ⊢ iprop(((tripSt c arg7 arg9 arg10 arg11 arg13 arg15 arg16 arg17 arg24 arg25 arg26 arg27 arg28 arg29 W (stack8 fun t => layerVal W (G t))
        ∗ owns (c : Thread nD τ) arg4 fullShare x ∗ owns (c : Thread nD τ) arg5 fullShare s ∗ owns (c : Thread nD τ) arg18 fullShare tc0 ∗ owns (c : Thread nD τ) arg19 fullShare g2
        ∗ owns (c : Thread nD τ) arg20 fullShare bc2 ∗ owns (c : Thread nD τ) arg21 fullShare wht ∗ owns (c : Thread nD τ) arg22 fullShare bh
        ∗ owns (c : Thread nD τ) arg23 fullShare (if k0_cond2 i = 1#1 then outVal (fun t => layerVal W (G t)) x s tc0 g2 bc2 wht bh else Z))
          -∗ Q ⟨⟩)
        -∗ wp frame (wpE defs 𝒱 c bd) Set.univ (do
          Scf.Loop.for k0_t1_loop k0_t1_ok ⟨⟩ (fun t _ => do
            tripProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 W.wqkv W.wo W.w1 W.w2 t
            pure ⟨⟩)
          if k0_cond2 i = 1#1 then outProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 else pure ⟨⟩
          pure ⟨⟩) Q) := by
  iintro ⟨HT, H4, H5, H18, H19, H20, H21, H22, H23⟩
  iintro Hk
  iapply (loop_spec 𝒱 c bd) $$ HT; iintro HT
  by_cases h2 : k0_cond2 i = 1#1
  · simp only [if_pos h2]
    unfold tripSt
    icases HT with ⟨H7, H9, H10, H11, H13, H15, H16, H17, H24, H25, H26, H27, H28, H29⟩
    iapply (show _ ⊢ _ from out_spec (Q := Q) (defs := defs) (k := fun _ => pure ⟨⟩) (G := fun t => layerVal W (G t)) (x := x) (s := s) (tc0 := tc0) (g2 := g2) (bc2 := bc2) (wht := wht) (bh := bh) (Z := Z) (arg4 := arg4) (arg24 := arg24) 𝒱 c bd) $$ [H24 H4 H5 H18 H19 H20 H21 H22 H23]
    · isplitl [H24]; · iexact H24
      isplitl [H4]; · iexact H4
      isplitl [H5]; · iexact H5
      isplitl [H18]; · iexact H18
      isplitl [H19]; · iexact H19
      isplitl [H20]; · iexact H20
      isplitl [H21]; · iexact H21
      isplitl [H22]; · iexact H22
      iexact H23
    iintro ⟨H24, H4, H5, H18, H19, H20, H21, H22, H23⟩
    rw [wp_pure]
    imodintro
    iapply Hk
    isplitl [H7 H9 H10 H11 H13 H15 H16 H17 H24 H25 H26 H27 H28 H29]
    · isplitl [H7]; · iexact H7
      isplitl [H9]; · iexact H9
      isplitl [H10]; · iexact H10
      isplitl [H11]; · iexact H11
      isplitl [H13]; · iexact H13
      isplitl [H15]; · iexact H15
      isplitl [H16]; · iexact H16
      isplitl [H17]; · iexact H17
      isplitl [H24]; · iexact H24
      isplitl [H25]; · iexact H25
      isplitl [H26]; · iexact H26
      isplitl [H27]; · iexact H27
      isplitl [H28]; · iexact H28
      iexact H29

    isplitl [H4]; · iexact H4
    isplitl [H5]; · iexact H5
    isplitl [H18]; · iexact H18
    isplitl [H19]; · iexact H19
    isplitl [H20]; · iexact H20
    isplitl [H21]; · iexact H21
    isplitl [H22]; · iexact H22
    iexact H23

  · simp only [if_neg h2, pure_bind]
    rw [wp_pure]
    imodintro
    iapply Hk
    isplitl [HT]; · iexact HT
    isplitl [H4]; · iexact H4
    isplitl [H5]; · iexact H5
    isplitl [H18]; · iexact H18
    isplitl [H19]; · iexact H19
    isplitl [H20]; · iexact H20
    isplitl [H21]; · iexact H21
    isplitl [H22]; · iexact H22
    iexact H23

set_option maxHeartbeats 3200000 in
/-- One pass of the kernel: the row buffer ends at the layer applied to each sequence, the output block at the head's value
    where the head runs. -/
theorem body_spec {i : grid0.Coords} {arg2 : Memref sig .tc .hbm S16x512x1x512 .f32} {harg2 : arg2.IsWhole} {arg3 : Memref sig .tc .vmem S512x512 .f32} {harg3 : arg3.IsWhole} {arg4 : Memref sig .tc .vmem S8x512 .i32} {harg4 : arg4.IsWhole} {arg5 : Memref sig .tc .vmem S8x1x64 .f32} {harg5 : arg5.IsWhole} {arg6 : Memref sig .tc .vmem S1x1536x512 .bf16} {harg6 : arg6.IsWhole} {arg7 : Memref sig .tc .vmem S1x1x1536 .f32} {harg7 : arg7.IsWhole} {arg8 : Memref sig .tc .vmem S1x512x512 .bf16} {harg8 : arg8.IsWhole} {arg9 : Memref sig .tc .vmem S1x1x512 .f32} {harg9 : arg9.IsWhole} {arg10 : Memref sig .tc .vmem S1x1x512 .f32} {harg10 : arg10.IsWhole} {arg11 : Memref sig .tc .vmem S1x1x512 .f32} {harg11 : arg11.IsWhole} {arg12 : Memref sig .tc .vmem S1x2048x512 .bf16} {harg12 : arg12.IsWhole} {arg13 : Memref sig .tc .vmem S1x1x2048 .f32} {harg13 : arg13.IsWhole} {arg14 : Memref sig .tc .vmem S1x512x2048 .bf16} {harg14 : arg14.IsWhole} {arg15 : Memref sig .tc .vmem S1x1x512 .f32} {harg15 : arg15.IsWhole} {arg16 : Memref sig .tc .vmem S1x1x512 .f32} {harg16 : arg16.IsWhole} {arg17 : Memref sig .tc .vmem S1x1x512 .f32} {harg17 : arg17.IsWhole} {arg18 : Memref sig .tc .vmem S1x64 .f32} {harg18 : arg18.IsWhole} {arg19 : Memref sig .tc .vmem S1x64 .f32} {harg19 : arg19.IsWhole} {arg20 : Memref sig .tc .vmem S1x64 .f32} {harg20 : arg20.IsWhole} {arg21 : Memref sig .tc .vmem S576x10 .f32} {harg21 : arg21.IsWhole} {arg22 : Memref sig .tc .vmem S1x10 .f32} {harg22 : arg22.IsWhole} {arg23 : Memref sig .tc .vmem S8x10 .f32} {harg23 : arg23.IsWhole} {arg24 : Memref sig .tc .vmem S4096x512 .f32} {harg24 : arg24.IsWhole} {arg25 : Memref sig .tc .vmem S512x1536 .bf16} {harg25 : arg25.IsWhole} {arg26 : Memref sig .tc .vmem S2x512x512 .f32} {harg26 : arg26.IsWhole} {arg27 : Memref sig .tc .vmem S2x512x512 .bf16} {harg27 : arg27.IsWhole} {arg28 : Memref sig .tc .vmem S512x512 .bf16} {harg28 : arg28.IsWhole} {arg29 : Memref sig .tc .vmem S512x2048 .bf16} {harg29 : arg29.IsWhole} {arg30 : DmaSems sig S_} {Q : PUnit → sProp 𝕄} {Y : FVec F S16x512x1x512 .f32} {p : FVec F S512x512 .f32}
    {x : IVec S8x512 32} {s : FVec F S8x1x64 .f32} {a6 : FVec F S1x1536x512 .bf16} {a7 : FVec F S1x1x1536 .f32} {a8 : FVec F S1x512x512 .bf16} {a9 a10 a11 : FVec F S1x1x512 .f32}
    {a12 : FVec F S1x2048x512 .bf16} {a13 : FVec F S1x1x2048 .f32} {a14 : FVec F S1x512x2048 .bf16} {a15 a16 a17 : FVec F S1x1x512 .f32}
    {tc0 g2 bc2 : FVec F S1x64 .f32} {wht : FVec F S576x10 .f32} {bh : FVec F S1x10 .f32} {Z : FVec F S8x10 .f32} {X : FVec F S4096x512 .f32} {W : Waits sig Unit} :
    (iprop(owns (c : Thread nD τ) arg2 fullShare Y ∗ owns (c : Thread nD τ) arg3 fullShare p ∗ owns (c : Thread nD τ) arg4 fullShare x ∗ owns (c : Thread nD τ) arg5 fullShare s ∗ owns (c : Thread nD τ) arg6 fullShare a6 ∗ owns (c : Thread nD τ) arg7 fullShare a7 ∗ owns (c : Thread nD τ) arg8 fullShare a8 ∗ owns (c : Thread nD τ) arg9 fullShare a9 ∗ owns (c : Thread nD τ) arg10 fullShare a10 ∗ owns (c : Thread nD τ) arg11 fullShare a11 ∗ owns (c : Thread nD τ) arg12 fullShare a12 ∗ owns (c : Thread nD τ) arg13 fullShare a13 ∗ owns (c : Thread nD τ) arg14 fullShare a14 ∗ owns (c : Thread nD τ) arg15 fullShare a15 ∗ owns (c : Thread nD τ) arg16 fullShare a16 ∗ owns (c : Thread nD τ) arg17 fullShare a17 ∗ owns (c : Thread nD τ) arg18 fullShare tc0 ∗ owns (c : Thread nD τ) arg19 fullShare g2 ∗ owns (c : Thread nD τ) arg20 fullShare bc2 ∗ owns (c : Thread nD τ) arg21 fullShare wht ∗ owns (c : Thread nD τ) arg22 fullShare bh ∗ owns (c : Thread nD τ) arg23 fullShare Z ∗ owns (c : Thread nD τ) arg24 fullShare X ∗ (∃ X', owns (c : Thread nD τ) arg25 fullShare X') ∗ (∃ X', owns (c : Thread nD τ) arg26 fullShare X') ∗ (∃ X', owns (c : Thread nD τ) arg27 fullShare X') ∗ (∃ X', owns (c : Thread nD τ) arg28 fullShare X') ∗ (∃ X', owns (c : Thread nD τ) arg29 fullShare X') ∗ semVal ((c : Thread nD τ), SemLoc.dma arg30.sem) 0 ∗ owes (c : Thread nD τ) 0 W) : sProp 𝕄)
      ⊢ iprop(((owns (c : Thread nD τ) arg2 fullShare Y ∗ owns (c : Thread nD τ) arg3 fullShare p ∗ owns (c : Thread nD τ) arg4 fullShare x ∗ owns (c : Thread nD τ) arg5 fullShare s ∗ owns (c : Thread nD τ) arg6 fullShare a6 ∗ owns (c : Thread nD τ) arg7 fullShare a7 ∗ owns (c : Thread nD τ) arg8 fullShare a8 ∗ owns (c : Thread nD τ) arg9 fullShare a9 ∗ owns (c : Thread nD τ) arg10 fullShare a10 ∗ owns (c : Thread nD τ) arg11 fullShare a11 ∗ owns (c : Thread nD τ) arg12 fullShare a12 ∗ owns (c : Thread nD τ) arg13 fullShare a13 ∗ owns (c : Thread nD τ) arg14 fullShare a14 ∗ owns (c : Thread nD τ) arg15 fullShare a15 ∗ owns (c : Thread nD τ) arg16 fullShare a16 ∗ owns (c : Thread nD τ) arg17 fullShare a17 ∗ owns (c : Thread nD τ) arg18 fullShare tc0 ∗ owns (c : Thread nD τ) arg19 fullShare g2 ∗ owns (c : Thread nD τ) arg20 fullShare bc2 ∗ owns (c : Thread nD τ) arg21 fullShare wht ∗ owns (c : Thread nD τ) arg22 fullShare bh ∗ owns (c : Thread nD τ) arg23 fullShare (if k0_cond2 i = 1#1 then outVal (fun t => layerVal (mkW a6 a7 a8 a9 a10 a11 a12 a13 a14 a15 a16 a17) (startVal i Y p X t)) x s tc0 g2 bc2 wht bh else Z) ∗ owns (c : Thread nD τ) arg24 fullShare (stack8 (fun t => layerVal (mkW a6 a7 a8 a9 a10 a11 a12 a13 a14 a15 a16 a17) (startVal i Y p X t))) ∗ (∃ X', owns (c : Thread nD τ) arg25 fullShare X') ∗ (∃ X', owns (c : Thread nD τ) arg26 fullShare X') ∗ (∃ X', owns (c : Thread nD τ) arg27 fullShare X') ∗ (∃ X', owns (c : Thread nD τ) arg28 fullShare X') ∗ (∃ X', owns (c : Thread nD τ) arg29 fullShare X') ∗ semVal ((c : Thread nD τ), SemLoc.dma arg30.sem) 0 ∗ (∃ W : Waits sig Unit, owes (c : Thread nD τ) 0 W)) -∗ Q ⟨⟩)
        -∗ wp frame (wpE defs 𝒱 c bd) Set.univ (cc0_encoder_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30) Q) := by
  iintro ⟨H2, H3, H4, H5, H6, H7, H8, H9, H10, H11, H12, H13, H14, H15, H16, H17, H18, H19, H20, H21, H22, H23, H24, H25, H26, H27, H28, H29, Hs, HO⟩
  iintro Hk
  have hb : (bodyProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 : Prog (TpuEff nD τ sig (Elt F) Λ₀ .tc) PUnit) = (if k0_h1 : k0_cond1 i = 1#1 then
            startProg arg2 arg3 arg24 arg30.sem (embOff i) (fun t => k0_off1_inb i k0_h1 t)
          else pure ⟨⟩) >>= fun _ => passProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 := by
    unfold bodyProg
    by_cases h1 : k0_cond1 i = 1#1
    · simp only [dif_pos h1]
    · simp only [dif_neg h1, pure_bind]
  rw [body_eq, hb]
  have hstart : (iprop(owns (c : Thread nD τ) arg2 fullShare Y ∗ owns (c : Thread nD τ) arg3 fullShare p ∗ owns (c : Thread nD τ) arg24 fullShare X ∗ semVal ((c : Thread nD τ), SemLoc.dma arg30.sem) 0 ∗ owes (c : Thread nD τ) 0 W) : sProp 𝕄)
      ⊢ iprop(((owns (c : Thread nD τ) arg2 fullShare Y ∗ owns (c : Thread nD τ) arg3 fullShare p ∗ owns (c : Thread nD τ) arg24 fullShare (stack8 (startVal i Y p X)) ∗ semVal ((c : Thread nD τ), SemLoc.dma arg30.sem) 0 ∗ (∃ W' : Waits sig Unit, owes (c : Thread nD τ) 0 W'))
          -∗ wp frame (wpE defs 𝒱 c bd) Set.univ (passProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30) Q)
        -∗ wp frame (wpE defs 𝒱 c bd) Set.univ ((if k0_h1 : k0_cond1 i = 1#1 then
            startProg arg2 arg3 arg24 arg30.sem (embOff i) (fun t => k0_off1_inb i k0_h1 t)
          else pure ⟨⟩) >>= fun _ => passProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30) Q) := by
    by_cases h1 : k0_cond1 i = 1#1
    · have := start_spec (F := F) (Q := Q) (defs := defs) 𝒱 c bd (src := arg2) (arg3 := arg3) (arg24 := arg24) (sem := arg30.sem) (off := embOff i) (inb := fun t => k0_off1_inb i h1 t) (k := fun _ => passProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30) (Y := Y) (p := p) (X := X) (W := W)
      rw [show startVal i Y p X = fun t => k0_pay10 (embRows (embOff i) (fun t => k0_off1_inb i h1 t) Y t) p from dif_pos h1]
      simp only [dif_pos h1]
      exact this
    · rw [show startVal i Y p X = unstack8 X from dif_neg h1, stack8_unstack8]
      simp only [dif_neg h1, pure_bind]
      iintro ⟨H2, H3, H24, Hs, HO⟩
      iintro Hk
      iapply Hk
      isplitl [H2]; · iexact H2
      isplitl [H3]; · iexact H3
      isplitl [H24]; · iexact H24
      isplitl [Hs]; · iexact Hs
      iexists _; iexact HO
  iapply hstart $$ [H2 H3 H24 Hs HO]
  · isplitl [H2]; · iexact H2
    isplitl [H3]; · iexact H3
    isplitl [H24]; · iexact H24
    isplitl [Hs]; · iexact Hs
    iexact HO
  iintro ⟨H2, H3, H24, Hs, HO⟩
  unfold passProg
  iapply (load_whole 𝒱 c bd Set.univ) $$ H6; iintro H6
  iapply (load_whole 𝒱 c bd Set.univ) $$ H8; iintro H8
  iapply (load_whole 𝒱 c bd Set.univ) $$ H12; iintro H12
  iapply (load_whole 𝒱 c bd Set.univ) $$ H14; iintro H14
  iapply (show _ ⊢ _ from rest_spec (Q := Q) (defs := defs) (arg4 := arg4) (arg24 := arg24) (W := mkW a6 a7 a8 a9 a10 a11 a12 a13 a14 a15 a16 a17) (G := startVal i Y p X) (x := x) (s := s) (tc0 := tc0) (g2 := g2) (bc2 := bc2) (wht := wht) (bh := bh) (Z := Z) 𝒱 c bd) $$ [H7 H9 H10 H11 H13 H15 H16 H17 H24 H25 H26 H27 H28 H29 H4 H5 H18 H19 H20 H21 H22 H23]
  · isplitl [H7 H9 H10 H11 H13 H15 H16 H17 H24 H25 H26 H27 H28 H29]
    · unfold tripSt
      isplitl [H7]; · iexact H7
      isplitl [H9]; · iexact H9
      isplitl [H10]; · iexact H10
      isplitl [H11]; · iexact H11
      isplitl [H13]; · iexact H13
      isplitl [H15]; · iexact H15
      isplitl [H16]; · iexact H16
      isplitl [H17]; · iexact H17
      isplitl [H24]; · iexact H24
      isplitl [H25]; · iexact H25
      isplitl [H26]; · iexact H26
      isplitl [H27]; · iexact H27
      isplitl [H28]; · iexact H28
      iexact H29

    isplitl [H4]; · iexact H4
    isplitl [H5]; · iexact H5
    isplitl [H18]; · iexact H18
    isplitl [H19]; · iexact H19
    isplitl [H20]; · iexact H20
    isplitl [H21]; · iexact H21
    isplitl [H22]; · iexact H22
    iexact H23

  unfold tripSt
  iintro ⟨⟨H7, H9, H10, H11, H13, H15, H16, H17, H24, H25, H26, H27, H28, H29⟩, H4, H5, H18, H19, H20, H21, H22, H23⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [Hs]; · iexact Hs
  iexact HO

end

end Cert.KernelIdeal.Own
-- ==== Proof.Run.lean ====
module

public import proofs.«01_k».proof.Proof.Pass
public import proofs.«01_k».proof.Proof.Gen.KernelIdeal.Frame
public import Idealize.ShloMosaic.Lib.Pipeline.ValueKit

@[expose] public section

set_option maxRecDepth 16384

noncomputable section

namespace Cert.KernelIdeal.Own

open Cert.KernelIdeal Cert.KernelIdeal.Gen Cert.Vals
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The blocks, at their own types -/

/-- The block of window 0 at a grid point. -/
abbrev blk0 (c : Dev nD) (t : Fin cfg0.N) : FVec F S512x512 .f32 := iblk m c 0 t
/-- The block of window 1 at a grid point. -/
abbrev blk1 (c : Dev nD) (t : Fin cfg0.N) : IVec S8x512 32 := iblk m c 1 t
/-- The block of window 2 at a grid point. -/
abbrev blk2 (c : Dev nD) (t : Fin cfg0.N) : FVec F S8x1x64 .f32 := iblk m c 2 t
/-- The block of window 3 at a grid point. -/
abbrev blk3 (c : Dev nD) (t : Fin cfg0.N) : FVec F S1x1536x512 .bf16 := iblk m c 3 t
/-- The block of window 4 at a grid point. -/
abbrev blk4 (c : Dev nD) (t : Fin cfg0.N) : FVec F S1x1x1536 .f32 := iblk m c 4 t
/-- The block of window 5 at a grid point. -/
abbrev blk5 (c : Dev nD) (t : Fin cfg0.N) : FVec F S1x512x512 .bf16 := iblk m c 5 t
/-- The block of window 6 at a grid point. -/
abbrev blk6 (c : Dev nD) (t : Fin cfg0.N) : FVec F S1x1x512 .f32 := iblk m c 6 t
/-- The block of window 7 at a grid point. -/
abbrev blk7 (c : Dev nD) (t : Fin cfg0.N) : FVec F S1x1x512 .f32 := iblk m c 7 t
/-- The block of window 8 at a grid point. -/
abbrev blk8 (c : Dev nD) (t : Fin cfg0.N) : FVec F S1x1x512 .f32 := iblk m c 8 t
/-- The block of window 9 at a grid point. -/
abbrev blk9 (c : Dev nD) (t : Fin cfg0.N) : FVec F S1x2048x512 .bf16 := iblk m c 9 t
/-- The block of window 10 at a grid point. -/
abbrev blk10 (c : Dev nD) (t : Fin cfg0.N) : FVec F S1x1x2048 .f32 := iblk m c 10 t
/-- The block of window 11 at a grid point. -/
abbrev blk11 (c : Dev nD) (t : Fin cfg0.N) : FVec F S1x512x2048 .bf16 := iblk m c 11 t
/-- The block of window 12 at a grid point. -/
abbrev blk12 (c : Dev nD) (t : Fin cfg0.N) : FVec F S1x1x512 .f32 := iblk m c 12 t
/-- The block of window 13 at a grid point. -/
abbrev blk13 (c : Dev nD) (t : Fin cfg0.N) : FVec F S1x1x512 .f32 := iblk m c 13 t
/-- The block of window 14 at a grid point. -/
abbrev blk14 (c : Dev nD) (t : Fin cfg0.N) : FVec F S1x1x512 .f32 := iblk m c 14 t
/-- The block of window 15 at a grid point. -/
abbrev blk15 (c : Dev nD) (t : Fin cfg0.N) : FVec F S1x64 .f32 := iblk m c 15 t
/-- The block of window 16 at a grid point. -/
abbrev blk16 (c : Dev nD) (t : Fin cfg0.N) : FVec F S1x64 .f32 := iblk m c 16 t
/-- The block of window 17 at a grid point. -/
abbrev blk17 (c : Dev nD) (t : Fin cfg0.N) : FVec F S1x64 .f32 := iblk m c 17 t
/-- The block of window 18 at a grid point. -/
abbrev blk18 (c : Dev nD) (t : Fin cfg0.N) : FVec F S576x10 .f32 := iblk m c 18 t
/-- The block of window 19 at a grid point. -/
abbrev blk19 (c : Dev nD) (t : Fin cfg0.N) : FVec F S1x10 .f32 := iblk m c 19 t

/-- The embedded rows, in the array the pipeline does not stage. -/
abbrev embArr (c : Dev nD) : FVec F S16x512x1x512 .f32 := V m c main_arg1

/-- The weights of the pass at point `t`. -/
def wAt (c : Dev nD) (t : Fin cfg0.N) : LayerW F := mkW (blk3 m c t) (blk4 m c t) (blk5 m c t) (blk6 m c t) (blk7 m c t) (blk8 m c t) (blk9 m c t) (blk10 m c t) (blk11 m c t) (blk12 m c t) (blk13 m c t) (blk14 m c t)

/-- The rows after the pass at point `t`, from the rows `X` before it. -/
def passRows (c : Dev nD) (t : Fin cfg0.N) (X : FVec F S4096x512 .f32) : Fin 8 → FVec F S512x512 .f32 :=
  fun b => layerVal (wAt m c t) (startVal (grid0.coords t) (embArr m c) (blk0 m c t) X b)

/-- The row buffer before the point numbered `n`, from the contents `X` at the start. -/
def rowBuf (c : Dev nD) (X : FVec F S4096x512 .f32) : ℕ → FVec F S4096x512 .f32
  | 0 => X
  | n + 1 => if h : n < cfg0.N then stack8 (passRows m c ⟨n, h⟩ (rowBuf c X n)) else rowBuf c X n

/-- The row buffer after one more pass. -/
theorem rowBuf_succ (c : Dev nD) (X : FVec F S4096x512 .f32) (t : Fin cfg0.N) :
    rowBuf m c X (t.val + 1) = stack8 (passRows m c t (rowBuf m c X t.val)) := dif_pos t.isLt

/-- The start condition holds at the first point. -/
theorem cond1_zero (h : 0 < cfg0.N) : k0_cond1 (grid0.coords ⟨0, h⟩) = 1#1 := (by decide +kernel : k0_cond1 (grid0.coords t0_0) = 1#1)

/-- What the row buffer held at first is of no effect after the first pass. -/
theorem rowBuf_indep (c : Dev nD) (X X' : FVec F S4096x512 .f32) (n : ℕ) : rowBuf m c X (n + 1) = rowBuf m c X' (n + 1) := by
  induction n with
  | zero =>
    unfold rowBuf rowBuf
    by_cases h : 0 < cfg0.N
    · rw [dif_pos h, dif_pos h]
      unfold passRows startVal
      simp only [dif_pos (cond1_zero h)]
    · exact absurd (show 0 < grid0.N by rw [N_0]; decide) h
  | succ n ih =>
    rw [rowBuf, ih]
    rfl

/-- Some contents of the row buffer, to start from. -/
def rows0 (c : Dev nD) : FVec F S4096x512 .f32 := stack8 fun _ => blk0 m c t0_0

/-- The output block after the pass at point `t`. -/
def outAt (c : Dev nD) (t : Fin cfg0.N) : FVec F S8x10 .f32 :=
  outVal (passRows m c t (rowBuf m c (rows0 m c) t.val)) (blk1 m c t) (blk2 m c t) (blk15 m c t) (blk16 m c t) (blk17 m c t) (blk18 m c t) (blk19 m c t)

/-- A first pass does not depend on what the buffer held. -/
theorem passRows_indep (c : Dev nD) (X : FVec F S4096x512 .f32) (t : Fin cfg0.N) :
    passRows m c t (rowBuf m c X t.val) = passRows m c t (rowBuf m c (rows0 m c) t.val) := by
  have := rowBuf_indep m c X (rows0 m c) t.val
  rw [rowBuf_succ, rowBuf_succ] at this
  have h2 := congrArg unstack8 this
  rwa [unstack8_stack8, unstack8_stack8] at h2

/-! ## The body's own cell and the array left unstaged -/

/-- The copies' semaphore. -/
abbrev osem0 : Fin 1 → SemLoc sig := fun j => (![SemLoc.dma 36] : Fin 1 → SemLoc sig) j
/-- It is the call's own. -/
theorem ownSemFacts0 : Pipeline.OwnSemFacts spec0 osem0 := by decide
/-- The call's own counters as one. -/
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 36) 0 := by
  rw [Pipeline.ownSems0_eq_of_list c osem0 [0] (by decide) (by decide)]; rfl
/-- The array that stays outside the windows. -/
def H0 : Finset (Ref sig .tc) := {main_arg1}
/-- It is none of the windows' arrays. -/
theorem H0_sub : H0 ⊆ Pipeline.restRefs sig spec0 := by decide
/-- Its ownership. -/
theorem hbmPts0_eq (c : Dev nD) :
    (bigSep H0 (fun b => ((c : Thread nD τ).loc b) ↦{fullShare} V m c b) : sProp 𝕄)
      = owns (c : Thread nD τ) (Memref.whole main_arg1) fullShare (embArr m c) := by
  rw [BI.bigSep_eq_bigSepL_of_eq [main_arg1] (by decide) (by decide), owns_whole]; rfl

/-- What the body holds between points besides the staged blocks: the row buffer before point `n`, the other scratch
    buffers at something, the generator register, its cell at zero and the embedded rows. -/
def Phi (c : Dev nD) (n : ℕ) : sProp 𝕄 :=
  iprop(((∃ X, owns (c : Thread nD τ) (Memref.whole cc0_scratch0) fullShare (rowBuf m c X n)) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X))
    ∗ (∃ r, prngReg c r) ∗ semVal ((c : Thread nD τ), SemLoc.dma 36) 0 ∗ owns (c : Thread nD τ) (Memref.whole main_arg1) fullShare (embArr m c))

/-- The invariant before the first pass. -/
theorem PhiD_eq (c : Dev nD) : (Pipeline.ΦD osem0 spec0 H0 (V m) c : sProp 𝕄) = Phi m c 0 := by
  rw [Pipeline.ΦD_eq, scopedRest0_eq, ownSems00_eq, hbmPts0_eq]
  unfold Phi
  simp only [owns_whole, rowBuf]; try rfl

/-- After the last point the row buffer's contents are forgotten. -/
theorem PhiLast (c : Dev nD) : (Phi m c (Fin.last cfg0.N).val : sProp 𝕄) ⊢ Pipeline.ΦD osem0 spec0 H0 (V m) c := by
  rw [PhiD_eq]
  unfold Phi
  iintro ⟨⟨⟨%X0, S0⟩, S1, S2, S3, S4, S5⟩, Hg, Hs, He⟩
  isplitl [S0 S1 S2 S3 S4 S5]
  · isplitl [S0]
    · iexists (rowBuf m c X0 (Fin.last cfg0.N).val)
      iexact S0
    isplitl [S1]; · iexact S1
    isplitl [S2]; · iexact S2
    isplitl [S3]; · iexact S3
    isplitl [S4]; · iexact S4
    iexact S5

  isplitl [Hg]; · iexact Hg
  isplitl [Hs]; · iexact Hs
  iexact He

/-- The proof data: the arrays as the region finds them, each staged input's block left in place, the output block at
    the head's value. -/
def dats (_ : Fin 1) (c : Dev nD) : Dat τ (Elt F) Unit ℕ (Pipeline.UD sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => blk6 m c t
    | ⟨7, _⟩ => blk7 m c t
    | ⟨8, _⟩ => blk8 m c t
    | ⟨9, _⟩ => blk9 m c t
    | ⟨10, _⟩ => blk10 m c t
    | ⟨11, _⟩ => blk11 m c t
    | ⟨12, _⟩ => blk12 m c t
    | ⟨13, _⟩ => blk13 m c t
    | ⟨14, _⟩ => blk14 m c t
    | ⟨15, _⟩ => blk15 m c t
    | ⟨16, _⟩ => blk16 m c t
    | ⟨17, _⟩ => blk17 m c t
    | ⟨18, _⟩ => blk18 m c t
    | ⟨19, _⟩ => blk19 m c t
    | ⟨20, _⟩ => outAt m c t
    | ⟨_ + 21, h⟩ => absurd h (Nat.not_lt.2 (Nat.le_add_left _ _))
  Φ t := Phi m c t.val
  q _ := fullShare
  owed _ := 0

/-- What a window's array holds at the start. -/
theorem A_eq (c : Dev nD) (w : Fin cfg0.W) : (dats m 0 c).A w = V m c (Pipeline.arrRef spec0 w) := by
  dsimp only [dats]
/-- What window 20 holds after a grid point. -/
theorem after20 (c : Dev nD) (t : Fin cfg0.N) : (dats m 0 c).after 20 t = outAt m c t := by dsimp only [dats]

/-- What window 0 holds after a grid point. -/
theorem after0 (c : Dev nD) (t : Fin cfg0.N) : (dats m 0 c).after 0 t = iblk m c 0 t := by dsimp only [dats]
/-- What window 0 holds before a grid point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- What window 1 holds after a grid point. -/
theorem after1 (c : Dev nD) (t : Fin cfg0.N) : (dats m 0 c).after 1 t = iblk m c 1 t := by dsimp only [dats]
/-- What window 1 holds before a grid point. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- What window 2 holds after a grid point. -/
theorem after2 (c : Dev nD) (t : Fin cfg0.N) : (dats m 0 c).after 2 t = iblk m c 2 t := by dsimp only [dats]
/-- What window 2 holds before a grid point. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- What window 3 holds after a grid point. -/
theorem after3 (c : Dev nD) (t : Fin cfg0.N) : (dats m 0 c).after 3 t = iblk m c 3 t := by dsimp only [dats]
/-- What window 3 holds before a grid point. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- What window 4 holds after a grid point. -/
theorem after4 (c : Dev nD) (t : Fin cfg0.N) : (dats m 0 c).after 4 t = iblk m c 4 t := by dsimp only [dats]
/-- What window 4 holds before a grid point. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- What window 5 holds after a grid point. -/
theorem after5 (c : Dev nD) (t : Fin cfg0.N) : (dats m 0 c).after 5 t = iblk m c 5 t := by dsimp only [dats]
/-- What window 5 holds before a grid point. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- What window 6 holds after a grid point. -/
theorem after6 (c : Dev nD) (t : Fin cfg0.N) : (dats m 0 c).after 6 t = iblk m c 6 t := by dsimp only [dats]
/-- What window 6 holds before a grid point. -/
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
/-- What window 7 holds after a grid point. -/
theorem after7 (c : Dev nD) (t : Fin cfg0.N) : (dats m 0 c).after 7 t = iblk m c 7 t := by dsimp only [dats]
/-- What window 7 holds before a grid point. -/
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
/-- What window 8 holds after a grid point. -/
theorem after8 (c : Dev nD) (t : Fin cfg0.N) : (dats m 0 c).after 8 t = iblk m c 8 t := by dsimp only [dats]
/-- What window 8 holds before a grid point. -/
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
/-- What window 9 holds after a grid point. -/
theorem after9 (c : Dev nD) (t : Fin cfg0.N) : (dats m 0 c).after 9 t = iblk m c 9 t := by dsimp only [dats]
/-- What window 9 holds before a grid point. -/
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
/-- What window 10 holds after a grid point. -/
theorem after10 (c : Dev nD) (t : Fin cfg0.N) : (dats m 0 c).after 10 t = iblk m c 10 t := by dsimp only [dats]
/-- What window 10 holds before a grid point. -/
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
/-- What window 11 holds after a grid point. -/
theorem after11 (c : Dev nD) (t : Fin cfg0.N) : (dats m 0 c).after 11 t = iblk m c 11 t := by dsimp only [dats]
/-- What window 11 holds before a grid point. -/
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
/-- What window 12 holds after a grid point. -/
theorem after12 (c : Dev nD) (t : Fin cfg0.N) : (dats m 0 c).after 12 t = iblk m c 12 t := by dsimp only [dats]
/-- What window 12 holds before a grid point. -/
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
/-- What window 13 holds after a grid point. -/
theorem after13 (c : Dev nD) (t : Fin cfg0.N) : (dats m 0 c).after 13 t = iblk m c 13 t := by dsimp only [dats]
/-- What window 13 holds before a grid point. -/
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
/-- What window 14 holds after a grid point. -/
theorem after14 (c : Dev nD) (t : Fin cfg0.N) : (dats m 0 c).after 14 t = iblk m c 14 t := by dsimp only [dats]
/-- What window 14 holds before a grid point. -/
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
/-- What window 15 holds after a grid point. -/
theorem after15 (c : Dev nD) (t : Fin cfg0.N) : (dats m 0 c).after 15 t = iblk m c 15 t := by dsimp only [dats]
/-- What window 15 holds before a grid point. -/
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
/-- What window 16 holds after a grid point. -/
theorem after16 (c : Dev nD) (t : Fin cfg0.N) : (dats m 0 c).after 16 t = iblk m c 16 t := by dsimp only [dats]
/-- What window 16 holds before a grid point. -/
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
/-- What window 17 holds after a grid point. -/
theorem after17 (c : Dev nD) (t : Fin cfg0.N) : (dats m 0 c).after 17 t = iblk m c 17 t := by dsimp only [dats]
/-- What window 17 holds before a grid point. -/
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
/-- What window 18 holds after a grid point. -/
theorem after18 (c : Dev nD) (t : Fin cfg0.N) : (dats m 0 c).after 18 t = iblk m c 18 t := by dsimp only [dats]
/-- What window 18 holds before a grid point. -/
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
/-- What window 19 holds after a grid point. -/
theorem after19 (c : Dev nD) (t : Fin cfg0.N) : (dats m 0 c).after 19 t = iblk m c 19 t := by dsimp only [dats]
/-- What window 19 holds before a grid point. -/
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)

/-- The output's buffer after the body at point `t`: the head's value where the head runs, else as found. -/
def outPost (c : Dev nD) (t : Fin cfg0.N) : sProp 𝕄 :=
  if k0_cond2 (grid0.coords t) = 1#1 then owns (c : Thread nD τ) (st0_20 t) fullShare ((dats m 0 c).after 20 t)
  else iprop(∃ d, owns (c : Thread nD τ) (st0_20 t) fullShare ((dats m 0 c).before 20 t d))

/-- What the body owns before a grid point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)))
/-- What it owns after it. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ outPost m c t)

set_option maxHeartbeats 3200000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Phi m c t.val from rfl, show (dats m 0 c).Φ t.succ = Phi m c (t.val + 1) from rfl]
  unfold Phi
  unfold Dat.owesAt Pipeline.owesWithin
  rw [show (dats m 0 c).owed t.castSucc = 0 from rfl, show (dats m 0 c).owed t.succ = 0 from rfl]
  simp only [before0, before1, before2, before3, before4, before5, before6, before7, before8, before9, before10, before11, before12, before13, before14, before15, before16, before17, before18, before19]
  iintro ⟨⟨⟨⟨%X0, S0⟩, S1, S2, S3, S4, S5⟩, Hg, Hs, He⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (show _ ⊢ _ from body_spec (F := F) (defs := defs₀ (F := F)) (Y := embArr m c) (p := blk0 m c t) (x := blk1 m c t) (s := blk2 m c t) (a6 := blk3 m c t) (a7 := blk4 m c t) (a8 := blk5 m c t) (a9 := blk6 m c t) (a10 := blk7 m c t) (a11 := blk8 m c t) (a12 := blk9 m c t) (a13 := blk10 m c t) (a14 := blk11 m c t) (a15 := blk12 m c t) (a16 := blk13 m c t) (a17 := blk14 m c t) (tc0 := blk15 m c t) (g2 := blk16 m c t) (bc2 := blk17 m c t) (wht := blk18 m c t) (bh := blk19 m c t) (Z := (dats m 0 c).before 20 t d20) (X := rowBuf m c X0 t.val) (W := W) Variants.none c none) $$ [He H0 H1 H2 H3 H4 H5 H6 H7 H8 H9 H10 H11 H12 H13 H14 H15 H16 H17 H18 H19 H20 S0 S1 S2 S3 S4 S5 Hs HW]
  · isplitl [He]; · iexact He
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    isplitl [S3]; · iexact S3
    isplitl [S4]; · iexact S4
    isplitl [S5]; · iexact S5
    isplitl [Hs]; · iexact Hs
    iexact HW

  iintro ⟨He, H0, H1, H2, H3, H4, H5, H6, H7, H8, H9, H10, H11, H12, H13, H14, H15, H16, H17, H18, H19, H20, S0, S1, S2, S3, S4, S5, Hs, ⟨%W', HW'⟩⟩
  isplitl [S0 S1 S2 S3 S4 S5 Hg Hs He]
  · isplitl [S0 S1 S2 S3 S4 S5]
    · isplitl [S0]
      · iexists X0
        rw [rowBuf_succ]
        iexact S0
      isplitl [S1]; · iexact S1
      isplitl [S2]; · iexact S2
      isplitl [S3]; · iexact S3
      isplitl [S4]; · iexact S4
      iexact S5

    isplitl [Hg]; · iexact Hg
    isplitl [Hs]; · iexact Hs
    iexact He
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold outPost
  by_cases h2 : k0_cond2 (grid0.coords t) = 1#1
  · simp only [if_pos h2]
    rw [after20]
    unfold outAt
    rw [← passRows_indep m c X0 t]
    iexact H20
  · simp only [if_neg h2]
    iexists d20
    iexact H20

/-- The body is the call's definition. -/
theorem defs₀_row (t : Fin cfg0.N) :
    defs₀ (F := F) .tc cfg0.body (cfg0.bodyArgs t (cfg0.slots t)) = bodyAt0 t := by
  unfold defs₀; rw [Defs.onTc_tc]

/-- Where the head runs, the pipeline writes the block back, and nowhere else. -/
theorem flush_cond : ∀ t : Fin cfg0.N, (cfg0.win 20).flush t = true ↔ k0_cond2 (grid0.coords t) = 1#1 := by decide +kernel

/-- What the body leaves in the output block. -/
theorem outPost_eq (c : Dev nD) (t : Fin cfg0.N) :
    (outPost m c t : sProp 𝕄) = (match cfg0.idle 20 (cfg0.grid.coords t) with
      | true => match (cfg0.win 20).flush t with
        | false => iprop(∃ d, owns (c : Thread nD τ) ((cfg0.win 20).stage (cfg0.slots t 20)) fullShare ((dats m 0 c).before 20 t d))
        | true => owns (c : Thread nD τ) ((cfg0.win 20).stage (cfg0.slots t 20)) fullShare ((dats m 0 c).after 20 t)
      | false => owns (c : Thread nD τ) ((cfg0.win 20).stage (cfg0.slots t 20)) fullShare ((dats m 0 c).after 20 t)) := by
  unfold outPost
  by_cases h2 : k0_cond2 (grid0.coords t) = 1#1
  · rw [if_pos h2, show cfg0.idle 20 (cfg0.grid.coords t) = false from by show (!(k0_cond2 (grid0.coords t) == 1#1)) = false; rw [h2]; rfl]
  · rw [if_neg h2, show cfg0.idle 20 (cfg0.grid.coords t) = true from by show (!(k0_cond2 (grid0.coords t) == 1#1)) = true; simp [h2],
      show (cfg0.win 20).flush t = false from by rw [← Bool.not_eq_true, flush_cond]; exact h2]

/-- The body meets the launch's obligation at every grid point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [outPost_eq]
  exact .rfl

set_option maxHeartbeats 800000 in
/-- The whole program runs from the launch. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every array at its contents after the grid, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Entails.of_eq (PhiD_eq m c)) (hout := fun c => (PhiLast m c))

end Cert.KernelIdeal.Own
-- ==== Proof.Ends.lean ====
module

public import proofs.«01_k».proof.Proof.Run

@[expose] public section

set_option maxRecDepth 16384

noncomputable section

namespace Cert.KernelIdeal.Own

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg)

set_option maxHeartbeats 1600000 in
/-- The program runs without fault; the result ends at the output array's contents after the grid, the arguments are
    unchanged, every counter ends at zero. -/
theorem run : θ_run defs (onTc (τ := τ) (main (F := F))) ⟨m, fun _ => 0, ρ⟩ (fun r => (∀ c : Dev nD,
      r.2.mem ((c.tc : Thread nD τ).loc main_v27) = (dats m 0 c).arrAt 20 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0) :=
  (θ_run defs _ _).mono (fun _ h => ⟨fun c => ⟨(h.1 c).1 20,
      ((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c)⟩, h.2⟩) (run_main m ρ)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0) :=
  (θ_run defs _ _).mono (fun _ h => ⟨fun c => (h.1 c).2, h.2⟩) (run m ρ)

end Cert.KernelIdeal.Own
-- ==== Proof.Consts.lean ====
module

public import Idealize.ShloMosaic.PureOps.Ideal

@[expose] public section

noncomputable section

namespace Cert.Enc

open Idealize.ShloMosaic

/-- The attention scale is one eighth. -/
theorem ofBits_eighth : Ideal.ofBits .f32 0x3E000000#32 = ((1 / 8 : ℝ) : EReal) := by
  simp [Ideal.ofBits, Ideal.ieee, -EReal.coe_mul]; norm_num

/-- The row length. -/
theorem ofBits_512 : Ideal.ofBits .f32 0x44000000#32 = ((512 : ℝ) : EReal) := by
  simp [Ideal.ofBits, Ideal.ieee, -EReal.coe_mul]; norm_num

/-- Two. -/
theorem ofBits_2 : Ideal.ofBits .f32 0x40000000#32 = ((2 : ℝ) : EReal) := by
  simp [Ideal.ofBits, Ideal.ieee, -EReal.coe_mul]; try norm_num

/-- The number of table rows. -/
theorem ofBits_50257 : Ideal.ofBits .f32 0x47445100#32 = ((50257 : ℝ) : EReal) := by
  simp [Ideal.ofBits, Ideal.ieee, -EReal.coe_mul]; norm_num

/-- The small constant of the normalisations is positive. -/
theorem ofBits_eps : ∃ e : ℝ, 0 < e ∧ Ideal.ofBits .f32 0x3727C5AC#32 = ((e : ℝ) : EReal) := by
  refine ⟨_, ?_, by simp only [Ideal.ofBits, Ideal.ieee]; simp [-EReal.coe_mul]; rfl⟩
  positivity

end Cert.Enc

end
-- ==== Proof.Layer.lean ====
module

public import proofs.«01_k».proof.Proof.Consts
public import Idealize.ShloMosaic.Lib.Pointwise

@[expose] public section

set_option maxRecDepth 16384

noncomputable section

namespace Cert.Enc

open Idealize.ShloMosaic

/-! ## One encoder layer on one sequence, number by number -/

/-- The weights of one layer. -/
structure Weights where
  wqkv : Fin 1536 → Fin 512 → EReal
  bqkv : Fin 1536 → EReal
  wo : Fin 512 → Fin 512 → EReal
  bo : Fin 512 → EReal
  g1 : Fin 512 → EReal
  h1 : Fin 512 → EReal
  w1 : Fin 2048 → Fin 512 → EReal
  b1 : Fin 2048 → EReal
  w2 : Fin 512 → Fin 2048 → EReal
  b2 : Fin 512 → EReal
  g2 : Fin 512 → EReal
  h2 : Fin 512 → EReal

/-- The mean of 512 numbers. -/
def mean (v : Fin 512 → EReal) : EReal := Ideal.div (∑ j, v j) (Ideal.ofBits .f32 0x44000000#32)

/-- Layer normalisation of a row, with gain `g` and offset `b`. -/
def lnorm (v g b : Fin 512 → EReal) (d : Fin 512) : EReal :=
  (v d - mean v) * Ideal.rsqrt (mean (fun j => (v j - mean v) * (v j - mean v)) + Ideal.ofBits .f32 0x3727C5AC#32) * g d + b d

/-- The softmax of a row. -/
def soft (s : Fin 512 → EReal) (j : Fin 512) : EReal :=
  Ideal.exp (s j - Finset.univ.fold max (Ideal.ofBits .f32 0xFF800000#32) s)
    * Ideal.div 1 (∑ l, Ideal.exp (s l - Finset.univ.fold max (Ideal.ofBits .f32 0xFF800000#32) s))

/-- The exact gaussian unit. -/
def gelu (u : EReal) : EReal := Ideal.ofBits .f32 0x3F000000#32 * u * (1 + Ideal.erf (u * (((Real.sqrt 2)⁻¹ : ℝ) : EReal)))

/-- The projections. -/
def proj (W : Weights) (x : Fin 512 → Fin 512 → EReal) (i : Fin 512) (e : Fin 1536) : EReal := (∑ d, x i d * W.wqkv e d) + W.bqkv e

/-- The attention score of query row `i` and key row `j` in the head of column `e`. -/
def score (P : Fin 512 → Fin 1536 → EReal) (h : Fin 8) (i j : Fin 512) : EReal :=
  (∑ d : Fin 64, P i ⟨64 * h.val + d.val, by omega⟩ * P j ⟨512 + (64 * h.val + d.val), by omega⟩) * Ideal.ofBits .f32 0x3E000000#32

/-- The attention output. -/
def att (P : Fin 512 → Fin 1536 → EReal) (i e : Fin 512) : EReal :=
  ∑ j, soft (score P ⟨e.val / 64, by omega⟩ i) j * P j ⟨1024 + e.val, by omega⟩

/-- The rows after attention and the first normalisation. -/
def mid (W : Weights) (x : Fin 512 → Fin 512 → EReal) (i : Fin 512) : Fin 512 → EReal :=
  lnorm (fun d => x i d + ((∑ e, att (proj W x) i e * W.wo d e) + W.bo d)) W.g1 W.h1

/-- The activated feed-forward values of a row. -/
def ffn (W : Weights) (y : Fin 512 → EReal) (e : Fin 2048) : EReal := gelu ((∑ d, y d * W.w1 e d) + W.b1 e)

/-- One layer. -/
def layer (W : Weights) (x : Fin 512 → Fin 512 → EReal) (i : Fin 512) : Fin 512 → EReal :=
  lnorm (fun d => mid W x i d + ((∑ e, ffn W (mid W x i) e * W.w2 d e) + W.b2 d)) W.g2 W.h2

/-- The rows after the first `n` layers. -/
def encode (W : Fin 4 → Weights) (x : Fin 512 → Fin 512 → EReal) : ℕ → Fin 512 → Fin 512 → EReal
  | 0 => x
  | n + 1 => if h : n < 4 then layer (W ⟨n, h⟩) (encode W x n) else encode W x n

/-- The rows of sequence `b` before the first layer. -/
def startRows (h : FVec Ideal ⟨4, ![16, 512, 1, 512]⟩ .f32) (p : FVec Ideal ⟨3, ![1, 512, 512]⟩ .f32) (b : Fin 16) (i d : Fin 512) : EReal :=
  h (ix4 b i 0 d) + p (ix3 0 i d)

/-- The weights of layer `l` in the stacked arrays. -/
def weightsAt (wqkv : FVec Ideal ⟨3, ![4, 1536, 512]⟩ .f32) (bqkv : FVec Ideal ⟨2, ![4, 1536]⟩ .f32) (wo : FVec Ideal ⟨3, ![4, 512, 512]⟩ .f32)
    (bo g1 h1 : FVec Ideal ⟨2, ![4, 512]⟩ .f32) (w1 : FVec Ideal ⟨3, ![4, 2048, 512]⟩ .f32) (b1 : FVec Ideal ⟨2, ![4, 2048]⟩ .f32)
    (w2 : FVec Ideal ⟨3, ![4, 512, 2048]⟩ .f32) (b2 g2 h2 : FVec Ideal ⟨2, ![4, 512]⟩ .f32) (l : Fin 4) : Weights where
  wqkv e d := wqkv (ix3 l e d)
  bqkv e := bqkv (ix2 l e)
  wo d e := wo (ix3 l d e)
  bo d := bo (ix2 l d)
  g1 d := g1 (ix2 l d)
  h1 d := h1 (ix2 l d)
  w1 e d := w1 (ix3 l e d)
  b1 e := b1 (ix2 l e)
  w2 d e := w2 (ix3 l d e)
  b2 d := b2 (ix2 l d)
  g2 d := g2 (ix2 l d)
  h2 d := h2 (ix2 l d)

/-- A nonnegative real factor comes out of a sum. -/
theorem sum_mul_coe {ι : Type} (s : Finset ι) (f : ι → EReal) (r : ℝ) (hr : 0 ≤ r) : (∑ k ∈ s, f k * (r : EReal)) = (∑ k ∈ s, f k) * (r : EReal) := by
  classical
  induction s using Finset.induction_on with
  | empty => simp
  | insert a s ha ih =>
    rw [Finset.sum_insert ha, Finset.sum_insert ha, ih, EReal.right_distrib_of_nonneg_of_ne_top (EReal.coe_nonneg.2 hr) (EReal.coe_ne_top r)]

/-- Scaling the queries is scaling the scores. -/
theorem scaled_sum (q k : Fin 64 → EReal) :
    (∑ d, q d * Ideal.ofBits .f32 0x3E000000#32 * k d) = (∑ d, q d * k d) * Ideal.ofBits .f32 0x3E000000#32 := by
  rw [ofBits_eighth, ← sum_mul_coe _ _ _ (by norm_num)]
  exact Finset.sum_congr rfl fun d _ => mul_right_comm _ _ _

/-- Layer normalisation depends on its rows only. -/
theorem lnorm_congr {v v' g g' b b' : Fin 512 → EReal} (hv : ∀ d, v d = v' d) (hg : ∀ d, g d = g' d) (hb : ∀ d, b d = b' d) (d : Fin 512) :
    lnorm v g b d = lnorm v' g' b' d := by
  rw [funext hv, funext hg, funext hb]

end Cert.Enc
-- ==== Proof.LayerKernel.lean ====
module

public import proofs.«01_k».proof.Proof.TripSpec
public import proofs.«01_k».proof.Proof.Layer

@[expose] public section

set_option maxRecDepth 16384

noncomputable section

namespace Cert.KernelIdeal.Own

open Cert.KernelIdeal Cert.KernelIdeal.Gen Cert.Enc
open Idealize.ShloMosaic Idealize.ShloMosaic.TcCoe

/-- The kernel's layer weights, number by number. -/
def numsOf (W : LayerW Ideal) : Weights where
  wqkv e d := W.wqkv (ix2 e d)
  bqkv e := W.b7 (ix3 0 0 e)
  wo d e := W.wo (ix2 d e)
  bo d := W.b9 (ix3 0 0 d)
  g1 d := W.b10 (ix3 0 0 d)
  h1 d := W.b11 (ix3 0 0 d)
  w1 e d := W.w1 (ix2 e d)
  b1 e := W.b13 (ix3 0 0 e)
  w2 d e := W.w2 (ix2 d e)
  b2 d := W.b15 (ix3 0 0 d)
  g2 d := W.b16 (ix3 0 0 d)
  h2 d := W.b17 (ix3 0 0 d)

/-- The rows of an array of one sequence. -/
def rows (x : FVec Ideal S512x512 .f32) (i d : Fin 512) : EReal := x (ix2 i d)

/-- The first chunk of the projections: the scaled queries. -/
theorem q_at (w : FVec Ideal S1536x512 .bf16) (x : FVec Ideal S512x512 .f32) (b : FVec Ideal S1x1x512 .f32) (i e : Fin 512) :
    k0_pay16 (F := Ideal) w x b (ix2 i e) = ((∑ d : Fin 512, x (ix2 i d) * w (ix2 ⟨e.val, by omega⟩ d)) + b (ix3 0 0 e)) * Ideal.ofBits .f32 0x3E000000#32 := by
  pointwise [k0_pay16, k0_pay15]

/-- The second chunk: the keys. -/
theorem k_at (w : FVec Ideal S1536x512 .bf16) (x : FVec Ideal S512x512 .f32) (b : FVec Ideal S1x1x512 .f32) (i e : Fin 512) :
    k0_pay17 (F := Ideal) w x b (ix2 i e) = (∑ d : Fin 512, x (ix2 i d) * w (ix2 ⟨512 + e.val, by omega⟩ d)) + b (ix3 0 0 e) := by
  pointwise [k0_pay17, k0_pay15]

/-- The third chunk: the values. -/
theorem v_at (w : FVec Ideal S1536x512 .bf16) (x : FVec Ideal S512x512 .f32) (b : FVec Ideal S1x1x512 .f32) (i e : Fin 512) :
    k0_pay19 (F := Ideal) (k0_pay18 (F := Ideal) w x b) (ix2 i e) = (∑ d : Fin 512, x (ix2 i d) * w (ix2 ⟨1024 + e.val, by omega⟩ d)) + b (ix3 0 0 e) := by
  pointwise [k0_pay19, k0_pay18, k0_pay15]

/-- The softmax of a block of rows. -/
theorem soft_at (S : FVec Ideal S128x512 .f32) (i : Fin 128) (j : Fin 512) :
    k0_pay21 (F := Ideal) S (ix3 0 i j) = soft (fun l => S (ix2 i l)) j := by
  pointwise [k0_pay21, soft]

/-- A head's scores. -/
theorem sc_at (q k : FVec Ideal S512x64 .bf16) (i j : Fin 512) :
    k0_pay20 (F := Ideal) q k (ix3 0 i j) = ∑ d : Fin 64, q (ix2 i d) * k (ix2 j d) := by
  pointwise [k0_pay20]

/-- A head's output. -/
theorem av_at (v : FVec Ideal S512x64 .bf16) (p : FVec Ideal S1x512x512 .bf16) (i : Fin 512) (d : Fin 64) :
    k0_pay26 (F := Ideal) v p (ix2 i d) = ∑ j : Fin 512, p (ix3 0 i j) * v (ix2 j d) := by
  pointwise [k0_pay26]

/-- The first normalisation. -/
theorem mid_at (w : FVec Ideal S512x512 .bf16) (x : FVec Ideal S512x512 .f32) (o : FVec Ideal S512x512 .bf16) (b g h : FVec Ideal S1x1x512 .f32) (i d : Fin 512) :
    k0_pay84 (F := Ideal) w x o b g h (ix2 i d)
      = lnorm (fun d => x (ix2 i d) + ((∑ e : Fin 512, o (ix2 i e) * w (ix2 d e)) + b (ix3 0 0 d))) (fun d => g (ix3 0 0 d)) (fun d => h (ix3 0 0 d)) d := by
  pointwise [k0_pay84, lnorm, mean]

/-- The second normalisation. -/
theorem end_at (w : FVec Ideal S512x2048 .bf16) (y : FVec Ideal S512x512 .f32) (f : FVec Ideal S512x2048 .bf16) (b g h : FVec Ideal S1x1x512 .f32) (i d : Fin 512) :
    k0_pay97 (F := Ideal) (k0_pay95 (F := Ideal) w y f b) (k0_pay96 (F := Ideal) g) h (ix2 i d)
      = lnorm (fun d => y (ix2 i d) + ((∑ e : Fin 2048, f (ix2 i e) * w (ix2 d e)) + b (ix3 0 0 d))) (fun d => g (ix3 0 0 d)) (fun d => h (ix3 0 0 d)) d := by
  pointwise [k0_pay97, k0_pay95, k0_pay96, lnorm, mean]

/-- The named constant's value. -/
theorem inv_sqrt2_eq : (Named.named κ "inv_sqrt2" 0x3F3504F3#32 : Ideal .f32) = (((Real.sqrt 2)⁻¹ : ℝ) : EReal) :=
  IdealRules.named_const.ideal_named_scalar _ _ _ _ rfl

/-- A chunk of the activated feed-forward values. -/
theorem ff_at (w y : FVec Ideal S512x512 .bf16) (b : FVec Ideal S1x1x512 .f32) (i e : Fin 512) :
    ffChunk (F := Ideal) w y b (ix2 i e) = gelu ((∑ d : Fin 512, y (ix2 i d) * w (ix2 e d)) + b (ix3 0 0 e)) := by
  pointwise [ffChunk, gelu, inv_sqrt2_eq]
  rfl

/-- The projections, with the queries scaled. -/
theorem qkv_at (W : LayerW Ideal) (x : FVec Ideal S512x512 .f32) (i : Fin 512) (e : Fin 1536) :
    qkvVal (F := Ideal) W x (ix2 i e) = if e.val < 512 then proj (numsOf W) (rows x) i e * Ideal.ofBits .f32 0x3E000000#32 else proj (numsOf W) (rows x) i e := by
  have he := e.isLt
  show qkvParts (F := Ideal) W x (e.val / 512) (ix2 (n0 := 512) (n1 := 512) i ⟨e.val % 512, by omega⟩) = _
  unfold proj numsOf rows
  by_cases h0 : e.val < 512
  · rw [if_pos h0, show e.val / 512 = 0 by omega]
    refine (q_at _ _ _ _ _).trans ?_
    pointwise
    simp only [show ∀ h, (⟨e.val % 512, h⟩ : Fin 1536) = e from fun _ => Fin.ext (by show e.val % 512 = _; omega)]
  rw [if_neg h0]
  by_cases h1 : e.val < 1024
  · rw [show e.val / 512 = 1 by omega]
    refine (k_at _ _ _ _ _).trans ?_
    pointwise
    simp only [show ∀ h, (⟨512 + e.val % 512, h⟩ : Fin 1536) = e from fun _ => Fin.ext (by show 512 + e.val % 512 = _; omega)]
  · rw [show e.val / 512 = 2 by omega]
    refine (v_at _ _ _ _ _).trans ?_
    pointwise
    simp only [show ∀ h, (⟨1024 + e.val % 512, h⟩ : Fin 1536) = e from fun _ => Fin.ext (by show 1024 + e.val % 512 = _; omega)]

/-- The activated feed-forward values. -/
theorem ffVal_at (W : LayerW Ideal) (y : FVec Ideal S512x512 .bf16) (i : Fin 512) (e : Fin 2048) :
    ffVal (F := Ideal) W y (ix2 i e) = ffn (numsOf W) (fun d => y (ix2 i d)) e := by
  have he := e.isLt
  show ffParts (F := Ideal) W y (e.val / 512) (ix2 (n0 := 512) (n1 := 512) i ⟨e.val % 512, by omega⟩) = _
  unfold ffn numsOf
  have h : e.val / 512 = 0 ∨ e.val / 512 = 1 ∨ e.val / 512 = 2 ∨ e.val / 512 = 3 := by omega
  rcases h with h | h | h | h <;> rw [h] <;> refine (ff_at _ _ _ _ _).trans ?_ <;> pointwise
  · simp only [show ∀ h, (⟨e.val % 512, h⟩ : Fin 2048) = e from fun _ => Fin.ext (by show e.val % 512 = _; omega)]
  · simp only [show ∀ h, (⟨512 + e.val % 512, h⟩ : Fin 2048) = e from fun _ => Fin.ext (by show 512 + e.val % 512 = _; omega)]
  · simp only [show ∀ h, (⟨1024 + e.val % 512, h⟩ : Fin 2048) = e from fun _ => Fin.ext (by show 1024 + e.val % 512 = _; omega)]
  · simp only [show ∀ h, (⟨1536 + e.val % 512, h⟩ : Fin 2048) = e from fun _ => Fin.ext (by show 1536 + e.val % 512 = _; omega)]

/-- A block of rows of the scores. -/
theorem rowsOf_at (S : FVec Ideal S1x512x512 .f32) (j : Fin 4) (r : Fin 128) (l : Fin 512) :
    rowsOf (F := Ideal) S j (ix2 r l) = S (ix3 0 ⟨128 * j.val + r.val, by omega⟩ l) := by
  have hb : ∀ a, (![128 * j.val, 0] : Fin 2 → ℕ) a + S128x512.size a ≤ S512x512.size a :=
    fun a => match a with | ⟨0, _⟩ => (by show 128 * j.val + 128 ≤ 512; omega) | ⟨1, _⟩ => (by show 0 + 512 ≤ 512; omega)
  have e : (Rect.unit (s := S512x512) ![128 * j.val, 0] S128x512.size hb).emb (ix2 (n0 := 128) (n1 := 512) r l)
      = ix2 (n0 := 512) (n1 := 512) ⟨128 * j.val + r.val, by omega⟩ l := by
    funext a
    match a with
    | ⟨0, _⟩ => exact Fin.ext (by show 128 * j.val + 1 * r.val = 128 * j.val + r.val; omega)
    | ⟨1, _⟩ => exact Fin.ext (by show 0 + 1 * l.val = l.val; omega)
  have key : ∀ y : FVec Ideal S1x512x512 .f32, shapeCast S512x512 y (squeezes_S1x512x512_S512x512).numel_eq (ix2 ⟨128 * j.val + r.val, by omega⟩ l) = y (ix3 0 ⟨128 * j.val + r.val, by omega⟩ l) := by
    intro y; pointwise
  exact (congrArg (fun z => S (Shape.reshapeEquiv (squeezes_S1x512x512_S512x512).numel_eq z)) e).trans (key S)

/-- A head's probabilities. -/
theorem probs_at (S : FVec Ideal S1x512x512 .f32) (i j : Fin 512) :
    probs (F := Ideal) S (ix3 0 i j) = soft (fun l => S (ix3 0 i l)) j := by
  have hi := i.isLt
  show k0_pay21 (F := Ideal) (rowsOf S ⟨i.val / 128, by omega⟩) (ix3 (n0 := 1) (n1 := 128) (n2 := 512) 0 ⟨i.val % 128, by omega⟩ j) = _
  refine (soft_at _ _ _).trans (congrArg (fun f => soft f j) (funext fun l => (rowsOf_at _ _ _ _).trans ?_))
  exact congrArg (fun r => S (ix3 0 r l)) (Fin.ext (by show 128 * (i.val / 128) + i.val % 128 = i.val; omega))

/-- The attention output. -/
theorem attn_at (W : LayerW Ideal) (x : FVec Ideal S512x512 .f32) (i e : Fin 512) :
    attnVal (F := Ideal) (qkvVal W x) (ix2 i e) = att (proj (numsOf W) (rows x)) i e := by
  have he := e.isLt
  show headVal (F := Ideal) (colsN (qkvVal W x) (64 * (e.val / 64))) (colsN (qkvVal W x) (512 + 64 * (e.val / 64))) (colsN (qkvVal W x) (1024 + 64 * (e.val / 64)))
    (ix2 (n0 := 512) (n1 := 64) i ⟨e.val % 64, by omega⟩) = _
  refine (av_at _ _ _ _).trans (Finset.sum_congr rfl fun j _ => ?_)
  refine congrArg₂ (· * ·) ((probs_at _ _ _).trans (congrArg (fun f => soft f j) (funext fun l => (sc_at _ _ _ _).trans ?_))) ?_
  · unfold score
    rw [← scaled_sum]
    refine Finset.sum_congr rfl fun d _ => congrArg₂ (· * ·) ?_ ?_
    · have hd := d.isLt
      refine ((congrArg (fun c => qkvVal (F := Ideal) W x (ix2 i c)) (Fin.ext (by show (64 * (e.val / 64) + d.val) % 1536 = 64 * (e.val / 64) + d.val; omega))).trans (qkv_at W x i ⟨64 * (e.val / 64) + d.val, by omega⟩)).trans (if_pos (by show 64 * (e.val / 64) + d.val < 512; omega))
    · have hd := d.isLt
      refine ((congrArg (fun c => qkvVal (F := Ideal) W x (ix2 l c)) (Fin.ext (by show (512 + 64 * (e.val / 64) + d.val) % 1536 = 512 + (64 * (e.val / 64) + d.val); omega))).trans (qkv_at W x l ⟨512 + (64 * (e.val / 64) + d.val), by omega⟩)).trans (if_neg (by show ¬ 512 + (64 * (e.val / 64) + d.val) < 512; omega))
  · refine ((congrArg (fun c => qkvVal (F := Ideal) W x (ix2 j c)) (Fin.ext (by show (1024 + 64 * (e.val / 64) + e.val % 64) % 1536 = 1024 + e.val; omega))).trans (qkv_at W x j ⟨1024 + e.val, by omega⟩)).trans (if_neg (by show ¬ 1024 + e.val < 512; omega))

/-- The rows after attention. -/
theorem midVal_at (W : LayerW Ideal) (x : FVec Ideal S512x512 .f32) (i d : Fin 512) :
    midVal (F := Ideal) W x (ix2 i d) = mid (numsOf W) (rows x) i d := by
  refine (mid_at _ _ _ _ _ _ _ _).trans (lnorm_congr (fun d => ?_) (fun _ => rfl) (fun _ => rfl) d)
  refine congrArg₂ (· + ·) rfl (congrArg₂ (· + ·) (Finset.sum_congr rfl fun e _ => congrArg₂ (· * ·) (attn_at W x i e) rfl) rfl)

/-- The kernel's layer is the encoder layer. -/
theorem layer_at (W : LayerW Ideal) (x : FVec Ideal S512x512 .f32) (i d : Fin 512) :
    layerVal (F := Ideal) W x (ix2 i d) = layer (numsOf W) (rows x) i d := by
  refine (end_at _ _ _ _ _ _ _ _).trans (lnorm_congr (fun d => ?_) (fun _ => rfl) (fun _ => rfl) d)
  refine congrArg₂ (· + ·) (midVal_at W x i d) (congrArg₂ (· + ·) (Finset.sum_congr rfl fun e _ => congrArg₂ (· * ·) ((ffVal_at _ _ _ _).trans ?_) rfl) rfl)
  refine congrArg (fun f => ffn (numsOf W) f e) (funext fun d => ?_)
  exact midVal_at W x i d

end Cert.KernelIdeal.Own
-- ==== Proof.HeadMath.lean ====
module

public import proofs.«01_k».proof.Proof.Layer

@[expose] public section

noncomputable section

namespace Cert.Enc

open Idealize.ShloMosaic

/-- The gain of the padding token times its table column. -/
def padCol (T : FVec Ideal ⟨2, ![64, 50257]⟩ .f32) (g : FVec Ideal ⟨1, ![50257]⟩ .f32) (k : Fin 64) : EReal := T (ix2 k 0) * g (ix1 0)

/-- The table times one vector over the tokens. -/
def tabDot (T : FVec Ideal ⟨2, ![64, 50257]⟩ .f32) (g : FVec Ideal ⟨1, ![50257]⟩ .f32) (k : Fin 64) : EReal := ∑ v : Fin 50257, T (ix2 k v) * g (ix1 v)

/-- One result: the mean row and the count features times a row of the last weights, with the last bias. -/
def logit (u : Fin 512 → EReal) (w : Fin 64 → EReal) (H : FVec Ideal ⟨2, ![10, 576]⟩ .f32) (b : FVec Ideal ⟨1, ![10]⟩ .f32) (j : Fin 10) : EReal :=
  (∑ d : Fin 512, u d * H (ix2 j ⟨d.val, by omega⟩)) + (∑ k : Fin 64, w k * H (ix2 j ⟨512 + k.val, by omega⟩)) + b (ix1 j)

/-- The mean of 512 rows. -/
def meanRow (x : Fin 512 → Fin 512 → EReal) (d : Fin 512) : EReal := Ideal.div (∑ i, x i d) ((512 : ℝ) : EReal)

/-- A truth value as a number, read as signed. -/
theorem bit_signed (p : Bool) : FloatOps.sitofp (F := Ideal) .f32 (BitVec.setWidth 32 (BitVec.ofBool p)) = ((if p then (1 : ℝ) else 0 : ℝ) : EReal) := by
  cases p
  · show (((BitVec.setWidth 32 (BitVec.ofBool false)).toInt : ℝ) : EReal) = _
    norm_num
  · show (((BitVec.setWidth 32 (BitVec.ofBool true)).toInt : ℝ) : EReal) = _
    rw [show (BitVec.setWidth 32 (BitVec.ofBool true)).toInt = 1 by decide]
    norm_num

/-- A truth value as a number, read as unsigned. -/
theorem bit_unsigned (p : Bool) : FloatOps.uitofp (F := Ideal) .f32 (BitVec.ofBool p) = ((if p then (1 : ℝ) else 0 : ℝ) : EReal) := by
  cases p
  · show (((BitVec.ofBool false).toNat : ℝ) : EReal) = _
    norm_num
  · show (((BitVec.ofBool true).toNat : ℝ) : EReal) = _
    rw [show (BitVec.ofBool true).toNat = 1 by decide]
    norm_num

/-- A finite sum of reals is the same sum among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The statistics of one row of tokens -/

/-- How many tokens are not padding. -/
def filled (x : Fin 512 → BitVec 32) : ℝ := ∑ j, if x j = 0#32 then 0 else 1

/-- How many tokens are padding. -/
def padded (x : Fin 512 → BitVec 32) : ℝ := ∑ j, if x j = 0#32 then 1 else 0

/-- How often the token `v` occurs, padding left out. -/
def count (x : Fin 512 → BitVec 32) (v : Fin 50257) : ℝ := ∑ j, (if x j = BitVec.ofNat 32 v.val then 1 else 0) * (if x j = 0#32 then 0 else 1)

/-- The mean count. -/
def meanCount (x : Fin 512 → BitVec 32) : ℝ := (∑ v, count x v) / 50257

/-- The variance of the counts. -/
def varCount (x : Fin 512 → BitVec 32) : ℝ := (∑ v, (count x v - meanCount x) * (count x v - meanCount x)) / 50257

/-- The tokens, with every padding token replaced by a number of its own. -/
def marked (x : Fin 512 → BitVec 32) (j : Fin 512) : BitVec 32 :=
  if x j = 0#32 then 0#32 - (BitVec.ofNat 32 j.val + 1#32) else x j

/-- The pairs of equal tokens, after marking. -/
def pairs (x : Fin 512 → BitVec 32) : ℝ := ∑ i, ∑ j, if marked x i = marked x j then 1 else 0

/-- Every token is a row of the table. -/
def InRange (x : Fin 512 → BitVec 32) : Prop := ∀ j, (x j).toNat < 50257

/-- Every position is a token or padding. -/
theorem filled_eq (x : Fin 512 → BitVec 32) : filled x = 512 - padded x := by
  unfold filled padded
  rw [eq_sub_iff_add_eq, ← Finset.sum_add_distrib]
  trans ∑ _ : Fin 512, (1 : ℝ)
  · exact Finset.sum_congr rfl fun j _ => by split <;> norm_num
  · simp

/-- Picking one token out of the table. -/
theorem sum_pick (a : BitVec 32) (ha : a.toNat < 50257) (f : Fin 50257 → ℝ) :
    (∑ v : Fin 50257, (if a = BitVec.ofNat 32 v.val then f v else 0)) = f ⟨a.toNat, ha⟩ := by
  rw [Finset.sum_eq_single (⟨a.toNat, ha⟩ : Fin 50257)]
  · exact if_pos (by simp)
  · intro v _ hv
    refine if_neg fun h => hv (Fin.ext ?_)
    have := congrArg BitVec.toNat h
    have hv' := v.isLt
    simp only [BitVec.toNat_ofNat] at this
    show v.val = a.toNat
    omega
  · exact fun h => absurd (Finset.mem_univ _) h

/-- The counts of all tokens sum to the tokens that are not padding. -/
theorem sum_count (x : Fin 512 → BitVec 32) (hx : InRange x) : ∑ v, count x v = filled x := by
  unfold count filled
  rw [Finset.sum_comm]
  refine Finset.sum_congr rfl fun j _ => ?_
  trans ∑ v : Fin 50257, (if x j = BitVec.ofNat 32 v.val then (fun _ => if x j = 0#32 then (0 : ℝ) else 1) v else 0)
  · exact Finset.sum_congr rfl fun v _ => by split <;> simp
  · exact sum_pick (x j) (hx j) _

/-- The squares of the counts sum to the pairs of equal tokens that are not padding. -/
theorem sum_count_sq (x : Fin 512 → BitVec 32) (hx : InRange x) :
    ∑ v, count x v * count x v = ∑ i, ∑ j, (if x i = x j then 1 else 0) * (if x i = 0#32 then 0 else 1) := by
  have h1 : ∀ v, count x v * count x v = ∑ i, ∑ j, (if x i = BitVec.ofNat 32 v.val then ((if x j = x i then 1 else 0) * (if x i = 0#32 then (0:ℝ) else 1)) else 0) := by
    intro v
    unfold count
    rw [Finset.sum_mul_sum]
    refine Finset.sum_congr rfl fun i _ => Finset.sum_congr rfl fun j _ => ?_
    by_cases hi : x i = BitVec.ofNat 32 v.val
    · rw [if_pos hi, if_pos hi, ← hi]
      by_cases hj : x j = x i
      · rw [if_pos hj, hj]; split <;> norm_num
      · rw [if_neg hj]; ring
    · rw [if_neg hi, if_neg hi]; ring
  rw [Finset.sum_congr rfl fun v _ => h1 v, Finset.sum_comm]
  refine Finset.sum_congr rfl fun i _ => ?_
  rw [Finset.sum_comm]
  refine Finset.sum_congr rfl fun j _ => ?_
  refine (sum_pick (x i) (hx i) fun _ => (if x j = x i then 1 else 0) * (if x i = 0#32 then (0:ℝ) else 1)).trans ?_
  congr 1
  exact if_congr eq_comm rfl rfl

/-- The number given to a padding position. -/
theorem marked_pad (x : Fin 512 → BitVec 32) (j : Fin 512) (h : x j = 0#32) : (marked x j).toNat = 4294967296 - (j.val + 1) := by
  unfold marked
  rw [if_pos h]
  have := j.isLt
  simp only [BitVec.toNat_sub, BitVec.toNat_add, BitVec.toNat_ofNat]
  omega

/-- When two marked tokens agree. -/
theorem marked_eq (x : Fin 512 → BitVec 32) (hx : InRange x) (i j : Fin 512) :
    (if marked x i = marked x j then (1 : ℝ) else 0)
      = (if x i = x j then 1 else 0) * (if x i = 0#32 then 0 else 1) + (if i = j then (if x i = 0#32 then 1 else 0) else 0) := by
  have hi := i.isLt
  have hj := j.isLt
  by_cases h1 : x i = 0#32
  · have m1 := marked_pad x i h1
    by_cases h2 : x j = 0#32
    · have m2 := marked_pad x j h2
      have : marked x i = marked x j ↔ i = j :=
        ⟨fun h => Fin.ext (by have := congrArg BitVec.toNat h; omega), fun h => by rw [h]⟩
      simp only [this, h1, if_true, mul_zero, zero_add]
    · have m2 : marked x j = x j := if_neg h2
      have hxj := hx j
      have n1 : marked x i ≠ marked x j := fun h => by
        have := congrArg BitVec.toNat h
        rw [m2] at this
        omega
      have n2 : i ≠ j := fun h => h2 (h ▸ h1)
      simp [n1, n2, h1]
  · have m1 : marked x i = x i := if_neg h1
    by_cases h2 : x j = 0#32
    · have m2 := marked_pad x j h2
      have hxi := hx i
      have n1 : marked x i ≠ marked x j := fun h => by
        have := congrArg BitVec.toNat h
        rw [m1] at this
        omega
      have n2 : x i ≠ x j := fun h => h1 (h.trans h2)
      simp [n1, n2, h1]
    · have m2 : marked x j = x j := if_neg h2
      simp [m1, m2, h1]

/-- The pairs, less one for every padding token, are the sum of the squares of the counts. -/
theorem pairs_sub (x : Fin 512 → BitVec 32) (hx : InRange x) : pairs x - padded x = ∑ v, count x v * count x v := by
  rw [sum_count_sq x hx, sub_eq_iff_eq_add]
  unfold pairs padded
  rw [← Finset.sum_add_distrib]
  refine Finset.sum_congr rfl fun i _ => ?_
  rw [Finset.sum_congr rfl fun j _ => marked_eq x hx i j, Finset.sum_add_distrib]
  congr 1
  simp

/-- The number of tokens over the table's length is the mean count. -/
theorem meanCount_eq (x : Fin 512 → BitVec 32) (hx : InRange x) : filled x * 50257⁻¹ = meanCount x := by
  unfold meanCount
  rw [sum_count x hx, div_eq_mul_inv]

/-- The mean of the squares less the square of the mean is the variance. -/
theorem varCount_eq (x : Fin 512 → BitVec 32) (hx : InRange x) :
    (pairs x - padded x) * 50257⁻¹ - filled x * 50257⁻¹ * (filled x * 50257⁻¹) = varCount x := by
  rw [meanCount_eq x hx, pairs_sub x hx]
  unfold varCount
  have h : ∀ v, (count x v - meanCount x) * (count x v - meanCount x)
      = count x v * count x v - 2 * meanCount x * count x v + meanCount x * meanCount x := fun v => by ring
  rw [Finset.sum_congr rfl fun v _ => h v, Finset.sum_add_distrib, Finset.sum_sub_distrib, ← Finset.mul_sum]
  have hs : ∑ v, count x v = meanCount x * 50257 := by unfold meanCount; field_simp
  rw [hs]
  simp only [Finset.sum_const, Finset.card_univ, Fintype.card_fin, nsmul_eq_mul]
  push_cast
  ring

/-- The variance is not negative. -/
theorem varCount_nonneg (x : Fin 512 → BitVec 32) : 0 ≤ varCount x :=
  div_nonneg (Finset.sum_nonneg fun v _ => mul_self_nonneg _) (by norm_num)

/-! ## The count features -/

/-- One count feature: what is left of the summed table rows, centred and scaled, with the offset, cut off below zero. -/
def countFeature (x : Fin 512 → BitVec 32) (e : ℝ) (s p t b : EReal) : EReal :=
  max ((s - ((padded x : ℝ) : EReal) * p - ((meanCount x : ℝ) : EReal) * t) * (((Real.sqrt (varCount x + e))⁻¹ : ℝ) : EReal) + b) 0

/-- Scaling a difference by a real that is not negative. -/
theorem scale_sub (r : ℝ) (hr : 0 ≤ r) (s : EReal) (m : ℝ) (t : EReal) :
    (r : EReal) * s - (r : EReal) * (m : EReal) * t = (s - (m : EReal) * t) * (r : EReal) := by
  rw [sub_eq_add_neg, sub_eq_add_neg, EReal.right_distrib_of_nonneg_of_ne_top (EReal.coe_nonneg.2 hr) (EReal.coe_ne_top r), mul_comm (r : EReal) s]
  congr 1
  rw [mul_assoc, mul_comm (r : EReal), neg_mul]

end Cert.Enc
-- ==== Proof.Blocks.lean ====
module

public import proofs.«01_k».proof.Proof.Run
public import proofs.«01_k».proof.Proof.LayerKernel
public import proofs.«01_k».proof.Proof.HeadMath
public import Idealize.ShloMosaic.Lib.Claim

@[expose] public section

set_option maxRecDepth 16384

noncomputable section

namespace Cert.KernelIdeal.Own

open Cert.KernelIdeal Cert.KernelIdeal.Gen Cert.Enc
open Idealize.ShloMosaic Idealize.ShloMosaic.TcCoe Idealize.SL.Sem

variable (m : (ℓ : Loc nD τ sig) → Buf (Elt Ideal) ℓ)

/-- Where each block lies, at every point. -/
theorem idx : ∀ t : Fin cfg0.N, win0_0.index t = ![0, 0] ∧ win0_1.index t = ![t.val / 4, 0] ∧ win0_2.index t = ![t.val / 4, 0, 0]
    ∧ win0_3.index t = ![t.val % 4, 0, 0] ∧ win0_4.index t = ![t.val % 4, 0, 0] ∧ win0_5.index t = ![t.val % 4, 0, 0]
    ∧ win0_6.index t = ![t.val % 4, 0, 0] ∧ win0_7.index t = ![t.val % 4, 0, 0] ∧ win0_8.index t = ![t.val % 4, 0, 0]
    ∧ win0_9.index t = ![t.val % 4, 0, 0] ∧ win0_10.index t = ![t.val % 4, 0, 0] ∧ win0_11.index t = ![t.val % 4, 0, 0]
    ∧ win0_12.index t = ![t.val % 4, 0, 0] ∧ win0_13.index t = ![t.val % 4, 0, 0] ∧ win0_14.index t = ![t.val % 4, 0, 0]
    ∧ win0_15.index t = ![0, 0] ∧ win0_16.index t = ![0, 0] ∧ win0_17.index t = ![0, 0] ∧ win0_18.index t = ![0, 0] ∧ win0_19.index t = ![0, 0]
    ∧ win0_20.index t = ![t.val / 4, 0] :=
  (by decide +kernel : ∀ t : Fin grid0.N, _)

/-- The block of window 3 at a grid point, place by place. -/
theorem blk3_at (c : Dev nD) (t : Fin cfg0.N) (e : Fin 1536) (d : Fin 512) :
    blk3 m c t (ix3 0 e d) = (m ((c : Thread nD τ).loc main_arg4) : FVec Ideal S4x1536x512 .f32) (ix3 ⟨t.val % 4, by omega⟩ e d) := by
  have hV : (V m c main_v0 : FVec Ideal S4x1536x512 .bf16) = (m ((c : Thread nD τ).loc main_arg4) : FVec Ideal S4x1536x512 .f32) := by
    entry_read
    rfl
  rw [← hV]
  blk_ext [iblk, V, idx t]

/-- The block of window 5 at a grid point, place by place. -/
theorem blk5_at (c : Dev nD) (t : Fin cfg0.N) (e : Fin 512) (d : Fin 512) :
    blk5 m c t (ix3 0 e d) = (m ((c : Thread nD τ).loc main_arg6) : FVec Ideal S4x512x512 .f32) (ix3 ⟨t.val % 4, by omega⟩ e d) := by
  have hV : (V m c main_v1 : FVec Ideal S4x512x512 .bf16) = (m ((c : Thread nD τ).loc main_arg6) : FVec Ideal S4x512x512 .f32) := by
    entry_read
    rfl
  rw [← hV]
  blk_ext [iblk, V, idx t]

/-- The block of window 9 at a grid point, place by place. -/
theorem blk9_at (c : Dev nD) (t : Fin cfg0.N) (e : Fin 2048) (d : Fin 512) :
    blk9 m c t (ix3 0 e d) = (m ((c : Thread nD τ).loc main_arg10) : FVec Ideal S4x2048x512 .f32) (ix3 ⟨t.val % 4, by omega⟩ e d) := by
  have hV : (V m c main_v2 : FVec Ideal S4x2048x512 .bf16) = (m ((c : Thread nD τ).loc main_arg10) : FVec Ideal S4x2048x512 .f32) := by
    entry_read
    rfl
  rw [← hV]
  blk_ext [iblk, V, idx t]

/-- The block of window 11 at a grid point, place by place. -/
theorem blk11_at (c : Dev nD) (t : Fin cfg0.N) (e : Fin 512) (d : Fin 2048) :
    blk11 m c t (ix3 0 e d) = (m ((c : Thread nD τ).loc main_arg12) : FVec Ideal S4x512x2048 .f32) (ix3 ⟨t.val % 4, by omega⟩ e d) := by
  have hV : (V m c main_v3 : FVec Ideal S4x512x2048 .bf16) = (m ((c : Thread nD τ).loc main_arg12) : FVec Ideal S4x512x2048 .f32) := by
    entry_read
    rfl
  rw [← hV]
  blk_ext [iblk, V, idx t]

/-- The block of window 4 at a grid point, place by place. -/
theorem blk4_at (c : Dev nD) (t : Fin cfg0.N) (e : Fin 1536) :
    blk4 m c t (ix3 0 0 e) = (m ((c : Thread nD τ).loc main_arg5) : FVec Ideal S4x1536 .f32) (ix2 ⟨t.val % 4, by omega⟩ e) := by
  have hV : (V m c main_v4 : FVec Ideal S4x1x1536 .f32) (ix3 ⟨t.val % 4, by omega⟩ 0 e)
      = (m ((c : Thread nD τ).loc main_arg5) : FVec Ideal S4x1536 .f32) (ix2 ⟨t.val % 4, by omega⟩ e) := by
    entry_read
    pointwise []
  rw [← hV]
  blk_ext [iblk, V, idx t]

/-- The block of window 6 at a grid point, place by place. -/
theorem blk6_at (c : Dev nD) (t : Fin cfg0.N) (e : Fin 512) :
    blk6 m c t (ix3 0 0 e) = (m ((c : Thread nD τ).loc main_arg7) : FVec Ideal S4x512 .f32) (ix2 ⟨t.val % 4, by omega⟩ e) := by
  have hV : (V m c main_v5 : FVec Ideal S4x1x512 .f32) (ix3 ⟨t.val % 4, by omega⟩ 0 e)
      = (m ((c : Thread nD τ).loc main_arg7) : FVec Ideal S4x512 .f32) (ix2 ⟨t.val % 4, by omega⟩ e) := by
    entry_read
    pointwise []
  rw [← hV]
  blk_ext [iblk, V, idx t]

/-- The block of window 7 at a grid point, place by place. -/
theorem blk7_at (c : Dev nD) (t : Fin cfg0.N) (e : Fin 512) :
    blk7 m c t (ix3 0 0 e) = (m ((c : Thread nD τ).loc main_arg8) : FVec Ideal S4x512 .f32) (ix2 ⟨t.val % 4, by omega⟩ e) := by
  have hV : (V m c main_v8 : FVec Ideal S4x1x512 .f32) (ix3 ⟨t.val % 4, by omega⟩ 0 e)
      = (m ((c : Thread nD τ).loc main_arg8) : FVec Ideal S4x512 .f32) (ix2 ⟨t.val % 4, by omega⟩ e) := by
    entry_read
    pointwise []
  rw [← hV]
  blk_ext [iblk, V, idx t]

/-- The block of window 8 at a grid point, place by place. -/
theorem blk8_at (c : Dev nD) (t : Fin cfg0.N) (e : Fin 512) :
    blk8 m c t (ix3 0 0 e) = (m ((c : Thread nD τ).loc main_arg9) : FVec Ideal S4x512 .f32) (ix2 ⟨t.val % 4, by omega⟩ e) := by
  have hV : (V m c main_v9 : FVec Ideal S4x1x512 .f32) (ix3 ⟨t.val % 4, by omega⟩ 0 e)
      = (m ((c : Thread nD τ).loc main_arg9) : FVec Ideal S4x512 .f32) (ix2 ⟨t.val % 4, by omega⟩ e) := by
    entry_read
    pointwise []
  rw [← hV]
  blk_ext [iblk, V, idx t]

/-- The block of window 10 at a grid point, place by place. -/
theorem blk10_at (c : Dev nD) (t : Fin cfg0.N) (e : Fin 2048) :
    blk10 m c t (ix3 0 0 e) = (m ((c : Thread nD τ).loc main_arg11) : FVec Ideal S4x2048 .f32) (ix2 ⟨t.val % 4, by omega⟩ e) := by
  have hV : (V m c main_v6 : FVec Ideal S4x1x2048 .f32) (ix3 ⟨t.val % 4, by omega⟩ 0 e)
      = (m ((c : Thread nD τ).loc main_arg11) : FVec Ideal S4x2048 .f32) (ix2 ⟨t.val % 4, by omega⟩ e) := by
    entry_read
    pointwise []
  rw [← hV]
  blk_ext [iblk, V, idx t]

/-- The block of window 12 at a grid point, place by place. -/
theorem blk12_at (c : Dev nD) (t : Fin cfg0.N) (e : Fin 512) :
    blk12 m c t (ix3 0 0 e) = (m ((c : Thread nD τ).loc main_arg13) : FVec Ideal S4x512 .f32) (ix2 ⟨t.val % 4, by omega⟩ e) := by
  have hV : (V m c main_v7 : FVec Ideal S4x1x512 .f32) (ix3 ⟨t.val % 4, by omega⟩ 0 e)
      = (m ((c : Thread nD τ).loc main_arg13) : FVec Ideal S4x512 .f32) (ix2 ⟨t.val % 4, by omega⟩ e) := by
    entry_read
    pointwise []
  rw [← hV]
  blk_ext [iblk, V, idx t]

/-- The block of window 13 at a grid point, place by place. -/
theorem blk13_at (c : Dev nD) (t : Fin cfg0.N) (e : Fin 512) :
    blk13 m c t (ix3 0 0 e) = (m ((c : Thread nD τ).loc main_arg14) : FVec Ideal S4x512 .f32) (ix2 ⟨t.val % 4, by omega⟩ e) := by
  have hV : (V m c main_v10 : FVec Ideal S4x1x512 .f32) (ix3 ⟨t.val % 4, by omega⟩ 0 e)
      = (m ((c : Thread nD τ).loc main_arg14) : FVec Ideal S4x512 .f32) (ix2 ⟨t.val % 4, by omega⟩ e) := by
    entry_read
    pointwise []
  rw [← hV]
  blk_ext [iblk, V, idx t]

/-- The block of window 14 at a grid point, place by place. -/
theorem blk14_at (c : Dev nD) (t : Fin cfg0.N) (e : Fin 512) :
    blk14 m c t (ix3 0 0 e) = (m ((c : Thread nD τ).loc main_arg15) : FVec Ideal S4x512 .f32) (ix2 ⟨t.val % 4, by omega⟩ e) := by
  have hV : (V m c main_v11 : FVec Ideal S4x1x512 .f32) (ix3 ⟨t.val % 4, by omega⟩ 0 e)
      = (m ((c : Thread nD τ).loc main_arg15) : FVec Ideal S4x512 .f32) (ix2 ⟨t.val % 4, by omega⟩ e) := by
    entry_read
    pointwise []
  rw [← hV]
  blk_ext [iblk, V, idx t]

/-- The first projection weights without their leading axis. -/
theorem pay5_at (a : FVec Ideal S1x1536x512 .bf16) (e : Fin 1536) (d : Fin 512) : k0_pay5 a (ix2 e d) = a (ix3 0 e d) := by pointwise [k0_pay5]
/-- The output weights without their leading axis. -/
theorem pay6_at (a : FVec Ideal S1x512x512 .bf16) (e : Fin 512) (d : Fin 512) : k0_pay6 a (ix2 e d) = a (ix3 0 e d) := by pointwise [k0_pay6]
/-- The first feed-forward weights without their leading axis. -/
theorem pay7_at (a : FVec Ideal S1x2048x512 .bf16) (e : Fin 2048) (d : Fin 512) : k0_pay7 a (ix2 e d) = a (ix3 0 e d) := by pointwise [k0_pay7]
/-- The second feed-forward weights without their leading axis. -/
theorem pay8_at (a : FVec Ideal S1x512x2048 .bf16) (e : Fin 512) (d : Fin 2048) : k0_pay8 a (ix2 e d) = a (ix3 0 e d) := by pointwise [k0_pay8]

/-- The numbers of the staged blocks, field by field. -/
theorem nums_mkW (a6 : FVec Ideal S1x1536x512 .bf16) (a7 : FVec Ideal S1x1x1536 .f32) (a8 : FVec Ideal S1x512x512 .bf16) (a9 : FVec Ideal S1x1x512 .f32) (a10 : FVec Ideal S1x1x512 .f32) (a11 : FVec Ideal S1x1x512 .f32) (a12 : FVec Ideal S1x2048x512 .bf16) (a13 : FVec Ideal S1x1x2048 .f32) (a14 : FVec Ideal S1x512x2048 .bf16) (a15 : FVec Ideal S1x1x512 .f32) (a16 : FVec Ideal S1x1x512 .f32) (a17 : FVec Ideal S1x1x512 .f32) (U : Weights)
    (ka6 : ∀ e d, a6 (ix3 0 e d) = U.wqkv e d) (ka7 : ∀ e, a7 (ix3 0 0 e) = U.bqkv e) (ka8 : ∀ e d, a8 (ix3 0 e d) = U.wo e d) (ka9 : ∀ e, a9 (ix3 0 0 e) = U.bo e) (ka10 : ∀ e, a10 (ix3 0 0 e) = U.g1 e) (ka11 : ∀ e, a11 (ix3 0 0 e) = U.h1 e) (ka12 : ∀ e d, a12 (ix3 0 e d) = U.w1 e d) (ka13 : ∀ e, a13 (ix3 0 0 e) = U.b1 e) (ka14 : ∀ e d, a14 (ix3 0 e d) = U.w2 e d) (ka15 : ∀ e, a15 (ix3 0 0 e) = U.b2 e) (ka16 : ∀ e, a16 (ix3 0 0 e) = U.g2 e) (ka17 : ∀ e, a17 (ix3 0 0 e) = U.h2 e) :
    numsOf (mkW a6 a7 a8 a9 a10 a11 a12 a13 a14 a15 a16 a17) = U := by
  obtain ⟨ua6, ua7, ua8, ua9, ua10, ua11, ua12, ua13, ua14, ua15, ua16, ua17⟩ := U
  have eua6 : (fun (e : Fin 1536) (d : Fin 512) => k0_pay5 (F := Ideal) a6 (ix2 e d)) = ua6 := funext fun e => funext fun d => (pay5_at a6 e d).trans (ka6 e d)
  subst eua6
  have eua7 : (fun (e : Fin 1536) => a7 (ix3 0 0 e)) = ua7 := funext ka7
  subst eua7
  have eua8 : (fun (e : Fin 512) (d : Fin 512) => k0_pay6 (F := Ideal) a8 (ix2 e d)) = ua8 := funext fun e => funext fun d => (pay6_at a8 e d).trans (ka8 e d)
  subst eua8
  have eua9 : (fun (e : Fin 512) => a9 (ix3 0 0 e)) = ua9 := funext ka9
  subst eua9
  have eua10 : (fun (e : Fin 512) => a10 (ix3 0 0 e)) = ua10 := funext ka10
  subst eua10
  have eua11 : (fun (e : Fin 512) => a11 (ix3 0 0 e)) = ua11 := funext ka11
  subst eua11
  have eua12 : (fun (e : Fin 2048) (d : Fin 512) => k0_pay7 (F := Ideal) a12 (ix2 e d)) = ua12 := funext fun e => funext fun d => (pay7_at a12 e d).trans (ka12 e d)
  subst eua12
  have eua13 : (fun (e : Fin 2048) => a13 (ix3 0 0 e)) = ua13 := funext ka13
  subst eua13
  have eua14 : (fun (e : Fin 512) (d : Fin 2048) => k0_pay8 (F := Ideal) a14 (ix2 e d)) = ua14 := funext fun e => funext fun d => (pay8_at a14 e d).trans (ka14 e d)
  subst eua14
  have eua15 : (fun (e : Fin 512) => a15 (ix3 0 0 e)) = ua15 := funext ka15
  subst eua15
  have eua16 : (fun (e : Fin 512) => a16 (ix3 0 0 e)) = ua16 := funext ka16
  subst eua16
  have eua17 : (fun (e : Fin 512) => a17 (ix3 0 0 e)) = ua17 := funext ka17
  subst eua17
  rfl

/-- The weights staged at a point are those of the point's layer. -/
theorem weights_at (c : Dev nD) (t : Fin cfg0.N) (l : Fin 4) (hl : t.val % 4 = l.val) :
    numsOf (wAt m c t) = weightsAt (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) (m ((c : Thread nD τ).loc main_arg14))
      (m ((c : Thread nD τ).loc main_arg15)) l := by
  rw [show l = ⟨t.val % 4, by omega⟩ from Fin.ext hl.symm]
  exact nums_mkW (blk3 m c t) (blk4 m c t) (blk5 m c t) (blk6 m c t) (blk7 m c t) (blk8 m c t) (blk9 m c t) (blk10 m c t) (blk11 m c t) (blk12 m c t) (blk13 m c t) (blk14 m c t) _ (blk3_at m c t) (blk4_at m c t) (blk5_at m c t) (blk6_at m c t) (blk7_at m c t) (blk8_at m c t) (blk9_at m c t) (blk10_at m c t) (blk11_at m c t) (blk12_at m c t) (blk13_at m c t) (blk14_at m c t)

/-- The positions. -/
theorem blk0_at (c : Dev nD) (t : Fin cfg0.N) (i d : Fin 512) :
    blk0 m c t (ix2 i d) = (m ((c : Thread nD τ).loc main_arg3) : FVec Ideal S1x512x512 .f32) (ix3 0 i d) := by
  have hV : (V m c main_v12 : FVec Ideal S512x512 .f32) (ix2 i d) = (m ((c : Thread nD τ).loc main_arg3) : FVec Ideal S1x512x512 .f32) (ix3 0 i d) := by
    entry_read
    pointwise []
  rw [← hV]
  blk_ext [iblk, V, idx t]

/-- The tokens of the point's eight sequences. -/
theorem blk1_at (c : Dev nD) (t : Fin cfg0.N) (b : Fin 8) (j : Fin 512) (n : Fin 16) (hn : n.val = 8 * (t.val / 4) + b.val) :
    blk1 m c t (ix2 b j) = (m ((c : Thread nD τ).loc main_arg0) : IVec S16x512 32) (ix2 n j) := by
  have hV : (V m c main_arg0 : IVec S16x512 32) = m ((c : Thread nD τ).loc main_arg0) := V_main_arg0 m c
  rw [← hV]
  blk_ext [iblk, V, idx t, hn]

/-- The summed table rows of the point's eight sequences. -/
theorem blk2_at (c : Dev nD) (t : Fin cfg0.N) (b : Fin 8) (j : Fin 64) (n : Fin 16) (hn : n.val = 8 * (t.val / 4) + b.val) :
    blk2 m c t (ix3 b 0 j) = (m ((c : Thread nD τ).loc main_arg2) : FVec Ideal S16x1x64 .f32) (ix3 n 0 j) := by
  have hV : (V m c main_arg2 : FVec Ideal S16x1x64 .f32) = m ((c : Thread nD τ).loc main_arg2) := V_main_arg2 m c
  rw [← hV]
  blk_ext [iblk, V, idx t, hn]

/-- The whole first table row, read as a block. -/
theorem read15 (t : Fin cfg0.N) (Z : FVec Ideal S1x64 .f32) (k : Fin 64) : View.read (Elt Ideal) ((cfg0.win 15).blk t).view Z (ix2 0 k) = Z (ix2 0 k) := by
  blk_ext [idx t]

/-- The first column of the table times the first gain. -/
theorem blk15_at (c : Dev nD) (t : Fin cfg0.N) (k : Fin 64) :
    blk15 m c t (ix2 0 k) = padCol (m ((c : Thread nD τ).loc main_arg18)) (m ((c : Thread nD τ).loc main_arg16)) k := by
  have hV : (V m c main_v21 : FVec Ideal S1x64 .f32) (ix2 0 k) = padCol (m ((c : Thread nD τ).loc main_arg18)) (m ((c : Thread nD τ).loc main_arg16)) k := by
    entry_read
    pointwise []
    rfl
  exact (read15 t (V m c main_v21) k).trans hV

/-- The whole table row of the weighted sums, read as a block. -/
theorem read16 (t : Fin cfg0.N) (Z : FVec Ideal S1x64 .f32) (k : Fin 64) : View.read (Elt Ideal) ((cfg0.win 16).blk t).view Z (ix2 0 k) = Z (ix2 0 k) := by
  blk_ext [idx t]

/-- The table times the gains. -/
theorem blk16_at (c : Dev nD) (t : Fin cfg0.N) (k : Fin 64) :
    blk16 m c t (ix2 0 k) = tabDot (m ((c : Thread nD τ).loc main_arg18)) (m ((c : Thread nD τ).loc main_arg16)) k := by
  have hV : (V m c main_v23 : FVec Ideal S1x64 .f32) (ix2 0 k) = tabDot (m ((c : Thread nD τ).loc main_arg18)) (m ((c : Thread nD τ).loc main_arg16)) k := by
    entry_read
    pointwise []
    rfl
  exact (read16 t (V m c main_v23) k).trans hV

/-- The whole bias row, read as a block. -/
theorem read17 (t : Fin cfg0.N) (Z : FVec Ideal S1x64 .f32) (k : Fin 64) : View.read (Elt Ideal) ((cfg0.win 17).blk t).view Z (ix2 0 k) = Z (ix2 0 k) := by
  blk_ext [idx t]

/-- The table times the offsets, with the bias. -/
theorem blk17_at (c : Dev nD) (t : Fin cfg0.N) (k : Fin 64) :
    blk17 m c t (ix2 0 k) = tabDot (m ((c : Thread nD τ).loc main_arg18)) (m ((c : Thread nD τ).loc main_arg17)) k
      + (m ((c : Thread nD τ).loc main_arg19) : FVec Ideal S64 .f32) (ix1 k) := by
  have hV : (V m c main_v26 : FVec Ideal S1x64 .f32) (ix2 0 k) = tabDot (m ((c : Thread nD τ).loc main_arg18)) (m ((c : Thread nD τ).loc main_arg17)) k
      + (m ((c : Thread nD τ).loc main_arg19) : FVec Ideal S64 .f32) (ix1 k) := by
    entry_read
    pointwise []
    rfl
  exact (read17 t (V m c main_v26) k).trans hV

/-- The last weights, turned. -/
theorem blk18_at (c : Dev nD) (t : Fin cfg0.N) (f : Fin 576) (j : Fin 10) :
    blk18 m c t (ix2 f j) = (m ((c : Thread nD τ).loc main_arg20) : FVec Ideal S10x576 .f32) (ix2 j f) := by
  have hV : (V m c main_v13 : FVec Ideal S576x10 .f32) (ix2 f j) = (m ((c : Thread nD τ).loc main_arg20) : FVec Ideal S10x576 .f32) (ix2 j f) := by
    entry_read
    pointwise []
  rw [← hV]
  blk_ext [iblk, V, idx t]

/-- The last bias. -/
theorem blk19_at (c : Dev nD) (t : Fin cfg0.N) (j : Fin 10) :
    blk19 m c t (ix2 0 j) = (m ((c : Thread nD τ).loc main_arg21) : FVec Ideal S10 .f32) (ix1 j) := by
  have hV : (V m c main_v14 : FVec Ideal S1x10 .f32) (ix2 0 j) = (m ((c : Thread nD τ).loc main_arg21) : FVec Ideal S10 .f32) (ix1 j) := by
    entry_read
    pointwise []
  rw [← hV]
  blk_ext [iblk, V, idx t]

/-! ## The rows -/

/-- The start branch is taken at the first layer alone. -/
theorem cond1_at : ∀ t : Fin cfg0.N, k0_cond1 (grid0.coords t) = if t.val % 4 = 0 then 1#1 else 0#1 :=
  (by decide +kernel : ∀ t : Fin grid0.N, k0_cond1 (grid0.coords t) = if t.val % 4 = 0 then 1#1 else 0#1)

/-- Where a sequence of the core begins in the gathered rows. -/
theorem embOff_at : ∀ t : Fin cfg0.N, ∀ b : Fin 8, embOff (grid0.coords t) b = ![8 * (t.val / 4) + b.val, 0, 0, 0] :=
  (by decide +kernel : ∀ t : Fin grid0.N, ∀ b : Fin 8, embOff (grid0.coords t) b = ![8 * (t.val / 4) + b.val, 0, 0, 0])

/-- Row and column of a copied block, at the block's own index. -/
theorem reshape_row (h : S512x512.numel = S1x512x1x512.numel) (i d : Fin 512) :
    Shape.reshapeEquiv h (ix2 (n0 := 512) (n1 := 512) i d) = ix4 (n0 := 1) (n1 := 512) (n2 := 1) (n3 := 512) 0 i 0 d :=
  Shape.reshapeEquiv_eq_of_rowMajor h (by
    rw [Shape.rowMajor_val_four, Shape.rowMajor_val_two]
    show ((0 * 512 + i.val) * 1 + 0) * 512 + d.val = i.val * 512 + d.val
    omega)

/-- The embedded rows copied in for the sequence at place `n`. -/
theorem embRows_at (off : Fin 8 → Fin 4 → ℕ) (inb : ∀ t a, off t a + S1x512x1x512.size a ≤ S16x512x1x512.size a)
    (Y : FVec Ideal S16x512x1x512 .f32) (b : Fin 8) (n : Fin 16) (h : off b = ![n.val, 0, 0, 0]) (i d : Fin 512) :
    embRows off inb Y b (ix2 i d) = Y (ix4 n i 0 d) := by
  unfold embRows
  congr 1
  rw [reshape_row]
  funext a
  have ha := congrFun h a
  refine Fin.ext ?_
  rw [Rect.emb_apply]
  show off b a + 1 * _ = _
  rw [ha]
  match a with
  | ⟨0, _⟩ => rfl
  | ⟨1, _⟩ => show 0 + 1 * i.val = i.val; omega
  | ⟨2, _⟩ => rfl
  | ⟨3, _⟩ => show 0 + 1 * d.val = d.val; omega

/-- The rows a core's first pass starts from. -/
theorem start_at (c : Dev nD) (t : Fin cfg0.N) (h : k0_cond1 (grid0.coords t) = 1#1) (X : FVec Ideal S4096x512 .f32) (b : Fin 8) (n : Fin 16)
    (hn : n.val = 8 * (t.val / 4) + b.val) :
    rows (startVal (grid0.coords t) (embArr m c) (blk0 m c t) X b) = startRows (m ((c : Thread nD τ).loc main_arg1)) (m ((c : Thread nD τ).loc main_arg3)) n := by
  funext i d
  have h1 : startVal (grid0.coords t) (embArr m c) (blk0 m c t) X b = k0_pay10 (embRows (embOff (grid0.coords t)) (fun t' => k0_off1_inb (grid0.coords t) h t') (embArr m c) b) (blk0 m c t) :=
    congrFun (dif_pos h : startVal (grid0.coords t) (embArr m c) (blk0 m c t) X = _) b
  have h2 (a p : FVec Ideal S512x512 .f32) : k0_pay10 a p (ix2 i d) = a (ix2 i d) + p (ix2 i d) := by pointwise [k0_pay10]
  have h3 := embRows_at (embOff (grid0.coords t)) (fun t' => k0_off1_inb (grid0.coords t) h t') (embArr m c) b n (by rw [embOff_at, hn]) i d
  have h4 : embArr m c = m ((c : Thread nD τ).loc main_arg1) := V_main_arg1 m c
  show startVal (grid0.coords t) (embArr m c) (blk0 m c t) X b (ix2 i d) = _
  rw [h1, h2, h3, blk0_at, h4]
  rfl

/-- The weights of all layers. -/
def wK (c : Dev nD) (l : Fin 4) : Weights :=
  weightsAt (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) l

/-- One pass: the layer applied to the rows it starts from. -/
theorem pass_at (c : Dev nD) (t : Fin cfg0.N) (X : FVec Ideal S4096x512 .f32) (b : Fin 8) (l : Fin 4) (hl : t.val % 4 = l.val) :
    rows (passRows m c t X b) = layer (wK m c l) (rows (startVal (grid0.coords t) (embArr m c) (blk0 m c t) X b)) := by
  funext i d
  exact (layer_at (wAt m c t) _ i d).trans (by rw [weights_at m c t l hl]; rfl)

/-- One more layer. -/
theorem encode_succ (W : Fin 4 → Weights) (x : Fin 512 → Fin 512 → EReal) (n : ℕ) (h : n < 4) : encode W x (n + 1) = layer (W ⟨n, h⟩) (encode W x n) := by
  rw [encode, dif_pos h]

/-- The rows after the pass at a point: the encoder's layers up to the point's own. -/
theorem rows_after (c : Dev nD) (X : FVec Ideal S4096x512 .f32) (b : Fin 8) : ∀ k : ℕ, ∀ t : Fin cfg0.N, t.val % 4 = k → ∀ n : Fin 16, n.val = 8 * (t.val / 4) + b.val →
    rows (passRows m c t (rowBuf m c X t.val) b) = encode (wK m c) (startRows (m ((c : Thread nD τ).loc main_arg1)) (m ((c : Thread nD τ).loc main_arg3)) n) (k + 1) := by
  intro k
  induction k with
  | zero =>
    intro t ht n hn
    rw [pass_at m c t _ b 0 ht, start_at m c t (by rw [cond1_at, if_pos ht]) _ b n hn]
    exact (encode_succ _ _ 0 (by omega)).symm
  | succ k ih =>
    intro t ht n hn
    have hk : k + 1 < 4 := by omega
    have hp : 0 < t.val := by omega
    let t' : Fin cfg0.N := ⟨t.val - 1, by have := t.isLt; omega⟩
    have h1 : t'.val % 4 = k := by show (t.val - 1) % 4 = k; omega
    have h2 : n.val = 8 * (t'.val / 4) + b.val := by rw [hn]; show _ = 8 * ((t.val - 1) / 4) + _; omega
    have h3 := ih t' h1 n h2
    have h4 : rowBuf m c X t.val = stack8 (passRows m c t' (rowBuf m c X t'.val)) := by
      rw [← rowBuf_succ]; congr 1; show t.val = t.val - 1 + 1; omega
    have h5 : startVal (grid0.coords t) (embArr m c) (blk0 m c t) (rowBuf m c X t.val) = unstack8 (rowBuf m c X t.val) :=
      dif_neg (by rw [cond1_at, if_neg (by omega)]; decide)
    rw [pass_at m c t _ b ⟨k + 1, hk⟩ ht, h5, h4, unstack8_stack8, h3]
    exact (encode_succ _ _ (k + 1) hk).symm

end Cert.KernelIdeal.Own
-- ==== Proof.HeadKernel.lean ====
module

public import proofs.«01_k».proof.Proof.Head
public import proofs.«01_k».proof.Proof.HeadMath
public import proofs.«01_k».proof.Proof.Consts
public import Idealize.ShloMosaic.Lib.Claim

@[expose] public section

set_option maxRecDepth 16384

noncomputable section

namespace Cert.KernelIdeal.Own

open Cert.KernelIdeal Cert.KernelIdeal.Gen Cert.Enc
open Idealize.ShloMosaic Idealize.ShloMosaic.TcCoe

/-- The mean row of a sequence. -/
theorem ctx_at (G : Fin 8 → FVec Ideal S512x512 .f32) (b : Fin 8) (d : Fin 512) :
    ctxVal G (ix2 b d) = meanRow (fun i d => G b (ix2 i d)) d := by
  pointwise [ctxVal, k0_pay98, k0_pay99, k0_pay100, k0_pay101, k0_pay102, k0_pay103, k0_pay104, k0_pay105]
  unfold meanRow
  rw [ofBits_512]
  match b with
  | 0 => rfl
  | 1 => rfl
  | 2 => rfl
  | 3 => rfl
  | 4 => rfl
  | 5 => rfl
  | 6 => rfl
  | 7 => rfl

/-- The number of tokens that are not padding. -/
theorem nb_at (x : IVec S8x512 32) (b : Fin 8) : k0_pay107 (F := Ideal) x (ix2 b 0) = ((filled fun j => x (ix2 b j) : ℝ) : EReal) := by
  pointwise [k0_pay107]
  unfold filled
  rw [coe_sum]
  refine Finset.sum_congr rfl fun j _ => (bit_signed (x (ix2 b j) != 0#32)).trans ?_
  by_cases h : x (ix2 b j) = 0#32 <;> simp [h]

/-- The number of padding tokens. -/
theorem npad_at (x : IVec S8x512 32) (b : Fin 8) : k0_pay108 (F := Ideal) x (ix2 b 0) = ((padded fun j => x (ix2 b j) : ℝ) : EReal) := by
  pointwise [k0_pay108]
  rw [nb_at, ofBits_512, ← EReal.coe_sub, filled_eq]
  congr 1
  ring

/-- The tokens with each padding position given a number of its own. -/
theorem marked_at (x : IVec S8x512 32) (b : Fin 8) (j : Fin 512) : k0_pay106 (F := Ideal) x (ix2 b j) = marked (fun j => x (ix2 b j)) j := by
  pointwise [k0_pay106]
  unfold marked
  by_cases h : x (ix2 b j) = 0#32
  · rw [if_pos h, h]; rfl
  · rw [if_neg h]
    have : IntOp.cmpi CmpIPredicate.eq (x (ix2 b j)) 0#32 = 0#1 := by
      show BitVec.ofBool (x (ix2 b j) == 0#32) = _
      rw [beq_eq_false_iff_ne.2 h]; rfl
    rw [this]; rfl

/-- One comparison with a column, added to the counts. -/
theorem add_at (v w : IVec S8x512 32) (a : FVec Ideal S8x512 .f32) (b : Fin 8) (j : Fin 512) :
    cntAdd v w a (ix2 b j) = a (ix2 b j) + ((if v (ix2 b j) = w (ix2 b j) then (1 : ℝ) else 0 : ℝ) : EReal) := by
  pointwise [cntAdd]
  refine congrArg (a (ix2 b j) + ·) ((bit_signed (v (ix2 b j) == w (ix2 b j))).trans ?_)
  simp only [beq_iff_eq]

/-- A column of the marked tokens, repeated along the row. -/
theorem col_at (v : IVec S8x512 32) (k : ℕ) (h : k < 512) (b : Fin 8) (j : Fin 512) : cntCol v k (colSlices k h) (ix2 b j) = v (ix2 b ⟨k, h⟩) := by
  pointwise [cntCol]

/-- For each token, how many of the first `n` agree with it. -/
theorem acc_at (v : IVec S8x512 32) (b : Fin 8) (j : Fin 512) : ∀ (n : ℕ) (h : n ≤ 512),
    cntAcc (F := Ideal) v n h (ix2 b j) = ((∑ k : Fin n, (if v (ix2 b j) = v (ix2 b ⟨k.val, by omega⟩) then (1 : ℝ) else 0) : ℝ) : EReal)
  | 0, h => by pointwise [cntAcc]; simp
  | n + 1, h => by
    rw [cntAcc, add_at, col_at v n h, acc_at v b j n (Nat.le_of_succ_le h), ← EReal.coe_add, Fin.sum_univ_castSucc]
    rfl

/-- The number of equal pairs in a sequence. -/
theorem pairs_at (x : IVec S8x512 32) (b : Fin 8) : pairsVal (F := Ideal) (k0_pay106 (F := Ideal) x) (ix2 b 0) = ((pairs fun j => x (ix2 b j) : ℝ) : EReal) := by
  have h : pairsVal (F := Ideal) (k0_pay106 (F := Ideal) x) (ix2 b 0) = ∑ j, cntAcc (F := Ideal) (k0_pay106 (F := Ideal) x) 512 (le_refl _) (ix2 b j) := by
    pointwise [pairsVal]
  rw [h]
  unfold pairs
  rw [coe_sum]
  refine Finset.sum_congr rfl fun j _ => (acc_at _ b j 512 (le_refl _)).trans ?_
  simp only [marked_at]

/-- The mean count. -/
theorem mean_at (a : FVec Ideal S8x1 .f32) (b : Fin 8) : k0_pay212 a (ix2 b 0) = a (ix2 b 0) * ((50257⁻¹ : ℝ) : EReal) := by
  pointwise [k0_pay212]
  exact congrArg (a (ix2 b 0) * ·) (IdealRules.named_const.ideal_named_scalar _ _ _ _ rfl)

/-- The variance of the counts. -/
theorem var_at (a m : FVec Ideal S8x1 .f32) (c : Ideal .f32) (b : Fin 8) : k0_pay213 a m c (ix2 b 0) = a (ix2 b 0) * c - m (ix2 b 0) * m (ix2 b 0) + Ideal.ofBits .f32 0x3727C5AC#32 := by
  pointwise [k0_pay213]

/-- The variance as the kernel forms it, with the small constant. -/
theorem varVal_at (x : IVec S8x512 32) (b : Fin 8) (hx : InRange fun j => x (ix2 b j)) (e : ℝ) (he : Ideal.ofBits .f32 0x3727C5AC#32 = (e : EReal)) :
    varVal (F := Ideal) x (ix2 b 0) = ((varCount (fun j => x (ix2 b j)) + e : ℝ) : EReal) := by
  have hinv : (invV : Ideal .f32) = ((50257⁻¹ : ℝ) : EReal) := IdealRules.named_const.ideal_named_scalar _ _ _ _ rfl
  have hs : subf (pairsVal (F := Ideal) (k0_pay106 (F := Ideal) x)) (k0_pay108 x) (ix2 b 0) = ((pairs (fun j => x (ix2 b j)) - padded (fun j => x (ix2 b j)) : ℝ) : EReal) := by
    rw [EReal.coe_sub, ← pairs_at, ← npad_at]; rfl
  unfold varVal
  rw [var_at, hs, mean_at, nb_at, hinv, he, ← EReal.coe_mul, ← EReal.coe_mul, ← EReal.coe_mul, ← EReal.coe_sub, ← EReal.coe_add, varCount_eq _ hx]

/-- The head at a sequence and a class. -/
theorem head_at (u : FVec Ideal S8x512 .f32) (n m w : FVec Ideal S8x1 .f32) (s : FVec Ideal S8x1x64 .f32) (p t o : FVec Ideal S1x64 .f32)
    (H : FVec Ideal S576x10 .f32) (bh : FVec Ideal S1x10 .f32) (b : Fin 8) (j : Fin 10) :
    k0_pay9 u n m w s p t o H bh (ix2 b j)
      = (∑ d : Fin 512, u (ix2 b d) * H (ix2 ⟨d.val, by omega⟩ j))
          + (∑ k : Fin 64, max (Ideal.rsqrt (w (ix2 b 0)) * (s (ix3 b 0 k) - n (ix2 b 0) * p (ix2 0 k)) - Ideal.rsqrt (w (ix2 b 0)) * m (ix2 b 0) * t (ix2 0 k) + o (ix2 0 k)) 0
              * H (ix2 ⟨512 + k.val, by omega⟩ j))
        + bh (ix2 0 j) := by
  pointwise [k0_pay9]

/-- One count feature as the kernel forms it. -/
theorem feature_at (x : IVec S8x512 32) (b : Fin 8) (hx : InRange fun j => x (ix2 b j)) (e : ℝ) (e0 : 0 < e) (he : Ideal.ofBits .f32 0x3727C5AC#32 = (e : EReal))
    (s p t o : EReal) :
    max (Ideal.rsqrt (varVal (F := Ideal) x (ix2 b 0)) * (s - k0_pay108 (F := Ideal) x (ix2 b 0) * p)
        - Ideal.rsqrt (varVal (F := Ideal) x (ix2 b 0)) * k0_pay212 (k0_pay107 (F := Ideal) x) (ix2 b 0) * t + o) 0
      = countFeature (fun j => x (ix2 b j)) e s p t o := by
  have hv := varCount_nonneg fun j => x (ix2 b j)
  have hr : Ideal.rsqrt (varVal (F := Ideal) x (ix2 b 0)) = (((Real.sqrt (varCount (fun j => x (ix2 b j)) + e))⁻¹ : ℝ) : EReal) := by
    rw [varVal_at x b hx e he, Ideal.rsqrt_coe, if_neg (by linarith), if_neg (by linarith)]
  rw [hr, npad_at, mean_at, nb_at, ← EReal.coe_mul (filled _), meanCount_eq _ hx, scale_sub _ (inv_nonneg.2 (Real.sqrt_nonneg _))]
  rfl

end Cert.KernelIdeal.Own
-- ==== Proof.Answer.lean ====
module

public import proofs.«01_k».proof.Proof.HeadMath
public import proofs.«01_k».proof.Proof.Consts

@[expose] public section

noncomputable section

namespace Cert.Enc

open Idealize.ShloMosaic

/-- The small constant under the roots, as a real. -/
def eps : ℝ := ofBits_eps.choose

/-- The constant is positive. -/
theorem eps_pos : 0 < eps := ofBits_eps.choose_spec.1

/-- The printed bits denote it. -/
theorem eps_eq : Ideal.ofBits .f32 0x3727C5AC#32 = ((eps : ℝ) : EReal) := ofBits_eps.choose_spec.2

/-- The whole answer at sequence `n` and class `j`: the layers on the embedded rows, their mean row and the count features,
    through the last weights. -/
def answer (x : IVec ⟨2, ![16, 512]⟩ 32) (h : FVec Ideal ⟨4, ![16, 512, 1, 512]⟩ .f32) (s : FVec Ideal ⟨3, ![16, 1, 64]⟩ .f32)
    (p : FVec Ideal ⟨3, ![1, 512, 512]⟩ .f32) (W : Fin 4 → Weights) (g b : FVec Ideal ⟨1, ![50257]⟩ .f32) (T : FVec Ideal ⟨2, ![64, 50257]⟩ .f32)
    (c : FVec Ideal ⟨1, ![64]⟩ .f32) (H : FVec Ideal ⟨2, ![10, 576]⟩ .f32) (d : FVec Ideal ⟨1, ![10]⟩ .f32) (n : Fin 16) (j : Fin 10) : EReal :=
  logit (meanRow (encode W (startRows h p n) 4))
    (fun k => countFeature (fun i => x (ix2 n i)) eps (s (ix3 n 0 k)) (padCol T g k) (tabDot T g k) (tabDot T b k + c (ix1 k))) H d j

/-- Equal arguments give equal answers. -/
theorem answer_eq {x x' : IVec ⟨2, ![16, 512]⟩ 32} {h h' : FVec Ideal ⟨4, ![16, 512, 1, 512]⟩ .f32} {s s' : FVec Ideal ⟨3, ![16, 1, 64]⟩ .f32}
    {p p' : FVec Ideal ⟨3, ![1, 512, 512]⟩ .f32} {a4 a4' : FVec Ideal ⟨3, ![4, 1536, 512]⟩ .f32} {a5 a5' : FVec Ideal ⟨2, ![4, 1536]⟩ .f32}
    {a6 a6' : FVec Ideal ⟨3, ![4, 512, 512]⟩ .f32} {a7 a7' a8 a8' a9 a9' : FVec Ideal ⟨2, ![4, 512]⟩ .f32} {a10 a10' : FVec Ideal ⟨3, ![4, 2048, 512]⟩ .f32}
    {a11 a11' : FVec Ideal ⟨2, ![4, 2048]⟩ .f32} {a12 a12' : FVec Ideal ⟨3, ![4, 512, 2048]⟩ .f32} {a13 a13' a14 a14' a15 a15' : FVec Ideal ⟨2, ![4, 512]⟩ .f32}
    {g g' b b' : FVec Ideal ⟨1, ![50257]⟩ .f32} {T T' : FVec Ideal ⟨2, ![64, 50257]⟩ .f32} {c c' : FVec Ideal ⟨1, ![64]⟩ .f32}
    {H H' : FVec Ideal ⟨2, ![10, 576]⟩ .f32} {d d' : FVec Ideal ⟨1, ![10]⟩ .f32}
    (e0 : x = x') (e1 : h = h') (e2 : s = s') (e3 : p = p') (e4 : a4 = a4') (e5 : a5 = a5') (e6 : a6 = a6') (e7 : a7 = a7') (e8 : a8 = a8') (e9 : a9 = a9') (e10 : a10 = a10') (e11 : a11 = a11') (e12 : a12 = a12') (e13 : a13 = a13') (e14 : a14 = a14') (e15 : a15 = a15') (e16 : g = g') (e17 : b = b') (e18 : T = T') (e19 : c = c') (e20 : H = H') (e21 : d = d') (n : Fin 16) (j : Fin 10) :
    answer x h s p (weightsAt a4 a5 a6 a7 a8 a9 a10 a11 a12 a13 a14 a15) g b T c H d n j
      = answer x' h' s' p' (weightsAt a4' a5' a6' a7' a8' a9' a10' a11' a12' a13' a14' a15') g' b' T' c' H' d' n j := by
  subst e0 e1 e2 e3 e4 e5 e6 e7 e8 e9 e10 e11 e12 e13 e14 e15 e16 e17 e18 e19 e20 e21
  rfl

end Cert.Enc
-- ==== Proof.FinalKernel.lean ====
module

public import proofs.«01_k».proof.Proof.Blocks
public import proofs.«01_k».proof.Proof.HeadKernel
public import proofs.«01_k».proof.Proof.Answer

@[expose] public section

set_option maxRecDepth 16384

noncomputable section

namespace Cert.KernelIdeal.Own

open Cert.KernelIdeal Cert.KernelIdeal.Gen Cert.Enc
open Idealize.ShloMosaic Idealize.ShloMosaic.TcCoe Idealize.SL.Sem

variable (m : (ℓ : Loc nD τ sig) → Buf (Elt Ideal) ℓ)

/-- The kernel's answer at a sequence and a class, from its arguments. -/
def answerK (c : Dev nD) (n : Fin 16) (j : Fin 10) : EReal :=
  answer (m ((c : Thread nD τ).loc main_arg0)) (m ((c : Thread nD τ).loc main_arg1)) (m ((c : Thread nD τ).loc main_arg2)) (m ((c : Thread nD τ).loc main_arg3))
    (wK m c) (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21)) n j

/-- The output block of a core's last pass. -/
theorem out_at (c : Dev nD) (hx : ∀ n : Fin 16, InRange fun i => (m ((c : Thread nD τ).loc main_arg0) : IVec S16x512 32) (ix2 n i))
    (t : Fin cfg0.N) (ht : t.val % 4 = 3) (b : Fin 8) (j : Fin 10) (n : Fin 16) (hn : n.val = 8 * (t.val / 4) + b.val) :
    outAt m c t (ix2 b j) = answerK m c n j := by
  have hxb : (fun i => blk1 m c t (ix2 b i)) = fun i => (m ((c : Thread nD τ).loc main_arg0) : IVec S16x512 32) (ix2 n i) :=
    funext fun i => blk1_at m c t b i n hn
  have hr : InRange fun i => blk1 m c t (ix2 b i) := by rw [hxb]; exact hx n
  have hrows := rows_after m c (rows0 m c) b 3 t ht n hn
  unfold outAt outVal
  rw [head_at]
  unfold answerK answer logit
  congr 1
  · congr 1
    · refine Finset.sum_congr rfl fun d _ => ?_
      rw [ctx_at, blk18_at]
      exact congrArg (fun y => meanRow y d * _) hrows
    · refine Finset.sum_congr rfl fun k _ => ?_
      rw [feature_at _ b hr eps eps_pos eps_eq, hxb, blk2_at m c t b k n hn, blk15_at, blk16_at, blk17_at, blk18_at]
  · exact blk19_at m c t j

/-- The output block is written out after a core's last layer. -/
theorem flush_at : ∀ t : Fin cfg0.N, (cfg0.win 20).flush t = true → t.val % 4 = 3 :=
  (by decide +kernel : ∀ t : Fin grid0.N, (cfg0.win 20).flush t = true → t.val % 4 = 3)

/-- There are two cores. -/
theorem core_lt : ∀ t : Fin cfg0.N, t.val / 4 < 2 := (by decide +kernel : ∀ t : Fin grid0.N, t.val / 4 < 2)

/-- The output array after the run. -/
theorem final (c : Dev nD) (hx : ∀ n : Fin 16, InRange fun i => (m ((c : Thread nD τ).loc main_arg0) : IVec S16x512 32) (ix2 n i)) :
    (dats m 0 c).arrAt 20 cfg0.N = (fun i : S16x10.Idx => answerK m c (i 0) (i 1) : FVec Ideal S16x10 .f32) := by
  refine (dats m 0 c).arrAt_eq_of_covers 20 _ (by decide +kernel) fun t hf y => ?_
  have e0 : ((win0_20.blk t).view.emb y 0).val = 8 * (t.val / 4) + (y 0).val := by
    blk_simp [idx t]
    first | done | omega
  have e1 : (win0_20.blk t).view.emb y 1 = (y 1 : Fin 10) := Fin.ext (by
    blk_simp [idx t]
    first | done | omega)
  have ey : (y : S8x10.Idx) = ix2 (n0 := 8) (n1 := 10) (y 0) (y 1) := by
    funext a
    match a with
    | ⟨0, _⟩ => rfl
    | ⟨1, _⟩ => rfl
  have h := (congrArg (outAt m c t) ey).trans (out_at m c hx t (flush_at t hf) (y 0) (y 1) ((win0_20.blk t).view.emb y 0) e0)
  blk_simp
  rw [after20]
  exact h.trans (congrArg (answerK m c _) e1.symm)

end Cert.KernelIdeal.Own
-- ==== Proof.LayerReference.lean ====
module

public import proofs.«01_k».proof.Proof.Gen.ReferenceIdeal.Run
public import proofs.«01_k».proof.Proof.Layer

@[expose] public section

set_option maxRecDepth 16384

noncomputable section

namespace Cert.ReferenceIdeal.Own

open Cert.ReferenceIdeal Cert.ReferenceIdeal.Gen Cert.ReferenceIdeal.Value Cert.Enc
open Idealize.ShloMosaic Idealize.ShloMosaic.TcCoe Idealize.SL.Sem

/-! ## The reference's layer as a function of arrays -/

/-- The projections. -/
def refProj (h : FVec Ideal S16x512x512 .f32) (w : FVec Ideal S1x1536x512 .f32) (b : FVec Ideal S1x1536 .f32) : FVec Ideal S16x512x1536 .f32 :=
  addf (Host.dotGeneral dot_S16x512x512_S512x1536_S16x512x1536_2_0_01_1_n_n none h (transpose S512x1536 [1, 0] (shapeCast S1536x512 w shapeCasts_S1x1536x512_S1536x512) transposes_S1536x512_S512x1536_1_0)) (broadcastInDim S16x512x1536 ![0, 1, 2] bcast_S1x1x1536_S16x512x1536_0_1_2 (broadcastInDim S1x1x1536 ![2] bcast_S1536_S1x1x1536_2 (shapeCast S1536 b shapeCasts_S1x1536_S1536)))

/-- The scaled scores. -/
def refScore (P : FVec Ideal S16x512x1536 .f32) : FVec Ideal S16x8x512x512 .f32 :=
  mulf (Host.dotGeneral dot_S16x512x8x64_S16x512x8x64_S16x8x512x512_3_3_1_1_02_02 none (shapeCast S16x512x8x64 (extractStridedSlice S16x512x512 ![0, 0, 0] P slices_S16x512x1536_S16x512x512_0_0_0) shapeCasts_S16x512x512_S16x512x8x64) (shapeCast S16x512x8x64 (extractStridedSlice S16x512x512 ![0, 0, 512] P slices_S16x512x1536_S16x512x512_0_0_512) shapeCasts_S16x512x512_S16x512x8x64)) (broadcastInDim S16x8x512x512 ![] bcast_S_S16x8x512x512 (constant S_ .f32 0x3E000000#32))

/-- The exponentials. -/
def refExp (s : FVec Ideal S16x8x512x512 .f32) : FVec Ideal S16x8x512x512 .f32 :=
  Host.exp (subf s (broadcastInDim S16x8x512x512 ![0, 1, 2, 3] bcast_S16x8x512x1_S16x8x512x512_0_1_2_3 (broadcastInDim S16x8x512x1 ![0, 1, 2] bcast_S16x8x512_S16x8x512x1_0_1_2 (Host.reduce FloatOps.maximumf s (constant S_ .f32 0xFF800000#32) reducesTo_S16x8x512x512_S16x8x512_d3 h_S_))))

/-- The probabilities. -/
def refProb (e : FVec Ideal S16x8x512x512 .f32) : FVec Ideal S16x8x512x512 .f32 :=
  mulf e (broadcastInDim S16x8x512x512 ![0, 1, 2, 3] bcast_S16x8x512x1_S16x8x512x512_0_1_2_3 (Host.divf (broadcastInDim S16x8x512x1 ![] bcast_S_S16x8x512x1 (constant S_ .f32 0x3F800000#32)) (broadcastInDim S16x8x512x1 ![0, 1, 2] bcast_S16x8x512_S16x8x512x1_0_1_2 (Host.reduceAdd e (constant S_ .f32 0x00000000#32) reducesTo_S16x8x512x512_S16x8x512_d3 h_S_))))

/-- The heads' outputs. -/
def refAtt (P : FVec Ideal S16x512x1536 .f32) (p : FVec Ideal S16x8x512x512 .f32) : FVec Ideal S16x512x512 .f32 :=
  shapeCast S16x512x512 (transpose S16x512x8x64 [0, 3, 1, 2] (Host.dotGeneral dot_S16x512x8x64_S16x8x512x512_S16x8x64x512_1_3_3_2_02_01 none (shapeCast S16x512x8x64 (extractStridedSlice S16x512x512 ![0, 0, 1024] P slices_S16x512x1536_S16x512x512_0_0_1024) shapeCasts_S16x512x512_S16x512x8x64) p) transposes_S16x8x64x512_S16x512x8x64_0_3_1_2) shapeCasts_S16x512x8x64_S16x512x512

/-- The first residual sum. -/
def refRes (h a : FVec Ideal S16x512x512 .f32) (w : FVec Ideal S1x512x512 .f32) (b : FVec Ideal S1x512 .f32) : FVec Ideal S16x512x512 .f32 :=
  addf (addf h (Host.dotGeneral dot_S16x512x512_S512x512_S16x512x512_2_0_01_1_n_n none a (transpose S512x512 [1, 0] (shapeCast S512x512 w shapeCasts_S1x512x512_S512x512) transposes_S512x512_S512x512_1_0))) (broadcastInDim S16x512x512 ![0, 1, 2] bcast_S1x1x512_S16x512x512_0_1_2 (broadcastInDim S1x1x512 ![2] bcast_S512_S1x1x512_2 (shapeCast S512 b shapeCasts_S1x512_S512)))

/-- The row means. -/
def refMean (v : FVec Ideal S16x512x512 .f32) : FVec Ideal S16x512x1 .f32 :=
  Host.divf (broadcastInDim S16x512x1 ![0, 1] bcast_S16x512_S16x512x1_0_1 (Host.reduceAdd v (constant S_ .f32 0x00000000#32) reducesTo_S16x512x512_S16x512_d2 h_S_)) (broadcastInDim S16x512x1 ![] bcast_S_S16x512x1 (constant S_ .f32 0x44000000#32))

/-- The rows less their means. -/
def refCent (v : FVec Ideal S16x512x512 .f32) : FVec Ideal S16x512x512 .f32 :=
  subf v (broadcastInDim S16x512x512 ![0, 1, 2] bcast_S16x512x1_S16x512x512_0_1_2 (refMean v))

/-- Layer normalisation. -/
def refNorm (v : FVec Ideal S16x512x512 .f32) (g b : FVec Ideal S1x512 .f32) : FVec Ideal S16x512x512 .f32 :=
  addf (mulf (mulf (subf v (broadcastInDim S16x512x512 ![0, 1, 2] bcast_S16x512x1_S16x512x512_0_1_2 (refMean v))) (broadcastInDim S16x512x512 ![0, 1, 2] bcast_S16x512x1_S16x512x512_0_1_2 (Host.rsqrt (addf (Host.divf (broadcastInDim S16x512x1 ![0, 1] bcast_S16x512_S16x512x1_0_1 (Host.reduceAdd (mulf (refCent v) (refCent v)) (constant S_ .f32 0x00000000#32) reducesTo_S16x512x512_S16x512_d2 h_S_)) (broadcastInDim S16x512x1 ![] bcast_S_S16x512x1 (constant S_ .f32 0x44000000#32))) (broadcastInDim S16x512x1 ![] bcast_S_S16x512x1 (constant S_ .f32 0x3727C5AC#32)))))) (broadcastInDim S16x512x512 ![0, 1, 2] bcast_S1x1x512_S16x512x512_0_1_2 (broadcastInDim S1x1x512 ![2] bcast_S512_S1x1x512_2 (shapeCast S512 g shapeCasts_S1x512_S512)))) (broadcastInDim S16x512x512 ![0, 1, 2] bcast_S1x1x512_S16x512x512_0_1_2 (broadcastInDim S1x1x512 ![2] bcast_S512_S1x1x512_2 (shapeCast S512 b shapeCasts_S1x512_S512)))

/-- The feed-forward values before activation. -/
def refUp (h : FVec Ideal S16x512x512 .f32) (w : FVec Ideal S1x2048x512 .f32) (b : FVec Ideal S1x2048 .f32) : FVec Ideal S16x512x2048 .f32 :=
  addf (Host.dotGeneral dot_S16x512x512_S512x2048_S16x512x2048_2_0_01_1_n_n none h (transpose S512x2048 [1, 0] (shapeCast S2048x512 w shapeCasts_S1x2048x512_S2048x512) transposes_S2048x512_S512x2048_1_0)) (broadcastInDim S16x512x2048 ![0, 1, 2] bcast_S1x1x2048_S16x512x2048_0_1_2 (broadcastInDim S1x1x2048 ![2] bcast_S2048_S1x1x2048_2 (shapeCast S2048 b shapeCasts_S1x2048_S2048)))

/-- The second residual sum. -/
def refDown (h : FVec Ideal S16x512x512 .f32) (u : FVec Ideal S16x512x2048 .f32) (w : FVec Ideal S1x512x2048 .f32) (b : FVec Ideal S1x512 .f32) : FVec Ideal S16x512x512 .f32 :=
  addf h (addf (Host.dotGeneral dot_S16x512x2048_S2048x512_S16x512x512_2_0_01_1_n_n none (mulf (mulf (broadcastInDim S16x512x2048 ![] bcast_S_S16x512x2048 (constant S_ .f32 0x3F000000#32)) u) (addf (broadcastInDim S16x512x2048 ![] bcast_S_S16x512x2048 (constant S_ .f32 0x3F800000#32)) (Host.erf (Host.divf u (broadcastInDim S16x512x2048 ![] bcast_S_S16x512x2048 (id (Host.sqrt (constant S_ .f32 0x40000000#32)))))))) (transpose S2048x512 [1, 0] (shapeCast S512x2048 w shapeCasts_S1x512x2048_S512x2048) transposes_S512x2048_S2048x512_1_0)) (broadcastInDim S16x512x512 ![0, 1, 2] bcast_S1x1x512_S16x512x512_0_1_2 (broadcastInDim S1x1x512 ![2] bcast_S512_S1x1x512_2 (shapeCast S512 b shapeCasts_S1x512_S512))))

/-- One layer's weights as arrays with a leading axis of one. -/
structure RefW where
  wqkv : FVec Ideal S1x1536x512 .f32
  bqkv : FVec Ideal S1x1536 .f32
  wo : FVec Ideal S1x512x512 .f32
  bo : FVec Ideal S1x512 .f32
  g1 : FVec Ideal S1x512 .f32
  h1 : FVec Ideal S1x512 .f32
  w1 : FVec Ideal S1x2048x512 .f32
  b1 : FVec Ideal S1x2048 .f32
  w2 : FVec Ideal S1x512x2048 .f32
  b2 : FVec Ideal S1x512 .f32
  g2 : FVec Ideal S1x512 .f32
  h2 : FVec Ideal S1x512 .f32

/-- The rows after attention with the probabilities `q` of the scores, and the first normalisation. -/
def midWith (q : FVec Ideal S16x8x512x512 .f32 → FVec Ideal S16x8x512x512 .f32) (W : RefW) (h : FVec Ideal S16x512x512 .f32) : FVec Ideal S16x512x512 .f32 :=
  refNorm (refRes h (refAtt (refProj h W.wqkv W.bqkv) (q (refScore (refProj h W.wqkv W.bqkv)))) W.wo W.bo) W.g1 W.h1

/-- One layer with the probabilities `q` of the scores. -/
def layerWith (q : FVec Ideal S16x8x512x512 .f32 → FVec Ideal S16x8x512x512 .f32) (W : RefW) (h : FVec Ideal S16x512x512 .f32) : FVec Ideal S16x512x512 .f32 :=
  refNorm (refDown (midWith q W h) (refUp (midWith q W h) W.w1 W.b1) W.w2 W.b2) W.g2 W.h2

/-- One layer of this reference. -/
def refLayer (W : RefW) (h : FVec Ideal S16x512x512 .f32) : FVec Ideal S16x512x512 .f32 := layerWith (fun s => refProb (refExp s)) W h

/-- The weights number by number. -/
def numsOf (W : RefW) : Weights where
  wqkv e d := W.wqkv (ix3 0 e d)
  bqkv e := W.bqkv (ix2 0 e)
  wo d e := W.wo (ix3 0 d e)
  bo d := W.bo (ix2 0 d)
  g1 d := W.g1 (ix2 0 d)
  h1 d := W.h1 (ix2 0 d)
  w1 e d := W.w1 (ix3 0 e d)
  b1 e := W.b1 (ix2 0 e)
  w2 d e := W.w2 (ix3 0 d e)
  b2 d := W.b2 (ix2 0 d)
  g2 d := W.g2 (ix2 0 d)
  h2 d := W.h2 (ix2 0 d)

/-- The rows of sequence `b`. -/
def rowsB (h : FVec Ideal S16x512x512 .f32) (b : Fin 16) (i d : Fin 512) : EReal := h (ix3 b i d)

/-- The projections at a row and a column. -/
theorem refProj_at (W : RefW) (h : FVec Ideal S16x512x512 .f32) (b : Fin 16) (i : Fin 512) (e : Fin 1536) :
    refProj h W.wqkv W.bqkv (ix3 b i e) = proj (numsOf W) (rowsB h b) i e := by
  pointwise [refProj, proj, numsOf, rowsB]

/-- A score. -/
theorem refScore_at (P : FVec Ideal S16x512x1536 .f32) (b : Fin 16) (h : Fin 8) (i j : Fin 512) :
    refScore P (ix4 b h i j) = score (fun i e => P (ix3 b i e)) h i j := by
  pointwise [refScore, score]
  simp only [Nat.mul_comm 64 h.val]

/-- A probability. -/
theorem refProb_at (s : FVec Ideal S16x8x512x512 .f32) (b : Fin 16) (h : Fin 8) (i j : Fin 512) :
    refProb (refExp s) (ix4 b h i j) = soft (fun l => s (ix4 b h i l)) j := by
  pointwise [refProb, refExp, soft]

/-- A head's output. -/
theorem refAtt_at (P : FVec Ideal S16x512x1536 .f32) (p : FVec Ideal S16x8x512x512 .f32) (b : Fin 16) (i e : Fin 512) :
    refAtt P p (ix3 b i e) = ∑ j : Fin 512, p (ix4 b ⟨e.val / 64, by omega⟩ i j) * P (ix3 b j ⟨1024 + e.val, by omega⟩) := by
  pointwise [refAtt]
  exact Finset.sum_congr rfl fun _ _ => mul_comm _ _

/-- The first residual sum at a place. -/
theorem refRes_at (h a : FVec Ideal S16x512x512 .f32) (w : FVec Ideal S1x512x512 .f32) (b : FVec Ideal S1x512 .f32) (s : Fin 16) (i d : Fin 512) :
    refRes h a w b (ix3 s i d) = h (ix3 s i d) + ((∑ e : Fin 512, a (ix3 s i e) * w (ix3 0 d e)) + b (ix2 0 d)) := by
  pointwise [refRes]
  exact add_assoc _ _ _

/-- The normalised row at a place. -/
theorem refNorm_at (v : FVec Ideal S16x512x512 .f32) (g b : FVec Ideal S1x512 .f32) (s : Fin 16) (i d : Fin 512) :
    refNorm v g b (ix3 s i d) = lnorm (fun d => v (ix3 s i d)) (fun d => g (ix2 0 d)) (fun d => b (ix2 0 d)) d := by
  pointwise [refNorm, refCent, refMean, lnorm, mean]

/-- The feed-forward value before activation. -/
theorem refUp_at (h : FVec Ideal S16x512x512 .f32) (w : FVec Ideal S1x2048x512 .f32) (b : FVec Ideal S1x2048 .f32) (s : Fin 16) (i : Fin 512) (e : Fin 2048) :
    refUp h w b (ix3 s i e) = (∑ d : Fin 512, h (ix3 s i d) * w (ix3 0 e d)) + b (ix2 0 e) := by
  pointwise [refUp]

/-- The root of two, as the reference takes it. -/
theorem root2_at : (id (Host.sqrt (constant (F := Ideal) S_ .f32 0x40000000#32)) : FVec Ideal S_ .f32) ix0 = ((Real.sqrt 2 : ℝ) : EReal) := by
  show Ideal.sqrt (Ideal.ofBits .f32 0x40000000#32) = _
  rw [ofBits_2]
  exact (Ideal.sqrt_coe (r := 2)).trans (if_neg (by norm_num))

/-- Dividing by the root of two is multiplying by its inverse. -/
theorem div_root2 (u : EReal) : Ideal.div u ((Real.sqrt 2 : ℝ) : EReal) = u * (((Real.sqrt 2)⁻¹ : ℝ) : EReal) := by
  rw [Ideal.div_coe (by positivity), one_div]

/-- The second residual sum at a place. -/
theorem refDown_at (h : FVec Ideal S16x512x512 .f32) (u : FVec Ideal S16x512x2048 .f32) (w : FVec Ideal S1x512x2048 .f32) (b : FVec Ideal S1x512 .f32) (s : Fin 16) (i d : Fin 512) :
    refDown h u w b (ix3 s i d) = h (ix3 s i d) + ((∑ e : Fin 2048, gelu (u (ix3 s i e)) * w (ix3 0 d e)) + b (ix2 0 d)) := by
  pointwise [refDown, gelu, root2_at, div_root2]

section
variable {q : FVec Ideal S16x8x512x512 .f32 → FVec Ideal S16x8x512x512 .f32} {W : RefW} {h : FVec Ideal S16x512x512 .f32} {b : Fin 16}
  (hq : ∀ (a : Fin 8) (i j : Fin 512), q (refScore (refProj h W.wqkv W.bqkv)) (ix4 b a i j) = soft (fun l => score (proj (numsOf W) (rowsB h b)) a i l) j)
include hq

/-- The rows after attention. -/
theorem midWith_at (i d : Fin 512) : midWith q W h (ix3 b i d) = mid (numsOf W) (rowsB h b) i d := by
  refine (refNorm_at _ _ _ _ _ _).trans (lnorm_congr (fun d => ?_) (fun _ => rfl) (fun _ => rfl) d)
  refine (refRes_at _ _ _ _ _ _ _).trans (congrArg₂ (· + ·) rfl (congrArg₂ (· + ·) (Finset.sum_congr rfl fun e _ => congrArg₂ (· * ·) ?_ rfl) rfl))
  exact (refAtt_at _ _ _ _ _).trans (Finset.sum_congr rfl fun j _ => congrArg₂ (· * ·) (hq _ i j) (refProj_at W h b j _))

/-- A layer whose probabilities are the scores' softmax is the encoder layer, sequence by sequence. -/
theorem layerWith_at (i d : Fin 512) : layerWith q W h (ix3 b i d) = layer (numsOf W) (rowsB h b) i d := by
  refine (refNorm_at _ _ _ _ _ _).trans (lnorm_congr (fun d => ?_) (fun _ => rfl) (fun _ => rfl) d)
  refine (refDown_at _ _ _ _ _ _ _).trans (congrArg₂ (· + ·) (midWith_at hq i d) (congrArg₂ (· + ·) (Finset.sum_congr rfl fun e _ => congrArg₂ (· * ·) (congrArg gelu ?_) rfl) rfl))
  refine (refUp_at _ _ _ _ _ _).trans (congrArg₂ (· + ·) (Finset.sum_congr rfl fun d _ => congrArg₂ (· * ·) (midWith_at hq i d) rfl) rfl)
end

/-- The scores of the rows of sequence `b`. -/
theorem refScore_rows (W : RefW) (h : FVec Ideal S16x512x512 .f32) (b : Fin 16) (a : Fin 8) (i l : Fin 512) :
    refScore (refProj h W.wqkv W.bqkv) (ix4 b a i l) = score (proj (numsOf W) (rowsB h b)) a i l :=
  (refScore_at _ _ _ _ _).trans (congrArg (fun P => score P a i l) (funext fun i => funext fun e => refProj_at W h b i e))

/-- The reference's layer is the encoder layer, sequence by sequence. -/
theorem refLayer_at (W : RefW) (h : FVec Ideal S16x512x512 .f32) (b : Fin 16) (i d : Fin 512) :
    refLayer W h (ix3 b i d) = layer (numsOf W) (rowsB h b) i d :=
  layerWith_at (fun a i j => (refProb_at _ _ _ _ _).trans (congrArg (fun f => soft f j) (funext fun l => refScore_rows W h b a i l))) i d

section
variable (a4 : FVec Ideal S4x1536x512 .f32) (a5 : FVec Ideal S4x1536 .f32) (a6 : FVec Ideal S4x512x512 .f32) (a7 a8 a9 : FVec Ideal S4x512 .f32)
  (a10 : FVec Ideal S4x2048x512 .f32) (a11 : FVec Ideal S4x2048 .f32) (a12 : FVec Ideal S4x512x2048 .f32) (a13 a14 a15 : FVec Ideal S4x512 .f32)

/-- Layer `l` of the stacked weights. -/
def sliceW (l : ℕ) (s4 : S4x1536x512.Slices ![l, 0, 0] S1x1536x512) (s5 : S4x1536.Slices ![l, 0] S1x1536) (s6 : S4x512x512.Slices ![l, 0, 0] S1x512x512)
    (s7 : S4x512.Slices ![l, 0] S1x512) (s10 : S4x2048x512.Slices ![l, 0, 0] S1x2048x512) (s11 : S4x2048.Slices ![l, 0] S1x2048)
    (s12 : S4x512x2048.Slices ![l, 0, 0] S1x512x2048) : RefW :=
  ⟨extractStridedSlice S1x1536x512 ![l, 0, 0] a4 s4, extractStridedSlice S1x1536 ![l, 0] a5 s5, extractStridedSlice S1x512x512 ![l, 0, 0] a6 s6,
  extractStridedSlice S1x512 ![l, 0] a7 s7, extractStridedSlice S1x512 ![l, 0] a8 s7, extractStridedSlice S1x512 ![l, 0] a9 s7,
  extractStridedSlice S1x2048x512 ![l, 0, 0] a10 s10, extractStridedSlice S1x2048 ![l, 0] a11 s11, extractStridedSlice S1x512x2048 ![l, 0, 0] a12 s12,
  extractStridedSlice S1x512 ![l, 0] a13 s7, extractStridedSlice S1x512 ![l, 0] a14 s7, extractStridedSlice S1x512 ![l, 0] a15 s7⟩

/-- Layer `l`'s weights, number by number, are the arrays' entries there. -/
theorem sliceW_nums (l : Fin 4) (s4 s5 s6 s7 s10 s11 s12) :
    numsOf (sliceW a4 a5 a6 a7 a8 a9 a10 a11 a12 a13 a14 a15 l.val s4 s5 s6 s7 s10 s11 s12)
      = weightsAt a4 a5 a6 a7 a8 a9 a10 a11 a12 a13 a14 a15 l := by
  unfold numsOf sliceW weightsAt
  congr 1 <;> funext d <;> (try funext e) <;> pointwise
end

/-- The embedded rows with the positions added. -/
def embed (h : FVec Ideal S16x512x1x512 .f32) (p : FVec Ideal S1x512x512 .f32) : FVec Ideal S16x512x512 .f32 :=
  addf (shapeCast S16x512x512 h shapeCasts_S16x512x1x512_S16x512x512) (broadcastInDim S16x512x512 ![0, 1, 2] bcast_S1x512x512_S16x512x512_0_1_2 p)

/-- They are the rows the layers start from. -/
theorem embed_rows (h : FVec Ideal S16x512x1x512 .f32) (p : FVec Ideal S1x512x512 .f32) (b : Fin 16) : rowsB (embed h p) b = startRows h p b := by
  have key : ∀ (i d : Fin 512), embed h p (ix3 b i d) = h (ix4 b i 0 d) + p (ix3 0 i d) := by
    intro i d; pointwise [embed]
  exact funext fun i => funext fun d => key i d

section
variable (V0 : Valuation τ sig (Elt Ideal))

/-- The weights of layer `l`, as the reference slices them. -/
def refW (l : ℕ) (s4 : S4x1536x512.Slices ![l, 0, 0] S1x1536x512) (s5 : S4x1536.Slices ![l, 0] S1x1536) (s6 : S4x512x512.Slices ![l, 0, 0] S1x512x512)
    (s7 : S4x512.Slices ![l, 0] S1x512) (s10 : S4x2048x512.Slices ![l, 0, 0] S1x2048x512) (s11 : S4x2048.Slices ![l, 0] S1x2048)
    (s12 : S4x512x2048.Slices ![l, 0, 0] S1x512x2048) : RefW :=
  sliceW (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15)) l s4 s5 s6 s7 s10 s11 s12

/-- The weights at layer `l`, number by number. -/
def wR (l : Fin 4) : Weights :=
  weightsAt (V0 (Proc.devRef .tc main_arg4)) (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14)) (V0 (Proc.devRef .tc main_arg15)) l

/-- The four layers of the reference. -/
theorem layer0_eq : res_main_v129 V0 = refLayer (refW V0 0 slices_S4x1536x512_S1x1536x512_0_0_0 slices_S4x1536_S1x1536_0_0 slices_S4x512x512_S1x512x512_0_0_0 slices_S4x512_S1x512_0_0 slices_S4x2048x512_S1x2048x512_0_0_0 slices_S4x2048_S1x2048_0_0 slices_S4x512x2048_S1x512x2048_0_0_0) (res_main_v2 V0) := rfl
/-- The second layer. -/
theorem layer1_eq : res_main_v256 V0 = refLayer (refW V0 1 slices_S4x1536x512_S1x1536x512_1_0_0 slices_S4x1536_S1x1536_1_0 slices_S4x512x512_S1x512x512_1_0_0 slices_S4x512_S1x512_1_0 slices_S4x2048x512_S1x2048x512_1_0_0 slices_S4x2048_S1x2048_1_0 slices_S4x512x2048_S1x512x2048_1_0_0) (res_main_v129 V0) := rfl
/-- The third layer. -/
theorem layer2_eq : res_main_v383 V0 = refLayer (refW V0 2 slices_S4x1536x512_S1x1536x512_2_0_0 slices_S4x1536_S1x1536_2_0 slices_S4x512x512_S1x512x512_2_0_0 slices_S4x512_S1x512_2_0 slices_S4x2048x512_S1x2048x512_2_0_0 slices_S4x2048_S1x2048_2_0 slices_S4x512x2048_S1x512x2048_2_0_0) (res_main_v256 V0) := rfl

/-- The rows the head starts from. -/
def refLast : FVec Ideal S16x512x512 .f32 :=
  refLayer (refW V0 3 slices_S4x1536x512_S1x1536x512_3_0_0 slices_S4x1536_S1x1536_3_0 slices_S4x512x512_S1x512x512_3_0_0 slices_S4x512_S1x512_3_0 slices_S4x2048x512_S1x2048x512_3_0_0 slices_S4x2048_S1x2048_3_0 slices_S4x512x2048_S1x512x2048_3_0_0) (res_main_v383 V0)

/-- The embedded rows with the positions. -/
theorem start_rows (b : Fin 16) :
    rowsB (res_main_v2 V0) b = startRows (V0 (Proc.devRef .tc main_arg1)) (V0 (Proc.devRef .tc main_arg3)) b := embed_rows _ _ b

/-- One layer on the rows of a sequence. -/
theorem layer_step (W : RefW) (w : Weights) (hw : numsOf W = w) (h : FVec Ideal S16x512x512 .f32) (b : Fin 16) :
    rowsB (refLayer W h) b = layer w (rowsB h b) := by
  subst hw
  exact funext fun i => funext fun d => refLayer_at W h b i d

/-- The rows after the four layers, sequence by sequence. -/
theorem refLast_rows (b : Fin 16) :
    rowsB (refLast V0) b = encode (wR V0) (startRows (V0 (Proc.devRef .tc main_arg1)) (V0 (Proc.devRef .tc main_arg3)) b) 4 := by
  have h1 := (congrArg (fun h => rowsB h b) (layer0_eq V0)).trans (layer_step _ _ (sliceW_nums _ _ _ _ _ _ _ _ _ _ _ _ 0 _ _ _ _ _ _ _) _ b)
  have h2 := (congrArg (fun h => rowsB h b) (layer1_eq V0)).trans (layer_step _ _ (sliceW_nums _ _ _ _ _ _ _ _ _ _ _ _ 1 _ _ _ _ _ _ _) _ b)
  have h3 := (congrArg (fun h => rowsB h b) (layer2_eq V0)).trans (layer_step _ _ (sliceW_nums _ _ _ _ _ _ _ _ _ _ _ _ 2 _ _ _ _ _ _ _) _ b)
  refine (layer_step _ _ (sliceW_nums _ _ _ _ _ _ _ _ _ _ _ _ 3 _ _ _ _ _ _ _) _ b).trans ?_
  refine (congrArg (layer _) (h3.trans (congrArg (layer _) (h2.trans (congrArg (layer _) (h1.trans (congrArg (layer _) (start_rows V0 b)))))))).trans ?_
  rfl
end

end Cert.ReferenceIdeal.Own
-- ==== Proof.HeadReference.lean ====
module

public import proofs.«01_k».proof.Proof.LayerReference
public import proofs.«01_k».proof.Proof.HeadMath
public import proofs.«01_k».proof.Proof.Consts

@[expose] public section

set_option maxRecDepth 16384

noncomputable section

namespace Cert.ReferenceIdeal.Own

open Cert.ReferenceIdeal Cert.ReferenceIdeal.Gen Cert.ReferenceIdeal.Value Cert.Enc
open Idealize.ShloMosaic Idealize.ShloMosaic.TcCoe Idealize.SL.Sem

/-- The counts of the tokens. -/
def refCount (x : IVec S16x512 32) : FVec Ideal S16x50257 .f32 :=
  Host.reduceAdd (mulf (uitofp .f32 (cmpi .eq (broadcastInDim S16x512x50257 ![0, 1, 2] bcast_S16x512x1_S16x512x50257_0_1_2 (broadcastInDim S16x512x1 ![0, 1] bcast_S16x512_S16x512x1_0_1 x)) (broadcastInDim S16x512x50257 ![0, 1, 2] bcast_S1x1x50257_S16x512x50257_0_1_2 (iotaInDim S1x1x50257 32 2)))) (broadcastInDim S16x512x50257 ![0, 1, 2] bcast_S16x512x1_S16x512x50257_0_1_2 (broadcastInDim S16x512x1 ![0, 1] bcast_S16x512_S16x512x1_0_1 (uitofp .f32 (cmpi .ne x (broadcastInDim S16x512 ![] bcast_S_S16x512 (constantI S_ 32 0#32))))))) (constant S_ .f32 0x00000000#32) reducesTo_S16x512x50257_S16x50257_d1 h_S_

/-- The mean of the counts. -/
def refMeanCount (x : IVec S16x512 32) : FVec Ideal S16x1 .f32 :=
  Host.divf (broadcastInDim S16x1 ![0] bcast_S16_S16x1_0 (Host.reduceAdd (refCount x) (constant S_ .f32 0x00000000#32) reducesTo_S16x50257_S16_d1 h_S_)) (broadcastInDim S16x1 ![] bcast_S_S16x1 (constant S_ .f32 0x47445100#32))

/-- The counts less their mean. -/
def refCentCount (x : IVec S16x512 32) : FVec Ideal S16x50257 .f32 :=
  subf (refCount x) (broadcastInDim S16x50257 ![0, 1] bcast_S16x1_S16x50257_0_1 (refMeanCount x))

/-- The variance of the counts, with the small constant. -/
def refVarCount (x : IVec S16x512 32) : FVec Ideal S16x1 .f32 :=
  addf (Host.divf (broadcastInDim S16x1 ![0] bcast_S16_S16x1_0 (Host.reduceAdd (mulf (refCentCount x) (refCentCount x)) (constant S_ .f32 0x00000000#32) reducesTo_S16x50257_S16_d1 h_S_)) (broadcastInDim S16x1 ![] bcast_S_S16x1 (constant S_ .f32 0x47445100#32))) (broadcastInDim S16x1 ![] bcast_S_S16x1 (constant S_ .f32 0x3727C5AC#32))

/-- The number of padding tokens. -/
def refPadded (x : IVec S16x512 32) : FVec Ideal S16x1 .f32 :=
  broadcastInDim S16x1 ![0] bcast_S16_S16x1_0 (Host.reduceAdd (uitofp .f32 (cmpi .eq x (broadcastInDim S16x512 ![] bcast_S_S16x512 (constantI S_ 32 0#32)))) (constant S_ .f32 0x00000000#32) reducesTo_S16x512_S16_d1 h_S_)

/-- The count features. -/
def refFeature (x : IVec S16x512 32) (s : FVec Ideal S16x1x64 .f32) (g b : FVec Ideal S50257 .f32) (T : FVec Ideal S64x50257 .f32) (c : FVec Ideal S64 .f32) : FVec Ideal S16x64 .f32 :=
  maximumf (addf (mulf (subf (subf (shapeCast S16x64 s shapeCasts_S16x1x64_S16x64) (mulf (broadcastInDim S16x64 ![0, 1] bcast_S16x1_S16x64_0_1 (refPadded x)) (broadcastInDim S16x64 ![0, 1] bcast_S1x64_S16x64_0_1 (broadcastInDim S1x64 ![1] bcast_S64_S1x64_1 (mulf (broadcastInDim S64 ![] bcast_S_S64 (shapeCast S_ (extractStridedSlice S1 ![0] g slices_S50257_S1_0) shapeCasts_S1_S_)) (shapeCast S64 (extractStridedSlice S64x1 ![0, 0] T slices_S64x50257_S64x1_0_0) shapeCasts_S64x1_S64)))))) (mulf (broadcastInDim S16x64 ![0, 1] bcast_S16x1_S16x64_0_1 (refMeanCount x)) (broadcastInDim S16x64 ![0, 1] bcast_S1x64_S16x64_0_1 (broadcastInDim S1x64 ![1] bcast_S64_S1x64_1 (Host.dotGeneral dot_S64x50257_S50257_S64_1_0_0_n_n_n none T g))))) (broadcastInDim S16x64 ![0, 1] bcast_S16x1_S16x64_0_1 (Host.rsqrt (refVarCount x)))) (broadcastInDim S16x64 ![0, 1] bcast_S1x64_S16x64_0_1 (broadcastInDim S1x64 ![1] bcast_S64_S1x64_1 (addf (Host.dotGeneral dot_S64x50257_S50257_S64_1_0_0_n_n_n none T b) c)))) (broadcastInDim S16x64 ![] bcast_S_S16x64 (constant S_ .f32 0x00000000#32))

/-- The result, from the last rows and the count features. -/
def refOut (h : FVec Ideal S16x512x512 .f32) (w : FVec Ideal S16x64 .f32) (H : FVec Ideal S10x576 .f32) (b : FVec Ideal S10 .f32) : FVec Ideal S16x10 .f32 :=
  addf (Host.dotGeneral dot_S16x576_S576x10_S16x10_1_0_0_1_n_n none (concatenate S16x576 1 [⟨S16x512, Host.divf (Host.reduceAdd h (constant S_ .f32 0x00000000#32) reducesTo_S16x512x512_S16x512_d1 h_S_) (broadcastInDim S16x512 ![] bcast_S_S16x512 (constant S_ .f32 0x44000000#32))⟩, ⟨S16x64, w⟩] concatenates_S16x512_S16x64_S16x576_d1) (transpose S576x10 [1, 0] H transposes_S10x576_S576x10_1_0)) (broadcastInDim S16x10 ![0, 1] bcast_S1x10_S16x10_0_1 (broadcastInDim S1x10 ![1] bcast_S10_S1x10_1 b))

/-- An equality as a number. -/
theorem eq_bit (a b : BitVec 32) : FloatOps.uitofp (F := Ideal) .f32 (IntOp.cmpi CmpIPredicate.eq a b) = ((if a = b then (1 : ℝ) else 0 : ℝ) : EReal) :=
  (bit_unsigned (a == b)).trans (by simp only [beq_iff_eq])

/-- An inequality as a number. -/
theorem ne_bit (a b : BitVec 32) : FloatOps.uitofp (F := Ideal) .f32 (IntOp.cmpi CmpIPredicate.ne a b) = ((if a = b then (0 : ℝ) else 1 : ℝ) : EReal) :=
  (bit_unsigned (a != b)).trans (by by_cases h : a = b <;> simp [h])

/-- A real over the table's length. -/
theorem div_50257 (r : ℝ) : Ideal.div (r : EReal) (Ideal.ofBits .f32 0x47445100#32) = ((r / 50257 : ℝ) : EReal) := by
  rw [ofBits_50257, Ideal.div_coe (by norm_num), ← EReal.coe_mul]
  congr 1
  ring

/-- The reference's count of a token. -/
theorem refCount_at (x : IVec S16x512 32) (n : Fin 16) (v : Fin 50257) : refCount x (ix2 n v) = ((count (fun j => x (ix2 n j)) v : ℝ) : EReal) := by
  pointwise [refCount]
  unfold Enc.count
  rw [coe_sum]
  exact Finset.sum_congr rfl fun j _ => by rw [eq_bit, ne_bit, ← EReal.coe_mul]

/-- The reference's mean count. -/
theorem refMeanCount_at (x : IVec S16x512 32) (n : Fin 16) : refMeanCount x (ix2 n 0) = ((meanCount (fun j => x (ix2 n j)) : ℝ) : EReal) := by
  pointwise [refMeanCount]
  rw [Finset.sum_congr rfl fun v _ => refCount_at x n v, ← coe_sum, div_50257]
  rfl

/-- The reference's variance of the counts, with the small constant. -/
theorem refVarCount_at (x : IVec S16x512 32) (n : Fin 16) (e : ℝ) (he : Ideal.ofBits .f32 0x3727C5AC#32 = (e : EReal)) :
    refVarCount x (ix2 n 0) = ((varCount (fun j => x (ix2 n j)) + e : ℝ) : EReal) := by
  pointwise [refVarCount, refCentCount]
  have h : ∀ v, (refCount x (ix2 n v) - refMeanCount x (ix2 n 0)) * (refCount x (ix2 n v) - refMeanCount x (ix2 n 0))
      = (((count (fun j => x (ix2 n j)) v - meanCount (fun j => x (ix2 n j))) * (count (fun j => x (ix2 n j)) v - meanCount (fun j => x (ix2 n j))) : ℝ) : EReal) := fun v => by
    rw [refCount_at, refMeanCount_at, ← EReal.coe_sub, ← EReal.coe_mul]
  rw [Finset.sum_congr rfl fun v _ => h v, ← coe_sum, div_50257, he, ← EReal.coe_add]
  rfl

/-- The reference's number of padding tokens. -/
theorem refPadded_at (x : IVec S16x512 32) (n : Fin 16) : refPadded x (ix2 n 0) = ((padded (fun j => x (ix2 n j)) : ℝ) : EReal) := by
  pointwise [refPadded]
  unfold padded
  rw [coe_sum]
  exact Finset.sum_congr rfl fun j _ => eq_bit _ _

/-- One count feature of the reference. -/
theorem refFeature_at (x : IVec S16x512 32) (s : FVec Ideal S16x1x64 .f32) (g b : FVec Ideal S50257 .f32) (T : FVec Ideal S64x50257 .f32) (c : FVec Ideal S64 .f32)
    (e : ℝ) (e0 : 0 < e) (he : Ideal.ofBits .f32 0x3727C5AC#32 = (e : EReal)) (n : Fin 16) (k : Fin 64) :
    refFeature x s g b T c (ix2 n k) = countFeature (fun j => x (ix2 n j)) e (s (ix3 n 0 k)) (padCol T g k) (tabDot T g k) (tabDot T b k + c (ix1 k)) := by
  pointwise [refFeature]
  have hv := varCount_nonneg fun j => x (ix2 n j)
  rw [refPadded_at, refMeanCount_at, refVarCount_at x n e he, Ideal.rsqrt_coe, if_neg (by linarith), if_neg (by linarith), mul_comm (g (ix1 0))]
  rfl

/-- One result of the reference. -/
theorem refOut_at (h : FVec Ideal S16x512x512 .f32) (w : FVec Ideal S16x64 .f32) (H : FVec Ideal S10x576 .f32) (b : FVec Ideal S10 .f32) (n : Fin 16) (j : Fin 10) :
    refOut h w H b (ix2 n j) = logit (meanRow (rowsB h n)) (fun k => w (ix2 n k)) H b j := by
  pointwise [refOut]
  rw [ofBits_512]
  rfl

end Cert.ReferenceIdeal.Own
-- ==== Proof.FinalReference.lean ====
module

public import proofs.«01_k».proof.Proof.HeadReference
public import proofs.«01_k».proof.Proof.Answer

@[expose] public section

set_option maxRecDepth 16384

noncomputable section

namespace Cert.ReferenceIdeal.Own

open Cert.ReferenceIdeal Cert.ReferenceIdeal.Gen Cert.ReferenceIdeal.Value Cert.Enc
open Idealize.ShloMosaic Idealize.ShloMosaic.TcCoe Idealize.SL.Sem Idealize.ShloMosaic.StableHlo

/-- The reference's result, from the last rows and the count features. -/
def result (V0 : Valuation τ sig (Elt Ideal)) : FVec Ideal S16x10 .f32 :=
  refOut (refLast V0) (refFeature (V0 (Proc.devRef .tc main_arg0)) (V0 (Proc.devRef .tc main_arg2)) (V0 (Proc.devRef .tc main_arg16)) (V0 (Proc.devRef .tc main_arg17))
    (V0 (Proc.devRef .tc main_arg18)) (V0 (Proc.devRef .tc main_arg19))) (V0 (Proc.devRef .tc main_arg20)) (V0 (Proc.devRef .tc main_arg21))

/-- The reference's result at a sequence and a class. -/
theorem result_at (V0 : Valuation τ sig (Elt Ideal)) (n : Fin 16) (j : Fin 10) :
    result V0 (ix2 n j) = answer (V0 (Proc.devRef .tc main_arg0)) (V0 (Proc.devRef .tc main_arg1)) (V0 (Proc.devRef .tc main_arg2)) (V0 (Proc.devRef .tc main_arg3))
      (wR V0) (V0 (Proc.devRef .tc main_arg16)) (V0 (Proc.devRef .tc main_arg17)) (V0 (Proc.devRef .tc main_arg18)) (V0 (Proc.devRef .tc main_arg19))
      (V0 (Proc.devRef .tc main_arg20)) (V0 (Proc.devRef .tc main_arg21)) n j := by
  unfold result
  rw [refOut_at, refLast_rows]
  unfold answer
  exact congrArg (fun w => logit _ w _ _ j) (funext fun k => refFeature_at _ _ _ _ _ _ eps eps_pos eps_eq n k)

set_option maxHeartbeats 2000000 in
/-- What the operations leave in the result's buffer. -/
theorem val_result (V0 : Valuation τ sig (Elt Ideal)) : val11 V0 (Proc.devRef .tc main_v572) = result V0 :=
  (val11_main_v572 V0).trans (by
    unfold result refOut refFeature refLast refLayer layerWith refNorm
    rfl)

/-- The reference's result from the launch's memory. -/
theorem result_of (m : (ℓ : Loc nD τ sig) → Buf (Elt Ideal) ℓ) (c : Dev nD) (n : Fin 16) (j : Fin 10) :
    result (launchContents m c) (ix2 n j)
      = answer (m ((c.tc : Thread nD τ).loc main_arg0)) (m ((c.tc : Thread nD τ).loc main_arg1)) (m ((c.tc : Thread nD τ).loc main_arg2)) (m ((c.tc : Thread nD τ).loc main_arg3))
        (weightsAt (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15)))
        (m ((c.tc : Thread nD τ).loc main_arg16)) (m ((c.tc : Thread nD τ).loc main_arg17)) (m ((c.tc : Thread nD τ).loc main_arg18)) (m ((c.tc : Thread nD τ).loc main_arg19))
        (m ((c.tc : Thread nD τ).loc main_arg20)) (m ((c.tc : Thread nD τ).loc main_arg21)) n j :=
  result_at (launchContents m c) n j

end Cert.ReferenceIdeal.Own
-- ==== Proof.Finite.lean ====
module

public import proofs.«01_k».proof.Proof.Layer

@[expose] public section

set_option maxRecDepth 16384

noncomputable section

namespace Cert.Enc

open Idealize.ShloMosaic

/-! ## Finite numbers stay finite through the layers -/

/-- A finite number. -/
def IsFin (x : EReal) : Prop := ∃ r : ℝ, x = (r : EReal)

/-- A sum of two finite numbers. -/
theorem fin_add {x y : EReal} (hx : IsFin x) (hy : IsFin y) : IsFin (x + y) := by
  obtain ⟨a, rfl⟩ := hx
  obtain ⟨b, rfl⟩ := hy
  exact ⟨a + b, (EReal.coe_add a b).symm⟩

/-- A difference of two finite numbers. -/
theorem fin_sub {x y : EReal} (hx : IsFin x) (hy : IsFin y) : IsFin (x - y) := by
  obtain ⟨a, rfl⟩ := hx
  obtain ⟨b, rfl⟩ := hy
  exact ⟨a - b, (EReal.coe_sub a b).symm⟩

/-- A product of two finite numbers. -/
theorem fin_mul {x y : EReal} (hx : IsFin x) (hy : IsFin y) : IsFin (x * y) := by
  obtain ⟨a, rfl⟩ := hx
  obtain ⟨b, rfl⟩ := hy
  exact ⟨a * b, (EReal.coe_mul a b).symm⟩

/-- A sum of reals among the extended reals. -/
theorem sum_real {ι : Type} (s : Finset ι) {f : ι → EReal} {g : ι → ℝ} (h : ∀ i, f i = (g i : EReal)) :
    (∑ i ∈ s, f i) = ((∑ i ∈ s, g i : ℝ) : EReal) := by
  classical
  induction s using Finset.induction_on with
  | empty => simp
  | insert a s ha ih => rw [Finset.sum_insert ha, Finset.sum_insert ha, ih, h a, EReal.coe_add]

/-- A sum of finite numbers. -/
theorem fin_sum {ι : Type} (s : Finset ι) {f : ι → EReal} (h : ∀ i, IsFin (f i)) : IsFin (∑ i ∈ s, f i) := by
  choose g hg using h
  exact ⟨_, sum_real s hg⟩

/-- The mean of finite numbers is the mean of the reals. -/
theorem mean_real {v : Fin 512 → EReal} {g : Fin 512 → ℝ} (h : ∀ i, v i = (g i : EReal)) : mean v = (((∑ i, g i) * (1 / 512) : ℝ) : EReal) := by
  unfold mean
  rw [ofBits_512, sum_real _ h, Ideal.div_coe (by norm_num), ← EReal.coe_mul]

/-- The mean of finite numbers. -/
theorem fin_mean {v : Fin 512 → EReal} (h : ∀ i, IsFin (v i)) : IsFin (mean v) := by
  choose g hg using h
  exact ⟨_, mean_real hg⟩

/-- The reciprocal root of a positive number. -/
theorem rsqrt_fin {r : ℝ} (h : 0 < r) : IsFin (Ideal.rsqrt (r : EReal)) :=
  ⟨(Real.sqrt r)⁻¹, (Ideal.rsqrt_coe (r := r)).trans ((if_neg (not_lt.2 h.le)).trans (if_neg h.ne'))⟩

/-- Layer normalisation of finite numbers. -/
theorem fin_lnorm {v g b : Fin 512 → EReal} (hv : ∀ i, IsFin (v i)) (hg : ∀ i, IsFin (g i)) (hb : ∀ i, IsFin (b i)) (d : Fin 512) :
    IsFin (lnorm v g b d) := by
  have hm := fin_mean hv
  refine fin_add (fin_mul (fin_mul (fin_sub (hv d) hm) ?_) (hg d)) (hb d)
  have hs : ∀ j, IsFin (v j - mean v) := fun j => fin_sub (hv j) hm
  choose s hs using hs
  obtain ⟨e, he, he'⟩ := ofBits_eps
  have : mean (fun j => (v j - mean v) * (v j - mean v)) + Ideal.ofBits .f32 0x3727C5AC#32 = (((∑ i, s i * s i) * (1 / 512) + e : ℝ) : EReal) := by
    rw [mean_real (g := fun i => s i * s i) fun i => by rw [hs i, EReal.coe_mul], he', EReal.coe_add]
  rw [this]
  refine rsqrt_fin (add_pos_of_nonneg_of_pos (mul_nonneg (Finset.sum_nonneg fun i _ => mul_self_nonneg _) (by norm_num)) he)

/-- The greatest of finite numbers. -/
theorem fin_top {s : Fin 512 → EReal} (h : ∀ i, IsFin (s i)) : IsFin (Finset.univ.fold max (Ideal.ofBits .f32 0xFF800000#32) s) := by
  have hb : Ideal.ofBits .f32 0xFF800000#32 = ⊥ := by simp [Ideal.ofBits, Ideal.ieee]
  rw [hb]
  have key : ∀ t : Finset (Fin 512), t.fold max ⊥ s = ⊥ ∨ IsFin (t.fold max ⊥ s) := by
    classical
    intro t
    induction t using Finset.induction_on with
    | empty => exact Or.inl Finset.fold_empty
    | insert a t ha ih =>
      rw [Finset.fold_insert ha]
      rcases max_choice (s a) (t.fold max ⊥ s) with e | e
      · rw [e]; exact Or.inr (h a)
      · rw [e]; exact ih
  rcases key Finset.univ with e | e
  · obtain ⟨r, hr⟩ := h 0
    have hle : s 0 ≤ Finset.univ.fold max ⊥ s := (Finset.le_fold_max (s 0)).2 (Or.inr ⟨0, Finset.mem_univ _, le_rfl⟩)
    rw [e, hr] at hle
    exact absurd (le_bot_iff.1 hle) (EReal.coe_ne_bot r)
  · exact e

/-- The exponentials of a row against its greatest number, as reals; their sum is positive. -/
theorem exps_real {s : Fin 512 → EReal} (h : ∀ i, IsFin (s i)) :
    ∃ g : Fin 512 → ℝ, (∀ i, Ideal.exp (s i - Finset.univ.fold max (Ideal.ofBits .f32 0xFF800000#32) s) = (g i : EReal)) ∧ 0 < ∑ i, g i := by
  have hs := fun i => fin_sub (h i) (fin_top h)
  choose g hg using hs
  refine ⟨fun i => Real.exp (g i), fun i => by rw [hg i]; rfl, Finset.sum_pos (fun i _ => Real.exp_pos _) Finset.univ_nonempty⟩

/-- The softmax of a row written as a quotient. -/
def softQ (s : Fin 512 → EReal) (j : Fin 512) : EReal :=
  Ideal.div (Ideal.exp (s j - Finset.univ.fold max (Ideal.ofBits .f32 0xFF800000#32) s))
    (∑ l, Ideal.exp (s l - Finset.univ.fold max (Ideal.ofBits .f32 0xFF800000#32) s))

/-- On finite scores the quotient is the product with the reciprocal. -/
theorem softQ_eq {s : Fin 512 → EReal} (h : ∀ i, IsFin (s i)) (j : Fin 512) : softQ s j = soft s j := by
  obtain ⟨g, hg, hp⟩ := exps_real h
  unfold softQ soft
  rw [sum_real _ hg, Ideal.div_coe hp.ne', Ideal.div_coe hp.ne', one_mul]

/-- The softmax of finite scores. -/
theorem fin_soft {s : Fin 512 → EReal} (h : ∀ i, IsFin (s i)) (j : Fin 512) : IsFin (soft s j) := by
  obtain ⟨g, hg, hp⟩ := exps_real h
  unfold soft
  rw [sum_real _ hg, Ideal.div_coe hp.ne', one_mul, hg j]
  exact fin_mul ⟨_, rfl⟩ ⟨_, rfl⟩

/-- The gaussian unit of a finite number. -/
theorem fin_gelu {u : EReal} (h : IsFin u) : IsFin (gelu u) := by
  unfold gelu
  have he : IsFin (Ideal.erf (u * (((Real.sqrt 2)⁻¹ : ℝ) : EReal))) := by
    obtain ⟨a, ha⟩ := fin_mul h ⟨(Real.sqrt 2)⁻¹, rfl⟩
    rw [ha]
    exact ⟨_, Ideal.erf_coe a⟩
  have hh : IsFin (Ideal.ofBits .f32 0x3F000000#32) := ⟨1 / 2, by simp [Ideal.ofBits, Ideal.ieee, -EReal.coe_mul]; norm_num⟩
  exact fin_mul (fin_mul hh h) (fin_add ⟨1, rfl⟩ he)

/-- Weights that are all finite. -/
structure FinW (W : Weights) : Prop where
  wqkv : ∀ e d, IsFin (W.wqkv e d)
  bqkv : ∀ e, IsFin (W.bqkv e)
  wo : ∀ e d, IsFin (W.wo e d)
  bo : ∀ e, IsFin (W.bo e)
  g1 : ∀ e, IsFin (W.g1 e)
  h1 : ∀ e, IsFin (W.h1 e)
  w1 : ∀ e d, IsFin (W.w1 e d)
  b1 : ∀ e, IsFin (W.b1 e)
  w2 : ∀ e d, IsFin (W.w2 e d)
  b2 : ∀ e, IsFin (W.b2 e)
  g2 : ∀ e, IsFin (W.g2 e)
  h2 : ∀ e, IsFin (W.h2 e)

section
variable {W : Weights} (hW : FinW W) {x : Fin 512 → Fin 512 → EReal} (hx : ∀ i d, IsFin (x i d))
include hW hx

/-- The projections of finite rows. -/
theorem proj_fin (i : Fin 512) (e : Fin 1536) : IsFin (proj W x i e) :=
  fin_add (fin_sum _ fun d => fin_mul (hx i d) (hW.wqkv e d)) (hW.bqkv e)

/-- The scores of finite rows. -/
theorem score_fin (h : Fin 8) (i j : Fin 512) : IsFin (score (proj W x) h i j) :=
  fin_mul (fin_sum _ fun _ => fin_mul (proj_fin hW hx _ _) (proj_fin hW hx _ _)) ⟨_, ofBits_eighth⟩

/-- The rows after attention. -/
theorem mid_fin (i d : Fin 512) : IsFin (mid W x i d) :=
  fin_lnorm (fun d => fin_add (hx i d) (fin_add (fin_sum _ fun e => fin_mul (fin_sum _ fun j => fin_mul (fin_soft (fun l => score_fin hW hx _ _ _) j) (proj_fin hW hx _ _)) (hW.wo d e)) (hW.bo d)))
    hW.g1 hW.h1 d

/-- A layer on finite rows. -/
theorem layer_fin (i d : Fin 512) : IsFin (layer W x i d) :=
  fin_lnorm (fun d => fin_add (mid_fin hW hx i d) (fin_add (fin_sum _ fun e => fin_mul (fin_gelu (fin_add (fin_sum _ fun d => fin_mul (mid_fin hW hx i d) (hW.w1 e d)) (hW.b1 e))) (hW.w2 d e)) (hW.b2 d)))
    hW.g2 hW.h2 d
end

end Cert.Enc
-- ==== Proof.SoftmaxPlain.lean ====
module

public import proofs.«01_k».proof.Proof.Gen.PlainReferenceIdeal
public import proofs.«01_k».proof.Proof.Layer
public import proofs.«01_k».proof.Proof.Finite

@[expose] public section

set_option maxRecDepth 16384

noncomputable section

namespace Cert.PlainReferenceIdeal.Own

open Cert.PlainReferenceIdeal Cert.PlainReferenceIdeal.Gen Cert.Enc
open Idealize.ShloMosaic Idealize.ShloMosaic.TcCoe Idealize.SL.Sem

/-! ## The softmax as a quotient -/

/-- The rows' greatest scores. -/
def plainTop (s : FVec Ideal S16x8x512x512 .f32) : FVec Ideal S16x8x512 .f32 :=
  Host.reduce FloatOps.maximumf s (constant S_ .f32 0xFF800000#32) reducesTo_S16x8x512x512_S16x8x512_d3 h_S_

/-- The greater of the least number and `t`. -/
def plainMax (t : FVec Ideal S16x8x512 .f32) : FVec Ideal S16x8x512 .f32 :=
  maximumf (broadcastInDim S16x8x512 ![] bcast_S_S16x8x512 (constant S_ .f32 0xFF800000#32)) t

/-- The exponentials of the scores less `t`. -/
def plainExp (s : FVec Ideal S16x8x512x512 .f32) (t : FVec Ideal S16x8x512 .f32) : FVec Ideal S16x8x512x512 .f32 :=
  Host.exp (subf s (broadcastInDim S16x8x512x512 ![0, 1, 2, 3] bcast_S16x8x512x1_S16x8x512x512_0_1_2_3 (broadcastInDim S16x8x512x1 ![0, 1, 2] bcast_S16x8x512_S16x8x512x1_0_1_2 t)))

/-- Each exponential over its row's sum. -/
def plainQuot (e : FVec Ideal S16x8x512x512 .f32) : FVec Ideal S16x8x512x512 .f32 :=
  Host.divf e (broadcastInDim S16x8x512x512 ![0, 1, 2, 3] bcast_S16x8x512x1_S16x8x512x512_0_1_2_3 (broadcastInDim S16x8x512x1 ![0, 1, 2] bcast_S16x8x512_S16x8x512x1_0_1_2 (Host.reduceAdd e (constant S_ .f32 0x00000000#32) reducesTo_S16x8x512x512_S16x8x512_d3 h_S_)))

/-- The probabilities. -/
def plainProb (s : FVec Ideal S16x8x512x512 .f32) : FVec Ideal S16x8x512x512 .f32 := plainQuot (plainExp s (plainMax (plainTop s)))

/-- The least number is absorbed by a maximum that already starts from it. -/
theorem max_start (x : EReal) : max (Ideal.ofBits .f32 0xFF800000#32) x = x := by
  have hb : Ideal.ofBits .f32 0xFF800000#32 = ⊥ := by simp [Ideal.ofBits, Ideal.ieee]
  rw [hb]
  exact max_eq_right bot_le

/-- A row's greatest score. -/
theorem plainTop_at (s : FVec Ideal S16x8x512x512 .f32) (b : Fin 16) (h : Fin 8) (i : Fin 512) :
    plainTop s (ix3 b h i) = Finset.univ.fold max (Ideal.ofBits .f32 0xFF800000#32) fun l => s (ix4 b h i l) := by
  pointwise [plainTop]

/-- The greater of the least number and another is the other. -/
theorem plainMax_at (t : FVec Ideal S16x8x512 .f32) (i : S16x8x512.Idx) : plainMax t i = t i :=
  max_start (t i)

/-- An exponential. -/
theorem plainExp_at (s : FVec Ideal S16x8x512x512 .f32) (t : FVec Ideal S16x8x512 .f32) (b : Fin 16) (h : Fin 8) (i j : Fin 512) :
    plainExp s t (ix4 b h i j) = Ideal.exp (s (ix4 b h i j) - t (ix3 b h i)) := by
  pointwise [plainExp]

/-- A quotient. -/
theorem plainQuot_at (e : FVec Ideal S16x8x512x512 .f32) (b : Fin 16) (h : Fin 8) (i j : Fin 512) :
    plainQuot e (ix4 b h i j) = Ideal.div (e (ix4 b h i j)) (∑ l : Fin 512, e (ix4 b h i l)) := by
  pointwise [plainQuot]

/-- A probability. -/
theorem plainProb_at (s : FVec Ideal S16x8x512x512 .f32) (b : Fin 16) (h : Fin 8) (i j : Fin 512) :
    plainProb s (ix4 b h i j) = softQ (fun l => s (ix4 b h i l)) j := by
  unfold plainProb softQ
  rw [plainQuot_at]
  simp only [plainExp_at, plainMax_at, plainTop_at]

end Cert.PlainReferenceIdeal.Own
-- ==== Proof.LayerPlain.lean ====
module

public import proofs.«01_k».proof.Proof.Gen.PlainReferenceIdeal.Run
public import proofs.«01_k».proof.Proof.LayerReference
public import proofs.«01_k».proof.Proof.SoftmaxPlain

@[expose] public section

set_option maxRecDepth 16384

noncomputable section

namespace Cert.PlainReferenceIdeal.Own

open Cert.PlainReferenceIdeal Cert.PlainReferenceIdeal.Gen Cert.PlainReferenceIdeal.Value Cert.Enc
open Idealize.ShloMosaic Idealize.ShloMosaic.TcCoe Idealize.SL.Sem
open Cert.ReferenceIdeal.Own (RefW numsOf rowsB layerWith layerWith_at sliceW sliceW_nums embed_rows refScore refScore_rows refProj)

/-! ## The layers with the softmax as a quotient, on finite rows -/

/-- One layer with the quotient. -/
def plainLayer (W : RefW) (h : FVec Ideal S16x512x512 .f32) : FVec Ideal S16x512x512 .f32 := layerWith plainProb W h

/-- On finite weights and rows it is the encoder layer. -/
theorem plain_step (W : RefW) {w : Weights} (hw : numsOf W = w) (hW : FinW w) (h : FVec Ideal S16x512x512 .f32) (b : Fin 16) {x : Fin 512 → Fin 512 → EReal}
    (hx : rowsB h b = x) (hf : ∀ i d, IsFin (x i d)) : rowsB (plainLayer W h) b = layer w x := by
  subst hw hx
  refine funext fun i => funext fun d => layerWith_at (fun a i j => ?_) i d
  refine (plainProb_at _ _ _ _ _).trans ((congrArg (fun f => softQ f j) (funext fun l => refScore_rows W h b a i l)).trans ?_)
  exact softQ_eq (fun l => score_fin hW hf a i l) j

section
variable (V0 : Valuation τ sig (Elt Ideal))

/-- The weights of layer `l`, as the reference slices them. -/
def plainW (l : ℕ) (s4 : S4x1536x512.Slices ![l, 0, 0] S1x1536x512) (s5 : S4x1536.Slices ![l, 0] S1x1536) (s6 : S4x512x512.Slices ![l, 0, 0] S1x512x512)
    (s7 : S4x512.Slices ![l, 0] S1x512) (s10 : S4x2048x512.Slices ![l, 0, 0] S1x2048x512) (s11 : S4x2048.Slices ![l, 0] S1x2048)
    (s12 : S4x512x2048.Slices ![l, 0, 0] S1x512x2048) : RefW :=
  sliceW (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) l s4 s5 s6 s7 s10 s11 s12

/-- The weights at layer `l`, number by number. -/
def wP (l : Fin 4) : Weights :=
  weightsAt (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) l

/-- The first layer. -/
theorem layer0_eq : res_main_v129 V0 = plainLayer (plainW V0 0 slices_S4x1536x512_S1x1536x512_0_0_0 slices_S4x1536_S1x1536_0_0 slices_S4x512x512_S1x512x512_0_0_0 slices_S4x512_S1x512_0_0 slices_S4x2048x512_S1x2048x512_0_0_0 slices_S4x2048_S1x2048_0_0 slices_S4x512x2048_S1x512x2048_0_0_0) (res_main_v2 V0) := rfl
/-- The second layer. -/
theorem layer1_eq : res_main_v256 V0 = plainLayer (plainW V0 1 slices_S4x1536x512_S1x1536x512_1_0_0 slices_S4x1536_S1x1536_1_0 slices_S4x512x512_S1x512x512_1_0_0 slices_S4x512_S1x512_1_0 slices_S4x2048x512_S1x2048x512_1_0_0 slices_S4x2048_S1x2048_1_0 slices_S4x512x2048_S1x512x2048_1_0_0) (res_main_v129 V0) := rfl
/-- The third layer. -/
theorem layer2_eq : res_main_v383 V0 = plainLayer (plainW V0 2 slices_S4x1536x512_S1x1536x512_2_0_0 slices_S4x1536_S1x1536_2_0 slices_S4x512x512_S1x512x512_2_0_0 slices_S4x512_S1x512_2_0 slices_S4x2048x512_S1x2048x512_2_0_0 slices_S4x2048_S1x2048_2_0 slices_S4x512x2048_S1x512x2048_2_0_0) (res_main_v256 V0) := rfl

/-- The rows the head starts from. -/
def plainLast : FVec Ideal S16x512x512 .f32 :=
  plainLayer (plainW V0 3 slices_S4x1536x512_S1x1536x512_3_0_0 slices_S4x1536_S1x1536_3_0 slices_S4x512x512_S1x512x512_3_0_0 slices_S4x512_S1x512_3_0 slices_S4x2048x512_S1x2048x512_3_0_0 slices_S4x2048_S1x2048_3_0 slices_S4x512x2048_S1x512x2048_3_0_0) (res_main_v383 V0)

/-- The rows after the four layers, sequence by sequence, on finite arguments. -/
theorem plainLast_rows (hW : ∀ l, FinW (wP V0 l)) (b : Fin 16)
    (hx : ∀ i d, IsFin (startRows (V0 (Proc.devRef .tc main_arg1)) (V0 (Proc.devRef .tc main_arg3)) b i d)) :
    rowsB (plainLast V0) b = encode (wP V0) (startRows (V0 (Proc.devRef .tc main_arg1)) (V0 (Proc.devRef .tc main_arg3)) b) 4 := by
  have h0 : rowsB (res_main_v2 V0) b = startRows (V0 (Proc.devRef .tc main_arg1)) (V0 (Proc.devRef .tc main_arg3)) b := embed_rows _ _ b
  have n0 := sliceW_nums (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
  have h1 := (congrArg (fun h => rowsB h b) (layer0_eq V0)).trans (plain_step _ (n0 0 _ _ _ _ _ _ _) (hW 0) _ b h0 hx)
  have f1 := layer_fin (hW 0) hx
  have h2 := (congrArg (fun h => rowsB h b) (layer1_eq V0)).trans (plain_step _ (n0 1 _ _ _ _ _ _ _) (hW 1) _ b h1 f1)
  have f2 := layer_fin (hW 1) f1
  have h3 := (congrArg (fun h => rowsB h b) (layer2_eq V0)).trans (plain_step _ (n0 2 _ _ _ _ _ _ _) (hW 2) _ b h2 f2)
  have f3 := layer_fin (hW 2) f2
  exact plain_step _ (n0 3 _ _ _ _ _ _ _) (hW 3) _ b h3 f3
end

end Cert.PlainReferenceIdeal.Own
-- ==== Proof.FinalPlain.lean ====
module

public import proofs.«01_k».proof.Proof.LayerPlain
public import proofs.«01_k».proof.Proof.HeadReference
public import proofs.«01_k».proof.Proof.Answer

@[expose] public section

set_option maxRecDepth 16384

noncomputable section

namespace Cert.PlainReferenceIdeal.Own

open Cert.PlainReferenceIdeal Cert.PlainReferenceIdeal.Gen Cert.PlainReferenceIdeal.Value Cert.Enc
open Idealize.ShloMosaic Idealize.ShloMosaic.TcCoe Idealize.SL.Sem Idealize.ShloMosaic.StableHlo
open Cert.ReferenceIdeal.Own (refOut refOut_at refFeature refFeature_at layerWith refNorm)

/-- The result, from the last rows and the count features. -/
def result (V0 : Valuation τ sig (Elt Ideal)) : FVec Ideal S16x10 .f32 :=
  refOut (plainLast V0) (refFeature (V0 (Proc.devRef .tc main_arg0)) (V0 (Proc.devRef .tc main_arg2)) (V0 (Proc.devRef .tc main_arg16)) (V0 (Proc.devRef .tc main_arg17)) (V0 (Proc.devRef .tc main_arg18)) (V0 (Proc.devRef .tc main_arg19))) (V0 (Proc.devRef .tc main_arg20)) (V0 (Proc.devRef .tc main_arg21))

/-- The result at a sequence and a class, on finite weights and rows. -/
theorem result_at (V0 : Valuation τ sig (Elt Ideal)) (hW : ∀ l, FinW (wP V0 l))
    (hx : ∀ b i d, IsFin (startRows (V0 (Proc.devRef .tc main_arg1)) (V0 (Proc.devRef .tc main_arg3)) b i d)) (n : Fin 16) (j : Fin 10) :
    result V0 (ix2 n j) = answer (V0 (Proc.devRef .tc main_arg0)) (V0 (Proc.devRef .tc main_arg1)) (V0 (Proc.devRef .tc main_arg2)) (V0 (Proc.devRef .tc main_arg3)) (wP V0) (V0 (Proc.devRef .tc main_arg16)) (V0 (Proc.devRef .tc main_arg17)) (V0 (Proc.devRef .tc main_arg18)) (V0 (Proc.devRef .tc main_arg19))
      (V0 (Proc.devRef .tc main_arg20)) (V0 (Proc.devRef .tc main_arg21)) n j := by
  unfold result
  rw [refOut_at, plainLast_rows V0 hW n (hx n)]
  unfold answer
  exact congrArg (fun w => logit _ w _ _ j) (funext fun k => refFeature_at _ _ _ _ _ _ eps eps_pos eps_eq n k)

set_option maxHeartbeats 2000000 in
/-- What the operations leave in the result's buffer. -/
theorem val_result (V0 : Valuation τ sig (Elt Ideal)) : val11 V0 (Proc.devRef .tc main_v572) = result V0 :=
  (val11_main_v572 V0).trans (by
    unfold result refOut refFeature plainLast plainLayer layerWith refNorm
    rfl)

/-- The result from the launch's memory. -/
theorem result_of (m : (ℓ : Loc nD τ sig) → Buf (Elt Ideal) ℓ) (c : Dev nD)
    (h : (∀ l, FinW (weightsAt (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) l)) ∧ ∀ b i d, IsFin (startRows (m ((c.tc : Thread nD τ).loc main_arg1)) (m ((c.tc : Thread nD τ).loc main_arg3)) b i d)) (n : Fin 16) (j : Fin 10) :
    result (launchContents m c) (ix2 n j)
      = answer (m ((c.tc : Thread nD τ).loc main_arg0)) (m ((c.tc : Thread nD τ).loc main_arg1)) (m ((c.tc : Thread nD τ).loc main_arg2)) (m ((c.tc : Thread nD τ).loc main_arg3))
        (weightsAt (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
        (m ((c.tc : Thread nD τ).loc main_arg16)) (m ((c.tc : Thread nD τ).loc main_arg17)) (m ((c.tc : Thread nD τ).loc main_arg18)) (m ((c.tc : Thread nD τ).loc main_arg19))
        (m ((c.tc : Thread nD τ).loc main_arg20)) (m ((c.tc : Thread nD τ).loc main_arg21)) n j :=
  result_at (launchContents m c) h.1 h.2 n j

end Cert.PlainReferenceIdeal.Own
-- ==== Proof.Tokens.lean ====
module

public import proofs.«01_k».proof.Proof.Gen.Pre_tokens_in_range
public import proofs.«01_k».proof.Proof.HeadMath
public import Idealize.ShloMosaic.Lib.ReduceAll
public import Idealize.ShloMosaic.Lib.WordCmp

@[expose] public section

noncomputable section

namespace Cert.Pre_tokens_in_range.Own

open Cert.Pre_tokens_in_range Cert.Enc
open Idealize.ShloMosaic

/-- What the condition says: every token is a row of the table. -/
theorem in_range [Facts] (x : IVec S16x512 32) (a1 a2 a3 a4 a5 a6 a7 a8 a9 a10 a11 a12 a13 a14 a15 a16 a17 a18 a19 a20 a21)
    (h : fn (F := Ideal) x a1 a2 a3 a4 a5 a6 a7 a8 a9 a10 a11 a12 a13 a14 a15 a16 a17 a18 a19 a20 a21 = fun _ => 1#1) (n : Fin 16) :
    InRange fun i => x (ix2 n i) := by
  intro i
  have h0 := congrFun h (fun a => a.elim0)
  unfold fn at h0
  haveI : Subsingleton S_.Idx := ⟨fun a b => funext fun k => k.elim0⟩
  have h1 := Host.reduce_andi_all _ _ _ _ _ h0 (ix2 n i)
  have h2 : IntOp.andi (IntOp.cmpi .sge (x (ix2 n i)) 0#32) (IntOp.cmpi .slt (x (ix2 n i)) (BitVec.ofNat 32 50257)) = 1#1 := h1
  rw [WordCmp.andi_sge_zero_slt_ofNat (by norm_num)] at h2
  by_contra hc
  rw [decide_eq_false hc] at h2
  exact absurd h2 (by decide)

end Cert.Pre_tokens_in_range.Own
-- ==== Proof.FiniteArgs.lean ====
module

public import proofs.«01_k».proof.Proof.Gen.Pre_finite
public import proofs.«01_k».proof.Proof.HeadMath
public import proofs.«01_k».proof.Proof.Finite
public import Idealize.ShloMosaic.Lib.ReduceAll
public import Idealize.ShloMosaic.Lib.WordCmp

@[expose] public section

noncomputable section

namespace Cert.Pre_finite.Own

open Cert.Pre_finite Cert.Enc
open Idealize.ShloMosaic

/-- A number of absolute value below the greatest is real. -/
theorem fin_of_abs {x : EReal} (h : Ideal.cmp .olt (max x (-x)) (Ideal.ofBits .f32 0x7F800000#32) = 1#1) : IsFin x := by
  have ht : Ideal.ofBits .f32 0x7F800000#32 = ⊤ := by simp [Ideal.ofBits, Ideal.ieee]
  rw [ht] at h
  have h' : max x (-x) < ⊤ := by
    by_contra hc
    have : Ideal.cmp .olt (max x (-x)) ⊤ = 0#1 := by
      unfold Ideal.cmp
      simp [hc]
    rw [this] at h
    exact absurd h (by decide)
  induction x with
  | bot => simp at h'
  | coe r => exact ⟨r, rfl⟩
  | top => simp at h'

/-- Both conjuncts of a conjunction of bits that is one. -/
theorem both (A B : IVec S_ 1) (j : S_.Idx) (h : andi A B j = 1#1) : A j = 1#1 ∧ B j = 1#1 := by
  have key : ∀ a b : BitVec 1, IntOp.andi a b = 1#1 → a = 1#1 ∧ b = 1#1 := by decide
  exact key _ _ h

/-- An array all of whose absolute values are below the greatest number has real entries. -/
theorem fin_all {s : Shape} {axes} (x : FVec Ideal s .f32) (hb) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    IsFin (x i) := by
  haveI : Subsingleton S_.Idx := ⟨fun a b => funext fun k => k.elim0⟩
  exact fin_of_abs (Host.reduce_andi_all _ _ hr hu j e i)

/-- What the condition says: every token is a row of the table, and the rows the layers start from and the layers' weights are finite. -/
theorem finite [Facts] (x : IVec S16x512 32) (a1 : FVec Ideal S16x512x1x512 .f32) (a2 : FVec Ideal S16x1x64 .f32) (a3 : FVec Ideal S1x512x512 .f32) (a4 : FVec Ideal S4x1536x512 .f32) (a5 : FVec Ideal S4x1536 .f32) (a6 : FVec Ideal S4x512x512 .f32) (a7 : FVec Ideal S4x512 .f32) (a8 : FVec Ideal S4x512 .f32) (a9 : FVec Ideal S4x512 .f32) (a10 : FVec Ideal S4x2048x512 .f32) (a11 : FVec Ideal S4x2048 .f32) (a12 : FVec Ideal S4x512x2048 .f32) (a13 : FVec Ideal S4x512 .f32) (a14 : FVec Ideal S4x512 .f32) (a15 : FVec Ideal S4x512 .f32) (a16 : FVec Ideal S50257 .f32) (a17 : FVec Ideal S50257 .f32) (a18 : FVec Ideal S64x50257 .f32) (a19 : FVec Ideal S64 .f32) (a20 : FVec Ideal S10x576 .f32) (a21 : FVec Ideal S10 .f32)
    (h : fn (F := Ideal) x a1 a2 a3 a4 a5 a6 a7 a8 a9 a10 a11 a12 a13 a14 a15 a16 a17 a18 a19 a20 a21 = fun _ => 1#1) :
    (∀ n : Fin 16, InRange fun i => x (ix2 n i)) ∧ (∀ l, FinW (weightsAt a4 a5 a6 a7 a8 a9 a10 a11 a12 a13 a14 a15 l)) ∧ ∀ b i d, IsFin (startRows a1 a3 b i d) := by
  have h0 := congrFun h (fun a => a.elim0)
  dsimp only [fn, fn_part1, fn_part2, fn_part3, fn_part4] at h0
  obtain ⟨h0, k15⟩ := both _ _ _ h0
  obtain ⟨h0, k14⟩ := both _ _ _ h0
  obtain ⟨h0, k13⟩ := both _ _ _ h0
  obtain ⟨h0, k12⟩ := both _ _ _ h0
  obtain ⟨h0, k11⟩ := both _ _ _ h0
  obtain ⟨h0, k10⟩ := both _ _ _ h0
  obtain ⟨h0, k9⟩ := both _ _ _ h0
  obtain ⟨h0, k8⟩ := both _ _ _ h0
  obtain ⟨h0, k7⟩ := both _ _ _ h0
  obtain ⟨h0, k6⟩ := both _ _ _ h0
  obtain ⟨h0, k5⟩ := both _ _ _ h0
  obtain ⟨h0, k4⟩ := both _ _ _ h0
  obtain ⟨h0, k3⟩ := both _ _ _ h0
  obtain ⟨h0, k1⟩ := both _ _ _ h0
  refine ⟨fun n i => ?_, fun l => ⟨?_, ?_, ?_, ?_, ?_, ?_, ?_, ?_, ?_, ?_, ?_, ?_⟩, fun b i d => fin_add (fin_all _ _ _ _ _ k1 _) (fin_all _ _ _ _ _ k3 _)⟩
  · haveI : Subsingleton S_.Idx := ⟨fun a b => funext fun k => k.elim0⟩
    have h1 := Host.reduce_andi_all _ _ _ _ _ h0 (ix2 n i)
    have h2 : IntOp.andi (IntOp.cmpi .sge (x (ix2 n i)) 0#32) (IntOp.cmpi .slt (x (ix2 n i)) (BitVec.ofNat 32 50257)) = 1#1 := h1
    rw [WordCmp.andi_sge_zero_slt_ofNat (by norm_num)] at h2
    by_contra hc
    rw [decide_eq_false hc] at h2
    exact absurd h2 (by decide)
  · exact fun _ _ => fin_all _ _ _ _ _ k4 _
  · exact fun _ => fin_all _ _ _ _ _ k5 _
  · exact fun _ _ => fin_all _ _ _ _ _ k6 _
  · exact fun _ => fin_all _ _ _ _ _ k7 _
  · exact fun _ => fin_all _ _ _ _ _ k8 _
  · exact fun _ => fin_all _ _ _ _ _ k9 _
  · exact fun _ _ => fin_all _ _ _ _ _ k10 _
  · exact fun _ => fin_all _ _ _ _ _ k11 _
  · exact fun _ _ => fin_all _ _ _ _ _ k12 _
  · exact fun _ => fin_all _ _ _ _ _ k13 _
  · exact fun _ => fin_all _ _ _ _ _ k14 _
  · exact fun _ => fin_all _ _ _ _ _ k15 _

/-- The same of arrays equal to those the condition holds of. -/
theorem finite_of [Facts] {x x' : IVec S16x512 32} {a1 a1' : FVec Ideal S16x512x1x512 .f32} {a2 a2' : FVec Ideal S16x1x64 .f32} {a3 a3' : FVec Ideal S1x512x512 .f32} {a4 a4' : FVec Ideal S4x1536x512 .f32} {a5 a5' : FVec Ideal S4x1536 .f32} {a6 a6' : FVec Ideal S4x512x512 .f32} {a7 a7' : FVec Ideal S4x512 .f32} {a8 a8' : FVec Ideal S4x512 .f32} {a9 a9' : FVec Ideal S4x512 .f32} {a10 a10' : FVec Ideal S4x2048x512 .f32} {a11 a11' : FVec Ideal S4x2048 .f32} {a12 a12' : FVec Ideal S4x512x2048 .f32} {a13 a13' : FVec Ideal S4x512 .f32} {a14 a14' : FVec Ideal S4x512 .f32} {a15 a15' : FVec Ideal S4x512 .f32} {a16 a16' : FVec Ideal S50257 .f32} {a17 a17' : FVec Ideal S50257 .f32} {a18 a18' : FVec Ideal S64x50257 .f32} {a19 a19' : FVec Ideal S64 .f32} {a20 a20' : FVec Ideal S10x576 .f32} {a21 a21' : FVec Ideal S10 .f32}
    (e0 : x' = x) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18) (e19 : a19' = a19) (e20 : a20' = a20) (e21 : a21' = a21)
    (h : fn (F := Ideal) x a1 a2 a3 a4 a5 a6 a7 a8 a9 a10 a11 a12 a13 a14 a15 a16 a17 a18 a19 a20 a21 = fun _ => 1#1) :
    (∀ l, FinW (weightsAt a4' a5' a6' a7' a8' a9' a10' a11' a12' a13' a14' a15' l)) ∧ ∀ b i d, IsFin (startRows a1' a3' b i d) := by
  subst e0 e1 e2 e3 e4 e5 e6 e7 e8 e9 e10 e11 e12 e13 e14 e15 e16 e17 e18 e19 e20 e21
  exact (finite _ _ _ _ _ _ _ _ _ _ _ _ _ _ _ _ _ _ _ _ _ _ h).2

end Cert.Pre_finite.Own
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tokens_in_range
public import proofs.«01_k».proof.Proof.Gen.Pre_finite
public import proofs.«01_k».proof.Proof.Gen.PlainReferenceIdeal
public import proofs.«01_k».proof.Proof.Gen.PlainReferenceIdeal.Run
public import proofs.«01_k».proof.Proof.Ends
public import proofs.«01_k».proof.Proof.Bits.Ends
public import proofs.«01_k».proof.Proof.FinalKernel
public import proofs.«01_k».proof.Proof.FinalReference
public import proofs.«01_k».proof.Proof.FinalPlain
public import proofs.«01_k».proof.Proof.Tokens
public import proofs.«01_k».proof.Proof.FiniteArgs
public import Idealize.ShloMosaic.Lib.Quiescent

@[expose] public section

noncomputable section

namespace Cert.Proof

open Idealize.ShloMosaic Idealize.SL.Sem

/-- The kernel as written: it runs, its arguments are unchanged, its counters end at zero. -/
theorem frameKernel : Cert.quiescent_Kernel := fun m ρ _ => Cert.Kernel.Own.frame m ρ

/-- The kernel over the extended reals: the same. -/
theorem frameKernelIdeal : Cert.quiescent_KernelIdeal := fun m ρ _ => Cert.KernelIdeal.Own.frame m ρ

/-- The reference over the extended reals: the same; it has no counters. -/
theorem frameReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants denote the reals they are named after. -/
theorem named : Cert.preserves_Kernel_KernelIdeal :=
  ⟨IdealRules.named_const.statement Cert.KernelIdeal.κ "inv_sqrt2" .f32 0x3F3504F3#32 (((Real.sqrt 2)⁻¹ : ℝ) : EReal) rfl,
    IdealRules.named_const.statement Cert.KernelIdeal.κ "inv_V" .f32 0x37A6EA0A#32 ((50257⁻¹ : ℝ) : EReal) rfl⟩

/-- The kernel over the extended reals on tokens of the table: its frame. -/
theorem frameKernelIdealPre : Cert.quiescent_KernelIdeal_pre_tokens_in_range := fun m ρ _ => Cert.KernelIdeal.Own.frame m ρ

/-- The reference over the extended reals on tokens of the table: its frame. -/
theorem frameReferenceIdealPre : Cert.quiescent_ReferenceIdeal_pre_tokens_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On tokens of the table and equal arguments the kernel and the reference end with equal results. -/
theorem equal : Cert.algebraic_KernelIdeal_ReferenceIdeal_pre_tokens_in_range := by
  intro m g m' g' hpre hargs
  refine ⟨fun c => (fun i : Cert.KernelIdeal.S16x10.Idx => Cert.KernelIdeal.Own.answerK m c (i 0) (i 1) : FVec Ideal Cert.KernelIdeal.S16x10 .f32), ?_, ?_⟩
  · exact (θ_run Cert.KernelIdeal.defs _ _).mono
      (fun r h c => ⟨(h.1 c).1.trans (Cert.KernelIdeal.Own.final m c fun n => Cert.Pre_tokens_in_range.Own.in_range _ _ _ _ _ _ _ _ _ _ _ _ _ _ _ _ _ _ _ _ _ _ (hpre c) n), (h.1 c).2⟩)
      (Cert.KernelIdeal.Own.run (F := Ideal) m g)
  · refine (θ_run Cert.ReferenceIdeal.defs _ _).mono
      (fun r h c => ⟨(h c).1.trans (((Cert.ReferenceIdeal.Value.val11_main_v572 _).symm.trans (Cert.ReferenceIdeal.Own.val_result _)).trans ?_), (h c).2⟩)
      (Cert.ReferenceIdeal.Value.run (F := Ideal) m' g')
    obtain ⟨e0, e1, e2, e3, e4, e5, e6, e7, e8, e9, e10, e11, e12, e13, e14, e15, e16, e17, e18, e19, e20, e21⟩ := hargs c
    refine funext fun (i : Cert.KernelIdeal.S16x10.Idx) => ?_
    have ei : i = ix2 (n0 := 16) (n1 := 10) (i 0) (i 1) := by
      funext a
      match a with
      | ⟨0, _⟩ => rfl
      | ⟨1, _⟩ => rfl
    exact (congrArg (Cert.ReferenceIdeal.Own.result (StableHlo.launchContents m' c)) ei).trans
      ((Cert.ReferenceIdeal.Own.result_of m' c (i 0) (i 1)).trans
        (Cert.Enc.answer_eq e0 e1 e2 e3 e4 e5 e6 e7 e8 e9 e10 e11 e12 e13 e14 e15 e16 e17 e18 e19 e20 e21 (i 0) (i 1)))

/-- The kernel over the extended reals on finite arguments: its frame. -/
theorem frameKernelIdealFinite : Cert.quiescent_KernelIdeal_pre_finite := fun m ρ _ => Cert.KernelIdeal.Own.frame m ρ

/-- The reference with the softmax as a quotient: it runs, its arguments are unchanged; it has no counters. -/
theorem framePlainReferenceIdeal : Cert.quiescent_PlainReferenceIdeal := fun m ρ _ =>
  (θ_run Cert.PlainReferenceIdeal.defs _ _).mono (fun r h => ⟨fun c => (h c).2, sem_eq_zero_of_no_sems (by decide) r.2⟩)
    (Cert.PlainReferenceIdeal.Value.run (F := Ideal) m ρ)

/-- The same on finite arguments. -/
theorem framePlainReferenceIdealFinite : Cert.quiescent_PlainReferenceIdeal_pre_finite := fun m ρ _ =>
  (θ_run Cert.PlainReferenceIdeal.defs _ _).mono (fun r h => ⟨fun c => (h c).2, sem_eq_zero_of_no_sems (by decide) r.2⟩)
    (Cert.PlainReferenceIdeal.Value.run (F := Ideal) m ρ)

/-- On finite and equal arguments the kernel and the reference with the softmax as a quotient end with equal results. -/
theorem equalFinite : Cert.algebraic_KernelIdeal_PlainReferenceIdeal_pre_finite := by
  intro m g m' g' hpre hargs
  refine ⟨fun c => (fun i : Cert.KernelIdeal.S16x10.Idx => Cert.KernelIdeal.Own.answerK m c (i 0) (i 1) : FVec Ideal Cert.KernelIdeal.S16x10 .f32), ?_, ?_⟩
  · exact (θ_run Cert.KernelIdeal.defs _ _).mono
      (fun r h c => ⟨(h.1 c).1.trans (Cert.KernelIdeal.Own.final m c (Cert.Pre_finite.Own.finite _ _ _ _ _ _ _ _ _ _ _ _ _ _ _ _ _ _ _ _ _ _ (hpre c)).1), (h.1 c).2⟩)
      (Cert.KernelIdeal.Own.run (F := Ideal) m g)
  · refine (θ_run Cert.PlainReferenceIdeal.defs _ _).mono
      (fun r h c => ⟨(h c).1.trans (((Cert.PlainReferenceIdeal.Value.val11_main_v572 _).symm.trans (Cert.PlainReferenceIdeal.Own.val_result _)).trans ?_), (h c).2⟩)
      (Cert.PlainReferenceIdeal.Value.run (F := Ideal) m' g')
    obtain ⟨e0, e1, e2, e3, e4, e5, e6, e7, e8, e9, e10, e11, e12, e13, e14, e15, e16, e17, e18, e19, e20, e21⟩ := hargs c
    refine funext fun (i : Cert.KernelIdeal.S16x10.Idx) => ?_
    have ei : i = ix2 (n0 := 16) (n1 := 10) (i 0) (i 1) := by
      funext a
      match a with
      | ⟨0, _⟩ => rfl
      | ⟨1, _⟩ => rfl
    have hf := Cert.Pre_finite.Own.finite_of e0 e1 e2 e3 e4 e5 e6 e7 e8 e9 e10 e11 e12 e13 e14 e15 e16 e17 e18 e19 e20 e21 (hpre c)
    exact (congrArg (Cert.PlainReferenceIdeal.Own.result (StableHlo.launchContents m' c)) ei).trans
      ((Cert.PlainReferenceIdeal.Own.result_of m' c hf (i 0) (i 1)).trans
        (Cert.Enc.answer_eq e0 e1 e2 e3 e4 e5 e6 e7 e8 e9 e10 e11 e12 e13 e14 e15 e16 e17 e18 e19 e20 e21 (i 0) (i 1)))

theorem claim : Cert.Claim :=
  ⟨Cert.Kernel.Gen.facts, Cert.KernelIdeal.Gen.facts, Cert.ReferenceIdeal.Gen.facts, Cert.PlainReferenceIdeal.Gen.facts, Cert.Pre_tokens_in_range.Gen.facts, Cert.Pre_finite.Gen.facts,
    frameKernel, frameKernelIdeal, frameKernelIdealPre, frameKernelIdealFinite, frameReferenceIdeal, frameReferenceIdealPre, framePlainReferenceIdeal,
    framePlainReferenceIdealFinite, named, equal, equalFinite⟩

end Cert.Proof

end
